-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_ReferenceFIdeal (m : (ℓ : Loc Cert.ReferenceFIdeal.nD Cert.ReferenceFIdeal.τ Cert.ReferenceFIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3)
      ∧ r.2.mem ((c.tc : Thread Cert.KernelO.nD Cert.KernelO.τ).loc Cert.KernelO.main_arg4) = m ((c.tc : Thread Cert.KernelO.nD Cert.KernelO.τ).loc Cert.KernelO.main_arg4))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
      ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3)
      ∧ r.2.mem ((c.tc : Thread Cert.ReferenceOIdeal.nD Cert.ReferenceOIdeal.τ).loc Cert.ReferenceOIdeal.main_arg4) = m ((c.tc : Thread Cert.ReferenceOIdeal.nD Cert.ReferenceOIdeal.τ).loc Cert.ReferenceOIdeal.main_arg4))
      ∧ r.2.sem = fun _ => 0)

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1)
      ∧ r.2.mem ((c.tc : Thread Cert.KernelF.nD Cert.KernelF.τ).loc Cert.KernelF.main_arg2) = m ((c.tc : Thread Cert.KernelF.nD Cert.KernelF.τ).loc Cert.KernelF.main_arg2))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2))
      ∧ r.2.sem = fun _ => 0)

def quiescent_ReferenceFIdeal [hReferenceFIdeal : Cert.ReferenceFIdeal.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)) (v7 : (c : Dev Cert.KernelIdeal.nD) → Buf (Elt Ideal) ((c.tc : Thread Cert.KernelIdeal.nD Cert.KernelIdeal.τ).loc Cert.KernelIdeal.main_v4_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_v4_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_v4_5) = v5 c
          ∧ r.2.mem ((c.tc : Thread Cert.ReferenceIdeal.nD Cert.ReferenceIdeal.τ).loc Cert.ReferenceIdeal.main_v4_6) = v6 c
          ∧ r.2.mem ((c.tc : Thread Cert.ReferenceIdeal.nD Cert.ReferenceIdeal.τ).loc Cert.ReferenceIdeal.main_v4_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)
      ∧ m' ((c.tc : Thread Cert.ReferenceOIdeal.nD Cert.ReferenceOIdeal.τ).loc Cert.ReferenceOIdeal.main_arg4) = m ((c.tc : Thread Cert.KernelOIdeal.nD Cert.KernelOIdeal.τ).loc Cert.KernelOIdeal.main_arg4)) →
    ∃ (v0 : (c : Dev Cert.KernelOIdeal.nD) → Buf (Elt Ideal) ((c.tc : Thread Cert.KernelOIdeal.nD Cert.KernelOIdeal.τ).loc Cert.KernelOIdeal.main_v8_0)) (v1 : (c : Dev Cert.KernelOIdeal.nD) → Buf (Elt Ideal) ((c.tc : Thread Cert.KernelOIdeal.nD Cert.KernelOIdeal.τ).loc Cert.KernelOIdeal.main_v8_1)) (v2 : (c : Dev Cert.KernelOIdeal.nD) → Buf (Elt Ideal) ((c.tc : Thread Cert.KernelOIdeal.nD Cert.KernelOIdeal.τ).loc Cert.KernelOIdeal.main_v8_2)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v8_0) = v0 c
          ∧ r.2.mem ((c.tc : Thread Cert.KernelOIdeal.nD Cert.KernelOIdeal.τ).loc Cert.KernelOIdeal.main_v8_1) = v1 c
          ∧ r.2.mem ((c.tc : Thread Cert.KernelOIdeal.nD Cert.KernelOIdeal.τ).loc Cert.KernelOIdeal.main_v8_2) = v2 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
          ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v4_0) = v0 c
          ∧ r.2.mem ((c.tc : Thread Cert.ReferenceOIdeal.nD Cert.ReferenceOIdeal.τ).loc Cert.ReferenceOIdeal.main_v4_1) = v1 c
          ∧ r.2.mem ((c.tc : Thread Cert.ReferenceOIdeal.nD Cert.ReferenceOIdeal.τ).loc Cert.ReferenceOIdeal.main_v4_2) = v2 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3)
          ∧ r.2.mem ((c.tc : Thread Cert.ReferenceOIdeal.nD Cert.ReferenceOIdeal.τ).loc Cert.ReferenceOIdeal.main_arg4) = m' ((c.tc : Thread Cert.ReferenceOIdeal.nD Cert.ReferenceOIdeal.τ).loc Cert.ReferenceOIdeal.main_arg4))

def preserves_KernelF_KernelFIdeal : Prop :=
  True

def algebraic_KernelFIdeal_ReferenceFIdeal [hKernelFIdeal : Cert.KernelFIdeal.Facts] [hReferenceFIdeal : Cert.ReferenceFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.ReferenceFIdeal.nD Cert.ReferenceFIdeal.τ Cert.ReferenceFIdeal.sig) → Buf (Elt Ideal) ℓ) (g' : Dev Cert.ReferenceFIdeal.nD → PrngReg), Pre_KernelFIdeal m →
    (∀ c : Dev Cert.KernelFIdeal.nD,
      m' ((c.tc : Thread Cert.ReferenceFIdeal.nD Cert.ReferenceFIdeal.τ).loc Cert.ReferenceFIdeal.main_arg0) = m ((c.tc : Thread Cert.KernelFIdeal.nD Cert.KernelFIdeal.τ).loc Cert.KernelFIdeal.main_arg0)
      ∧ m' ((c.tc : Thread Cert.ReferenceFIdeal.nD Cert.ReferenceFIdeal.τ).loc Cert.ReferenceFIdeal.main_arg1) = m ((c.tc : Thread Cert.KernelFIdeal.nD Cert.KernelFIdeal.τ).loc Cert.KernelFIdeal.main_arg1)
      ∧ m' ((c.tc : Thread Cert.ReferenceFIdeal.nD Cert.ReferenceFIdeal.τ).loc Cert.ReferenceFIdeal.main_arg2) = m ((c.tc : Thread Cert.KernelFIdeal.nD Cert.KernelFIdeal.τ).loc Cert.KernelFIdeal.main_arg2)) →
    ∃ (v0 : (c : Dev Cert.KernelFIdeal.nD) → Buf (Elt Ideal) ((c.tc : Thread Cert.KernelFIdeal.nD Cert.KernelFIdeal.τ).loc Cert.KernelFIdeal.main_v0)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v0) = v0 c
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
          ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2))
      ∧ θ_run (Cert.ReferenceFIdeal.defs (F := Ideal)) (onTc (τ := Cert.ReferenceFIdeal.τ) (Cert.ReferenceFIdeal.main (F := Ideal))) ⟨m', fun _ => 0, g'⟩ (fun r => ∀ c : Dev Cert.ReferenceFIdeal.nD,
          r.2.mem ((c.tc : Thread Cert.ReferenceFIdeal.nD Cert.ReferenceFIdeal.τ).loc Cert.ReferenceFIdeal.main_v12) = v0 c
          ∧ r.2.mem ((c.tc : Thread Cert.ReferenceFIdeal.nD Cert.ReferenceFIdeal.τ).loc Cert.ReferenceFIdeal.main_arg0) = m' ((c.tc : Thread Cert.ReferenceFIdeal.nD Cert.ReferenceFIdeal.τ).loc Cert.ReferenceFIdeal.main_arg0)
          ∧ r.2.mem ((c.tc : Thread Cert.ReferenceFIdeal.nD Cert.ReferenceFIdeal.τ).loc Cert.ReferenceFIdeal.main_arg1) = m' ((c.tc : Thread Cert.ReferenceFIdeal.nD Cert.ReferenceFIdeal.τ).loc Cert.ReferenceFIdeal.main_arg1)
          ∧ r.2.mem ((c.tc : Thread Cert.ReferenceFIdeal.nD Cert.ReferenceFIdeal.τ).loc Cert.ReferenceFIdeal.main_arg2) = m' ((c.tc : Thread Cert.ReferenceFIdeal.nD Cert.ReferenceFIdeal.τ).loc Cert.ReferenceFIdeal.main_arg2))

def Claim : Prop :=
  ∃ (hKernel : Cert.Kernel.Facts) (hKernelIdeal : Cert.KernelIdeal.Facts) (hReferenceIdeal : Cert.ReferenceIdeal.Facts) (hKernelO : Cert.KernelO.Facts) (hKernelOIdeal : Cert.KernelOIdeal.Facts) (hReferenceOIdeal : Cert.ReferenceOIdeal.Facts) (hKernelF : Cert.KernelF.Facts) (hKernelFIdeal : Cert.KernelFIdeal.Facts) (hReferenceFIdeal : Cert.ReferenceFIdeal.Facts),
    quiescent_Kernel (hKernel := hKernel)
    ∧ quiescent_KernelIdeal (hKernelIdeal := hKernelIdeal)
    ∧ quiescent_ReferenceIdeal (hReferenceIdeal := hReferenceIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelF (hKernelF := hKernelF)
    ∧ quiescent_KernelFIdeal (hKernelFIdeal := hKernelFIdeal)
    ∧ quiescent_ReferenceFIdeal (hReferenceFIdeal := hReferenceFIdeal)
    ∧ preserves_Kernel_KernelIdeal
    ∧ algebraic_KernelIdeal_ReferenceIdeal (hKernelIdeal := hKernelIdeal) (hReferenceIdeal := hReferenceIdeal)
    ∧ preserves_KernelO_KernelOIdeal
    ∧ algebraic_KernelOIdeal_ReferenceOIdeal (hKernelOIdeal := hKernelOIdeal) (hReferenceOIdeal := hReferenceOIdeal)
    ∧ preserves_KernelF_KernelFIdeal
    ∧ algebraic_KernelFIdeal_ReferenceFIdeal (hKernelFIdeal := hKernelFIdeal) (hReferenceFIdeal := hReferenceFIdeal)
-- ==== Kernel.lean ====
abbrev S20x1x7168 : Shape := ⟨3, ![20, 1, 7168]⟩
abbrev S7168 : Shape := ⟨1, ![7168]⟩
abbrev S3584x9216 : Shape := ⟨2, ![3584, 9216]⟩
abbrev S9216 : Shape := ⟨1, ![9216]⟩
abbrev S20x1x64 : Shape := ⟨3, ![20, 1, 64]⟩
abbrev S20x7168 : Shape := ⟨2, ![20, 7168]⟩
abbrev S1x7168 : Shape := ⟨2, ![1, 7168]⟩
abbrev S72x1x128 : Shape := ⟨3, ![72, 1, 128]⟩
abbrev S1x20 : Shape := ⟨2, ![1, 20]⟩
abbrev S20x8x128 : Shape := ⟨3, ![20, 8, 128]⟩
abbrev S8x20 : Shape := ⟨2, ![8, 20]⟩
abbrev S1728x128 : Shape := ⟨2, ![1728, 128]⟩
abbrev S3x3584x512 : Shape := ⟨3, ![3, 3584, 512]⟩
abbrev S32x7168 : Shape := ⟨2, ![32, 7168]⟩
abbrev S2x24x128 : Shape := ⟨3, ![2, 24, 128]⟩
abbrev S2x192x128 : Shape := ⟨3, ![2, 192, 128]⟩
abbrev S4x192x128 : Shape := ⟨3, ![4, 192, 128]⟩
abbrev S3 : Shape := ⟨1, ![3]⟩
abbrev S1 : Shape := ⟨1, ![1]⟩
abbrev S_ : Shape := ⟨0, ![]⟩
abbrev S1x3584x512 : Shape := ⟨3, ![1, 3584, 512]⟩
abbrev S3584x512 : Shape := ⟨2, ![3584, 512]⟩
abbrev S20 : Shape := ⟨1, ![20]⟩
abbrev S20x1 : Shape := ⟨2, ![20, 1]⟩
abbrev S20x128 : Shape := ⟨2, ![20, 128]⟩
abbrev S1x20x128 : Shape := ⟨3, ![1, 20, 128]⟩
abbrev S1x24x128 : Shape := ⟨3, ![1, 24, 128]⟩
abbrev S24x128 : Shape := ⟨2, ![24, 128]⟩
abbrev S104x128 : Shape := ⟨2, ![104, 128]⟩
abbrev S128x128 : Shape := ⟨2, ![128, 128]⟩
abbrev S1x1x64 : Shape := ⟨3, ![1, 1, 64]⟩
abbrev S1x64 : Shape := ⟨2, ![1, 64]⟩
abbrev S1x128 : Shape := ⟨2, ![1, 128]⟩
abbrev S1x1x128 : Shape := ⟨3, ![1, 1, 128]⟩
abbrev S32x3584 : Shape := ⟨2, ![32, 3584]⟩
abbrev S896x512 : Shape := ⟨2, ![896, 512]⟩
abbrev S32x512 : Shape := ⟨2, ![32, 512]⟩
abbrev S24 : Shape := ⟨1, ![24]⟩
abbrev S24x1 : Shape := ⟨2, ![24, 1]⟩
abbrev S1x8x128 : Shape := ⟨3, ![1, 8, 128]⟩
abbrev S8x128 : Shape := ⟨2, ![8, 128]⟩

abbrev nBuf : Space → Nat
  | .hbm => 19
  | .vmem => 20
  | .smem => 0
  | _ => 0

abbrev bufTy : (tb : Table) → Fin (tcTables nBuf tb) → BufTy
  | .hbm, ⟨0, _⟩ => ⟨S20x1x7168, .bf16⟩
  | .hbm, ⟨1, _⟩ => ⟨S7168, .f32⟩
  | .hbm, ⟨2, _⟩ => ⟨S3584x9216, .i8⟩
  | .hbm, ⟨3, _⟩ => ⟨S9216, .f32⟩
  | .hbm, ⟨4, _⟩ => ⟨S9216, .f32⟩
  | .hbm, ⟨5, _⟩ => ⟨S20x1x64, .f32⟩
  | .hbm, ⟨6, _⟩ => ⟨S20x1x64, .f32⟩
  | .hbm, ⟨7, _⟩ => ⟨S20x7168, .bf16⟩
  | .hbm, ⟨8, _⟩ => ⟨S1x7168, .f32⟩
  | .hbm, ⟨9, _⟩ => ⟨S72x1x128, .f32⟩
  | .hbm, ⟨10, _⟩ => ⟨S72x1x128, .f32⟩
  | .hbm, ⟨11, _⟩ => ⟨S20x7168, .i8⟩
  | .hbm, ⟨12, _⟩ => ⟨S1x20, .f32⟩
  | .hbm, ⟨13, _⟩ => ⟨S20x8x128, .i8⟩
  | .hbm, ⟨14, _⟩ => ⟨S8x20, .f32⟩
  | .hbm, ⟨15, _⟩ => ⟨S8x20, .f32⟩
  | .hbm, ⟨16, _⟩ => ⟨S8x20, .f32⟩
  | .hbm, ⟨17, _⟩ => ⟨S8x20, .f32⟩
  | .hbm, ⟨18, _⟩ => ⟨S1728x128, .f32⟩
  | .local _ .vmem, ⟨0, _⟩ => ⟨S20x7168, .bf16⟩
  | .local _ .vmem, ⟨1, _⟩ => ⟨S1x7168, .f32⟩
  | .local _ .vmem, ⟨2, _⟩ => ⟨S72x1x128, .f32⟩
  | .local _ .vmem, ⟨3, _⟩ => ⟨S72x1x128, .f32⟩
  | .local _ .vmem, ⟨4, _⟩ => ⟨S20x1x64, .f32⟩
  | .local _ .vmem, ⟨5, _⟩ => ⟨S20x1x64, .f32⟩
  | .local _ .vmem, ⟨6, _⟩ => ⟨S20x7168, .i8⟩
  | .local _ .vmem, ⟨7, _⟩ => ⟨S1x20, .f32⟩
  | .local _ .vmem, ⟨8, _⟩ => ⟨S20x8x128, .i8⟩
  | .local _ .vmem, ⟨9, _⟩ => ⟨S8x20, .f32⟩
  | .local _ .vmem, ⟨10, _⟩ => ⟨S8x20, .f32⟩
  | .local _ .vmem, ⟨11, _⟩ => ⟨S8x20, .f32⟩
  | .local _ .vmem, ⟨12, _⟩ => ⟨S8x20, .f32⟩
  | .local _ .vmem, ⟨13, _⟩ => ⟨S1728x128, .f32⟩
  | .local _ .vmem, ⟨14, _⟩ => ⟨S3x3584x512, .i8⟩
  | .local _ .vmem, ⟨15, _⟩ => ⟨S32x7168, .bf16⟩
  | .local _ .vmem, ⟨16, _⟩ => ⟨S2x24x128, .f32⟩
  | .local _ .vmem, ⟨17, _⟩ => ⟨S2x24x128, .f32⟩
  | .local _ .vmem, ⟨18, _⟩ => ⟨S2x192x128, .f32⟩
  | .local _ .vmem, ⟨19, _⟩ => ⟨S4x192x128, .f32⟩
  | _, _ => ⟨S20x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v4_6 : Ref sig .tc := ⟨.hbm, 17, rfl⟩
abbrev main_v4_7 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def k0_mult1 : BitVec 32 :=
  let c0_i32 : BitVec 32 := 0#32
  c0_i32
def k0_mult2 : BitVec 32 :=
  let c512_i32 : BitVec 32 := 512#32
  c512_i32
def k0_mult3 : BitVec 32 :=
  let c1024_i32 : BitVec 32 := 1024#32
  c1024_i32
@[reducible] def k0_t1_loop : Scf.Loop 32 :=
  let c0_i32_291 : BitVec 32 := 0#32
  let c18_i32 : BitVec 32 := 18#32
  let v370 : BitVec 32 := Scalar.addi c0_i32_291 c18_i32
  let c1_i32_292 : BitVec 32 := 1#32
  ⟨c0_i32_291, v370, c1_i32_292⟩
def k0_mult4 (k0_t1 : Fin k0_t1_loop.trips) : BitVec 32 :=
  let c0_i32_291 : BitVec 32 := 0#32
  let c1_i32_292 : BitVec 32 := 1#32
  let arg23 : BitVec 32 := Scf.iv c0_i32_291 c1_i32_292 k0_t1
  let c512_i32_589 : BitVec 32 := 512#32
  let v1134 : BitVec 32 := Scalar.muli arg23 c512_i32_589
  v1134
def k0_off1 (k0_t1 : Fin k0_t1_loop.trips) : Fin 1 → Nat :=
  let c0_i32_291 : BitVec 32 := 0#32
  let c1_i32_292 : BitVec 32 := 1#32
  let arg23 : BitVec 32 := Scf.iv c0_i32_291 c1_i32_292 k0_t1
  let c3_i32_588 : BitVec 32 := 3#32
  let v1133 : BitVec 32 := Scalar.remsi arg23 c3_i32_588
  ![v1133.toNat]
def k0_off2 (k0_t1 : Fin k0_t1_loop.trips) : Fin 3 → Nat :=
  let c0_i32_291 : BitVec 32 := 0#32
  let c1_i32_292 : BitVec 32 := 1#32
  let arg23 : BitVec 32 := Scf.iv c0_i32_291 c1_i32_292 k0_t1
  let c3_i32_588 : BitVec 32 := 3#32
  let v1133 : BitVec 32 := Scalar.remsi arg23 c3_i32_588
  let c0_i32_590 : BitVec 32 := 0#32
  let c0_i32_591 : BitVec 32 := 0#32
  ![v1133.toNat, 0, 0]
def k0_off3 (k0_t1 : Fin k0_t1_loop.trips) : Fin 2 → Nat :=
  let c0_i32_592 : BitVec 32 := 0#32
  let c0_i32_291 : BitVec 32 := 0#32
  let c1_i32_292 : BitVec 32 := 1#32
  let arg23 : BitVec 32 := Scf.iv c0_i32_291 c1_i32_292 k0_t1
  let c512_i32_589 : BitVec 32 := 512#32
  let v1134 : BitVec 32 := Scalar.muli arg23 c512_i32_589
  let v1135 : BitVec 32 := v1134
  ![0, v1135.toNat]
def k0_off4 (k0_t1 : Fin k0_t1_loop.trips) : Fin 3 → Nat :=
  let c0_i32_291 : BitVec 32 := 0#32
  let c1_i32_292 : BitVec 32 := 1#32
  let arg23 : BitVec 32 := Scf.iv c0_i32_291 c1_i32_292 k0_t1
  let c3_i32_588 : BitVec 32 := 3#32
  let v1133 : BitVec 32 := Scalar.remsi arg23 c3_i32_588
  let v1143 : Index := Scalar.indexCast v1133
  let c0_596 : Index := 0#32
  let c0_597 : Index := 0#32
  ![v1143.toNat, 0, 0]
def k0_off5 (k0_t1 : Fin k0_t1_loop.trips) (c0_i32_611 : BitVec 32) : Fin 3 → Nat :=
  let c0_i32_291 : BitVec 32 := 0#32
  let c1_i32_292 : BitVec 32 := 1#32
  let arg23 : BitVec 32 := Scf.iv c0_i32_291 c1_i32_292 k0_t1
  let c4_i32_610 : BitVec 32 := 4#32
  let v1169 : BitVec 32 := Scalar.muli arg23 c4_i32_610
  let v1170 : BitVec 32 := Scalar.addi v1169 c0_i32_611
  let v1172 : Index := Scalar.indexCast v1170
  let c0_612 : Index := 0#32
  let c0_613 : Index := 0#32
  ![v1172.toNat, 0, 0]
def k0_mult5 (k0_t1 : Fin k0_t1_loop.trips) : BitVec 32 :=
  let c0_i32_291 : BitVec 32 := 0#32
  let c1_i32_292 : BitVec 32 := 1#32
  let arg23 : BitVec 32 := Scf.iv c0_i32_291 c1_i32_292 k0_t1
  let c4_i32_610 : BitVec 32 := 4#32
  let v1169 : BitVec 32 := Scalar.muli arg23 c4_i32_610
  let c0_i32_611 : BitVec 32 := 0#32
  let v1170 : BitVec 32 := Scalar.addi v1169 c0_i32_611
  let c24_i32 : BitVec 32 := 24#32
  let v1192 : BitVec 32 := Scalar.muli v1170 c24_i32
  v1192
def k0_off6 (k0_t1 : Fin k0_t1_loop.trips) (c0_i32_611 : BitVec 32) : Fin 2 → Nat :=
  let c0_i32_291 : BitVec 32 := 0#32
  let c1_i32_292 : BitVec 32 := 1#32
  let arg23 : BitVec 32 := Scf.iv c0_i32_291 c1_i32_292 k0_t1
  let c4_i32_610 : BitVec 32 := 4#32
  let v1169 : BitVec 32 := Scalar.muli arg23 c4_i32_610
  let v1170 : BitVec 32 := Scalar.addi v1169 c0_i32_611
  let c24_i32 : BitVec 32 := 24#32
  let v1192 : BitVec 32 := Scalar.muli v1170 c24_i32
  let v1193 : BitVec 32 := v1192
  let v1194 : Index := Scalar.indexCast v1193
  let c0_622 : Index := 0#32
  ![v1194.toNat, 0]
def k0_mult6 (k0_t1 : Fin k0_t1_loop.trips) : BitVec 32 :=
  let c0_i32_291 : BitVec 32 := 0#32
  let c1_i32_292 : BitVec 32 := 1#32
  let arg23 : BitVec 32 := Scf.iv c0_i32_291 c1_i32_292 k0_t1
  let c4_i32_623 : BitVec 32 := 4#32
  let v1196 : BitVec 32 := Scalar.muli arg23 c4_i32_623
  let c1_i32_624 : BitVec 32 := 1#32
  let v1197 : BitVec 32 := Scalar.addi v1196 c1_i32_624
  let c24_i32_636 : BitVec 32 := 24#32
  let v1219 : BitVec 32 := Scalar.muli v1197 c24_i32_636
  v1219
def k0_mult7 (k0_t1 : Fin k0_t1_loop.trips) : BitVec 32 :=
  let c0_i32_291 : BitVec 32 := 0#32
  let c1_i32_292 : BitVec 32 := 1#32
  let arg23 : BitVec 32 := Scf.iv c0_i32_291 c1_i32_292 k0_t1
  let c4_i32_638 : BitVec 32 := 4#32
  let v1223 : BitVec 32 := Scalar.muli arg23 c4_i32_638
  let c2_i32_639 : BitVec 32 := 2#32
  let v1224 : BitVec 32 := Scalar.addi v1223 c2_i32_639
  let c24_i32_651 : BitVec 32 := 24#32
  let v1246 : BitVec 32 := Scalar.muli v1224 c24_i32_651
  v1246
def k0_mult8 (k0_t1 : Fin k0_t1_loop.trips) : BitVec 32 :=
  let c0_i32_291 : BitVec 32 := 0#32
  let c1_i32_292 : BitVec 32 := 1#32
  let arg23 : BitVec 32 := Scf.iv c0_i32_291 c1_i32_292 k0_t1
  let c4_i32_653 : BitVec 32 := 4#32
  let v1250 : BitVec 32 := Scalar.muli arg23 c4_i32_653
  let c3_i32_654 : BitVec 32 := 3#32
  let v1251 : BitVec 32 := Scalar.addi v1250 c3_i32_654
  let c24_i32_666 : BitVec 32 := 24#32
  let v1273 : BitVec 32 := Scalar.muli v1251 c24_i32_666
  v1273
def k0_cond1 (k0_t1 : Fin k0_t1_loop.trips) : BitVec 1 :=
  let c0_i32_291 : BitVec 32 := 0#32
  let c1_i32_292 : BitVec 32 := 1#32
  let arg23 : BitVec 32 := Scf.iv c0_i32_291 c1_i32_292 k0_t1
  let c3_i32_668 : BitVec 32 := 3#32
  let v1277 : BitVec 32 := Scalar.addi arg23 c3_i32_668
  let c18_i32_669 : BitVec 32 := 18#32
  let v1278 : BitVec 1 := Scalar.cmpi .slt v1277 c18_i32_669
  let v1279 : BitVec 32 := Scalar.extui v1278
  let c0_i32_670 : BitVec 32 := 0#32
  let v1280 : BitVec 1 := Scalar.cmpi .ne v1279 c0_i32_670
  v1280

def k0_mult9 (k0_t1 : Fin k0_t1_loop.trips) : BitVec 32 :=
  let c0_i32_291 : BitVec 32 := 0#32
  let c1_i32_292 : BitVec 32 := 1#32
  let arg23 : BitVec 32 := Scf.iv c0_i32_291 c1_i32_292 k0_t1
  let c3_i32_671 : BitVec 32 := 3#32
  let v1281 : BitVec 32 := Scalar.addi arg23 c3_i32_671
  let c512_i32_672 : BitVec 32 := 512#32
  let v1282 : BitVec 32 := Scalar.muli v1281 c512_i32_672
  v1282
def k0_off7 (k0_t1 : Fin k0_t1_loop.trips) : Fin 1 → Nat :=
  let c0_i32_291 : BitVec 32 := 0#32
  let c1_i32_292 : BitVec 32 := 1#32
  let arg23 : BitVec 32 := Scf.iv c0_i32_291 c1_i32_292 k0_t1
  let c3_i32_588 : BitVec 32 := 3#32
  let v1133 : BitVec 32 := Scalar.remsi arg23 c3_i32_588
  ![v1133.toNat]
def k0_off8 (k0_t1 : Fin k0_t1_loop.trips) : Fin 3 → Nat :=
  let c0_i32_291 : BitVec 32 := 0#32
  let c1_i32_292 : BitVec 32 := 1#32
  let arg23 : BitVec 32 := Scf.iv c0_i32_291 c1_i32_292 k0_t1
  let c3_i32_588 : BitVec 32 := 3#32
  let v1133 : BitVec 32 := Scalar.remsi arg23 c3_i32_588
  let c0_i32_673 : BitVec 32 := 0#32
  let c0_i32_674 : BitVec 32 := 0#32
  ![v1133.toNat, 0, 0]
def k0_off9 (k0_t1 : Fin k0_t1_loop.trips) : Fin 2 → Nat :=
  let c0_i32_675 : BitVec 32 := 0#32
  let c0_i32_291 : BitVec 32 := 0#32
  let c1_i32_292 : BitVec 32 := 1#32
  let arg23 : BitVec 32 := Scf.iv c0_i32_291 c1_i32_292 k0_t1
  let c3_i32_671 : BitVec 32 := 3#32
  let v1281 : BitVec 32 := Scalar.addi arg23 c3_i32_671
  let c512_i32_672 : BitVec 32 := 512#32
  let v1282 : BitVec 32 := Scalar.muli v1281 c512_i32_672
  let v1283 : BitVec 32 := v1282
  ![0, v1283.toNat]
@[reducible] def k0_t2_loop : Scf.Loop 32 :=
  let c0_i32_585 : BitVec 32 := 0#32
  let c20_i32 : BitVec 32 := 20#32
  let v1132 : BitVec 32 := Scalar.addi c0_i32_585 c20_i32
  let c1_i32_586 : BitVec 32 := 1#32
  ⟨c0_i32_585, v1132, c1_i32_586⟩
def k0_off10 (k0_t2 : Fin k0_t2_loop.trips) : Fin 3 → Nat :=
  let c0_588 : Index := 0#32
  let c0_i32_585 : BitVec 32 := 0#32
  let c1_i32_586 : BitVec 32 := 1#32
  let arg23 : BitVec 32 := Scf.iv c0_i32_585 c1_i32_586 k0_t2
  let v1133 : Index := Scalar.indexCast arg23
  let c0_589 : Index := 0#32
  ![0, v1133.toNat, 0]
def k0_off11 (k0_t2 : Fin k0_t2_loop.trips) : Fin 3 → Nat :=
  let c1_590 : Index := 1#32
  let c0_i32_585 : BitVec 32 := 0#32
  let c1_i32_586 : BitVec 32 := 1#32
  let arg23 : BitVec 32 := Scf.iv c0_i32_585 c1_i32_586 k0_t2
  let v1136 : Index := Scalar.indexCast arg23
  let c0_591 : Index := 0#32
  ![1, v1136.toNat, 0]
def k0_off12 (k0_t2 : Fin k0_t2_loop.trips) : Fin 3 → Nat :=
  let c0_i32_585 : BitVec 32 := 0#32
  let c1_i32_586 : BitVec 32 := 1#32
  let arg23 : BitVec 32 := Scf.iv c0_i32_585 c1_i32_586 k0_t2
  let v1145 : Index := Scalar.indexCast arg23
  let c0_593 : Index := 0#32
  let c0_594 : Index := 0#32
  ![v1145.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S20x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S72x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S72x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S20x7168 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S20x8x128 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x20 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x20 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1728x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S20x1x7168 : Shape := ⟨3, ![20, 1, 7168]⟩
abbrev S7168 : Shape := ⟨1, ![7168]⟩
abbrev S3584x9216 : Shape := ⟨2, ![3584, 9216]⟩
abbrev S9216 : Shape := ⟨1, ![9216]⟩
abbrev S20x1x64 : Shape := ⟨3, ![20, 1, 64]⟩
abbrev S20x7168 : Shape := ⟨2, ![20, 7168]⟩
abbrev S1x7168 : Shape := ⟨2, ![1, 7168]⟩
abbrev S1x9216 : Shape := ⟨2, ![1, 9216]⟩
abbrev S1x20 : Shape := ⟨2, ![1, 20]⟩
abbrev S20x8x128 : Shape := ⟨3, ![20, 8, 128]⟩
abbrev S8x20 : Shape := ⟨2, ![8, 20]⟩
abbrev S1728x128 : Shape := ⟨2, ![1728, 128]⟩
abbrev S20 : Shape := ⟨1, ![20]⟩
abbrev S20x1 : Shape := ⟨2, ![20, 1]⟩
abbrev S20x3584 : Shape := ⟨2, ![20, 3584]⟩
abbrev S20x9216 : Shape := ⟨2, ![20, 9216]⟩
abbrev S20x72x128 : Shape := ⟨3, ![20, 72, 128]⟩
abbrev S20x64x128 : Shape := ⟨3, ![20, 64, 128]⟩
abbrev S20x64x64 : Shape := ⟨3, ![20, 64, 64]⟩
abbrev S20x8 : Shape := ⟨2, ![20, 8]⟩
abbrev S20x8x1 : Shape := ⟨3, ![20, 8, 1]⟩
abbrev S72x20x128 : Shape := ⟨3, ![72, 20, 128]⟩
abbrev S72x4x128 : Shape := ⟨3, ![72, 4, 128]⟩
abbrev S72x24x128 : Shape := ⟨3, ![72, 24, 128]⟩

abbrev nBuf : Space → Nat
  | .hbm => 19
  | .vmem => 15
  | .smem => 0
  | _ => 0

abbrev bufTy : (tb : Table) → Fin (tcTables nBuf tb) → BufTy
  | .hbm, ⟨0, _⟩ => ⟨S20x1x7168, .bf16⟩
  | .hbm, ⟨1, _⟩ => ⟨S7168, .f32⟩
  | .hbm, ⟨2, _⟩ => ⟨S3584x9216, .i8⟩
  | .hbm, ⟨3, _⟩ => ⟨S9216, .f32⟩
  | .hbm, ⟨4, _⟩ => ⟨S9216, .f32⟩
  | .hbm, ⟨5, _⟩ => ⟨S20x1x64, .f32⟩
  | .hbm, ⟨6, _⟩ => ⟨S20x1x64, .f32⟩
  | .hbm, ⟨7, _⟩ => ⟨S20x7168, .bf16⟩
  | .hbm, ⟨8, _⟩ => ⟨S1x7168, .f32⟩
  | .hbm, ⟨9, _⟩ => ⟨S1x9216, .f32⟩
  | .hbm, ⟨10, _⟩ => ⟨S1x9216, .f32⟩
  | .hbm, ⟨11, _⟩ => ⟨S20x7168, .i8⟩
  | .hbm, ⟨12, _⟩ => ⟨S1x20, .f32⟩
  | .hbm, ⟨13, _⟩ => ⟨S20x8x128, .i8⟩
  | .hbm, ⟨14, _⟩ => ⟨S8x20, .f32⟩
  | .hbm, ⟨15, _⟩ => ⟨S8x20, .f32⟩
  | .hbm, ⟨16, _⟩ => ⟨S8x20, .f32⟩
  | .hbm, ⟨17, _⟩ => ⟨S8x20, .f32⟩
  | .hbm, ⟨18, _⟩ => ⟨S1728x128, .f32⟩
  | .local _ .vmem, ⟨0, _⟩ => ⟨S20x7168, .bf16⟩
  | .local _ .vmem, ⟨1, _⟩ => ⟨S1x7168, .f32⟩
  | .local _ .vmem, ⟨2, _⟩ => ⟨S3584x9216, .i8⟩
  | .local _ .vmem, ⟨3, _⟩ => ⟨S1x9216, .f32⟩
  | .local _ .vmem, ⟨4, _⟩ => ⟨S1x9216, .f32⟩
  | .local _ .vmem, ⟨5, _⟩ => ⟨S20x1x64, .f32⟩
  | .local _ .vmem, ⟨6, _⟩ => ⟨S20x1x64, .f32⟩
  | .local _ .vmem, ⟨7, _⟩ => ⟨S20x7168, .i8⟩
  | .local _ .vmem, ⟨8, _⟩ => ⟨S1x20, .f32⟩
  | .local _ .vmem, ⟨9, _⟩ => ⟨S20x8x128, .i8⟩
  | .local _ .vmem, ⟨10, _⟩ => ⟨S8x20, .f32⟩
  | .local _ .vmem, ⟨11, _⟩ => ⟨S8x20, .f32⟩
  | .local _ .vmem, ⟨12, _⟩ => ⟨S8x20, .f32⟩
  | .local _ .vmem, ⟨13, _⟩ => ⟨S8x20, .f32⟩
  | .local _ .vmem, ⟨14, _⟩ => ⟨S1728x128, .f32⟩
  | _, _ => ⟨S20x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v4_6 : Ref sig .tc := ⟨.hbm, 17, rfl⟩
abbrev main_v4_7 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S20x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x9216 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S20x7168 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S20x8x128 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x20 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x20 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x20 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1728x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== KernelO.lean ====
abbrev S20x1x7168 : Shape := ⟨3, ![20, 1, 7168]⟩
abbrev S3584x7168 : Shape := ⟨2, ![3584, 7168]⟩
abbrev S7168 : Shape := ⟨1, ![7168]⟩
abbrev S20x56x128 : Shape := ⟨3, ![20, 56, 128]⟩
abbrev S56x20x128 : Shape := ⟨3, ![56, 20, 128]⟩
abbrev S_ : Shape := ⟨0, ![]⟩
abbrev S56x4x128 : Shape := ⟨3, ![56, 4, 128]⟩
abbrev S56x24x128 : Shape := ⟨3, ![56, 24, 128]⟩
abbrev S1344x128 : Shape := ⟨2, ![1344, 128]⟩
abbrev S20x7168 : Shape := ⟨2, ![20, 7168]⟩
abbrev S56x1x128 : Shape := ⟨3, ![56, 1, 128]⟩
abbrev S1x20 : Shape := ⟨2, ![1, 20]⟩
abbrev S3x3584x512 : Shape := ⟨3, ![3, 3584, 512]⟩
abbrev S32x7168 : Shape := ⟨2, ![32, 7168]⟩
abbrev S2x24x128 : Shape := ⟨3, ![2, 24, 128]⟩
abbrev S3 : Shape := ⟨1, ![3]⟩
abbrev S1 : Shape := ⟨1, ![1]⟩
abbrev S1x3584x512 : Shape := ⟨3, ![1, 3584, 512]⟩
abbrev S3584x512 : Shape := ⟨2, ![3584, 512]⟩
abbrev S24x128 : Shape := ⟨2, ![24, 128]⟩
abbrev S24 : Shape := ⟨1, ![24]⟩
abbrev S24x1 : Shape := ⟨2, ![24, 1]⟩
abbrev S104x128 : Shape := ⟨2, ![104, 128]⟩
abbrev S128x128 : Shape := ⟨2, ![128, 128]⟩
abbrev S20x128 : Shape := ⟨2, ![20, 128]⟩
abbrev S1x24x128 : Shape := ⟨3, ![1, 24, 128]⟩
abbrev S32x3584 : Shape := ⟨2, ![32, 3584]⟩
abbrev S896x512 : Shape := ⟨2, ![896, 512]⟩
abbrev S32x512 : Shape := ⟨2, ![32, 512]⟩
abbrev S1x1x128 : Shape := ⟨3, ![1, 1, 128]⟩
abbrev S1x128 : Shape := ⟨2, ![1, 128]⟩

abbrev nBuf : Space → Nat
  | .hbm => 17
  | .vmem => 10
  | .smem => 0
  | _ => 0

abbrev bufTy : (tb : Table) → Fin (tcTables nBuf tb) → BufTy
  | .hbm, ⟨0, _⟩ => ⟨S20x1x7168, .bf16⟩
  | .hbm, ⟨1, _⟩ => ⟨S3584x7168, .i8⟩
  | .hbm, ⟨2, _⟩ => ⟨S7168, .f32⟩
  | .hbm, ⟨3, _⟩ => ⟨S7168, .f32⟩
  | .hbm, ⟨4, _⟩ => ⟨S20x1x7168, .f32⟩
  | .hbm, ⟨5, _⟩ => ⟨S20x56x128, .f32⟩
  | .hbm, ⟨6, _⟩ => ⟨S56x20x128, .f32⟩
  | .hbm, ⟨7, _⟩ => ⟨S_, .f32⟩
  | .hbm, ⟨8, _⟩ => ⟨S56x4x128, .f32⟩
  | .hbm, ⟨9, _⟩ => ⟨S56x24x128, .f32⟩
  | .hbm, ⟨10, _⟩ => ⟨S1344x128, .f32⟩
  | .hbm, ⟨11, _⟩ => ⟨S20x7168, .bf16⟩
  | .hbm, ⟨12, _⟩ => ⟨S56x1x128, .f32⟩
  | .hbm, ⟨13, _⟩ => ⟨S56x1x128, .f32⟩
  | .hbm, ⟨14, _⟩ => ⟨S20x7168, .bf16⟩
  | .hbm, ⟨15, _⟩ => ⟨S20x7168, .i8⟩
  | .hbm, ⟨16, _⟩ => ⟨S1x20, .f32⟩
  | .local _ .vmem, ⟨0, _⟩ => ⟨S20x7168, .bf16⟩
  | .local _ .vmem, ⟨1, _⟩ => ⟨S56x1x128, .f32⟩
  | .local _ .vmem, ⟨2, _⟩ => ⟨S56x1x128, .f32⟩
  | .local _ .vmem, ⟨3, _⟩ => ⟨S1344x128, .f32⟩
  | .local _ .vmem, ⟨4, _⟩ => ⟨S20x7168, .bf16⟩
  | .local _ .vmem, ⟨5, _⟩ => ⟨S20x7168, .i8⟩
  | .local _ .vmem, ⟨6, _⟩ => ⟨S1x20, .f32⟩
  | .local _ .vmem, ⟨7, _⟩ => ⟨S3x3584x512, .i8⟩
  | .local _ .vmem, ⟨8, _⟩ => ⟨S32x7168, .bf16⟩
  | .local _ .vmem, ⟨9, _⟩ => ⟨S2x24x128, .f32⟩
  | _, _ => ⟨S20x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_mult1 : BitVec 32 :=
  let c0_i32 : BitVec 32 := 0#32
  c0_i32
def k0_mult2 : BitVec 32 :=
  let c512_i32 : BitVec 32 := 512#32
  c512_i32
def k0_mult3 : BitVec 32 :=
  let c1024_i32 : BitVec 32 := 1024#32
  c1024_i32
@[reducible] def k0_t1_loop : Scf.Loop 32 :=
  let c0_i32_480 : BitVec 32 := 0#32
  let c14_i32 : BitVec 32 := 14#32
  let v1339 : BitVec 32 := Scalar.addi c0_i32_480 c14_i32
  let c1_i32_481 : BitVec 32 := 1#32
  ⟨c0_i32_480, v1339, c1_i32_481⟩
def k0_mult4 (k0_t1 : Fin k0_t1_loop.trips) : BitVec 32 :=
  let c0_i32_480 : BitVec 32 := 0#32
  let c1_i32_481 : BitVec 32 := 1#32
  let arg13 : BitVec 32 := Scf.iv c0_i32_480 c1_i32_481 k0_t1
  let c512_i32_483 : BitVec 32 := 512#32
  let v1341 : BitVec 32 := Scalar.muli arg13 c512_i32_483
  v1341
def k0_off1 (k0_t1 : Fin k0_t1_loop.trips) : Fin 1 → Nat :=
  let c0_i32_480 : BitVec 32 := 0#32
  let c1_i32_481 : BitVec 32 := 1#32
  let arg13 : BitVec 32 := Scf.iv c0_i32_480 c1_i32_481 k0_t1
  let c3_i32 : BitVec 32 := 3#32
  let v1340 : BitVec 32 := Scalar.remsi arg13 c3_i32
  ![v1340.toNat]
def k0_off2 (k0_t1 : Fin k0_t1_loop.trips) : Fin 3 → Nat :=
  let c0_i32_480 : BitVec 32 := 0#32
  let c1_i32_481 : BitVec 32 := 1#32
  let arg13 : BitVec 32 := Scf.iv c0_i32_480 c1_i32_481 k0_t1
  let c3_i32 : BitVec 32 := 3#32
  let v1340 : BitVec 32 := Scalar.remsi arg13 c3_i32
  let c0_i32_484 : BitVec 32 := 0#32
  let c0_i32_485 : BitVec 32 := 0#32
  ![v1340.toNat, 0, 0]
def k0_off3 (k0_t1 : Fin k0_t1_loop.trips) : Fin 2 → Nat :=
  let c0_i32_486 : BitVec 32 := 0#32
  let c0_i32_480 : BitVec 32 := 0#32
  let c1_i32_481 : BitVec 32 := 1#32
  let arg13 : BitVec 32 := Scf.iv c0_i32_480 c1_i32_481 k0_t1
  let c512_i32_483 : BitVec 32 := 512#32
  let v1341 : BitVec 32 := Scalar.muli arg13 c512_i32_483
  let v1342 : BitVec 32 := v1341
  ![0, v1342.toNat]
def k0_off4 (k0_t1 : Fin k0_t1_loop.trips) : Fin 3 → Nat :=
  let c0_i32_480 : BitVec 32 := 0#32
  let c1_i32_481 : BitVec 32 := 1#32
  let arg13 : BitVec 32 := Scf.iv c0_i32_480 c1_i32_481 k0_t1
  let c3_i32 : BitVec 32 := 3#32
  let v1340 : BitVec 32 := Scalar.remsi arg13 c3_i32
  let v1350 : Index := Scalar.indexCast v1340
  let c0_491 : Index := 0#32
  let c0_492 : Index := 0#32
  ![v1350.toNat, 0, 0]
def k0_off5 (k0_t1 : Fin k0_t1_loop.trips) (c0_i32_497 : BitVec 32) : Fin 3 → Nat :=
  let c0_i32_480 : BitVec 32 := 0#32
  let c1_i32_481 : BitVec 32 := 1#32
  let arg13 : BitVec 32 := Scf.iv c0_i32_480 c1_i32_481 k0_t1
  let c4_i32_496 : BitVec 32 := 4#32
  let v1367 : BitVec 32 := Scalar.muli arg13 c4_i32_496
  let v1368 : BitVec 32 := Scalar.addi v1367 c0_i32_497
  let v1370 : Index := Scalar.indexCast v1368
  let c0_498 : Index := 0#32
  let c0_499 : Index := 0#32
  ![v1370.toNat, 0, 0]
def k0_mult5 (k0_t1 : Fin k0_t1_loop.trips) : BitVec 32 :=
  let c0_i32_480 : BitVec 32 := 0#32
  let c1_i32_481 : BitVec 32 := 1#32
  let arg13 : BitVec 32 := Scf.iv c0_i32_480 c1_i32_481 k0_t1
  let c4_i32_496 : BitVec 32 := 4#32
  let v1367 : BitVec 32 := Scalar.muli arg13 c4_i32_496
  let c0_i32_497 : BitVec 32 := 0#32
  let v1368 : BitVec 32 := Scalar.addi v1367 c0_i32_497
  let c128_i32 : BitVec 32 := 128#32
  let v1386 : BitVec 32 := Scalar.muli v1368 c128_i32
  v1386
def k0_off6 (k0_t1 : Fin k0_t1_loop.trips) (c0_i32_497 : BitVec 32) : Fin 2 → Nat :=
  let c0_508 : Index := 0#32
  let c0_i32_480 : BitVec 32 := 0#32
  let c1_i32_481 : BitVec 32 := 1#32
  let arg13 : BitVec 32 := Scf.iv c0_i32_480 c1_i32_481 k0_t1
  let c4_i32_496 : BitVec 32 := 4#32
  let v1367 : BitVec 32 := Scalar.muli arg13 c4_i32_496
  let v1368 : BitVec 32 := Scalar.addi v1367 c0_i32_497
  let c128_i32 : BitVec 32 := 128#32
  let v1386 : BitVec 32 := Scalar.muli v1368 c128_i32
  let v1387 : BitVec 32 := v1386
  let v1388 : Index := Scalar.indexCast v1387
  ![0, v1388.toNat]
def k0_mult6 (k0_t1 : Fin k0_t1_loop.trips) : BitVec 32 :=
  let c0_i32_480 : BitVec 32 := 0#32
  let c1_i32_481 : BitVec 32 := 1#32
  let arg13 : BitVec 32 := Scf.iv c0_i32_480 c1_i32_481 k0_t1
  let c4_i32_510 : BitVec 32 := 4#32
  let v1397 : BitVec 32 := Scalar.muli arg13 c4_i32_510
  let c1_i32_511 : BitVec 32 := 1#32
  let v1398 : BitVec 32 := Scalar.addi v1397 c1_i32_511
  let c128_i32_522 : BitVec 32 := 128#32
  let v1416 : BitVec 32 := Scalar.muli v1398 c128_i32_522
  v1416
def k0_mult7 (k0_t1 : Fin k0_t1_loop.trips) : BitVec 32 :=
  let c0_i32_480 : BitVec 32 := 0#32
  let c1_i32_481 : BitVec 32 := 1#32
  let arg13 : BitVec 32 := Scf.iv c0_i32_480 c1_i32_481 k0_t1
  let c4_i32_525 : BitVec 32 := 4#32
  let v1427 : BitVec 32 := Scalar.muli arg13 c4_i32_525
  let c2_i32_526 : BitVec 32 := 2#32
  let v1428 : BitVec 32 := Scalar.addi v1427 c2_i32_526
  let c128_i32_537 : BitVec 32 := 128#32
  let v1446 : BitVec 32 := Scalar.muli v1428 c128_i32_537
  v1446
def k0_mult8 (k0_t1 : Fin k0_t1_loop.trips) : BitVec 32 :=
  let c0_i32_480 : BitVec 32 := 0#32
  let c1_i32_481 : BitVec 32 := 1#32
  let arg13 : BitVec 32 := Scf.iv c0_i32_480 c1_i32_481 k0_t1
  let c4_i32_540 : BitVec 32 := 4#32
  let v1457 : BitVec 32 := Scalar.muli arg13 c4_i32_540
  let c3_i32_541 : BitVec 32 := 3#32
  let v1458 : BitVec 32 := Scalar.addi v1457 c3_i32_541
  let c128_i32_552 : BitVec 32 := 128#32
  let v1476 : BitVec 32 := Scalar.muli v1458 c128_i32_552
  v1476
def k0_cond1 (k0_t1 : Fin k0_t1_loop.trips) : BitVec 1 :=
  let c0_i32_480 : BitVec 32 := 0#32
  let c1_i32_481 : BitVec 32 := 1#32
  let arg13 : BitVec 32 := Scf.iv c0_i32_480 c1_i32_481 k0_t1
  let c3_i32_555 : BitVec 32 := 3#32
  let v1487 : BitVec 32 := Scalar.addi arg13 c3_i32_555
  let c14_i32_556 : BitVec 32 := 14#32
  let v1488 : BitVec 1 := Scalar.cmpi .slt v1487 c14_i32_556
  let v1489 : BitVec 32 := Scalar.extui v1488
  let c0_i32_557 : BitVec 32 := 0#32
  let v1490 : BitVec 1 := Scalar.cmpi .ne v1489 c0_i32_557
  v1490

def k0_mult9 (k0_t1 : Fin k0_t1_loop.trips) : BitVec 32 :=
  let c0_i32_480 : BitVec 32 := 0#32
  let c1_i32_481 : BitVec 32 := 1#32
  let arg13 : BitVec 32 := Scf.iv c0_i32_480 c1_i32_481 k0_t1
  let c3_i32_558 : BitVec 32 := 3#32
  let v1491 : BitVec 32 := Scalar.addi arg13 c3_i32_558
  let c512_i32_559 : BitVec 32 := 512#32
  let v1492 : BitVec 32 := Scalar.muli v1491 c512_i32_559
  v1492
def k0_off7 (k0_t1 : Fin k0_t1_loop.trips) : Fin 1 → Nat :=
  let c0_i32_480 : BitVec 32 := 0#32
  let c1_i32_481 : BitVec 32 := 1#32
  let arg13 : BitVec 32 := Scf.iv c0_i32_480 c1_i32_481 k0_t1
  let c3_i32 : BitVec 32 := 3#32
  let v1340 : BitVec 32 := Scalar.remsi arg13 c3_i32
  ![v1340.toNat]
def k0_off8 (k0_t1 : Fin k0_t1_loop.trips) : Fin 3 → Nat :=
  let c0_i32_480 : BitVec 32 := 0#32
  let c1_i32_481 : BitVec 32 := 1#32
  let arg13 : BitVec 32 := Scf.iv c0_i32_480 c1_i32_481 k0_t1
  let c3_i32 : BitVec 32 := 3#32
  let v1340 : BitVec 32 := Scalar.remsi arg13 c3_i32
  let c0_i32_560 : BitVec 32 := 0#32
  let c0_i32_561 : BitVec 32 := 0#32
  ![v1340.toNat, 0, 0]
def k0_off9 (k0_t1 : Fin k0_t1_loop.trips) : Fin 2 → Nat :=
  let c0_i32_562 : BitVec 32 := 0#32
  let c0_i32_480 : BitVec 32 := 0#32
  let c1_i32_481 : BitVec 32 := 1#32
  let arg13 : BitVec 32 := Scf.iv c0_i32_480 c1_i32_481 k0_t1
  let c3_i32_558 : BitVec 32 := 3#32
  let v1491 : BitVec 32 := Scalar.addi arg13 c3_i32_558
  let c512_i32_559 : BitVec 32 := 512#32
  let v1492 : BitVec 32 := Scalar.muli v1491 c512_i32_559
  let v1493 : BitVec 32 := v1492
  ![0, v1493.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S20x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S56x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S56x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1344x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x7168 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceOIdeal.lean ====
abbrev S20x1x7168 : Shape := ⟨3, ![20, 1, 7168]⟩
abbrev S3584x7168 : Shape := ⟨2, ![3584, 7168]⟩
abbrev S7168 : Shape := ⟨1, ![7168]⟩
abbrev S20x7168 : Shape := ⟨2, ![20, 7168]⟩
abbrev S1x7168 : Shape := ⟨2, ![1, 7168]⟩
abbrev S1x20 : Shape := ⟨2, ![1, 20]⟩
abbrev S20 : Shape := ⟨1, ![20]⟩
abbrev S20x1 : Shape := ⟨2, ![20, 1]⟩
abbrev S20x3584 : Shape := ⟨2, ![20, 3584]⟩

abbrev nBuf : Space → Nat
  | .hbm => 12
  | .vmem => 8
  | .smem => 0
  | _ => 0

abbrev bufTy : (tb : Table) → Fin (tcTables nBuf tb) → BufTy
  | .hbm, ⟨0, _⟩ => ⟨S20x1x7168, .bf16⟩
  | .hbm, ⟨1, _⟩ => ⟨S3584x7168, .i8⟩
  | .hbm, ⟨2, _⟩ => ⟨S7168, .f32⟩
  | .hbm, ⟨3, _⟩ => ⟨S7168, .f32⟩
  | .hbm, ⟨4, _⟩ => ⟨S20x1x7168, .f32⟩
  | .hbm, ⟨5, _⟩ => ⟨S20x7168, .bf16⟩
  | .hbm, ⟨6, _⟩ => ⟨S1x7168, .f32⟩
  | .hbm, ⟨7, _⟩ => ⟨S1x7168, .f32⟩
  | .hbm, ⟨8, _⟩ => ⟨S20x7168, .f32⟩
  | .hbm, ⟨9, _⟩ => ⟨S20x7168, .bf16⟩
  | .hbm, ⟨10, _⟩ => ⟨S20x7168, .i8⟩
  | .hbm, ⟨11, _⟩ => ⟨S1x20, .f32⟩
  | .local _ .vmem, ⟨0, _⟩ => ⟨S20x7168, .bf16⟩
  | .local _ .vmem, ⟨1, _⟩ => ⟨S3584x7168, .i8⟩
  | .local _ .vmem, ⟨2, _⟩ => ⟨S1x7168, .f32⟩
  | .local _ .vmem, ⟨3, _⟩ => ⟨S1x7168, .f32⟩
  | .local _ .vmem, ⟨4, _⟩ => ⟨S20x7168, .f32⟩
  | .local _ .vmem, ⟨5, _⟩ => ⟨S20x7168, .bf16⟩
  | .local _ .vmem, ⟨6, _⟩ => ⟨S20x7168, .i8⟩
  | .local _ .vmem, ⟨7, _⟩ => ⟨S1x20, .f32⟩
  | _, _ => ⟨S20x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S20x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x7168 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20x7168 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelF.lean ====
abbrev S160x8x128 : Shape := ⟨3, ![160, 8, 128]⟩
abbrev S1120x128 : Shape := ⟨2, ![1120, 128]⟩
abbrev S1x8x128 : Shape := ⟨3, ![1, 8, 128]⟩
abbrev S8x128 : Shape := ⟨2, ![8, 128]⟩
abbrev S8 : Shape := ⟨1, ![8]⟩
abbrev S8x1 : Shape := ⟨2, ![8, 1]⟩
abbrev S7x128 : Shape := ⟨2, ![7, 128]⟩

abbrev nBuf : Space → Nat
  | .hbm => 4
  | .vmem => 4
  | .smem => 0
  | _ => 0

abbrev bufTy : (tb : Table) → Fin (tcTables nBuf tb) → BufTy
  | .hbm, ⟨0, _⟩ => ⟨S160x8x128, .f32⟩
  | .hbm, ⟨1, _⟩ => ⟨S160x8x128, .f32⟩
  | .hbm, ⟨2, _⟩ => ⟨S160x8x128, .f32⟩
  | .hbm, ⟨3, _⟩ => ⟨S1120x128, .f32⟩
  | .local _ .vmem, ⟨0, _⟩ => ⟨S160x8x128, .f32⟩
  | .local _ .vmem, ⟨1, _⟩ => ⟨S160x8x128, .f32⟩
  | .local _ .vmem, ⟨2, _⟩ => ⟨S160x8x128, .f32⟩
  | .local _ .vmem, ⟨3, _⟩ => ⟨S1120x128, .f32⟩
  | _, _ => ⟨S160x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c20_i32 : BitVec 32 := 20#32
  let v0 : BitVec 32 := Scalar.addi c0_i32 c20_i32
  let c1_i32 : BitVec 32 := 1#32
  ⟨c0_i32, v0, c1_i32⟩
def k0_off1 (k0_t1 : Fin k0_t1_loop.trips) (c0_i32_1 : BitVec 32) : Fin 3 → Nat :=
  let c0_i32 : BitVec 32 := 0#32
  let c1_i32 : BitVec 32 := 1#32
  let arg5 : BitVec 32 := Scf.iv c0_i32 c1_i32 k0_t1
  let v1 : BitVec 32 := Scalar.addi c0_i32_1 arg5
  let v2 : Index := Scalar.indexCast v1
  let c0 : Index := 0#32
  let c0_2 : Index := 0#32
  ![v2.toNat, 0, 0]
def k0_off2 (k0_t1 : Fin k0_t1_loop.trips) (c0_i32_8 : BitVec 32) : Fin 2 → Nat :=
  let c0_i32 : BitVec 32 := 0#32
  let c1_i32 : BitVec 32 := 1#32
  let arg5 : BitVec 32 := Scf.iv c0_i32 c1_i32 k0_t1
  let c56_i32 : BitVec 32 := 56#32
  let v20 : BitVec 32 := Scalar.muli arg5 c56_i32
  let v21 : BitVec 32 := Scalar.addi v20 c0_i32_8
  let v22 : Index := Scalar.indexCast v21
  let c0_9 : Index := 0#32
  ![v22.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S160x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S160x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S160x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1120x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceFIdeal.lean ====
abbrev S160x8x128 : Shape := ⟨3, ![160, 8, 128]⟩
abbrev S8x20x8x128 : Shape := ⟨4, ![8, 20, 8, 128]⟩
abbrev S8x20x7x128 : Shape := ⟨4, ![8, 20, 7, 128]⟩
abbrev S20x8x7x128 : Shape := ⟨4, ![20, 8, 7, 128]⟩
abbrev S1120x128 : Shape := ⟨2, ![1120, 128]⟩
abbrev S1120 : Shape := ⟨1, ![1120]⟩
abbrev S1120x1 : Shape := ⟨2, ![1120, 1]⟩

abbrev nBuf : Space → Nat
  | .hbm => 16
  | .vmem => 4
  | .smem => 0
  | _ => 0

abbrev bufTy : (tb : Table) → Fin (tcTables nBuf tb) → BufTy
  | .hbm, ⟨0, _⟩ => ⟨S160x8x128, .f32⟩
  | .hbm, ⟨1, _⟩ => ⟨S160x8x128, .f32⟩
  | .hbm, ⟨2, _⟩ => ⟨S160x8x128, .f32⟩
  | .hbm, ⟨3, _⟩ => ⟨S8x20x8x128, .f32⟩
  | .hbm, ⟨4, _⟩ => ⟨S8x20x7x128, .f32⟩
  | .hbm, ⟨5, _⟩ => ⟨S20x8x7x128, .f32⟩
  | .hbm, ⟨6, _⟩ => ⟨S1120x128, .f32⟩
  | .hbm, ⟨7, _⟩ => ⟨S8x20x8x128, .f32⟩
  | .hbm, ⟨8, _⟩ => ⟨S8x20x7x128, .f32⟩
  | .hbm, ⟨9, _⟩ => ⟨S20x8x7x128, .f32⟩
  | .hbm, ⟨10, _⟩ => ⟨S1120x128, .f32⟩
  | .hbm, ⟨11, _⟩ => ⟨S8x20x8x128, .f32⟩
  | .hbm, ⟨12, _⟩ => ⟨S8x20x7x128, .f32⟩
  | .hbm, ⟨13, _⟩ => ⟨S20x8x7x128, .f32⟩
  | .hbm, ⟨14, _⟩ => ⟨S1120x128, .f32⟩
  | .hbm, ⟨15, _⟩ => ⟨S1120x128, .f32⟩
  | .local _ .vmem, ⟨0, _⟩ => ⟨S1120x128, .f32⟩
  | .local _ .vmem, ⟨1, _⟩ => ⟨S1120x128, .f32⟩
  | .local _ .vmem, ⟨2, _⟩ => ⟨S1120x128, .f32⟩
  | .local _ .vmem, ⟨3, _⟩ => ⟨S1120x128, .f32⟩
  | _, _ => ⟨S160x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1120x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1120x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelRing.lean ====
/-
  `Kernel`'s weight ring. The body streams the eighteen column tiles of the packed weight matrix through the three slots
  of a VMEM buffer, one DMA semaphore per slot: a prologue starts tiles 0, 1 and 2; trip `k` of the projection loop
  waits for tile `k` in slot `k % 3`, computes four heads from it, and starts tile `k + 3` into the slot it has freed
  while there is one. This module names the tiles, the slots and the cells, proves the printed offsets equal to
  those names, runs one trip at a symbolic `k`, and states both counted loops by their invariants.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Pipeline.Frame
public import Idealize.ShloMosaic.Lib.Ring
public import Idealize.ShloMosaic.Lib.Affine
public import Idealize.ShloMosaic.Lib.Tactic
public import Idealize.ShloMosaic.Lib.ValueIdxCore

@[expose] public section

set_option maxRecDepth 8192
set_option maxHeartbeats 4000000

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The resource algebra: the pipeline library's, beside the counters the kernel's own transfers ride on -/

abbrev UU : Type := Pipeline.UD sig nD τ
local notation "𝕄" => MT nD τ sig Unit (Elt F) ℕ (Pipeline.UD sig nD τ) ℕ
abbrev 𝒱₀ : Variants := Variants.none

omit [FloatOps F] in
theorem entails_of_eq {P Q : sProp 𝕄} (e : P = Q) : P ⊢ Q := e ▸ .rfl

/-! ## Canonical names: tile `b` of the weights, slot `s` of the buffer, slot `s`'s cell -/

abbrev aM : Memref sig .tc .hbm S3584x9216 .i8 := Memref.whole main_arg2
abbrev bufM : Memref sig .tc .vmem S3x3584x512 .i8 := Memref.whole cc0_scratch0

abbrev grpOff (b : Fin 18) : Fin 2 → Nat := ![0, 512 * b.val]
theorem grpOff_inb (b : Fin 18) : ∀ a, grpOff b a + S3584x512.size a ≤ S3584x9216.size a := by
  have := b.isLt; intro a; fin_cases a
  · show 0 + 3584 ≤ 3584; omega
  · show 512 * b.val + 512 ≤ 9216; omega
abbrev slotOff (s : Fin 3) : Fin 3 → Nat := ![s.val, 0, 0]
theorem slotOff_inb (s : Fin 3) : ∀ a, slotOff s a + S1x3584x512.size a ≤ S3x3584x512.size a := by
  have := s.isLt; intro a; fin_cases a
  · show s.val + 1 ≤ 3; omega
  · show 0 + 3584 ≤ 3584; omega
  · show 0 + 512 ≤ 512; omega
abbrev semOff (s : Fin 3) : Fin 1 → Nat := ![s.val]
theorem semOff_inb (s : Fin 3) : ∀ a, semOff s a + S1.size a ≤ S3.size a := by
  have := s.isLt; intro a; fin_cases a; show s.val + 1 ≤ 3; omega

/-- Tile `b` of the weights: columns `512 b … 512 b + 511`. -/
def grp (b : Fin 18) : Memref sig .tc .hbm S3584x512 .i8 :=
  aM.slice (Rect.unit (s := S3584x9216) (grpOff b) S3584x512.size (grpOff_inb b)) (fun _ => rfl)
/-- Slot `s` of the buffer, as the body slices and squeezes it. -/
def rslot (s : Fin 3) : Memref sig .tc .vmem S3584x512 .i8 :=
  (bufM.slice (Rect.unit (s := S3x3584x512) (slotOff s) S1x3584x512.size (slotOff_inb s)) (fun _ => rfl)).squeeze S3584x512 squeezes_S1x3584x512_S3584x512
/-- Slot `s`'s DMA semaphore. -/
def csm (s : Fin 3) : DmaSems sig S_ := (cc0_scratch6.slice (Rect.unit (s := S3) (semOff s) S1.size (semOff_inb s))).squeeze S_ squeezes_S1_S_

instance (s : Fin 3) : ClosedOff (slotOff s) := ⟨slotOff s, rfl⟩
instance (b : Fin 18) : ClosedOff (grpOff b) := ⟨grpOff b, rfl⟩

/-! ## The induction variable's chain in closed form -/

section Chain
open Affine

theorem trips1_eq : k0_t1_loop.trips = 18 := by decide
theorem lt18 (k : Fin k0_t1_loop.trips) : k.val < 18 := Nat.lt_of_lt_of_eq k.isLt trips1_eq

theorem isInt_iv (k : Fin k0_t1_loop.trips) : IsInt (Scf.iv 0#32 1#32 k.val) k.val :=
  have := lt18 k
  iv (e := k.val) (ofNat (e := 0) 0 ⟨rfl, by decide⟩) (ofNat (e := 1) 1 ⟨rfl, by decide⟩) k.val ⟨by omega, by omega, by omega⟩
theorem isInt_rem (k : Fin k0_t1_loop.trips) : IsInt (Scalar.remsi (Scf.iv 0#32 1#32 k.val) 3#32) (k.val % 3 : Nat) :=
  remsi (e := (k.val % 3 : Nat)) (isInt_iv k) (ofNat (e := 3) 3 ⟨rfl, by decide⟩) ⟨by omega, by omega, by omega⟩
theorem isInt_tile (k : Fin k0_t1_loop.trips) : IsInt (Scalar.muli (Scf.iv 0#32 1#32 k.val) 512#32) (512 * k.val : Nat) :=
  have := lt18 k
  muli (e := (512 * k.val : Nat)) (isInt_iv k) (ofNat (e := 512) 512 ⟨rfl, by decide⟩) ⟨by push_cast; omega, by push_cast; omega, by push_cast; omega⟩
theorem isInt_next (k : Fin k0_t1_loop.trips) : IsInt (Scalar.addi (Scf.iv 0#32 1#32 k.val) 3#32) (k.val + 3 : Nat) :=
  have := lt18 k
  addi (e := (k.val + 3 : Nat)) (isInt_iv k) (ofNat (e := 3) 3 ⟨rfl, by decide⟩) ⟨by push_cast; omega, by push_cast; omega, by push_cast; omega⟩
theorem isInt_nextTile (k : Fin k0_t1_loop.trips) : IsInt (Scalar.muli (Scalar.addi (Scf.iv 0#32 1#32 k.val) 3#32) 512#32) (512 * (k.val + 3) : Nat) :=
  have := lt18 k
  muli (e := (512 * (k.val + 3) : Nat)) (isInt_next k) (ofNat (e := 512) 512 ⟨rfl, by decide⟩) ⟨by push_cast; omega, by push_cast; omega, by push_cast; omega⟩

theorem off1_eq (k : Fin k0_t1_loop.trips) : k0_off1 k = semOff (Ring.sl 3 k.val) :=
  vec_cons (isInt_rem k) (by simp [Ring.sl, Fin.ofNat]) vec_nil
theorem off2_eq (k : Fin k0_t1_loop.trips) : k0_off2 k = slotOff (Ring.sl 3 k.val) :=
  vec_cons (isInt_rem k) (by simp [Ring.sl, Fin.ofNat]) rfl
theorem off4_eq (k : Fin k0_t1_loop.trips) : k0_off4 k = slotOff (Ring.sl 3 k.val) :=
  vec_cons (indexCast (isInt_rem k)) (by simp [Ring.sl, Fin.ofNat]) rfl
theorem off7_eq (k : Fin k0_t1_loop.trips) : k0_off7 k = semOff (Ring.sl 3 k.val) := off1_eq k
theorem off8_eq (k : Fin k0_t1_loop.trips) : k0_off8 k = slotOff (Ring.sl 3 k.val) := off2_eq k
theorem off3_eq (k : Fin k0_t1_loop.trips) (hk : k.val < 18) : k0_off3 k = grpOff (Ring.bk 18 k.val) := by
  have e : (Scalar.muli (Scf.iv 0#32 1#32 k.val) 512#32).toNat = 512 * k.val := nat_eq (isInt_tile k) _ rfl
  show (![0, (Scalar.muli (Scf.iv 0#32 1#32 k.val) 512#32).toNat] : Fin 2 → Nat) = _
  rw [e]; unfold grpOff; rw [Ring.bk_val hk]
theorem off9_eq (k : Fin k0_t1_loop.trips) (hk : k.val + 3 < 18) : k0_off9 k = grpOff (Ring.bk 18 (k.val + 3)) := by
  have e : (Scalar.muli (Scalar.addi (Scf.iv 0#32 1#32 k.val) 3#32) 512#32).toNat = 512 * (k.val + 3) := nat_eq (isInt_nextTile k) _ rfl
  show (![0, (Scalar.muli (Scalar.addi (Scf.iv 0#32 1#32 k.val) 3#32) 512#32).toNat] : Fin 2 → Nat) = _
  rw [e]; unfold grpOff; rw [Ring.bk_val hk]

/-- The trip starts another tile exactly while there is one. -/
theorem cond1_iff : ∀ k : Fin k0_t1_loop.trips, k0_cond1 k = 1#1 ↔ k.val + 3 < 18 := by decide

instance (k : Fin k0_t1_loop.trips) : ClosedOff (k0_off4 k) := ⟨slotOff (Ring.sl 3 k.val), off4_eq k⟩
instance (k : Fin k0_t1_loop.trips) : ClosedOff (k0_off2 k) := ⟨slotOff (Ring.sl 3 k.val), off2_eq k⟩
instance (k : Fin k0_t1_loop.trips) : ClosedOff (k0_off8 k) := ⟨slotOff (Ring.sl 3 k.val), off8_eq k⟩

end Chain

/-! ### The canonical-name equations: the body's slices are `csm`, `rslot`, `grp` -/

section Canon

theorem csm_congr {off : Fin 1 → Nat} {s : Fin 3} (e : off = semOff s) (hh) :
    (cc0_scratch6.slice (Rect.unit (s := S3) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 3} (e : off = slotOff s) (hh hs) :
    (bufM.slice (Rect.unit (s := S3x3584x512) off S1x3584x512.size hh) hs).squeeze S3584x512 squeezes_S1x3584x512_S3584x512 = rslot s :=
  congrArg (fun M : Memref sig .tc .vmem S1x3584x512 .i8 => M.squeeze S3584x512 squeezes_S1x3584x512_S3584x512) (Memref.slice_unit_congr _ e _ _ _ _)
theorem grp_congr {off : Fin 2 → Nat} {b : Fin 18} (e : off = grpOff b) (hh hs) :
    aM.slice (Rect.unit (s := S3584x9216) off S3584x512.size hh) hs = grp b :=
  Memref.slice_unit_congr _ e _ _ _ (fun _ => rfl)

/-- The prologue's literal slices: slots, cells and tiles 0, 1 and 2. -/
@[sl_canon] theorem semL0 (hh) : (cc0_scratch6.slice (Rect.unit (s := S3) ![0] S1.size hh)).squeeze S_ squeezes_S1_S_ = csm 0 := csm_congr (by decide) _
@[sl_canon] theorem semL1 (hh) : (cc0_scratch6.slice (Rect.unit (s := S3) ![1] S1.size hh)).squeeze S_ squeezes_S1_S_ = csm 1 := csm_congr (by decide) _
@[sl_canon] theorem semL2 (hh) : (cc0_scratch6.slice (Rect.unit (s := S3) ![2] S1.size hh)).squeeze S_ squeezes_S1_S_ = csm 2 := csm_congr (by decide) _
@[sl_canon] theorem slotL0 (hh hs) : (bufM.slice (Rect.unit (s := S3x3584x512) ![0, 0, 0] S1x3584x512.size hh) hs).squeeze S3584x512 squeezes_S1x3584x512_S3584x512 = rslot 0 := rslot_congr (by decide) _ _
@[sl_canon] theorem slotL1 (hh hs) : (bufM.slice (Rect.unit (s := S3x3584x512) ![1, 0, 0] S1x3584x512.size hh) hs).squeeze S3584x512 squeezes_S1x3584x512_S3584x512 = rslot 1 := rslot_congr (by decide) _ _
@[sl_canon] theorem slotL2 (hh hs) : (bufM.slice (Rect.unit (s := S3x3584x512) ![2, 0, 0] S1x3584x512.size hh) hs).squeeze S3584x512 squeezes_S1x3584x512_S3584x512 = rslot 2 := rslot_congr (by decide) _ _
@[sl_canon] theorem grpL0 (hh hs) : aM.slice (Rect.unit (s := S3584x9216) ![0, 0] S3584x512.size hh) hs = grp 0 := grp_congr (by decide) _ _
@[sl_canon] theorem grpL1 (hh hs) : aM.slice (Rect.unit (s := S3584x9216) ![0, 512] S3584x512.size hh) hs = grp 1 := grp_congr (by decide) _ _
@[sl_canon] theorem grpL2 (hh hs) : aM.slice (Rect.unit (s := S3584x9216) ![0, 1024] S3584x512.size hh) hs = grp 2 := grp_congr (by decide) _ _

/-- Trip `k`: cell and slot `k % 3`, tile `k` waited, tile `k + 3` started. -/
@[sl_canon] theorem semK (k : Fin k0_t1_loop.trips) (hh) :
    (cc0_scratch6.slice (Rect.unit (s := S3) (k0_off1 k) S1.size hh)).squeeze S_ squeezes_S1_S_ = csm (Ring.sl 3 k.val) := csm_congr (off1_eq k) _
@[sl_canon] theorem slotK (k : Fin k0_t1_loop.trips) (hh hs) :
    (bufM.slice (Rect.unit (s := S3x3584x512) (k0_off2 k) S1x3584x512.size hh) hs).squeeze S3584x512 squeezes_S1x3584x512_S3584x512 = rslot (Ring.sl 3 k.val) := rslot_congr (off2_eq k) _ _
@[sl_canon] theorem grpW (k : Fin k0_t1_loop.trips) (hk : k.val < 18) (hh hs) :
    aM.slice (Rect.unit (s := S3584x9216) (k0_off3 k) S3584x512.size hh) hs = grp (Ring.bk 18 k.val) := grp_congr (off3_eq k hk) _ _
@[sl_canon] theorem semI (k : Fin k0_t1_loop.trips) (hh) :
    (cc0_scratch6.slice (Rect.unit (s := S3) (k0_off7 k) S1.size hh)).squeeze S_ squeezes_S1_S_ = csm (Ring.sl 3 k.val) := csm_congr (off7_eq k) _
@[sl_canon] theorem slotI (k : Fin k0_t1_loop.trips) (hh hs) :
    (bufM.slice (Rect.unit (s := S3x3584x512) (k0_off8 k) S1x3584x512.size hh) hs).squeeze S3584x512 squeezes_S1x3584x512_S3584x512 = rslot (Ring.sl 3 k.val) := rslot_congr (off8_eq k) _ _
@[sl_canon] theorem grpI (k : Fin k0_t1_loop.trips) (hk : k.val + 3 < 18) (hh hs) :
    aM.slice (Rect.unit (s := S3584x9216) (k0_off9 k) S3584x512.size hh) hs = grp (Ring.bk 18 (k.val + 3)) := grp_congr (off9_eq k hk) _ _

end Canon

/-! ## The pieces: a tile home, a slot held, a slot's cell, a slot in flight -/

section Pieces
variable (c : Dev nD) (XA : Buf (Elt F) (aM.view.loc (c : Thread nD τ)))

abbrev cellP (s : Fin 3) : sProp 𝕄 := semVal ((c : Thread nD τ), SemLoc.dma (csm s).sem) 0
abbrev slotP (s : Fin 3) (f : Buf (Elt F) ((rslot s).view.loc (c : Thread nD τ))) : sProp 𝕄 :=
  (rslot s).view.loc (c : Thread nD τ) ↦[(rslot s).view.set]{fullShare} f
/-- Tile `b` HOME: held on its elements at the weights' contents. -/
abbrev homeP (b : Fin 18) : sProp 𝕄 := (grp b).view.loc (c : Thread nD τ) ↦[(grp b).view.set]{fullShare} XA
/-- Tile `b`'s words as a slot's payload. -/
abbrev payload (b : Fin 18) : S3584x512.Idx → Elt F .i8 := ReadAs.same.apply ((grp b).view.read (Elt F) XA)
/-- What tile `b`'s transfer leaves in slot `s` over prior contents `f`: the tile, written whole. -/
abbrev landed (s : Fin 3) (b : Fin 18) (f : Buf (Elt F) ((rslot s).view.loc (c : Thread nD τ))) : Buf (Elt F) ((rslot s).view.loc (c : Thread nD τ)) :=
  (rslot s).view.writes (Elt F) f [⟨Rect.whole S3584x512, payload c XA b⟩]
/-- A tile's transfer moves 57344 units on its cell. -/
abbrev NN : ℕ := 57344
/-- Slot `s` IN FLIGHT with tile `b`, started over `f`. -/
abbrev flightP (s : Fin 3) (b : Fin 18) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

/-- Slot `j % 3` before a trip at most `j`: in flight with tile `j` while there is one, free otherwise. -/
@[irreducible] def ringAt (j : ℕ) : sProp 𝕄 :=
  if j < 18 then iprop(∃ f, flightP c XA (Ring.sl 3 j) (Ring.bk 18 j) f)
  else iprop((∃ f, slotP c (Ring.sl 3 j) f) ∗ cellP c (Ring.sl 3 j))
theorem ringAt_in (j : ℕ) (h : j < 18) : ringAt c XA j = iprop(∃ f, flightP c XA (Ring.sl 3 j) (Ring.bk 18 j) f) := by unfold ringAt; exact if_pos h
theorem ringAt_out (j : ℕ) (h : ¬ j < 18) : ringAt c XA j = iprop((∃ f, slotP c (Ring.sl 3 j) f) ∗ cellP c (Ring.sl 3 j)) := by unfold ringAt; exact if_neg h

/-- Trip `k`'s homes: tile `k + 3` (about to go out) beside the rest. -/
theorem homes_here (k : ℕ) (hk : k + 3 < 18) :
    bigSep (Ring.homeSet 3 k) (homeP c XA) = iprop(homeP c XA (Ring.bk 18 (k + 3)) ∗ bigSep ((Ring.homeSet 3 k).erase (Ring.bk 18 (k + 3))) (homeP c XA)) := by
  conv_lhs => rw [Ring.homeSet_out 3 k hk, bigSep_insert (Ring.bkL_not_mem_erase 3 k)]
  rfl
/-- Trip `k + 1`'s homes: tile `k` (just back) beside that rest; -/
theorem homes_next (k : ℕ) (hk : k + 3 < 18) :
    bigSep (Ring.homeSet 3 (k + 1)) (homeP c XA) = iprop(homeP c XA (Ring.bk 18 k) ∗ bigSep ((Ring.homeSet 3 k).erase (Ring.bk 18 (k + 3))) (homeP c XA)) := by
  conv_lhs => rw [Ring.homeSet_succ 3 k hk, bigSep_insert (Ring.bk_not_mem_erase 3 k (by omega) (by decide))]
  rfl
/-- near the end, beside all that were home. -/
theorem homes_tail (k : ℕ) (hk : ¬ k + 3 < 18) (h : k < 18) :
    bigSep (Ring.homeSet 3 (k + 1)) (homeP c XA) = iprop(homeP c XA (Ring.bk 18 k) ∗ bigSep (Ring.homeSet 3 k) (homeP c XA)) := by
  conv_lhs => rw [Ring.homeSet_succ_tail 3 k (by omega) h, bigSep_insert (Ring.bk_not_mem_homeSet 3 k h (by decide))]
  rfl

/-- The flight a trip starts, as the run states it: into the slot as the previous tile's flight delivered it (restated
    over junk), the new payload consed on. -/
theorem flightP_after (s : Fin 3) (b b' : Fin 18) :
    flightP c XA s b' ((rslot s).view.writes (Elt F) (rslot s).view.junk [⟨Rect.whole S3584x512, payload c XA b⟩])
      = Transfers.Flight countersEmb (c : Thread nD τ) (SemLoc.dma (csm s).sem) () 57344
          iprop(((rslot s).view.loc (c : Thread nD τ) ↦[(rslot s).view.set]{fullShare}
                  (rslot s).view.writes (Elt F) (rslot s).view.junk [⟨Rect.whole S3584x512, payload c XA b'⟩, ⟨Rect.whole S3584x512, payload c XA b⟩])
                ∗ homeP c XA b') := by
  simp only [flightP, landed, slotP, NN, View.writes]

end Pieces

/-! ## One trip of the projection loop -/

section Trip

variable (c : Dev nD) (XA : Buf (Elt F) (aM.view.loc (c : Thread nD τ)))
variable (i : grid0.Coords) (arg1 : Memref sig .tc .vmem S20x7168 .bf16) (harg1 : arg1.IsWhole) (arg2 : Memref sig .tc .vmem S1x7168 .f32) (harg2 : arg2.IsWhole) (arg3 : Memref sig .tc .vmem S72x1x128 .f32) (harg3 : arg3.IsWhole) (arg4 : Memref sig .tc .vmem S72x1x128 .f32) (harg4 : arg4.IsWhole) (arg5 : Memref sig .tc .vmem S20x1x64 .f32) (harg5 : arg5.IsWhole) (arg6 : Memref sig .tc .vmem S20x1x64 .f32) (harg6 : arg6.IsWhole) (arg8 : Memref sig .tc .vmem S20x7168 .i8) (harg8 : arg8.IsWhole) (arg9 : Memref sig .tc .vmem S1x20 .f32) (harg9 : arg9.IsWhole) (arg10 : Memref sig .tc .vmem S20x8x128 .i8) (harg10 : arg10.IsWhole) (arg11 : Memref sig .tc .vmem S8x20 .f32) (harg11 : arg11.IsWhole) (arg12 : Memref sig .tc .vmem S8x20 .f32) (harg12 : arg12.IsWhole) (arg13 : Memref sig .tc .vmem S8x20 .f32) (harg13 : arg13.IsWhole) (arg14 : Memref sig .tc .vmem S8x20 .f32) (harg14 : arg14.IsWhole) (arg15 : Memref sig .tc .vmem S1728x128 .f32) (harg15 : arg15.IsWhole) (arg17 : Memref sig .tc .vmem S32x7168 .bf16) (harg17 : arg17.IsWhole) (arg18 : Memref sig .tc .vmem S2x24x128 .f32) (harg18 : arg18.IsWhole) (arg19 : Memref sig .tc .vmem S2x24x128 .f32) (harg19 : arg19.IsWhole) (arg20 : Memref sig .tc .vmem S2x192x128 .f32) (harg20 : arg20.IsWhole) (arg21 : Memref sig .tc .vmem S4x192x128 .f32) (harg21 : arg21.IsWhole)
  (v357 : FVec F S1x64 .f32)
  (X3 : Buf (Elt F) (arg3.view.loc (c : Thread nD τ))) (X4 : Buf (Elt F) (arg4.view.loc (c : Thread nD τ)))
  (X17 : Buf (Elt F) (arg17.view.loc (c : Thread nD τ))) (X18 : Buf (Elt F) (arg18.view.loc (c : Thread nD τ)))
  (X19 : Buf (Elt F) (arg19.view.loc (c : Thread nD τ)))

/-- The resources before trip `k`, the projection's buffer at `fo`. -/
abbrev resAt (k : ℕ) (fo : Buf (Elt F) (arg15.view.loc (c : Thread nD τ))) : sProp 𝕄 :=
  iprop((arg3.view.loc (c : Thread nD τ) ↦[arg3.view.set]{fullShare} X3) ∗ (arg4.view.loc (c : Thread nD τ) ↦[arg4.view.set]{fullShare} X4)
    ∗ (arg17.view.loc (c : Thread nD τ) ↦[arg17.view.set]{fullShare} X17) ∗ (arg18.view.loc (c : Thread nD τ) ↦[arg18.view.set]{fullShare} X18)
    ∗ (arg19.view.loc (c : Thread nD τ) ↦[arg19.view.set]{fullShare} X19)
    ∗ (arg15.view.loc (c : Thread nD τ) ↦[arg15.view.set]{fullShare} fo) ∗ (∃ W, owes (c : Thread nD τ) 0 W)
    ∗ bigSep (Ring.homeSet 3 k) (homeP c XA)
    ∗ ringAt c XA k ∗ ringAt c XA (k + 1) ∗ ringAt c XA (k + 2))

set_option backward.proofsInPublic true in
/-- ONE TRIP at a symbolic `k`, the pieces it stores to be found by the run. -/
@[irreducible] def tripRun (k : Fin k0_t1_loop.trips) :
    { L : List (View.Piece (Elt F) S1728x128 .f32) // ∀ (fo : Buf (Elt F) (arg15.view.loc (c : Thread nD τ))),
      resAt c XA arg3 arg4 arg15 arg17 arg18 arg19 X3 X4 X17 X18 X19 k fo ⊢ wp frame (wpE (defs₀ (F := F)) 𝒱₀ (c : Thread nD τ) none) Set.univ
          (k0_t1_body (F := F) i arg1 harg1 arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) arg17 harg17 arg18 harg18 arg19 harg19 arg20 harg20 arg21 harg21 cc0_scratch6 v357 k ())
        (fun _ => resAt c XA arg3 arg4 arg15 arg17 arg18 arg19 X3 X4 X17 X18 X19 (k.val + 1) (arg15.view.writes (Elt F) fo L)) } := by
  have hk18 : k.val < 18 := lt18 k
  refine ⟨?_, fun fo => ?run⟩
  case run =>
    unfold resAt
    rw [ringAt_in c XA k.val hk18]
    iintro ⟨H3, H4, H17, H18, H19, HO, ⟨%W, HW⟩, Hh, ⟨%f0, HF0⟩, HF1, HF2⟩
    sl_unfold [k0_t1_body]
    set_option sl_exec.stopBefore "k0_cond1" in sl_exec
    by_cases hc : k0_cond1 k = 1#1
    · have hk3 := (cond1_iff k).1 hc
      ihave Hh2 := (entails_of_eq (homes_here c XA k.val hk3)) $$ Hh
      icases Hh2 with ⟨Hg, Hrest⟩
      sl_exec
      sl_step
      irw [homes_next c XA k.val hk3, show k.val + 1 + 1 = k.val + 2 from rfl, show k.val + 1 + 2 = k.val + 3 from rfl,
        ringAt_in c XA (k.val + 3) hk3, Ring.sl_add]
      isplitl [H3]; · iexact H3
      isplitl [H4]; · iexact H4
      isplitl [H17]; · iexact H17
      isplitl [H18]; · iexact H18
      isplitl [H19]; · iexact H19
      isplitl [HO]; · iexact HO
      isplitl [HW]; · iexists _; iexact HW
      isplitl [HF0_src Hrest]
      · isplitl [HF0_src]; · iexact HF0_src
        iexact Hrest
      isplitl [HF1]; · iexact HF1
      isplitl [HF2]; · iexact HF2
      iexists ((rslot (Ring.sl 3 k.val)).view.writes (Elt F) (rslot (Ring.sl 3 k.val)).view.junk [⟨Rect.whole S3584x512, payload c XA (Ring.bk 18 k.val)⟩])
      irw [flightP_after]
      iexact HF0
    · have hk3 := (cond1_iff k).not.1 hc
      sl_exec
      sl_step
      irw [homes_tail c XA k.val hk3 hk18, show k.val + 1 + 1 = k.val + 2 from rfl, show k.val + 1 + 2 = k.val + 3 from rfl,
        ringAt_out c XA (k.val + 3) hk3, Ring.sl_add]
      isplitl [H3]; · iexact H3
      isplitl [H4]; · iexact H4
      isplitl [H17]; · iexact H17
      isplitl [H18]; · iexact H18
      isplitl [H19]; · iexact H19
      isplitl [HO]; · iexact HO
      isplitl [HW]; · iexists _; iexact HW
      isplitl [HF0_src Hh]
      · isplitl [HF0_src]; · iexact HF0_src
        iexact Hh
      isplitl [HF1]; · iexact HF1
      isplitl [HF2]; · iexact HF2
      isplitl [HF0_dst]; · iexists _; iexact HF0_dst
      iexact HF0

/-- The pieces a trip stores. -/
abbrev tripL (k : Fin k0_t1_loop.trips) : List (View.Piece (Elt F) S1728x128 .f32) :=
  (tripRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k).1

/-- The pieces of the trips before `k`, last first. -/
@[irreducible] def pb1Step (k : ℕ) (prev : List (View.Piece (Elt F) S1728x128 .f32)) : List (View.Piece (Elt F) S1728x128 .f32) :=
  if h : k < k0_t1_loop.trips then tripL c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 ⟨k, h⟩ ++ prev else prev
def pb1 : ℕ → List (View.Piece (Elt F) S1728x128 .f32)
  | 0 => []
  | k + 1 => pb1Step c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k (pb1 k)
theorem pb1_succ (k : Fin k0_t1_loop.trips) :
    pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 (k.val + 1)
      = tripL c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k ++ pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k.val := by
  rw [pb1.eq_2]; unfold pb1Step; exact dif_pos k.isLt

set_option warn.classDefReducibility false in
/-- THE PROJECTION LOOP BY ITS INVARIANT. -/
@[sl_loop] def loopInv1 (G15 : Buf (Elt F) (arg15.view.loc (c : Thread nD τ))) :
    LoopInvTy_k0_t1 (F := F) Unit ℕ (Pipeline.UD sig nD τ) ℕ 𝒱₀ c none Set.univ i arg1 harg1 arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) arg17 harg17 arg18 harg18 arg19 harg19 arg20 harg20 arg21 harg21 cc0_scratch6 v357 where
  inv k _ := resAt c XA arg3 arg4 arg15 arg17 arg18 arg19 X3 X4 X17 X18 X19 k (arg15.view.writes (Elt F) G15 (pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k))
  step k _ := by
    iintro H
    iapply (wp_wand_r Idealize.ShloMosaic.frame (wpE (defs₀ (F := F)) 𝒱₀ (c : Thread nD τ) none) Set.univ)
    isplitl [H]
    · iapply ((tripRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k).2 _); iexact H
    · iintro %_ H'
      rw [pb1_succ, View.writes_append]
      iexact H'

/-! ### What the projection loop leaves: the seventy-two heads, whatever the buffer held before -/

/-- Head `4 k + r`'s rows in the projection's buffer. -/
theorem off6_eq : ∀ (k : Fin k0_t1_loop.trips) (r : Fin 4), k0_off6 k (BitVec.ofNat 32 r.val) = ![24 * (4 * k.val + r.val), 0] := by decide
/-- The rows trip `k` stores its head `r` to. -/
abbrev R6 (k : Fin k0_t1_loop.trips) (r : Fin 4) : Rect S1728x128 :=
  Rect.unit (s := S1728x128) (k0_off6 k (BitVec.ofNat 32 r.val)) S24x128.size (k0_off6_inb k r)
/-- What trip `k` stores for its head `r`. -/
def tripW (k : Fin k0_t1_loop.trips) : Fin 4 → S24x128.Idx → Elt F .f32
  | 0 => k0_pay8 (tripRun.sl.r c XA arg17 X17 k) (tripRun.sl.v1160 k) (tripRun.sl.r_1 c arg19 X19 k) (tripRun.sl.r_2 c arg19 X19)
      (View.readAt (Elt F) arg4.view (Rect.unit (s := S72x1x128) (k0_off5 k 0#32) S1x1x128.size (k0_off5_inb k 0)).toLoadRect X4)
      (View.readAt (Elt F) arg18.view (Rect.unit (s := S2x24x128) ![1, 0, 0] S1x24x128.size inb_S2x24x128_S1x24x128_1_0_0).toLoadRect X18)
      (View.readAt (Elt F) arg18.view (Rect.unit (s := S2x24x128) ![0, 0, 0] S1x24x128.size inb_S2x24x128_S1x24x128_0_0_0).toLoadRect X18)
      (View.readAt (Elt F) arg3.view (Rect.unit (s := S72x1x128) (k0_off5 k 0#32) S1x1x128.size (k0_off5_inb k 0)).toLoadRect X3)
  | 1 => k0_pay11 (tripRun.sl.r_1 c arg19 X19 k) (tripRun.sl.r_3 c arg19 X19 k) (tripRun.sl.r_4 c XA arg17 X17 k)
      (tripRun.sl.r_5 c arg4 X4 k) (tripRun.sl.r_6 c arg18 X18)
      (View.readAt (Elt F) arg18.view (Rect.unit (s := S2x24x128) ![0, 0, 0] S1x24x128.size inb_S2x24x128_S1x24x128_0_0_0).toLoadRect X18)
      (View.readAt (Elt F) arg3.view (Rect.unit (s := S72x1x128) (k0_off5 k 1#32) S1x1x128.size (k0_off5_inb k 1)).toLoadRect X3)
  | 2 => k0_pay13 (tripRun.sl.r_1 c arg19 X19 k) (tripRun.sl.r_3 c arg19 X19 k) (tripRun.sl.r_7 c XA arg3 arg4 arg17 arg18 X3 X4 X17 X18 k)
  | 3 => k0_pay14 (tripRun.sl.r c XA arg17 X17 k) (tripRun.sl.r_1 c arg19 X19 k) (tripRun.sl.r_3 c arg19 X19 k)
      (View.readAt (Elt F) arg4.view (Rect.unit (s := S72x1x128) (k0_off5 k 3#32) S1x1x128.size (k0_off5_inb k 3)).toLoadRect X4)
      (View.readAt (Elt F) arg18.view (Rect.unit (s := S2x24x128) ![1, 0, 0] S1x24x128.size inb_S2x24x128_S1x24x128_1_0_0).toLoadRect X18)
      (View.readAt (Elt F) arg18.view (Rect.unit (s := S2x24x128) ![0, 0, 0] S1x24x128.size inb_S2x24x128_S1x24x128_0_0_0).toLoadRect X18)
      (View.readAt (Elt F) arg3.view (Rect.unit (s := S72x1x128) (k0_off5 k 3#32) S1x1x128.size (k0_off5_inb k 3)).toLoadRect X3)

/-- The pieces a trip stores, named. -/
theorem tripL_eq (k : Fin k0_t1_loop.trips) :
    tripL c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k
      = [⟨R6 k 3, tripW c XA arg3 arg4 arg17 arg18 arg19 X3 X4 X17 X18 X19 k 3⟩, ⟨R6 k 2, tripW c XA arg3 arg4 arg17 arg18 arg19 X3 X4 X17 X18 X19 k 2⟩,
         ⟨R6 k 1, tripW c XA arg3 arg4 arg17 arg18 arg19 X3 X4 X17 X18 X19 k 1⟩, ⟨R6 k 0, tripW c XA arg3 arg4 arg17 arg18 arg19 X3 X4 X17 X18 X19 k 0⟩] := by
  unfold tripL; unfold tripRun; rfl

theorem mem_pb1 (n : ℕ) (hn : n ≤ k0_t1_loop.trips) (p : View.Piece (Elt F) S1728x128 .f32) :
    p ∈ pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 n
      ↔ ∃ k : Fin k0_t1_loop.trips, k.val < n ∧ p ∈ tripL c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k := by
  induction n with
  | zero => simp [pb1]
  | succ n ih =>
    have h : n < k0_t1_loop.trips := by omega
    rw [show n + 1 = (⟨n, h⟩ : Fin k0_t1_loop.trips).val + 1 from rfl, pb1_succ, List.mem_append, ih (by omega)]
    constructor
    · rintro (hp | ⟨k, hk, hp⟩)
      · exact ⟨⟨n, h⟩, Nat.lt_succ_self n, hp⟩
      · exact ⟨k, Nat.lt_succ_of_lt hk, hp⟩
    · rintro ⟨k, hk, hp⟩
      rcases Nat.lt_succ_iff_lt_or_eq.1 hk with hlt | he
      · exact Or.inr ⟨k, hlt, hp⟩
      · have : k = ⟨n, h⟩ := Fin.ext he
        subst this; exact Or.inl hp

theorem mem_R6 (k : Fin k0_t1_loop.trips) (r : Fin 4) (y : S1728x128.Idx) :
    y ∈ (R6 k r).set ↔ (y 0).val / 24 = 4 * k.val + r.val := by
  rw [Rect.mem_set_unit, off6_eq]
  have h1 : (y 1).val < 128 := (y 1).isLt
  constructor
  · intro H; have a0 : 24 * (4 * k.val + r.val) ≤ (y 0).val ∧ (y 0).val < 24 * (4 * k.val + r.val) + 24 := H 0; omega
  · intro H i; fin_cases i
    · show 24 * (4 * k.val + r.val) ≤ (y 0).val ∧ (y 0).val < 24 * (4 * k.val + r.val) + 24; omega
    · show 0 ≤ (y 1).val ∧ (y 1).val < 0 + 128; omega

/-- The loop's pieces cover the projection's buffer. -/
theorem cover1 (y : S1728x128.Idx) : ∃ p ∈ pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k0_t1_loop.trips, y ∈ p.1.set := by
  have h0 : (y 0).val < 1728 := (y 0).isLt
  let k : Fin k0_t1_loop.trips := ⟨(y 0).val / 96, by rw [trips1_eq]; omega⟩
  let r : Fin 4 := ⟨(y 0).val / 24 % 4, by omega⟩
  refine ⟨⟨R6 k r, tripW c XA arg3 arg4 arg17 arg18 arg19 X3 X4 X17 X18 X19 k r⟩, ?_, ?_⟩
  · refine (mem_pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 _ (le_refl _) _).2 ?_
    refine ⟨k, k.isLt, ?_⟩
    rw [tripL_eq]
    generalize r = r'
    fin_cases r' <;> simp
  · rw [mem_R6]; show (y 0).val / 24 = 4 * ((y 0).val / 96) + (y 0).val / 24 % 4; omega

theorem R6_emb_0 (k : Fin k0_t1_loop.trips) (r : Fin 4) (x : S24x128.Idx) :
    (((R6 k r).emb x) 0).val = 24 * (4 * k.val + r.val) + (x 0).val := by
  show (k0_off6 k (BitVec.ofNat 32 r.val)) 0 + 1 * (x 0).val = _
  rw [off6_eq]; simp
theorem R6_emb_1 (k : Fin k0_t1_loop.trips) (r : Fin 4) (x : S24x128.Idx) :
    (((R6 k r).emb x) 1).val = (x 1).val := by
  show (k0_off6 k (BitVec.ofNat 32 r.val)) 1 + 1 * (x 1).val = _
  rw [off6_eq]; simp

/-- A trip's stored words, named by the row they land in. -/
theorem tripW_at (k : Fin k0_t1_loop.trips) (r : Fin 4) (x : S24x128.Idx) :
    tripW c XA arg3 arg4 arg17 arg18 arg19 X3 X4 X17 X18 X19 k r x
      = (fun y : S1728x128.Idx => tripW c XA arg3 arg4 arg17 arg18 arg19 X3 X4 X17 X18 X19
      ⟨(y 0).val / 96, by have := (y 0).isLt; rw [trips1_eq]; have h : (y 0).val < 1728 := this; omega⟩ ⟨(y 0).val / 24 % 4, by omega⟩
      (ValueIdx.ix2 (n0 := 24) (n1 := 128) ⟨(y 0).val % 24, by omega⟩ (y 1))) ((R6 k r).emb x) := by
  have h0 := R6_emb_0 k r x
  have h1 := R6_emb_1 k r x
  have hx : (x 0).val < 24 := (x 0).isLt
  have hr := r.isLt
  have e1 : (⟨(((R6 k r).emb x) 0).val / 96, lt_of_lt_of_eq (by rw [h0]; have := lt18 k; omega : _ < 18) trips1_eq.symm⟩ : Fin k0_t1_loop.trips) = k := Fin.ext (by show _ / 96 = _; rw [h0]; omega)
  have e2 : (⟨(((R6 k r).emb x) 0).val / 24 % 4, by omega⟩ : Fin 4) = r := Fin.ext (by show _ / 24 % 4 = _; rw [h0]; omega)
  have e3 : ValueIdx.ix2 (n0 := 24) (n1 := 128) ⟨(((R6 k r).emb x) 0).val % 24, by omega⟩ (((R6 k r).emb x) 1) = x := by
    funext d; fin_cases d
    · exact Fin.ext (by show _ % 24 = _; rw [h0]; show _ = (x 0).val; omega)
    · exact Fin.ext h1
  show _ = tripW c XA arg3 arg4 arg17 arg18 arg19 X3 X4 X17 X18 X19 (⟨(((R6 k r).emb x) 0).val / 96, _⟩ : Fin k0_t1_loop.trips) (⟨(((R6 k r).emb x) 0).val / 24 % 4, _⟩ : Fin 4) (ValueIdx.ix2 (n0 := 24) (n1 := 128) ⟨(((R6 k r).emb x) 0).val % 24, _⟩ (((R6 k r).emb x) 1))
  rw [e1, e2, e3]

/-- What the loop leaves in the projection's buffer. -/
def yOf : S1728x128.Idx → Elt F .f32 :=
  arg15.view.read (Elt F) (arg15.view.writes (Elt F) arg15.view.junk (pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k0_t1_loop.trips))

/-- Row `24 (4 k + r) + j` of it is row `j` of what trip `k` stores for its head `r`. -/
theorem yOf_apply (k : Fin k0_t1_loop.trips) (r : Fin 4) (x : S24x128.Idx) :
    yOf c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 ((R6 k r).emb x) = tripW c XA arg3 arg4 arg17 arg18 arg19 X3 X4 X17 X18 X19 k r x := by
  have hk : k.val < 18 := lt18 k
  have key := View.read_writes_apply_of_pieces arg15.view arg15.view.junk
    (fun y : S1728x128.Idx => tripW c XA arg3 arg4 arg17 arg18 arg19 X3 X4 X17 X18 X19
      ⟨(y 0).val / 96, by have := (y 0).isLt; rw [trips1_eq]; have h : (y 0).val < 1728 := this; omega⟩ ⟨(y 0).val / 24 % 4, by omega⟩
      (ValueIdx.ix2 (n0 := 24) (n1 := 128) ⟨(y 0).val % 24, by omega⟩ (y 1)))
    (pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k0_t1_loop.trips) ?_ ((R6 k r).emb x) (cover1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 _)
  · refine key.trans ?_
    exact (tripW_at c XA arg3 arg4 arg17 arg18 arg19 X3 X4 X17 X18 X19 k r x).symm
  · intro p hp x'
    obtain ⟨k', -, hp'⟩ := (mem_pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 _ (le_refl _) _).1 hp
    rw [tripL_eq] at hp'
    simp only [List.mem_cons, List.not_mem_nil, _root_.or_false] at hp'
    rcases hp' with rfl | rfl | rfl | rfl
    · exact tripW_at c XA arg3 arg4 arg17 arg18 arg19 X3 X4 X17 X18 X19 k' 3 x'
    · exact tripW_at c XA arg3 arg4 arg17 arg18 arg19 X3 X4 X17 X18 X19 k' 2 x'
    · exact tripW_at c XA arg3 arg4 arg17 arg18 arg19 X3 X4 X17 X18 X19 k' 1 x'
    · exact tripW_at c XA arg3 arg4 arg17 arg18 arg19 X3 X4 X17 X18 X19 k' 0 x'

theorem sl3_18 : Ring.sl 3 18 = 0 := Fin.ext (by rfl)
theorem sl3_19 : Ring.sl 3 19 = 1 := Fin.ext (by rfl)
theorem sl3_20 : Ring.sl 3 20 = 2 := Fin.ext (by rfl)

/-- AFTER THE LOOP: the projection's buffer at `yOf`, every tile home, every slot and cell free. -/
instance loopExit1 (G15 : Buf (Elt F) (arg15.view.loc (c : Thread nD τ))) :
    LoopExit (loopInv1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 G15) where
  post _ := iprop((arg3.view.loc (c : Thread nD τ) ↦[arg3.view.set]{fullShare} X3) ∗ (arg4.view.loc (c : Thread nD τ) ↦[arg4.view.set]{fullShare} X4)
    ∗ (arg17.view.loc (c : Thread nD τ) ↦[arg17.view.set]{fullShare} X17) ∗ (arg18.view.loc (c : Thread nD τ) ↦[arg18.view.set]{fullShare} X18)
    ∗ (arg19.view.loc (c : Thread nD τ) ↦[arg19.view.set]{fullShare} X19)
    ∗ (arg15.view.loc (c : Thread nD τ) ↦[arg15.view.set]{fullShare} arg15.view.rep (yOf c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19)) ∗ (∃ W, owes (c : Thread nD τ) 0 W)
    ∗ bigSep Finset.univ (homeP c XA)
    ∗ ((∃ f, slotP c 0 f) ∗ cellP c 0) ∗ ((∃ f, slotP c 1 f) ∗ cellP c 1) ∗ ((∃ f, slotP c 2 f) ∗ cellP c 2))
  exit _ := by
    show resAt c XA arg3 arg4 arg15 arg17 arg18 arg19 X3 X4 X17 X18 X19 k0_t1_loop.trips (arg15.view.writes (Elt F) G15 (pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k0_t1_loop.trips)) ⊢ _
    unfold resAt
    rw [ringAt_out c XA _ (show ¬ k0_t1_loop.trips < 18 by rw [trips1_eq]; decide), ringAt_out c XA _ (show ¬ k0_t1_loop.trips + 1 < 18 by rw [trips1_eq]; decide),
      ringAt_out c XA _ (show ¬ k0_t1_loop.trips + 2 < 18 by rw [trips1_eq]; decide),
      show Ring.sl 3 k0_t1_loop.trips = 0 from by rw [trips1_eq]; rfl, show Ring.sl 3 (k0_t1_loop.trips + 1) = 1 from by rw [trips1_eq]; rfl,
      show Ring.sl 3 (k0_t1_loop.trips + 2) = 2 from by rw [trips1_eq]; rfl, Ring.homeSet_last 3 _ (show 18 ≤ k0_t1_loop.trips by rw [trips1_eq])]
    iintro ⟨H3, H4, H17, H18, H19, HO, HW, Hh, HF0, HF1, HF2⟩
    isplitl [H3]; · iexact H3
    isplitl [H4]; · iexact H4
    isplitl [H17]; · iexact H17
    isplitl [H18]; · iexact H18
    isplitl [H19]; · iexact H19
    isplitl [HO]
    · ihave HO' := (pointsTo_rep_entails (c : Thread nD τ) arg15 _ fullShare) $$ HO
      rw [View.read_writes_of_cover _ _ arg15.view arg15.view.junk _ (cover1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19)]
      iexact HO'
    isplitl [HW]; · iexact HW
    isplitl [Hh]; · iexact Hh
    isplitl [HF0]; · iexact HF0
    isplitl [HF1]; · iexact HF1
    iexact HF2

end Trip

/-! ## The packing loop: one batch row of packed key and value codes per trip -/

section Pack

variable (c : Dev nD)
variable (i : grid0.Coords) (arg1 : Memref sig .tc .vmem S20x7168 .bf16) (harg1 : arg1.IsWhole) (arg2 : Memref sig .tc .vmem S1x7168 .f32) (harg2 : arg2.IsWhole) (arg3 : Memref sig .tc .vmem S72x1x128 .f32) (harg3 : arg3.IsWhole) (arg4 : Memref sig .tc .vmem S72x1x128 .f32) (harg4 : arg4.IsWhole) (arg5 : Memref sig .tc .vmem S20x1x64 .f32) (harg5 : arg5.IsWhole) (arg6 : Memref sig .tc .vmem S20x1x64 .f32) (harg6 : arg6.IsWhole) (arg8 : Memref sig .tc .vmem S20x7168 .i8) (harg8 : arg8.IsWhole) (arg9 : Memref sig .tc .vmem S1x20 .f32) (harg9 : arg9.IsWhole) (arg10 : Memref sig .tc .vmem S20x8x128 .i8) (harg10 : arg10.IsWhole) (arg11 : Memref sig .tc .vmem S8x20 .f32) (harg11 : arg11.IsWhole) (arg12 : Memref sig .tc .vmem S8x20 .f32) (harg12 : arg12.IsWhole) (arg13 : Memref sig .tc .vmem S8x20 .f32) (harg13 : arg13.IsWhole) (arg14 : Memref sig .tc .vmem S8x20 .f32) (harg14 : arg14.IsWhole) (arg15 : Memref sig .tc .vmem S1728x128 .f32) (harg15 : arg15.IsWhole) (arg17 : Memref sig .tc .vmem S32x7168 .bf16) (harg17 : arg17.IsWhole) (arg18 : Memref sig .tc .vmem S2x24x128 .f32) (harg18 : arg18.IsWhole) (arg19 : Memref sig .tc .vmem S2x24x128 .f32) (harg19 : arg19.IsWhole) (arg20 : Memref sig .tc .vmem S2x192x128 .f32) (harg20 : arg20.IsWhole) (arg21 : Memref sig .tc .vmem S4x192x128 .f32) (harg21 : arg21.IsWhole)
  (X20 : Buf (Elt F) (arg20.view.loc (c : Thread nD τ)))

/-- One trip's resources: what it reads at its contents, what it writes at any. -/
abbrev Trip2 (f : Buf (Elt F) (arg10.view.loc (c : Thread nD τ))) : sProp 𝕄 :=
  iprop((arg20.view.loc (c : Thread nD τ) ↦[arg20.view.set]{fullShare} X20) ∗ (arg10.view.loc (c : Thread nD τ) ↦[arg10.view.set]{fullShare} f))

/-- One trip at a symbolic `k`, the pieces it stores to be found by the run. -/
@[irreducible] def trip2 (k : Fin k0_t2_loop.trips) :
    { L : List (View.Piece (Elt F) S20x8x128 .i8) // ∀ f : Buf (Elt F) (arg10.view.loc (c : Thread nD τ)),
      Trip2 c arg10 arg20 X20 f ⊢ wp frame (wpE (defs₀ (F := F)) 𝒱₀ (c : Thread nD τ) none) Set.univ
          (k0_t2_body (F := F) i arg1 harg1 arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) arg17 harg17 arg18 harg18 arg19 harg19 arg20 harg20 arg21 harg21 cc0_scratch6 k PUnit.unit)
        (fun _ => Trip2 c arg10 arg20 X20 (arg10.view.writes (Elt F) f L)) } := by
  have hk : k.val < 20 := Nat.lt_of_lt_of_le k.isLt k0_t2_abs.2.1
  refine ⟨?_, fun f => ?run⟩
  case run =>
    unfold k0_t2_body
    iintro ⟨H20, H10⟩
    sl_exec
    sl_step
    sl_close

/-- The pieces a trip stores. -/
abbrev trip2L (k : Fin k0_t2_loop.trips) : List (View.Piece (Elt F) S20x8x128 .i8) := (trip2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k).1

/-- The pieces of the trips before `k`, last first. -/
@[irreducible] def pb2Step (k : ℕ) (prev : List (View.Piece (Elt F) S20x8x128 .i8)) : List (View.Piece (Elt F) S20x8x128 .i8) :=
  if h : k < k0_t2_loop.trips then trip2L c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 ⟨k, h⟩ ++ prev else prev
def pb2 : ℕ → List (View.Piece (Elt F) S20x8x128 .i8)
  | 0 => []
  | k + 1 => pb2Step c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k (pb2 k)
theorem pb2_succ (k : Fin k0_t2_loop.trips) :
    pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 (k.val + 1) = trip2L c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k ++ pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k.val := by
  rw [pb2.eq_2]; unfold pb2Step; exact dif_pos k.isLt

set_option warn.classDefReducibility false in
/-- THE PACKING LOOP BY ITS INVARIANT. -/
@[sl_loop] def loopInv2 (G10 : Buf (Elt F) (arg10.view.loc (c : Thread nD τ))) :
    LoopInvTy_k0_t2 (F := F) Unit ℕ (Pipeline.UD sig nD τ) ℕ 𝒱₀ c none Set.univ i arg1 harg1 arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) arg17 harg17 arg18 harg18 arg19 harg19 arg20 harg20 arg21 harg21 cc0_scratch6 where
  inv k _ := iprop((arg20.view.loc (c : Thread nD τ) ↦[arg20.view.set]{fullShare} X20)
    ∗ (∃ f, (arg10.view.loc (c : Thread nD τ) ↦[arg10.view.set]{fullShare} f) ∗ ⌜f = arg10.view.writes (Elt F) G10 (pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k)⌝))
  step k _ := by
    iintro ⟨H20, ⟨%f, H10, %hf⟩⟩
    iapply (wp_wand_r Idealize.ShloMosaic.frame (wpE (defs₀ (F := F)) 𝒱₀ (c : Thread nD τ) none) Set.univ)
    isplitl [H20 H10]
    · iapply ((trip2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k).2 f)
      isplitl [H20]; · iexact H20
      iexact H10
    · iintro %_ ⟨H20, H10⟩
      isplitl [H20]; · iexact H20
      rw [pb2_succ]
      iexists _; isplitl [H10]; · iexact H10
      ipureintro; rw [hf, ← View.writes_append]

/-! ### What the packing loop leaves: the twenty rows, whatever the buffer held before -/

theorem trips2_eq : k0_t2_loop.trips = 20 := by decide
/-- The row trip `k` stores. -/
abbrev R12 (k : Fin k0_t2_loop.trips) : Rect S20x8x128 := Rect.unit (s := S20x8x128) (k0_off12 k) S1x8x128.size (k0_off12_inb k)
/-- What trip `k` stores. -/
def trip2W (k : Fin k0_t2_loop.trips) : S1x8x128.Idx → Elt F .i8 :=
  k0_pay3 (View.readAt (Elt F) arg20.view (⟨k0_off10 k, S1x8x128.size, ![1, 24, 1], (k0_off10_inb k)⟩ : LoadRect S2x192x128) X20)
    (View.readAt (Elt F) arg20.view (⟨k0_off11 k, S1x8x128.size, ![1, 24, 1], (k0_off11_inb k)⟩ : LoadRect S2x192x128) X20)
theorem trip2L_eq (k : Fin k0_t2_loop.trips) : trip2L c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k = [⟨R12 k, trip2W c arg20 X20 k⟩] := by
  unfold trip2L; unfold trip2; rfl

theorem mem_pb2 (n : ℕ) (hn : n ≤ k0_t2_loop.trips) (p : View.Piece (Elt F) S20x8x128 .i8) :
    p ∈ pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 n ↔ ∃ k : Fin k0_t2_loop.trips, k.val < n ∧ p ∈ trip2L c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k := by
  induction n with
  | zero => simp [pb2]
  | succ n ih =>
    have h : n < k0_t2_loop.trips := by omega
    rw [show n + 1 = (⟨n, h⟩ : Fin k0_t2_loop.trips).val + 1 from rfl, pb2_succ, List.mem_append, ih (by omega)]
    constructor
    · rintro (hp | ⟨k, hk, hp⟩)
      · exact ⟨⟨n, h⟩, Nat.lt_succ_self n, hp⟩
      · exact ⟨k, Nat.lt_succ_of_lt hk, hp⟩
    · rintro ⟨k, hk, hp⟩
      rcases Nat.lt_succ_iff_lt_or_eq.1 hk with hlt | he
      · exact Or.inr ⟨k, hlt, hp⟩
      · have : k = ⟨n, h⟩ := Fin.ext he
        subst this; exact Or.inl hp

theorem mem_R12 (k : Fin k0_t2_loop.trips) (y : S20x8x128.Idx) : y ∈ (R12 k).set ↔ (y 0).val = k.val := by
  rw [Rect.mem_set_unit, Gen.k0_off12_eq]
  have h1 : (y 1).val < 8 := (y 1).isLt
  have h2 : (y 2).val < 128 := (y 2).isLt
  constructor
  · intro H; have a0 : k.val ≤ (y 0).val ∧ (y 0).val < k.val + 1 := H 0; omega
  · intro H i; fin_cases i
    · show k.val ≤ (y 0).val ∧ (y 0).val < k.val + 1; omega
    · show 0 ≤ (y 1).val ∧ (y 1).val < 0 + 8; omega
    · show 0 ≤ (y 2).val ∧ (y 2).val < 0 + 128; omega

theorem cover2 (y : S20x8x128.Idx) : ∃ p ∈ pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k0_t2_loop.trips, y ∈ p.1.set := by
  have h0 : (y 0).val < 20 := (y 0).isLt
  let k : Fin k0_t2_loop.trips := ⟨(y 0).val, by rw [trips2_eq]; omega⟩
  refine ⟨⟨R12 k, trip2W c arg20 X20 k⟩, ?_, ?_⟩
  · refine (mem_pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 _ (le_refl _) _).2 ⟨k, k.isLt, ?_⟩
    rw [trip2L_eq]; simp
  · rw [mem_R12]

/-- What the loop leaves in the packed keys and values' buffer. -/
def kvcOf : S20x8x128.Idx → Elt F .i8 :=
  arg10.view.read (Elt F) (arg10.view.writes (Elt F) arg10.view.junk (pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k0_t2_loop.trips))

theorem R12_emb_0 (k : Fin k0_t2_loop.trips) (x : S1x8x128.Idx) : (((R12 k).emb x) 0).val = k.val := by
  have hx : (x 0).val < 1 := (x 0).isLt
  show (k0_off12 k) 0 + 1 * (x 0).val = _
  rw [Gen.k0_off12_eq]; simp; omega
theorem R12_emb_1 (k : Fin k0_t2_loop.trips) (x : S1x8x128.Idx) : (((R12 k).emb x) 1).val = (x 1).val := by
  show (k0_off12 k) 1 + 1 * (x 1).val = _
  rw [Gen.k0_off12_eq]; simp
theorem R12_emb_2 (k : Fin k0_t2_loop.trips) (x : S1x8x128.Idx) : (((R12 k).emb x) 2).val = (x 2).val := by
  show (k0_off12 k) 2 + 1 * (x 2).val = _
  rw [Gen.k0_off12_eq]; simp

theorem trip2W_at (k : Fin k0_t2_loop.trips) (x : S1x8x128.Idx) :
    trip2W c arg20 X20 k x = (fun y : S20x8x128.Idx => trip2W c arg20 X20 ⟨(y 0).val, by rw [trips2_eq]; exact (y 0).isLt⟩
      (ValueIdx.ix3 (n0 := 1) (n1 := 8) (n2 := 128) 0 (y 1) (y 2))) ((R12 k).emb x) := by
  have h0 := R12_emb_0 k x
  have e1 : (⟨(((R12 k).emb x) 0).val, by rw [trips2_eq]; exact (((R12 k).emb x) 0).isLt⟩ : Fin k0_t2_loop.trips) = k := Fin.ext h0
  have e3 : ValueIdx.ix3 (n0 := 1) (n1 := 8) (n2 := 128) 0 (((R12 k).emb x) 1) (((R12 k).emb x) 2) = x := by
    funext d; fin_cases d
    · exact Subsingleton.elim (α := Fin 1) _ _
    · exact Fin.ext (R12_emb_1 k x)
    · exact Fin.ext (R12_emb_2 k x)
  show _ = trip2W c arg20 X20 (⟨(((R12 k).emb x) 0).val, _⟩ : Fin k0_t2_loop.trips) (ValueIdx.ix3 (n0 := 1) (n1 := 8) (n2 := 128) 0 (((R12 k).emb x) 1) (((R12 k).emb x) 2))
  rw [e1, e3]

/-- Row `k` of it is what trip `k` stores. -/
theorem kvcOf_apply (k : Fin k0_t2_loop.trips) (x : S1x8x128.Idx) :
    kvcOf c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 ((R12 k).emb x) = trip2W c arg20 X20 k x := by
  have key := View.read_writes_apply_of_pieces arg10.view arg10.view.junk
    (fun y : S20x8x128.Idx => trip2W c arg20 X20 ⟨(y 0).val, by rw [trips2_eq]; exact (y 0).isLt⟩
      (ValueIdx.ix3 (n0 := 1) (n1 := 8) (n2 := 128) 0 (y 1) (y 2)))
    (pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k0_t2_loop.trips) ?_ ((R12 k).emb x) (cover2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 _)
  · refine key.trans ?_
    exact (trip2W_at c arg20 X20 k x).symm
  · intro p hp x'
    obtain ⟨k', -, hp'⟩ := (mem_pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 _ (le_refl _) _).1 hp
    rw [trip2L_eq] at hp'
    simp only [List.mem_cons, List.not_mem_nil, _root_.or_false] at hp'
    subst hp'
    exact trip2W_at c arg20 X20 k' x'

/-- AFTER THE LOOP: the packed keys and values' buffer at `kvcOf`. -/
instance loopExit2 (G10 : Buf (Elt F) (arg10.view.loc (c : Thread nD τ))) : LoopExit (loopInv2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 G10) where
  post _ := iprop((arg20.view.loc (c : Thread nD τ) ↦[arg20.view.set]{fullShare} X20)
    ∗ (arg10.view.loc (c : Thread nD τ) ↦[arg10.view.set]{fullShare} arg10.view.rep (kvcOf c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20)))
  exit _ := by
    show iprop((arg20.view.loc (c : Thread nD τ) ↦[arg20.view.set]{fullShare} X20)
      ∗ (∃ f, (arg10.view.loc (c : Thread nD τ) ↦[arg10.view.set]{fullShare} f) ∗ ⌜f = arg10.view.writes (Elt F) G10 (pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k0_t2_loop.trips)⌝)) ⊢ _
    iintro ⟨H20, ⟨%f, H10, %hf⟩⟩
    isplitl [H20]; · iexact H20
    subst hf
    ihave HO' := (pointsTo_rep_entails (c : Thread nD τ) arg10 _ fullShare) $$ H10
    rw [View.read_writes_of_cover _ _ arg10.view arg10.view.junk _ (cover2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20)]
    iexact HO'

end Pack

end Cert.Kernel.Hand

end
-- ==== Proof.KernelBody.lean ====
/-
  `Kernel`'s body, run once: the weights split into their eighteen tiles and the buffer into its three slots, the prologue's
  three transfers handed to the projection loop as its invariant at trip 0, both loops taken by their invariants.
-/
module

public import proofs.«01_k».proof.Proof.KernelRing
public import Idealize.ShloMosaic.Lib.Pipeline.TableIdle

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The weights' eighteen tiles, the buffer's three slots -/

abbrev G18 (b : Fin 18) : Finset S3584x9216.Idx := (Rect.unit (s := S3584x9216) (grpOff b) S3584x512.size (grpOff_inb b)).set
abbrev S3s (s : Fin 3) : Finset S3x3584x512.Idx := (Rect.unit (s := S3x3584x512) (slotOff s) S1x3584x512.size (slotOff_inb s)).set

theorem grp_set (b : Fin 18) : (grp b : Memref sig .tc .hbm _ _).view.set = G18 b := View.set_slice_whole _ _
theorem rslot_set (s : Fin 3) : (rslot s : Memref sig .tc .vmem _ _).view.set = S3s s := (View.set_reshape _ _).trans (View.set_slice_whole _ _)

theorem mem_G18 (b : Fin 18) (y : S3584x9216.Idx) : y ∈ G18 b ↔ (y 1).val / 512 = b.val := by
  rw [Rect.mem_set_unit]
  have h0 : (y 0).val < 3584 := (y 0).isLt
  constructor
  · intro H; have a0 : 512 * b.val ≤ (y 1).val ∧ (y 1).val < 512 * b.val + 512 := H 1; omega
  · intro H i; fin_cases i
    · show 0 ≤ (y 0).val ∧ (y 0).val < 0 + 3584; omega
    · show 512 * b.val ≤ (y 1).val ∧ (y 1).val < 512 * b.val + 512; omega
theorem mem_S3s (s : Fin 3) (y : S3x3584x512.Idx) : y ∈ S3s s ↔ (y 0).val = s.val := by
  rw [Rect.mem_set_unit]
  have h1 : (y 1).val < 3584 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 3584; omega
    · show 0 ≤ (y 2).val ∧ (y 2).val < 0 + 512; omega
theorem G18_disjoint : ∀ b b' : Fin 18, b ≠ b' → Disjoint (G18 b) (G18 b') := by
  intro b b' hne; rw [Finset.disjoint_left]; intro y hy hy'; rw [mem_G18] at hy hy'; exact hne (Fin.ext (hy.symm.trans hy'))
theorem G18_cover : (Finset.univ : Finset (Fin 18)).biUnion G18 = Finset.univ := by
  ext y; simp only [Finset.mem_biUnion, Finset.mem_univ, true_and, iff_true]
  have h1 : (y 1).val < 9216 := (y 1).isLt
  exact ⟨⟨(y 1).val / 512, by omega⟩, by rw [mem_G18]⟩
theorem S3s_disjoint : ∀ s s' : Fin 3, s ≠ s' → Disjoint (S3s s) (S3s s') := by
  intro s s' hne; rw [Finset.disjoint_left]; intro y hy hy'; rw [mem_S3s] at hy hy'; exact hne (Fin.ext (hy.symm.trans hy'))
theorem S3s_cover : (Finset.univ : Finset (Fin 3)).biUnion S3s = Finset.univ := by
  ext y; simp only [Finset.mem_biUnion, Finset.mem_univ, true_and, iff_true]; exact ⟨(y 0).cast (by decide), by rw [mem_S3s]; rfl⟩

omit [FloatOps F] in
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- The weights whole are their eighteen tiles home; -/
theorem a_eq (c : Dev nD) (XA : Buf (Elt F) (aM.view.loc (c : Thread nD τ))) :
    (((c : Thread nD τ).loc main_arg2) ↦{fullShare} XA : sProp 𝕄) = bigSep Finset.univ (homeP c XA) := by
  rw [Ring.pointsTo_blocks (ℓ := (c : Thread nD τ).loc main_arg2) G18 G18_disjoint G18_cover]
  exact bigSep_congr fun b _ => by rw [← grp_set]; rfl
/-- at the body's entry, tiles 0, 1 and 2 apart from the rest. -/
theorem homes_zero (c : Dev nD) (XA : Buf (Elt F) (aM.view.loc (c : Thread nD τ))) :
    bigSep Finset.univ (homeP c XA) = iprop(homeP c XA 0 ∗ homeP c XA 1 ∗ homeP c XA 2 ∗ bigSep (Ring.homeSet 3 0) (homeP c XA)) := by
  have e : (Finset.univ : Finset (Fin 18)) = insert 0 (insert 1 (insert 2 (Ring.homeSet (NB := 18) 3 0))) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet, Fin.ext_iff]), bigSep_insert (by simp [Ring.mem_homeSet])]; rfl

omit [FloatOps F] in
theorem slotP_eq (c : Dev nD) (s : Fin 3) (f) : slotP c s f = (((c : Thread nD τ).loc cc0_scratch0) ↦[S3s s]{fullShare} f : sProp 𝕄) :=
  congrArg (fun S => (_ ↦[S]{fullShare} f : sProp 𝕄)) (rslot_set s)
/-- The buffer whole is its three slots, and back. -/
theorem buf_split (c : Dev nD) :
    iprop(∃ f : Buf (Elt F) ((c : Thread nD τ).loc cc0_scratch0), ((c : Thread nD τ).loc cc0_scratch0) ↦{fullShare} f)
      ⊢ (iprop((∃ f, slotP c 0 f) ∗ (∃ f, slotP c 1 f) ∗ (∃ f, slotP c 2 f)) : sProp 𝕄) := by
  iintro ⟨%f, H⟩
  ihave H2 := (entails_of_eq ((Ring.pointsTo_blocks (Ix := Unit) (Name := ℕ) (U := UU) (Lvl := ℕ) (q := fullShare) (ℓ := (c : Thread nD τ).loc cc0_scratch0) S3s S3s_disjoint S3s_cover f).trans (bigSep_fin3 _))) $$ H
  icases H2 with ⟨H0, H1, H2⟩
  isplitl [H0]
  · iexists f; iapply (entails_of_eq (slotP_eq c 0 f).symm); iexact H0
  isplitl [H1]
  · iexists f; iapply (entails_of_eq (slotP_eq c 1 f).symm); iexact H1
  · iexists f; iapply (entails_of_eq (slotP_eq c 2 f).symm); iexact H2
theorem buf_join (c : Dev nD) :
    iprop((∃ f, slotP c 0 f) ∗ (∃ f, slotP c 1 f) ∗ (∃ f, slotP c 2 f))
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch0) S3s S3s_disjoint S3s_cover f0)
  irw [bigSep_fin3]
  isplitl [H0]
  · iexists f0; iapply (entails_of_eq (slotP_eq c 0 f0)); iexact H0
  isplitl [H1]
  · iexists f1; iapply (entails_of_eq (slotP_eq c 1 f1)); iexact H1
  · iexists f2; iapply (entails_of_eq (slotP_eq c 2 f2)); iexact H2

/-- A flight the prologue starts, as the ring's state before trip 0. -/
theorem ring_entry (c : Dev nD) (XA : Buf (Elt F) (aM.view.loc (c : Thread nD τ))) (j : ℕ) (h : j < 18) (f) :
    flightP c XA (Ring.sl 3 j) (Ring.bk 18 j) f ⊢ ringAt c XA j := by
  rw [ringAt_in c XA j h]; iintro H; iexists f; iexact H

/-- A buffer written over its whole extent holds the same words whatever it held before. -/
theorem pt_rebase (c : Dev nD) {sp : Space} {S : Shape} {e : EltTy} (M : Memref sig .tc sp S e) (f : Buf (Elt F) (M.view.loc (c : Thread nD τ)))
    (L : List (View.Piece (Elt F) S e)) (h : ∃ p, L.getLast? = some p ∧ ∀ y, y ∈ p.1.set) :
    (M.view.loc (c : Thread nD τ) ↦[M.view.set]{fullShare} M.view.writes (Elt F) f L : sProp 𝕄)
      = M.view.loc (c : Thread nD τ) ↦[M.view.set]{fullShare} M.view.rep (M.view.read (Elt F) (M.view.writes (Elt F) M.view.junk L)) := by
  obtain ⟨p, hl, hp⟩ := h
  rw [← View.read_writes_of_cover M.view f M.view M.view.junk L (fun y => ⟨p, List.mem_of_getLast? hl, hp y⟩)]
  exact pointsTo_rep (c : Thread nD τ) M _ fullShare
/-- What is written over known words is known. -/
theorem pt_rebase2 (c : Dev nD) {sp : Space} {S : Shape} {e : EltTy} (M : Memref sig .tc sp S e) (X : S.Idx → Elt F e)
    (L : List (View.Piece (Elt F) S e)) :
    (M.view.loc (c : Thread nD τ) ↦[M.view.set]{fullShare} M.view.writes (Elt F) (M.view.rep X) L : sProp 𝕄)
      = M.view.loc (c : Thread nD τ) ↦[M.view.set]{fullShare} M.view.rep (M.view.read (Elt F) (M.view.writes (Elt F) (M.view.rep X) L)) :=
  pointsTo_rep (c : Thread nD τ) M _ fullShare
theorem mem_unit_zero {S : Shape} (off : Fin S.rank → Nat) (h : off = fun _ => 0) (inb : ∀ a, off a + S.size a ≤ S.size a) (y : S.Idx) :
    y ∈ (Rect.unit (s := S) off S.size inb).set := by
  subst h; rw [Rect.mem_set_unit]; intro a; exact ⟨Nat.zero_le _, by simpa using (y a).isLt⟩
theorem zero2 : (![0, 0] : Fin 2 → Nat) = fun _ => 0 := by decide
theorem zero3 : (![0, 0, 0] : Fin 3 → Nat) = fun _ => 0 := by decide

/-! ## The body -/

variable (c : Dev nD) (XA : Buf (Elt F) (aM.view.loc (c : Thread nD τ)))
/-- THE BODY RUN: on whole staging memrefs, the six VMEM operands at their contents, the outputs and the scratch buffers at
    anything, the weights' tiles home, the slots and cells free. It ends with the operands as they were, each output at
    contents the run finds (the same whatever the buffers held before), and the tiles, slots and cells as at the start. -/
noncomputable def kernelRun (i : grid0.Coords) (arg1 : Memref sig .tc .vmem S20x7168 .bf16) (harg1 : arg1.IsWhole) (arg2 : Memref sig .tc .vmem S1x7168 .f32) (harg2 : arg2.IsWhole) (arg3 : Memref sig .tc .vmem S72x1x128 .f32) (harg3 : arg3.IsWhole) (arg4 : Memref sig .tc .vmem S72x1x128 .f32) (harg4 : arg4.IsWhole) (arg5 : Memref sig .tc .vmem S20x1x64 .f32) (harg5 : arg5.IsWhole) (arg6 : Memref sig .tc .vmem S20x1x64 .f32) (harg6 : arg6.IsWhole) (arg8 : Memref sig .tc .vmem S20x7168 .i8) (harg8 : arg8.IsWhole) (arg9 : Memref sig .tc .vmem S1x20 .f32) (harg9 : arg9.IsWhole) (arg10 : Memref sig .tc .vmem S20x8x128 .i8) (harg10 : arg10.IsWhole) (arg11 : Memref sig .tc .vmem S8x20 .f32) (harg11 : arg11.IsWhole) (arg12 : Memref sig .tc .vmem S8x20 .f32) (harg12 : arg12.IsWhole) (arg13 : Memref sig .tc .vmem S8x20 .f32) (harg13 : arg13.IsWhole) (arg14 : Memref sig .tc .vmem S8x20 .f32) (harg14 : arg14.IsWhole) (arg15 : Memref sig .tc .vmem S1728x128 .f32) (harg15 : arg15.IsWhole) (arg17 : Memref sig .tc .vmem S32x7168 .bf16) (harg17 : arg17.IsWhole) (arg18 : Memref sig .tc .vmem S2x24x128 .f32) (harg18 : arg18.IsWhole) (arg19 : Memref sig .tc .vmem S2x24x128 .f32) (harg19 : arg19.IsWhole) (arg20 : Memref sig .tc .vmem S2x192x128 .f32) (harg20 : arg20.IsWhole) (arg21 : Memref sig .tc .vmem S4x192x128 .f32) (harg21 : arg21.IsWhole) (x1 : S20x7168.Idx → Elt F .bf16) (x2 : S1x7168.Idx → Elt F .f32) (x3 : S72x1x128.Idx → Elt F .f32) (x4 : S72x1x128.Idx → Elt F .f32) (x5 : S20x1x64.Idx → Elt F .f32) (x6 : S20x1x64.Idx → Elt F .f32) :
    (L8 : List (View.Piece (Elt F) S20x7168 .i8)) ×' (L9 : List (View.Piece (Elt F) S1x20 .f32)) ×' (L11 : List (View.Piece (Elt F) S8x20 .f32)) ×' (L12 : List (View.Piece (Elt F) S8x20 .f32)) ×' (L13 : List (View.Piece (Elt F) S8x20 .f32)) ×' (L14 : List (View.Piece (Elt F) S8x20 .f32)) ×' (Y10 : S20x8x128.Idx → Elt F .i8) ×' { Y15 : S1728x128.Idx → Elt F .f32 //
      ∀ (W : Waits sig Unit) (K : PUnit → sProp 𝕄),
        iprop((arg1.view.loc (c : Thread nD τ) ↦[arg1.view.set]{fullShare} arg1.view.rep x1)
          ∗ (arg2.view.loc (c : Thread nD τ) ↦[arg2.view.set]{fullShare} arg2.view.rep x2)
          ∗ (arg3.view.loc (c : Thread nD τ) ↦[arg3.view.set]{fullShare} arg3.view.rep x3)
          ∗ (arg4.view.loc (c : Thread nD τ) ↦[arg4.view.set]{fullShare} arg4.view.rep x4)
          ∗ (arg5.view.loc (c : Thread nD τ) ↦[arg5.view.set]{fullShare} arg5.view.rep x5)
          ∗ (arg6.view.loc (c : Thread nD τ) ↦[arg6.view.set]{fullShare} arg6.view.rep x6)
          ∗ (∃ f, (arg8.view.loc (c : Thread nD τ) ↦[arg8.view.set]{fullShare} f))
          ∗ (∃ f, (arg9.view.loc (c : Thread nD τ) ↦[arg9.view.set]{fullShare} f))
          ∗ (∃ f, (arg10.view.loc (c : Thread nD τ) ↦[arg10.view.set]{fullShare} f))
          ∗ (∃ f, (arg11.view.loc (c : Thread nD τ) ↦[arg11.view.set]{fullShare} f))
          ∗ (∃ f, (arg12.view.loc (c : Thread nD τ) ↦[arg12.view.set]{fullShare} f))
          ∗ (∃ f, (arg13.view.loc (c : Thread nD τ) ↦[arg13.view.set]{fullShare} f))
          ∗ (∃ f, (arg14.view.loc (c : Thread nD τ) ↦[arg14.view.set]{fullShare} f))
          ∗ (∃ f, (arg15.view.loc (c : Thread nD τ) ↦[arg15.view.set]{fullShare} f))
          ∗ (∃ f, (arg17.view.loc (c : Thread nD τ) ↦[arg17.view.set]{fullShare} f))
          ∗ (∃ f, (arg18.view.loc (c : Thread nD τ) ↦[arg18.view.set]{fullShare} f))
          ∗ (∃ f, (arg19.view.loc (c : Thread nD τ) ↦[arg19.view.set]{fullShare} f))
          ∗ (∃ f, (arg20.view.loc (c : Thread nD τ) ↦[arg20.view.set]{fullShare} f))
          ∗ (∃ f, (arg21.view.loc (c : Thread nD τ) ↦[arg21.view.set]{fullShare} f))
          ∗ bigSep Finset.univ (homeP c XA)
          ∗ (∃ f, slotP c 0 f)
          ∗ (∃ f, slotP c 1 f)
          ∗ (∃ f, slotP c 2 f)
          ∗ cellP c 0
          ∗ cellP c 1
          ∗ cellP c 2
          ∗ owes (c : Thread nD τ) 0 W
          ∗ (iprop((arg1.view.loc (c : Thread nD τ) ↦[arg1.view.set]{fullShare} arg1.view.rep x1)
          ∗ (arg2.view.loc (c : Thread nD τ) ↦[arg2.view.set]{fullShare} arg2.view.rep x2)
          ∗ (arg3.view.loc (c : Thread nD τ) ↦[arg3.view.set]{fullShare} arg3.view.rep x3)
          ∗ (arg4.view.loc (c : Thread nD τ) ↦[arg4.view.set]{fullShare} arg4.view.rep x4)
          ∗ (arg5.view.loc (c : Thread nD τ) ↦[arg5.view.set]{fullShare} arg5.view.rep x5)
          ∗ (arg6.view.loc (c : Thread nD τ) ↦[arg6.view.set]{fullShare} arg6.view.rep x6)
          ∗ (∃ f, (arg8.view.loc (c : Thread nD τ) ↦[arg8.view.set]{fullShare} arg8.view.writes (Elt F) f L8))
          ∗ (∃ f, (arg9.view.loc (c : Thread nD τ) ↦[arg9.view.set]{fullShare} arg9.view.writes (Elt F) f L9))
          ∗ (arg10.view.loc (c : Thread nD τ) ↦[arg10.view.set]{fullShare} arg10.view.rep Y10)
          ∗ (∃ f, (arg11.view.loc (c : Thread nD τ) ↦[arg11.view.set]{fullShare} arg11.view.writes (Elt F) f L11))
          ∗ (∃ f, (arg12.view.loc (c : Thread nD τ) ↦[arg12.view.set]{fullShare} arg12.view.writes (Elt F) f L12))
          ∗ (∃ f, (arg13.view.loc (c : Thread nD τ) ↦[arg13.view.set]{fullShare} arg13.view.writes (Elt F) f L13))
          ∗ (∃ f, (arg14.view.loc (c : Thread nD τ) ↦[arg14.view.set]{fullShare} arg14.view.writes (Elt F) f L14))
          ∗ (arg15.view.loc (c : Thread nD τ) ↦[arg15.view.set]{fullShare} arg15.view.rep Y15)
          ∗ (∃ f, (arg17.view.loc (c : Thread nD τ) ↦[arg17.view.set]{fullShare} f))
          ∗ (∃ f, (arg18.view.loc (c : Thread nD τ) ↦[arg18.view.set]{fullShare} f))
          ∗ (∃ f, (arg19.view.loc (c : Thread nD τ) ↦[arg19.view.set]{fullShare} f))
          ∗ (∃ f, (arg20.view.loc (c : Thread nD τ) ↦[arg20.view.set]{fullShare} f))
          ∗ (∃ f, (arg21.view.loc (c : Thread nD τ) ↦[arg21.view.set]{fullShare} f))
          ∗ bigSep Finset.univ (homeP c XA)
          ∗ (∃ f, slotP c 0 f)
          ∗ (∃ f, slotP c 1 f)
          ∗ (∃ f, slotP c 2 f)
          ∗ cellP c 0
          ∗ cellP c 1
          ∗ cellP c 2
          ∗ (∃ W', owes (c : Thread nD τ) 0 W')) -∗ K ⟨⟩))
          ⊢ wp frame (wpE (defs₀ (F := F)) 𝒱₀ (c : Thread nD τ) none) Set.univ (cc0_lserve_decode i arg1 harg1 arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) arg17 harg17 arg18 harg18 arg19 harg19 arg20 harg20 arg21 harg21 cc0_scratch6) K } := by
  refine ⟨?_, ?_, ?_, ?_, ?_, ?_, ?_, ?_, fun W K => ?run⟩
  case run =>
    simp only [cc0_lserve_decode_eq_skeleton]; unfold cc0_lserve_decode_skel
    iintro ⟨H1, H2, H3, H4, H5, H6, ⟨%f8, H8⟩, ⟨%f9, H9⟩, ⟨%f10, H10⟩, ⟨%f11, H11⟩, ⟨%f12, H12⟩, ⟨%f13, H13⟩, ⟨%f14, H14⟩, ⟨%f15, H15⟩, ⟨%f17, H17⟩, ⟨%f18, H18⟩, ⟨%f19, H19⟩, ⟨%f20, H20⟩, ⟨%f21, H21⟩, Hh, ⟨%fs0, Hs0⟩, ⟨%fs1, Hs1⟩, ⟨%fs2, Hs2⟩, Hc0, Hc1, Hc2, HW, Hk⟩
    ihave Hh2 := (entails_of_eq (homes_zero c XA)) $$ Hh
    icases Hh2 with ⟨Hg0, Hg1, Hg2, Hh⟩
    set_option sl_exec.stopBefore "k0_part17" in sl_exec
    ihave HR0 : ringAt c XA 0 $$ [Hc0]
    · iapply (ring_entry c XA 0 (by decide) fs0); istop; exact entails_of_eq rfl
    ihave HR1 : ringAt c XA (0 + 1) $$ [Hc1]
    · iapply (ring_entry c XA 1 (by decide) fs1); istop; exact entails_of_eq rfl
    ihave HR2 : ringAt c XA (0 + 2) $$ [Hc2]
    · iapply (ring_entry c XA 2 (by decide) fs2); istop; exact entails_of_eq rfl
    ihave H17r := (entails_of_eq (pt_rebase c arg17 f17 _ ?h17)) $$ H17
    case h17 => exact ⟨_, rfl, mem_unit_zero _ zero2 (by decide)⟩
    ihave H18r := (entails_of_eq (pt_rebase c arg18 f18 _ ?h18)) $$ H18
    case h18 => exact ⟨_, rfl, mem_unit_zero _ zero3 (by decide)⟩
    ihave H19r := (entails_of_eq (pt_rebase c arg19 f19 _ ?h19)) $$ H19
    case h19 => exact ⟨_, rfl, mem_unit_zero _ zero3 (by decide)⟩
    sl_exec
    sl_step
    iapply Hk
    isplitl [H1]; · iexact H1
    isplitl [H2]; · iexact H2
    isplitl [HL0]; · iexact HL0
    isplitl [HL1]; · iexact HL1
    isplitl [H5]; · iexact H5
    isplitl [H6]; · iexact H6
    isplitl [H8]; · iexists _; iexact H8
    isplitl [H9]; · iexists _; iexact H9
    isplitl [HL15]; · iexact HL15
    isplitl [H11]; · iexists _; iexact H11
    isplitl [H12]; · iexists _; iexact H12
    isplitl [H13]; · iexists _; iexact H13
    isplitl [H14]; · iexists _; iexact H14
    isplitl [HL5]; · iexact HL5
    isplitl [HL2]; · iexists _; iexact HL2
    isplitl [HL3]; · iexists _; iexact HL3
    isplitl [HL4]; · iexists _; iexact HL4
    isplitl [HL14]; · iexists _; iexact HL14
    isplitl [H21]; · iexists _; iexact H21
    isplitl [HL7]; · iexact HL7
    isplitl [HL8]; · iexists _; iexact HL8
    isplitl [HL10]; · iexists _; iexact HL10
    isplitl [HL12]; · iexists _; iexact HL12
    isplitl [HL9]; · iexact HL9
    isplitl [HL11]; · iexact HL11
    isplitl [HL13]; · iexact HL13
    iexists _; iexact HL6

end Cert.Kernel.Hand

end
-- ==== Proof.KernelFrame.lean ====
/-
  `Kernel`'s FRAME: the program terminates, nothing faults, its argument arrays end unchanged and every semaphore counter ends
  at zero. One pipeline of one grid point: the six staged operands are read, the eight staged results written back, and the
  weights stay in HBM for the body's own ring of transfers.
-/
module

public import proofs.«01_k».proof.Proof.KernelBody
public import proofs.«01_k».proof.Proof.Gen.Kernel.Frame
public import Idealize.ShloMosaic.Lib.Pipeline.FrameBody
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to its one region: the four host reshapes. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The frame claim's post from the run's. -/
theorem frameD_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (fun r => Pipeline.FramePost cfgs dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 4).trans (((dats 0 c).arrAt_in 4 rfl _).trans ((hA c 4).trans (V_main_arg5 m c))),
      ((h.1 c).1 5).trans (((dats 0 c).arrAt_in 5 rfl _).trans ((hA c 5).trans (V_main_arg6 m c)))⟩, h.2⟩) h

/-! ## The body's operands -/
abbrev ms0_0 (t : Fin cfg0.N) : Memref sig .tc .vmem S20x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S72x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S72x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S20x1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S20x1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S20x7168 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x20 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S20x8x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x20 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x20 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x20 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x20 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1728x128 .f32 := win0_13.stage (cfg0.slots t 13)
abbrev hs0_13 (t : Fin cfg0.N) : (ms0_13 t).IsWhole := hstage0_13 ((cfg0.slots t 13).cast nbuf0_13)
abbrev sc17 : Memref sig .tc .vmem S32x7168 .bf16 := Memref.whole cc0_scratch1
abbrev sc18 : Memref sig .tc .vmem S2x24x128 .f32 := Memref.whole cc0_scratch2
abbrev sc19 : Memref sig .tc .vmem S2x24x128 .f32 := Memref.whole cc0_scratch3
abbrev sc20 : Memref sig .tc .vmem S2x192x128 .f32 := Memref.whole cc0_scratch4
abbrev sc21 : Memref sig .tc .vmem S4x192x128 .f32 := Memref.whole cc0_scratch5
/-- Staged operand 0 at point `t`. -/
abbrev xin1 (c : Dev nD) (t : Fin cfg0.N) : S20x7168.Idx → Elt F .bf16 := iblk m c 0 t
/-- Staged operand 1 at point `t`. -/
abbrev xin2 (c : Dev nD) (t : Fin cfg0.N) : S1x7168.Idx → Elt F .f32 := iblk m c 1 t
/-- Staged operand 2 at point `t`. -/
abbrev xin3 (c : Dev nD) (t : Fin cfg0.N) : S72x1x128.Idx → Elt F .f32 := iblk m c 2 t
/-- Staged operand 3 at point `t`. -/
abbrev xin4 (c : Dev nD) (t : Fin cfg0.N) : S72x1x128.Idx → Elt F .f32 := iblk m c 3 t
/-- Staged operand 4 at point `t`. -/
abbrev xin5 (c : Dev nD) (t : Fin cfg0.N) : S20x1x64.Idx → Elt F .f32 := iblk m c 4 t
/-- Staged operand 5 at point `t`. -/
abbrev xin6 (c : Dev nD) (t : Fin cfg0.N) : S20x1x64.Idx → Elt F .f32 := iblk m c 5 t

/-- The body's run at point `t` on core `c`. -/
abbrev runAt (c : Dev nD) (t : Fin cfg0.N) := kernelRun (F := F) c (V m c main_arg2) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) sc17 (Memref.isWhole_whole _) sc18 (Memref.isWhole_whole _) sc19 (Memref.isWhole_whole _) sc20 (Memref.isWhole_whole _) sc21 (Memref.isWhole_whole _) (xin1 m c t) (xin2 m c t) (xin3 m c t) (xin4 m c t) (xin5 m c t) (xin6 m c t)
theorem coverL8 (c : Dev nD) (t : Fin cfg0.N) (y : S20x7168.Idx) : ∃ pc ∈ (runAt m c t).1, y ∈ pc.1.set :=
  ⟨_, List.mem_singleton.mpr rfl, mem_unit_zero _ zero2 (by decide) y⟩
/-- What the body leaves in result 0's staging buffer. -/
def outs6 (c : Dev nD) (t : Fin cfg0.N) : S20x7168.Idx → Elt F .i8 :=
  (ms0_6 t).view.read (Elt F) ((ms0_6 t).view.writes (Elt F) (ms0_6 t).view.junk (runAt m c t).1)
theorem coverL9 (c : Dev nD) (t : Fin cfg0.N) (y : S1x20.Idx) : ∃ pc ∈ (runAt m c t).2.1, y ∈ pc.1.set :=
  ⟨_, List.mem_singleton.mpr rfl, mem_unit_zero _ zero2 (by decide) y⟩
/-- What the body leaves in result 1's staging buffer. -/
def outs7 (c : Dev nD) (t : Fin cfg0.N) : S1x20.Idx → Elt F .f32 :=
  (ms0_7 t).view.read (Elt F) ((ms0_7 t).view.writes (Elt F) (ms0_7 t).view.junk (runAt m c t).2.1)
theorem coverL11 (c : Dev nD) (t : Fin cfg0.N) (y : S8x20.Idx) : ∃ pc ∈ (runAt m c t).2.2.1, y ∈ pc.1.set :=
  ⟨_, List.mem_singleton.mpr rfl, mem_unit_zero _ zero2 (by decide) y⟩
/-- What the body leaves in result 3's staging buffer. -/
def outs9 (c : Dev nD) (t : Fin cfg0.N) : S8x20.Idx → Elt F .f32 :=
  (ms0_9 t).view.read (Elt F) ((ms0_9 t).view.writes (Elt F) (ms0_9 t).view.junk (runAt m c t).2.2.1)
theorem coverL12 (c : Dev nD) (t : Fin cfg0.N) (y : S8x20.Idx) : ∃ pc ∈ (runAt m c t).2.2.2.1, y ∈ pc.1.set :=
  ⟨_, List.mem_singleton.mpr rfl, mem_unit_zero _ zero2 (by decide) y⟩
/-- What the body leaves in result 4's staging buffer. -/
def outs10 (c : Dev nD) (t : Fin cfg0.N) : S8x20.Idx → Elt F .f32 :=
  (ms0_10 t).view.read (Elt F) ((ms0_10 t).view.writes (Elt F) (ms0_10 t).view.junk (runAt m c t).2.2.2.1)
theorem coverL13 (c : Dev nD) (t : Fin cfg0.N) (y : S8x20.Idx) : ∃ pc ∈ (runAt m c t).2.2.2.2.1, y ∈ pc.1.set :=
  ⟨_, List.mem_singleton.mpr rfl, mem_unit_zero _ zero2 (by decide) y⟩
/-- What the body leaves in result 5's staging buffer. -/
def outs11 (c : Dev nD) (t : Fin cfg0.N) : S8x20.Idx → Elt F .f32 :=
  (ms0_11 t).view.read (Elt F) ((ms0_11 t).view.writes (Elt F) (ms0_11 t).view.junk (runAt m c t).2.2.2.2.1)
theorem coverL14 (c : Dev nD) (t : Fin cfg0.N) (y : S8x20.Idx) : ∃ pc ∈ (runAt m c t).2.2.2.2.2.1, y ∈ pc.1.set :=
  ⟨_, List.mem_singleton.mpr rfl, mem_unit_zero _ zero2 (by decide) y⟩
/-- What the body leaves in result 6's staging buffer. -/
def outs12 (c : Dev nD) (t : Fin cfg0.N) : S8x20.Idx → Elt F .f32 :=
  (ms0_12 t).view.read (Elt F) ((ms0_12 t).view.writes (Elt F) (ms0_12 t).view.junk (runAt m c t).2.2.2.2.2.1)
/-- What the body leaves in result 2's staging buffer. -/
def outs8 (c : Dev nD) (t : Fin cfg0.N) : S20x8x128.Idx → Elt F .i8 := (runAt m c t).2.2.2.2.2.2.1
/-- What the body leaves in result 7's staging buffer. -/
def outs13 (c : Dev nD) (t : Fin cfg0.N) : S1728x128.Idx → Elt F .f32 := (runAt m c t).2.2.2.2.2.2.2.1

/-! ## The invariant: scratch, cells, weights -/

abbrev osem0 : Fin 3 → SemLoc sig := fun j => (![SemLoc.dma 14, SemLoc.dma 15, SemLoc.dma 16] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP c 0 ∗ cellP c 1 ∗ cellP c 2) := by
  rw [Pipeline.ownSems0_eq_of_list c osem0 [0, 1, 2] (by decide) (by decide)]; rfl
def H0 : Finset (Ref sig .tc) := {main_arg2}
theorem H0_sub : H0 ⊆ Pipeline.restRefs sig spec0 := by decide
theorem hbmPts0_eq (c : Dev nD) :
    (bigSep H0 (fun b => ((c : Thread nD τ).loc b) ↦{fullShare} V m c b) : sProp 𝕄) = bigSep Finset.univ (homeP c (V m c main_arg2)) := by
  rw [BI.bigSep_eq_bigSepL_of_eq [main_arg2] (by decide) (by decide)]; exact a_eq c (V m c main_arg2)

/-- A scratch buffer whole, in the spelling the body's run holds it. -/
theorem scr_eq (c : Dev nD) (b : Ref sig .tc) :
    (iprop(∃ f : Buf (Elt F) ((c : Thread nD τ).loc b), ((c : Thread nD τ).loc b) ↦{fullShare} f) : sProp 𝕄)
      = iprop(∃ f, ((Memref.whole b).view.loc (c : Thread nD τ) ↦[(Memref.whole b).view.set]{fullShare} f)) := by
  rw [show (Memref.whole b).view.set = Finset.univ from View.set_whole b]

omit [FloatOps F] in
theorem sep6_congr (P R A1 A2 A3 A4 A5 B1 B2 B3 B4 B5 : sProp 𝕄) (h1 : A1 = B1) (h2 : A2 = B2) (h3 : A3 = B3) (h4 : A4 = B4) (h5 : A5 = B5) :
    (iprop(iprop(P ∗ A1 ∗ A2 ∗ A3 ∗ A4 ∗ A5) ∗ R) : sProp 𝕄) = iprop(iprop(P ∗ B1 ∗ B2 ∗ B3 ∗ B4 ∗ B5) ∗ R) := by
  subst h1 h2 h3 h4 h5; rfl
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f)
          ∗ (∃ f, (sc17.view.loc (c : Thread nD τ) ↦[sc17.view.set]{fullShare} f))
          ∗ (∃ f, (sc18.view.loc (c : Thread nD τ) ↦[sc18.view.set]{fullShare} f))
          ∗ (∃ f, (sc19.view.loc (c : Thread nD τ) ↦[sc19.view.set]{fullShare} f))
          ∗ (∃ f, (sc20.view.loc (c : Thread nD τ) ↦[sc20.view.set]{fullShare} f))
          ∗ (∃ f, (sc21.view.loc (c : Thread nD τ) ↦[sc21.view.set]{fullShare} f)))
          ∗ (∃ r, prngReg c r) ∗ iprop(cellP c 0 ∗ cellP c 1 ∗ cellP c 2) ∗ bigSep Finset.univ (homeP c (V m c main_arg2))) := by
  rw [Pipeline.ΦD_eq, scopedRest0_eq, ownSems00_eq, hbmPts0_eq]
  exact sep6_congr _ _ _ _ _ _ _ _ _ _ _ _ (scr_eq c cc0_scratch1) (scr_eq c cc0_scratch2) (scr_eq c cc0_scratch3) (scr_eq c cc0_scratch4) (scr_eq c cc0_scratch5)

/-! ## The proof data and the body's obligation -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outs6 m c t
    | ⟨7, _⟩ => outs7 m c t
    | ⟨8, _⟩ => outs8 m c t
    | ⟨9, _⟩ => outs9 m c t
    | ⟨10, _⟩ => outs10 m c t
    | ⟨11, _⟩ => outs11 m c t
    | ⟨12, _⟩ => outs12 m c t
    | ⟨13, _⟩ => outs13 m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outs6 m c t := by dsimp only [dats]
theorem after0_7 (c : Dev nD) (t : Fin cfg0.N) : (dats m 0 c).after 7 t = outs7 m c t := by dsimp only [dats]
theorem after0_8 (c : Dev nD) (t : Fin cfg0.N) : (dats m 0 c).after 8 t = outs8 m c t := by dsimp only [dats]
theorem after0_9 (c : Dev nD) (t : Fin cfg0.N) : (dats m 0 c).after 9 t = outs9 m c t := by dsimp only [dats]
theorem after0_10 (c : Dev nD) (t : Fin cfg0.N) : (dats m 0 c).after 10 t = outs10 m c t := by dsimp only [dats]
theorem after0_11 (c : Dev nD) (t : Fin cfg0.N) : (dats m 0 c).after 11 t = outs11 m c t := by dsimp only [dats]
theorem after0_12 (c : Dev nD) (t : Fin cfg0.N) : (dats m 0 c).after 12 t = outs12 m c t := by dsimp only [dats]
theorem after0_13 (c : Dev nD) (t : Fin cfg0.N) : (dats m 0 c).after 13 t = outs13 m c t := by dsimp only [dats]
theorem before0_0 (c : Dev nD) (t : Fin cfg0.N) (d) : (dats m 0 c).before 0 t d = iblk m c 0 t := by
  unfold Dat.before; rw [if_pos (fetch0_0 t)]; unfold Dat.fetched Dat.blockOf iblk; rfl
theorem before0_1 (c : Dev nD) (t : Fin cfg0.N) (d) : (dats m 0 c).before 1 t d = iblk m c 1 t := by
  unfold Dat.before; rw [if_pos (fetch0_1 t)]; unfold Dat.fetched Dat.blockOf iblk; rfl
theorem before0_2 (c : Dev nD) (t : Fin cfg0.N) (d) : (dats m 0 c).before 2 t d = iblk m c 2 t := by
  unfold Dat.before; rw [if_pos (fetch0_2 t)]; unfold Dat.fetched Dat.blockOf iblk; rfl
theorem before0_3 (c : Dev nD) (t : Fin cfg0.N) (d) : (dats m 0 c).before 3 t d = iblk m c 3 t := by
  unfold Dat.before; rw [if_pos (fetch0_3 t)]; unfold Dat.fetched Dat.blockOf iblk; rfl
theorem before0_4 (c : Dev nD) (t : Fin cfg0.N) (d) : (dats m 0 c).before 4 t d = iblk m c 4 t := by
  unfold Dat.before; rw [if_pos (fetch0_4 t)]; unfold Dat.fetched Dat.blockOf iblk; rfl
theorem before0_5 (c : Dev nD) (t : Fin cfg0.N) (d) : (dats m 0 c).before 5 t d = iblk m c 5 t := by
  unfold Dat.before; rw [if_pos (fetch0_5 t)]; unfold Dat.fetched Dat.blockOf iblk; rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl, after0_0, after0_1, after0_2, after0_3, after0_4, after0_5, after0_6, after0_7, after0_8, after0_9, after0_10, after0_11, after0_12, after0_13]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  simp only [owns_eq_rep]
  iintro ⟨⟨⟨HS0, HS17, HS18, HS19, HS20, HS21⟩, Hg, ⟨Hq0, Hq1, Hq2⟩, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave HB := (buf_split c) $$ HS0
  icases HB with ⟨Hb0, Hb1, Hb2⟩
  iapply ((runAt m c t).2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS17]; · iexact HS17
  isplitl [HS18]; · iexact HS18
  isplitl [HS19]; · iexact HS19
  isplitl [HS20]; · iexact HS20
  isplitl [HS21]; · iexact HS21
  isplitl [Hh]; · iexact Hh
  isplitl [Hb0]; · iexact Hb0
  isplitl [Hb1]; · iexact Hb1
  isplitl [Hb2]; · iexact Hb2
  isplitl [Hq0]; · iexact Hq0
  isplitl [Hq1]; · iexact Hq1
  isplitl [Hq2]; · iexact Hq2
  isplitl [HW]; · iexact HW
  iintro ⟨H0, H1, H2, H3, H4, H5, ⟨%e6, H6⟩, ⟨%e7, H7⟩, H8, ⟨%e9, H9⟩, ⟨%e10, H10⟩, ⟨%e11, H11⟩, ⟨%e12, H12⟩, H13, HS17, HS18, HS19, HS20, HS21, Hh, Hb0, Hb1, Hb2, Hq0, Hq1, Hq2, ⟨%W', HW'⟩⟩
  ihave HS0 : iprop(∃ f : Buf (Elt F) ((c : Thread nD τ).loc cc0_scratch0), ((c : Thread nD τ).loc cc0_scratch0) ↦{fullShare} f) $$ [Hb0 Hb1 Hb2]
  · iapply (buf_join c)
    isplitl [Hb0]; · iexact Hb0
    isplitl [Hb1]; · iexact Hb1
    iexact Hb2
  isplitl [HS0 HS17 HS18 HS19 HS20 HS21 Hg Hq0 Hq1 Hq2 Hh]
  · isplitl [HS0 HS17 HS18 HS19 HS20 HS21]
    · isplitl [HS0]; · iexact HS0
      isplitl [HS17]; · iexact HS17
      isplitl [HS18]; · iexact HS18
      isplitl [HS19]; · iexact HS19
      isplitl [HS20]; · iexact HS20
      iexact HS21
    isplitl [Hg]; · iexact Hg
    isplitl [Hq0 Hq1 Hq2]
    · isplitl [Hq0]; · iexact Hq0
      isplitl [Hq1]; · iexact Hq1
      iexact Hq2
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]
  · ihave Hr := (pointsTo_rep_entails (c : Thread nD τ) (ms0_6 t) _ fullShare) $$ H6
    unfold outs6
    rw [View.read_writes_of_cover (ms0_6 t).view _ (ms0_6 t).view (ms0_6 t).view.junk _ (coverL8 m c t)]
    iexact Hr
  isplitl [H7]
  · ihave Hr := (pointsTo_rep_entails (c : Thread nD τ) (ms0_7 t) _ fullShare) $$ H7
    unfold outs7
    rw [View.read_writes_of_cover (ms0_7 t).view _ (ms0_7 t).view (ms0_7 t).view.junk _ (coverL9 m c t)]
    iexact Hr
  isplitl [H8]; · iexact H8
  isplitl [H9]
  · ihave Hr := (pointsTo_rep_entails (c : Thread nD τ) (ms0_9 t) _ fullShare) $$ H9
    unfold outs9
    rw [View.read_writes_of_cover (ms0_9 t).view _ (ms0_9 t).view (ms0_9 t).view.junk _ (coverL11 m c t)]
    iexact Hr
  isplitl [H10]
  · ihave Hr := (pointsTo_rep_entails (c : Thread nD τ) (ms0_10 t) _ fullShare) $$ H10
    unfold outs10
    rw [View.read_writes_of_cover (ms0_10 t).view _ (ms0_10 t).view (ms0_10 t).view.junk _ (coverL12 m c t)]
    iexact Hr
  isplitl [H11]
  · ihave Hr := (pointsTo_rep_entails (c : Thread nD τ) (ms0_11 t) _ fullShare) $$ H11
    unfold outs11
    rw [View.read_writes_of_cover (ms0_11 t).view _ (ms0_11 t).view (ms0_11 t).view.junk _ (coverL13 m c t)]
    iexact Hr
  isplitl [H12]
  · ihave Hr := (pointsTo_rep_entails (c : Thread nD τ) (ms0_12 t) _ fullShare) $$ H12
    unfold outs12
    rw [View.read_writes_of_cover (ms0_12 t).view _ (ms0_12 t).view (ms0_12 t).view.junk _ (coverL14 m c t)]
    iexact Hr
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := fun r => Pipeline.FramePost cfgs (dats m) 0 (V m) r ∧ r.2.sem = fun _ => 0) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- THE FRAME, at any float model. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  frameD_of m ρ (dats m) (A_eq m) (run_main m ρ)

end Cert.Kernel.Hand

end
-- ==== Proof.KernelIdealRing.lean ====
/-
  `KernelIdeal`'s weight ring. The body streams the eighteen column tiles of the packed weight matrix through the three slots
  of a VMEM buffer, one DMA semaphore per slot: a prologue starts tiles 0, 1 and 2; trip `k` of the projection loop
  waits for tile `k` in slot `k % 3`, computes four heads from it, and starts tile `k + 3` into the slot it has freed
  while there is one. This module names the tiles, the slots and the cells, proves the printed offsets equal to
  those names, runs one trip at a symbolic `k`, and states both counted loops by their invariants.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.KernelFrame
public import Idealize.ShloMosaic.Lib.Pipeline.KitQuiescent
public import Idealize.ShloMosaic.Lib.Pipeline.Frame
public import Idealize.ShloMosaic.Lib.Ring
public import Idealize.ShloMosaic.Lib.Affine
public import Idealize.ShloMosaic.Lib.Tactic
public import Idealize.ShloMosaic.Lib.ValueIdxCore

@[expose] public section

set_option maxRecDepth 8192
set_option maxHeartbeats 4000000

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The resource algebra: the pipeline library's, beside the counters the kernel's own transfers ride on -/

abbrev UU : Type := Pipeline.UD sig nD τ
local notation "𝕄" => MT nD τ sig Unit (Elt F) ℕ (Pipeline.UD sig nD τ) ℕ
abbrev 𝒱₀ : Variants := Variants.none

omit [FloatOps F] in
theorem entails_of_eq {P Q : sProp 𝕄} (e : P = Q) : P ⊢ Q := e ▸ .rfl

/-! ## Canonical names: tile `b` of the weights, slot `s` of the buffer, slot `s`'s cell -/

abbrev aM : Memref sig .tc .hbm S3584x9216 .i8 := Memref.whole main_arg2
abbrev bufM : Memref sig .tc .vmem S3x3584x512 .i8 := Memref.whole cc0_scratch0

abbrev grpOff (b : Fin 18) : Fin 2 → Nat := ![0, 512 * b.val]
theorem grpOff_inb (b : Fin 18) : ∀ a, grpOff b a + S3584x512.size a ≤ S3584x9216.size a := by
  have := b.isLt; intro a; fin_cases a
  · show 0 + 3584 ≤ 3584; omega
  · show 512 * b.val + 512 ≤ 9216; omega
abbrev slotOff (s : Fin 3) : Fin 3 → Nat := ![s.val, 0, 0]
theorem slotOff_inb (s : Fin 3) : ∀ a, slotOff s a + S1x3584x512.size a ≤ S3x3584x512.size a := by
  have := s.isLt; intro a; fin_cases a
  · show s.val + 1 ≤ 3; omega
  · show 0 + 3584 ≤ 3584; omega
  · show 0 + 512 ≤ 512; omega
abbrev semOff (s : Fin 3) : Fin 1 → Nat := ![s.val]
theorem semOff_inb (s : Fin 3) : ∀ a, semOff s a + S1.size a ≤ S3.size a := by
  have := s.isLt; intro a; fin_cases a; show s.val + 1 ≤ 3; omega

/-- Tile `b` of the weights: columns `512 b … 512 b + 511`. -/
def grp (b : Fin 18) : Memref sig .tc .hbm S3584x512 .i8 :=
  aM.slice (Rect.unit (s := S3584x9216) (grpOff b) S3584x512.size (grpOff_inb b)) (fun _ => rfl)
/-- Slot `s` of the buffer, as the body slices and squeezes it. -/
def rslot (s : Fin 3) : Memref sig .tc .vmem S3584x512 .i8 :=
  (bufM.slice (Rect.unit (s := S3x3584x512) (slotOff s) S1x3584x512.size (slotOff_inb s)) (fun _ => rfl)).squeeze S3584x512 squeezes_S1x3584x512_S3584x512
/-- Slot `s`'s DMA semaphore. -/
def csm (s : Fin 3) : DmaSems sig S_ := (cc0_scratch6.slice (Rect.unit (s := S3) (semOff s) S1.size (semOff_inb s))).squeeze S_ squeezes_S1_S_

instance (s : Fin 3) : ClosedOff (slotOff s) := ⟨slotOff s, rfl⟩
instance (b : Fin 18) : ClosedOff (grpOff b) := ⟨grpOff b, rfl⟩

/-! ## The induction variable's chain in closed form -/

section Chain
open Affine

theorem trips1_eq : k0_t1_loop.trips = 18 := by decide
theorem lt18 (k : Fin k0_t1_loop.trips) : k.val < 18 := Nat.lt_of_lt_of_eq k.isLt trips1_eq

theorem isInt_iv (k : Fin k0_t1_loop.trips) : IsInt (Scf.iv 0#32 1#32 k.val) k.val :=
  have := lt18 k
  iv (e := k.val) (ofNat (e := 0) 0 ⟨rfl, by decide⟩) (ofNat (e := 1) 1 ⟨rfl, by decide⟩) k.val ⟨by omega, by omega, by omega⟩
theorem isInt_rem (k : Fin k0_t1_loop.trips) : IsInt (Scalar.remsi (Scf.iv 0#32 1#32 k.val) 3#32) (k.val % 3 : Nat) :=
  remsi (e := (k.val % 3 : Nat)) (isInt_iv k) (ofNat (e := 3) 3 ⟨rfl, by decide⟩) ⟨by omega, by omega, by omega⟩
theorem isInt_tile (k : Fin k0_t1_loop.trips) : IsInt (Scalar.muli (Scf.iv 0#32 1#32 k.val) 512#32) (512 * k.val : Nat) :=
  have := lt18 k
  muli (e := (512 * k.val : Nat)) (isInt_iv k) (ofNat (e := 512) 512 ⟨rfl, by decide⟩) ⟨by push_cast; omega, by push_cast; omega, by push_cast; omega⟩
theorem isInt_next (k : Fin k0_t1_loop.trips) : IsInt (Scalar.addi (Scf.iv 0#32 1#32 k.val) 3#32) (k.val + 3 : Nat) :=
  have := lt18 k
  addi (e := (k.val + 3 : Nat)) (isInt_iv k) (ofNat (e := 3) 3 ⟨rfl, by decide⟩) ⟨by push_cast; omega, by push_cast; omega, by push_cast; omega⟩
theorem isInt_nextTile (k : Fin k0_t1_loop.trips) : IsInt (Scalar.muli (Scalar.addi (Scf.iv 0#32 1#32 k.val) 3#32) 512#32) (512 * (k.val + 3) : Nat) :=
  have := lt18 k
  muli (e := (512 * (k.val + 3) : Nat)) (isInt_next k) (ofNat (e := 512) 512 ⟨rfl, by decide⟩) ⟨by push_cast; omega, by push_cast; omega, by push_cast; omega⟩

theorem off1_eq (k : Fin k0_t1_loop.trips) : k0_off1 k = semOff (Ring.sl 3 k.val) :=
  vec_cons (isInt_rem k) (by simp [Ring.sl, Fin.ofNat]) vec_nil
theorem off2_eq (k : Fin k0_t1_loop.trips) : k0_off2 k = slotOff (Ring.sl 3 k.val) :=
  vec_cons (isInt_rem k) (by simp [Ring.sl, Fin.ofNat]) rfl
theorem off4_eq (k : Fin k0_t1_loop.trips) : k0_off4 k = slotOff (Ring.sl 3 k.val) :=
  vec_cons (indexCast (isInt_rem k)) (by simp [Ring.sl, Fin.ofNat]) rfl
theorem off7_eq (k : Fin k0_t1_loop.trips) : k0_off7 k = semOff (Ring.sl 3 k.val) := off1_eq k
theorem off8_eq (k : Fin k0_t1_loop.trips) : k0_off8 k = slotOff (Ring.sl 3 k.val) := off2_eq k
theorem off3_eq (k : Fin k0_t1_loop.trips) (hk : k.val < 18) : k0_off3 k = grpOff (Ring.bk 18 k.val) := by
  have e : (Scalar.muli (Scf.iv 0#32 1#32 k.val) 512#32).toNat = 512 * k.val := nat_eq (isInt_tile k) _ rfl
  show (![0, (Scalar.muli (Scf.iv 0#32 1#32 k.val) 512#32).toNat] : Fin 2 → Nat) = _
  rw [e]; unfold grpOff; rw [Ring.bk_val hk]
theorem off9_eq (k : Fin k0_t1_loop.trips) (hk : k.val + 3 < 18) : k0_off9 k = grpOff (Ring.bk 18 (k.val + 3)) := by
  have e : (Scalar.muli (Scalar.addi (Scf.iv 0#32 1#32 k.val) 3#32) 512#32).toNat = 512 * (k.val + 3) := nat_eq (isInt_nextTile k) _ rfl
  show (![0, (Scalar.muli (Scalar.addi (Scf.iv 0#32 1#32 k.val) 3#32) 512#32).toNat] : Fin 2 → Nat) = _
  rw [e]; unfold grpOff; rw [Ring.bk_val hk]

/-- The trip starts another tile exactly while there is one. -/
theorem cond1_iff : ∀ k : Fin k0_t1_loop.trips, k0_cond1 k = 1#1 ↔ k.val + 3 < 18 := by decide

instance (k : Fin k0_t1_loop.trips) : ClosedOff (k0_off4 k) := ⟨slotOff (Ring.sl 3 k.val), off4_eq k⟩
instance (k : Fin k0_t1_loop.trips) : ClosedOff (k0_off2 k) := ⟨slotOff (Ring.sl 3 k.val), off2_eq k⟩
instance (k : Fin k0_t1_loop.trips) : ClosedOff (k0_off8 k) := ⟨slotOff (Ring.sl 3 k.val), off8_eq k⟩

end Chain

/-! ### The canonical-name equations: the body's slices are `csm`, `rslot`, `grp` -/

section Canon

theorem csm_congr {off : Fin 1 → Nat} {s : Fin 3} (e : off = semOff s) (hh) :
    (cc0_scratch6.slice (Rect.unit (s := S3) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 3} (e : off = slotOff s) (hh hs) :
    (bufM.slice (Rect.unit (s := S3x3584x512) off S1x3584x512.size hh) hs).squeeze S3584x512 squeezes_S1x3584x512_S3584x512 = rslot s :=
  congrArg (fun M : Memref sig .tc .vmem S1x3584x512 .i8 => M.squeeze S3584x512 squeezes_S1x3584x512_S3584x512) (Memref.slice_unit_congr _ e _ _ _ _)
theorem grp_congr {off : Fin 2 → Nat} {b : Fin 18} (e : off = grpOff b) (hh hs) :
    aM.slice (Rect.unit (s := S3584x9216) off S3584x512.size hh) hs = grp b :=
  Memref.slice_unit_congr _ e _ _ _ (fun _ => rfl)

/-- The prologue's literal slices: slots, cells and tiles 0, 1 and 2. -/
@[sl_canon] theorem semL0 (hh) : (cc0_scratch6.slice (Rect.unit (s := S3) ![0] S1.size hh)).squeeze S_ squeezes_S1_S_ = csm 0 := csm_congr (by decide) _
@[sl_canon] theorem semL1 (hh) : (cc0_scratch6.slice (Rect.unit (s := S3) ![1] S1.size hh)).squeeze S_ squeezes_S1_S_ = csm 1 := csm_congr (by decide) _
@[sl_canon] theorem semL2 (hh) : (cc0_scratch6.slice (Rect.unit (s := S3) ![2] S1.size hh)).squeeze S_ squeezes_S1_S_ = csm 2 := csm_congr (by decide) _
@[sl_canon] theorem slotL0 (hh hs) : (bufM.slice (Rect.unit (s := S3x3584x512) ![0, 0, 0] S1x3584x512.size hh) hs).squeeze S3584x512 squeezes_S1x3584x512_S3584x512 = rslot 0 := rslot_congr (by decide) _ _
@[sl_canon] theorem slotL1 (hh hs) : (bufM.slice (Rect.unit (s := S3x3584x512) ![1, 0, 0] S1x3584x512.size hh) hs).squeeze S3584x512 squeezes_S1x3584x512_S3584x512 = rslot 1 := rslot_congr (by decide) _ _
@[sl_canon] theorem slotL2 (hh hs) : (bufM.slice (Rect.unit (s := S3x3584x512) ![2, 0, 0] S1x3584x512.size hh) hs).squeeze S3584x512 squeezes_S1x3584x512_S3584x512 = rslot 2 := rslot_congr (by decide) _ _
@[sl_canon] theorem grpL0 (hh hs) : aM.slice (Rect.unit (s := S3584x9216) ![0, 0] S3584x512.size hh) hs = grp 0 := grp_congr (by decide) _ _
@[sl_canon] theorem grpL1 (hh hs) : aM.slice (Rect.unit (s := S3584x9216) ![0, 512] S3584x512.size hh) hs = grp 1 := grp_congr (by decide) _ _
@[sl_canon] theorem grpL2 (hh hs) : aM.slice (Rect.unit (s := S3584x9216) ![0, 1024] S3584x512.size hh) hs = grp 2 := grp_congr (by decide) _ _

/-- Trip `k`: cell and slot `k % 3`, tile `k` waited, tile `k + 3` started. -/
@[sl_canon] theorem semK (k : Fin k0_t1_loop.trips) (hh) :
    (cc0_scratch6.slice (Rect.unit (s := S3) (k0_off1 k) S1.size hh)).squeeze S_ squeezes_S1_S_ = csm (Ring.sl 3 k.val) := csm_congr (off1_eq k) _
@[sl_canon] theorem slotK (k : Fin k0_t1_loop.trips) (hh hs) :
    (bufM.slice (Rect.unit (s := S3x3584x512) (k0_off2 k) S1x3584x512.size hh) hs).squeeze S3584x512 squeezes_S1x3584x512_S3584x512 = rslot (Ring.sl 3 k.val) := rslot_congr (off2_eq k) _ _
@[sl_canon] theorem grpW (k : Fin k0_t1_loop.trips) (hk : k.val < 18) (hh hs) :
    aM.slice (Rect.unit (s := S3584x9216) (k0_off3 k) S3584x512.size hh) hs = grp (Ring.bk 18 k.val) := grp_congr (off3_eq k hk) _ _
@[sl_canon] theorem semI (k : Fin k0_t1_loop.trips) (hh) :
    (cc0_scratch6.slice (Rect.unit (s := S3) (k0_off7 k) S1.size hh)).squeeze S_ squeezes_S1_S_ = csm (Ring.sl 3 k.val) := csm_congr (off7_eq k) _
@[sl_canon] theorem slotI (k : Fin k0_t1_loop.trips) (hh hs) :
    (bufM.slice (Rect.unit (s := S3x3584x512) (k0_off8 k) S1x3584x512.size hh) hs).squeeze S3584x512 squeezes_S1x3584x512_S3584x512 = rslot (Ring.sl 3 k.val) := rslot_congr (off8_eq k) _ _
@[sl_canon] theorem grpI (k : Fin k0_t1_loop.trips) (hk : k.val + 3 < 18) (hh hs) :
    aM.slice (Rect.unit (s := S3584x9216) (k0_off9 k) S3584x512.size hh) hs = grp (Ring.bk 18 (k.val + 3)) := grp_congr (off9_eq k hk) _ _

end Canon

/-! ## The pieces: a tile home, a slot held, a slot's cell, a slot in flight -/

section Pieces
variable (c : Dev nD) (XA : Buf (Elt F) (aM.view.loc (c : Thread nD τ)))

abbrev cellP (s : Fin 3) : sProp 𝕄 := semVal ((c : Thread nD τ), SemLoc.dma (csm s).sem) 0
abbrev slotP (s : Fin 3) (f : Buf (Elt F) ((rslot s).view.loc (c : Thread nD τ))) : sProp 𝕄 :=
  (rslot s).view.loc (c : Thread nD τ) ↦[(rslot s).view.set]{fullShare} f
/-- Tile `b` HOME: held on its elements at the weights' contents. -/
abbrev homeP (b : Fin 18) : sProp 𝕄 := (grp b).view.loc (c : Thread nD τ) ↦[(grp b).view.set]{fullShare} XA
/-- Tile `b`'s words as a slot's payload. -/
abbrev payload (b : Fin 18) : S3584x512.Idx → Elt F .i8 := ReadAs.same.apply ((grp b).view.read (Elt F) XA)
/-- What tile `b`'s transfer leaves in slot `s` over prior contents `f`: the tile, written whole. -/
abbrev landed (s : Fin 3) (b : Fin 18) (f : Buf (Elt F) ((rslot s).view.loc (c : Thread nD τ))) : Buf (Elt F) ((rslot s).view.loc (c : Thread nD τ)) :=
  (rslot s).view.writes (Elt F) f [⟨Rect.whole S3584x512, payload c XA b⟩]
/-- A tile's transfer moves 57344 units on its cell. -/
abbrev NN : ℕ := 57344
/-- Slot `s` IN FLIGHT with tile `b`, started over `f`. -/
abbrev flightP (s : Fin 3) (b : Fin 18) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

/-- Slot `j % 3` before a trip at most `j`: in flight with tile `j` while there is one, free otherwise. -/
@[irreducible] def ringAt (j : ℕ) : sProp 𝕄 :=
  if j < 18 then iprop(∃ f, flightP c XA (Ring.sl 3 j) (Ring.bk 18 j) f)
  else iprop((∃ f, slotP c (Ring.sl 3 j) f) ∗ cellP c (Ring.sl 3 j))
theorem ringAt_in (j : ℕ) (h : j < 18) : ringAt c XA j = iprop(∃ f, flightP c XA (Ring.sl 3 j) (Ring.bk 18 j) f) := by unfold ringAt; exact if_pos h
theorem ringAt_out (j : ℕ) (h : ¬ j < 18) : ringAt c XA j = iprop((∃ f, slotP c (Ring.sl 3 j) f) ∗ cellP c (Ring.sl 3 j)) := by unfold ringAt; exact if_neg h

/-- Trip `k`'s homes: tile `k + 3` (about to go out) beside the rest. -/
theorem homes_here (k : ℕ) (hk : k + 3 < 18) :
    bigSep (Ring.homeSet 3 k) (homeP c XA) = iprop(homeP c XA (Ring.bk 18 (k + 3)) ∗ bigSep ((Ring.homeSet 3 k).erase (Ring.bk 18 (k + 3))) (homeP c XA)) := by
  conv_lhs => rw [Ring.homeSet_out 3 k hk, bigSep_insert (Ring.bkL_not_mem_erase 3 k)]
  rfl
/-- Trip `k + 1`'s homes: tile `k` (just back) beside that rest; -/
theorem homes_next (k : ℕ) (hk : k + 3 < 18) :
    bigSep (Ring.homeSet 3 (k + 1)) (homeP c XA) = iprop(homeP c XA (Ring.bk 18 k) ∗ bigSep ((Ring.homeSet 3 k).erase (Ring.bk 18 (k + 3))) (homeP c XA)) := by
  conv_lhs => rw [Ring.homeSet_succ 3 k hk, bigSep_insert (Ring.bk_not_mem_erase 3 k (by omega) (by decide))]
  rfl
/-- near the end, beside all that were home. -/
theorem homes_tail (k : ℕ) (hk : ¬ k + 3 < 18) (h : k < 18) :
    bigSep (Ring.homeSet 3 (k + 1)) (homeP c XA) = iprop(homeP c XA (Ring.bk 18 k) ∗ bigSep (Ring.homeSet 3 k) (homeP c XA)) := by
  conv_lhs => rw [Ring.homeSet_succ_tail 3 k (by omega) h, bigSep_insert (Ring.bk_not_mem_homeSet 3 k h (by decide))]
  rfl

/-- The flight a trip starts, as the run states it: into the slot as the previous tile's flight delivered it (restated
    over junk), the new payload consed on. -/
theorem flightP_after (s : Fin 3) (b b' : Fin 18) :
    flightP c XA s b' ((rslot s).view.writes (Elt F) (rslot s).view.junk [⟨Rect.whole S3584x512, payload c XA b⟩])
      = Transfers.Flight countersEmb (c : Thread nD τ) (SemLoc.dma (csm s).sem) () 57344
          iprop(((rslot s).view.loc (c : Thread nD τ) ↦[(rslot s).view.set]{fullShare}
                  (rslot s).view.writes (Elt F) (rslot s).view.junk [⟨Rect.whole S3584x512, payload c XA b'⟩, ⟨Rect.whole S3584x512, payload c XA b⟩])
                ∗ homeP c XA b') := by
  simp only [flightP, landed, slotP, NN, View.writes]

end Pieces

/-! ## One trip of the projection loop -/

section Trip

variable (c : Dev nD) (XA : Buf (Elt F) (aM.view.loc (c : Thread nD τ)))
variable (i : grid0.Coords) (arg1 : Memref sig .tc .vmem S20x7168 .bf16) (harg1 : arg1.IsWhole) (arg2 : Memref sig .tc .vmem S1x7168 .f32) (harg2 : arg2.IsWhole) (arg3 : Memref sig .tc .vmem S72x1x128 .f32) (harg3 : arg3.IsWhole) (arg4 : Memref sig .tc .vmem S72x1x128 .f32) (harg4 : arg4.IsWhole) (arg5 : Memref sig .tc .vmem S20x1x64 .f32) (harg5 : arg5.IsWhole) (arg6 : Memref sig .tc .vmem S20x1x64 .f32) (harg6 : arg6.IsWhole) (arg8 : Memref sig .tc .vmem S20x7168 .i8) (harg8 : arg8.IsWhole) (arg9 : Memref sig .tc .vmem S1x20 .f32) (harg9 : arg9.IsWhole) (arg10 : Memref sig .tc .vmem S20x8x128 .i8) (harg10 : arg10.IsWhole) (arg11 : Memref sig .tc .vmem S8x20 .f32) (harg11 : arg11.IsWhole) (arg12 : Memref sig .tc .vmem S8x20 .f32) (harg12 : arg12.IsWhole) (arg13 : Memref sig .tc .vmem S8x20 .f32) (harg13 : arg13.IsWhole) (arg14 : Memref sig .tc .vmem S8x20 .f32) (harg14 : arg14.IsWhole) (arg15 : Memref sig .tc .vmem S1728x128 .f32) (harg15 : arg15.IsWhole) (arg17 : Memref sig .tc .vmem S32x7168 .bf16) (harg17 : arg17.IsWhole) (arg18 : Memref sig .tc .vmem S2x24x128 .f32) (harg18 : arg18.IsWhole) (arg19 : Memref sig .tc .vmem S2x24x128 .f32) (harg19 : arg19.IsWhole) (arg20 : Memref sig .tc .vmem S2x192x128 .f32) (harg20 : arg20.IsWhole) (arg21 : Memref sig .tc .vmem S4x192x128 .f32) (harg21 : arg21.IsWhole)
  (v357 : FVec F S1x64 .f32)
  (X3 : Buf (Elt F) (arg3.view.loc (c : Thread nD τ))) (X4 : Buf (Elt F) (arg4.view.loc (c : Thread nD τ)))
  (X17 : Buf (Elt F) (arg17.view.loc (c : Thread nD τ))) (X18 : Buf (Elt F) (arg18.view.loc (c : Thread nD τ)))
  (X19 : Buf (Elt F) (arg19.view.loc (c : Thread nD τ)))

/-- The resources before trip `k`, the projection's buffer at `fo`. -/
abbrev resAt (k : ℕ) (fo : Buf (Elt F) (arg15.view.loc (c : Thread nD τ))) : sProp 𝕄 :=
  iprop((arg3.view.loc (c : Thread nD τ) ↦[arg3.view.set]{fullShare} X3) ∗ (arg4.view.loc (c : Thread nD τ) ↦[arg4.view.set]{fullShare} X4)
    ∗ (arg17.view.loc (c : Thread nD τ) ↦[arg17.view.set]{fullShare} X17) ∗ (arg18.view.loc (c : Thread nD τ) ↦[arg18.view.set]{fullShare} X18)
    ∗ (arg19.view.loc (c : Thread nD τ) ↦[arg19.view.set]{fullShare} X19)
    ∗ (arg15.view.loc (c : Thread nD τ) ↦[arg15.view.set]{fullShare} fo) ∗ (∃ W, owes (c : Thread nD τ) 0 W)
    ∗ bigSep (Ring.homeSet 3 k) (homeP c XA)
    ∗ ringAt c XA k ∗ ringAt c XA (k + 1) ∗ ringAt c XA (k + 2))

set_option backward.proofsInPublic true in
/-- ONE TRIP at a symbolic `k`, the pieces it stores to be found by the run. -/
@[irreducible] def tripRun (k : Fin k0_t1_loop.trips) :
    { L : List (View.Piece (Elt F) S1728x128 .f32) // ∀ (fo : Buf (Elt F) (arg15.view.loc (c : Thread nD τ))),
      resAt c XA arg3 arg4 arg15 arg17 arg18 arg19 X3 X4 X17 X18 X19 k fo ⊢ wp frame (wpE (defs₀ (F := F)) 𝒱₀ (c : Thread nD τ) none) Set.univ
          (k0_t1_body (F := F) i arg1 harg1 arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) arg17 harg17 arg18 harg18 arg19 harg19 arg20 harg20 arg21 harg21 cc0_scratch6 v357 k ())
        (fun _ => resAt c XA arg3 arg4 arg15 arg17 arg18 arg19 X3 X4 X17 X18 X19 (k.val + 1) (arg15.view.writes (Elt F) fo L)) } := by
  have hk18 : k.val < 18 := lt18 k
  refine ⟨?_, fun fo => ?run⟩
  case run =>
    unfold resAt
    rw [ringAt_in c XA k.val hk18]
    iintro ⟨H3, H4, H17, H18, H19, HO, ⟨%W, HW⟩, Hh, ⟨%f0, HF0⟩, HF1, HF2⟩
    sl_unfold [k0_t1_body]
    set_option sl_exec.stopBefore "k0_cond1" in sl_exec
    by_cases hc : k0_cond1 k = 1#1
    · have hk3 := (cond1_iff k).1 hc
      ihave Hh2 := (entails_of_eq (homes_here c XA k.val hk3)) $$ Hh
      icases Hh2 with ⟨Hg, Hrest⟩
      sl_exec
      sl_step
      irw [homes_next c XA k.val hk3, show k.val + 1 + 1 = k.val + 2 from rfl, show k.val + 1 + 2 = k.val + 3 from rfl,
        ringAt_in c XA (k.val + 3) hk3, Ring.sl_add]
      isplitl [H3]; · iexact H3
      isplitl [H4]; · iexact H4
      isplitl [H17]; · iexact H17
      isplitl [H18]; · iexact H18
      isplitl [H19]; · iexact H19
      isplitl [HO]; · iexact HO
      isplitl [HW]; · iexists _; iexact HW
      isplitl [HF0_src Hrest]
      · isplitl [HF0_src]; · iexact HF0_src
        iexact Hrest
      isplitl [HF1]; · iexact HF1
      isplitl [HF2]; · iexact HF2
      iexists ((rslot (Ring.sl 3 k.val)).view.writes (Elt F) (rslot (Ring.sl 3 k.val)).view.junk [⟨Rect.whole S3584x512, payload c XA (Ring.bk 18 k.val)⟩])
      irw [flightP_after]
      iexact HF0
    · have hk3 := (cond1_iff k).not.1 hc
      sl_exec
      sl_step
      irw [homes_tail c XA k.val hk3 hk18, show k.val + 1 + 1 = k.val + 2 from rfl, show k.val + 1 + 2 = k.val + 3 from rfl,
        ringAt_out c XA (k.val + 3) hk3, Ring.sl_add]
      isplitl [H3]; · iexact H3
      isplitl [H4]; · iexact H4
      isplitl [H17]; · iexact H17
      isplitl [H18]; · iexact H18
      isplitl [H19]; · iexact H19
      isplitl [HO]; · iexact HO
      isplitl [HW]; · iexists _; iexact HW
      isplitl [HF0_src Hh]
      · isplitl [HF0_src]; · iexact HF0_src
        iexact Hh
      isplitl [HF1]; · iexact HF1
      isplitl [HF2]; · iexact HF2
      isplitl [HF0_dst]; · iexists _; iexact HF0_dst
      iexact HF0

/-- The pieces a trip stores. -/
abbrev tripL (k : Fin k0_t1_loop.trips) : List (View.Piece (Elt F) S1728x128 .f32) :=
  (tripRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k).1

/-- The pieces of the trips before `k`, last first. -/
@[irreducible] def pb1Step (k : ℕ) (prev : List (View.Piece (Elt F) S1728x128 .f32)) : List (View.Piece (Elt F) S1728x128 .f32) :=
  if h : k < k0_t1_loop.trips then tripL c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 ⟨k, h⟩ ++ prev else prev
def pb1 : ℕ → List (View.Piece (Elt F) S1728x128 .f32)
  | 0 => []
  | k + 1 => pb1Step c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k (pb1 k)
theorem pb1_succ (k : Fin k0_t1_loop.trips) :
    pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 (k.val + 1)
      = tripL c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k ++ pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k.val := by
  rw [pb1.eq_2]; unfold pb1Step; exact dif_pos k.isLt

set_option warn.classDefReducibility false in
/-- THE PROJECTION LOOP BY ITS INVARIANT. -/
@[sl_loop] def loopInv1 (G15 : Buf (Elt F) (arg15.view.loc (c : Thread nD τ))) :
    LoopInvTy_k0_t1 (F := F) Unit ℕ (Pipeline.UD sig nD τ) ℕ 𝒱₀ c none Set.univ i arg1 harg1 arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) arg17 harg17 arg18 harg18 arg19 harg19 arg20 harg20 arg21 harg21 cc0_scratch6 v357 where
  inv k _ := resAt c XA arg3 arg4 arg15 arg17 arg18 arg19 X3 X4 X17 X18 X19 k (arg15.view.writes (Elt F) G15 (pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k))
  step k _ := by
    iintro H
    iapply (wp_wand_r Idealize.ShloMosaic.frame (wpE (defs₀ (F := F)) 𝒱₀ (c : Thread nD τ) none) Set.univ)
    isplitl [H]
    · iapply ((tripRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k).2 _); iexact H
    · iintro %_ H'
      rw [pb1_succ, View.writes_append]
      iexact H'

/-! ### What the projection loop leaves: the seventy-two heads, whatever the buffer held before -/

/-- Head `4 k + r`'s rows in the projection's buffer. -/
theorem off6_eq : ∀ (k : Fin k0_t1_loop.trips) (r : Fin 4), k0_off6 k (BitVec.ofNat 32 r.val) = ![24 * (4 * k.val + r.val), 0] := by decide
/-- The rows trip `k` stores its head `r` to. -/
abbrev R6 (k : Fin k0_t1_loop.trips) (r : Fin 4) : Rect S1728x128 :=
  Rect.unit (s := S1728x128) (k0_off6 k (BitVec.ofNat 32 r.val)) S24x128.size (k0_off6_inb k r)
/-- What trip `k` stores for its head `r`. -/
def tripW (k : Fin k0_t1_loop.trips) : Fin 4 → S24x128.Idx → Elt F .f32
  | 0 => k0_pay8 (tripRun.sl.r c XA arg17 X17 k) (tripRun.sl.v1160 k) (tripRun.sl.r_1 c arg19 X19 k) (tripRun.sl.r_2 c arg19 X19)
      (View.readAt (Elt F) arg4.view (Rect.unit (s := S72x1x128) (k0_off5 k 0#32) S1x1x128.size (k0_off5_inb k 0)).toLoadRect X4)
      (View.readAt (Elt F) arg18.view (Rect.unit (s := S2x24x128) ![1, 0, 0] S1x24x128.size inb_S2x24x128_S1x24x128_1_0_0).toLoadRect X18)
      (View.readAt (Elt F) arg18.view (Rect.unit (s := S2x24x128) ![0, 0, 0] S1x24x128.size inb_S2x24x128_S1x24x128_0_0_0).toLoadRect X18)
      (View.readAt (Elt F) arg3.view (Rect.unit (s := S72x1x128) (k0_off5 k 0#32) S1x1x128.size (k0_off5_inb k 0)).toLoadRect X3)
  | 1 => k0_pay11 (tripRun.sl.r_1 c arg19 X19 k) (tripRun.sl.r_3 c arg19 X19 k) (tripRun.sl.r_4 c XA arg17 X17 k)
      (tripRun.sl.r_5 c arg4 X4 k) (tripRun.sl.r_6 c arg18 X18)
      (View.readAt (Elt F) arg18.view (Rect.unit (s := S2x24x128) ![0, 0, 0] S1x24x128.size inb_S2x24x128_S1x24x128_0_0_0).toLoadRect X18)
      (View.readAt (Elt F) arg3.view (Rect.unit (s := S72x1x128) (k0_off5 k 1#32) S1x1x128.size (k0_off5_inb k 1)).toLoadRect X3)
  | 2 => k0_pay13 (tripRun.sl.r_1 c arg19 X19 k) (tripRun.sl.r_3 c arg19 X19 k) (tripRun.sl.r_7 c XA arg3 arg4 arg17 arg18 X3 X4 X17 X18 k)
  | 3 => k0_pay14 (tripRun.sl.r c XA arg17 X17 k) (tripRun.sl.r_1 c arg19 X19 k) (tripRun.sl.r_3 c arg19 X19 k)
      (View.readAt (Elt F) arg4.view (Rect.unit (s := S72x1x128) (k0_off5 k 3#32) S1x1x128.size (k0_off5_inb k 3)).toLoadRect X4)
      (View.readAt (Elt F) arg18.view (Rect.unit (s := S2x24x128) ![1, 0, 0] S1x24x128.size inb_S2x24x128_S1x24x128_1_0_0).toLoadRect X18)
      (View.readAt (Elt F) arg18.view (Rect.unit (s := S2x24x128) ![0, 0, 0] S1x24x128.size inb_S2x24x128_S1x24x128_0_0_0).toLoadRect X18)
      (View.readAt (Elt F) arg3.view (Rect.unit (s := S72x1x128) (k0_off5 k 3#32) S1x1x128.size (k0_off5_inb k 3)).toLoadRect X3)

/-- The pieces a trip stores, named. -/
theorem tripL_eq (k : Fin k0_t1_loop.trips) :
    tripL c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k
      = [⟨R6 k 3, tripW c XA arg3 arg4 arg17 arg18 arg19 X3 X4 X17 X18 X19 k 3⟩, ⟨R6 k 2, tripW c XA arg3 arg4 arg17 arg18 arg19 X3 X4 X17 X18 X19 k 2⟩,
         ⟨R6 k 1, tripW c XA arg3 arg4 arg17 arg18 arg19 X3 X4 X17 X18 X19 k 1⟩, ⟨R6 k 0, tripW c XA arg3 arg4 arg17 arg18 arg19 X3 X4 X17 X18 X19 k 0⟩] := by
  unfold tripL; unfold tripRun; rfl

theorem mem_pb1 (n : ℕ) (hn : n ≤ k0_t1_loop.trips) (p : View.Piece (Elt F) S1728x128 .f32) :
    p ∈ pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 n
      ↔ ∃ k : Fin k0_t1_loop.trips, k.val < n ∧ p ∈ tripL c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k := by
  induction n with
  | zero => simp [pb1]
  | succ n ih =>
    have h : n < k0_t1_loop.trips := by omega
    rw [show n + 1 = (⟨n, h⟩ : Fin k0_t1_loop.trips).val + 1 from rfl, pb1_succ, List.mem_append, ih (by omega)]
    constructor
    · rintro (hp | ⟨k, hk, hp⟩)
      · exact ⟨⟨n, h⟩, Nat.lt_succ_self n, hp⟩
      · exact ⟨k, Nat.lt_succ_of_lt hk, hp⟩
    · rintro ⟨k, hk, hp⟩
      rcases Nat.lt_succ_iff_lt_or_eq.1 hk with hlt | he
      · exact Or.inr ⟨k, hlt, hp⟩
      · have : k = ⟨n, h⟩ := Fin.ext he
        subst this; exact Or.inl hp

theorem mem_R6 (k : Fin k0_t1_loop.trips) (r : Fin 4) (y : S1728x128.Idx) :
    y ∈ (R6 k r).set ↔ (y 0).val / 24 = 4 * k.val + r.val := by
  rw [Rect.mem_set_unit, off6_eq]
  have h1 : (y 1).val < 128 := (y 1).isLt
  constructor
  · intro H; have a0 : 24 * (4 * k.val + r.val) ≤ (y 0).val ∧ (y 0).val < 24 * (4 * k.val + r.val) + 24 := H 0; omega
  · intro H i; fin_cases i
    · show 24 * (4 * k.val + r.val) ≤ (y 0).val ∧ (y 0).val < 24 * (4 * k.val + r.val) + 24; omega
    · show 0 ≤ (y 1).val ∧ (y 1).val < 0 + 128; omega

/-- The loop's pieces cover the projection's buffer. -/
theorem cover1 (y : S1728x128.Idx) : ∃ p ∈ pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k0_t1_loop.trips, y ∈ p.1.set := by
  have h0 : (y 0).val < 1728 := (y 0).isLt
  let k : Fin k0_t1_loop.trips := ⟨(y 0).val / 96, by rw [trips1_eq]; omega⟩
  let r : Fin 4 := ⟨(y 0).val / 24 % 4, by omega⟩
  refine ⟨⟨R6 k r, tripW c XA arg3 arg4 arg17 arg18 arg19 X3 X4 X17 X18 X19 k r⟩, ?_, ?_⟩
  · refine (mem_pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 _ (le_refl _) _).2 ?_
    refine ⟨k, k.isLt, ?_⟩
    rw [tripL_eq]
    generalize r = r'
    fin_cases r' <;> simp
  · rw [mem_R6]; show (y 0).val / 24 = 4 * ((y 0).val / 96) + (y 0).val / 24 % 4; omega

theorem R6_emb_0 (k : Fin k0_t1_loop.trips) (r : Fin 4) (x : S24x128.Idx) :
    (((R6 k r).emb x) 0).val = 24 * (4 * k.val + r.val) + (x 0).val := by
  show (k0_off6 k (BitVec.ofNat 32 r.val)) 0 + 1 * (x 0).val = _
  rw [off6_eq]; simp
theorem R6_emb_1 (k : Fin k0_t1_loop.trips) (r : Fin 4) (x : S24x128.Idx) :
    (((R6 k r).emb x) 1).val = (x 1).val := by
  show (k0_off6 k (BitVec.ofNat 32 r.val)) 1 + 1 * (x 1).val = _
  rw [off6_eq]; simp

/-- A trip's stored words, named by the row they land in. -/
theorem tripW_at (k : Fin k0_t1_loop.trips) (r : Fin 4) (x : S24x128.Idx) :
    tripW c XA arg3 arg4 arg17 arg18 arg19 X3 X4 X17 X18 X19 k r x
      = (fun y : S1728x128.Idx => tripW c XA arg3 arg4 arg17 arg18 arg19 X3 X4 X17 X18 X19
      ⟨(y 0).val / 96, by have := (y 0).isLt; rw [trips1_eq]; have h : (y 0).val < 1728 := this; omega⟩ ⟨(y 0).val / 24 % 4, by omega⟩
      (ValueIdx.ix2 (n0 := 24) (n1 := 128) ⟨(y 0).val % 24, by omega⟩ (y 1))) ((R6 k r).emb x) := by
  have h0 := R6_emb_0 k r x
  have h1 := R6_emb_1 k r x
  have hx : (x 0).val < 24 := (x 0).isLt
  have hr := r.isLt
  have e1 : (⟨(((R6 k r).emb x) 0).val / 96, lt_of_lt_of_eq (by rw [h0]; have := lt18 k; omega : _ < 18) trips1_eq.symm⟩ : Fin k0_t1_loop.trips) = k := Fin.ext (by show _ / 96 = _; rw [h0]; omega)
  have e2 : (⟨(((R6 k r).emb x) 0).val / 24 % 4, by omega⟩ : Fin 4) = r := Fin.ext (by show _ / 24 % 4 = _; rw [h0]; omega)
  have e3 : ValueIdx.ix2 (n0 := 24) (n1 := 128) ⟨(((R6 k r).emb x) 0).val % 24, by omega⟩ (((R6 k r).emb x) 1) = x := by
    funext d; fin_cases d
    · exact Fin.ext (by show _ % 24 = _; rw [h0]; show _ = (x 0).val; omega)
    · exact Fin.ext h1
  show _ = tripW c XA arg3 arg4 arg17 arg18 arg19 X3 X4 X17 X18 X19 (⟨(((R6 k r).emb x) 0).val / 96, _⟩ : Fin k0_t1_loop.trips) (⟨(((R6 k r).emb x) 0).val / 24 % 4, _⟩ : Fin 4) (ValueIdx.ix2 (n0 := 24) (n1 := 128) ⟨(((R6 k r).emb x) 0).val % 24, _⟩ (((R6 k r).emb x) 1))
  rw [e1, e2, e3]

/-- What the loop leaves in the projection's buffer. -/
def yOf : S1728x128.Idx → Elt F .f32 :=
  arg15.view.read (Elt F) (arg15.view.writes (Elt F) arg15.view.junk (pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k0_t1_loop.trips))

/-- Row `24 (4 k + r) + j` of it is row `j` of what trip `k` stores for its head `r`. -/
theorem yOf_apply (k : Fin k0_t1_loop.trips) (r : Fin 4) (x : S24x128.Idx) :
    yOf c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 ((R6 k r).emb x) = tripW c XA arg3 arg4 arg17 arg18 arg19 X3 X4 X17 X18 X19 k r x := by
  have hk : k.val < 18 := lt18 k
  have key := View.read_writes_apply_of_pieces arg15.view arg15.view.junk
    (fun y : S1728x128.Idx => tripW c XA arg3 arg4 arg17 arg18 arg19 X3 X4 X17 X18 X19
      ⟨(y 0).val / 96, by have := (y 0).isLt; rw [trips1_eq]; have h : (y 0).val < 1728 := this; omega⟩ ⟨(y 0).val / 24 % 4, by omega⟩
      (ValueIdx.ix2 (n0 := 24) (n1 := 128) ⟨(y 0).val % 24, by omega⟩ (y 1)))
    (pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k0_t1_loop.trips) ?_ ((R6 k r).emb x) (cover1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 _)
  · refine key.trans ?_
    exact (tripW_at c XA arg3 arg4 arg17 arg18 arg19 X3 X4 X17 X18 X19 k r x).symm
  · intro p hp x'
    obtain ⟨k', -, hp'⟩ := (mem_pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 _ (le_refl _) _).1 hp
    rw [tripL_eq] at hp'
    simp only [List.mem_cons, List.not_mem_nil, _root_.or_false] at hp'
    rcases hp' with rfl | rfl | rfl | rfl
    · exact tripW_at c XA arg3 arg4 arg17 arg18 arg19 X3 X4 X17 X18 X19 k' 3 x'
    · exact tripW_at c XA arg3 arg4 arg17 arg18 arg19 X3 X4 X17 X18 X19 k' 2 x'
    · exact tripW_at c XA arg3 arg4 arg17 arg18 arg19 X3 X4 X17 X18 X19 k' 1 x'
    · exact tripW_at c XA arg3 arg4 arg17 arg18 arg19 X3 X4 X17 X18 X19 k' 0 x'

theorem sl3_18 : Ring.sl 3 18 = 0 := Fin.ext (by rfl)
theorem sl3_19 : Ring.sl 3 19 = 1 := Fin.ext (by rfl)
theorem sl3_20 : Ring.sl 3 20 = 2 := Fin.ext (by rfl)

/-- AFTER THE LOOP: the projection's buffer at `yOf`, every tile home, every slot and cell free. -/
instance loopExit1 (G15 : Buf (Elt F) (arg15.view.loc (c : Thread nD τ))) :
    LoopExit (loopInv1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 G15) where
  post _ := iprop((arg3.view.loc (c : Thread nD τ) ↦[arg3.view.set]{fullShare} X3) ∗ (arg4.view.loc (c : Thread nD τ) ↦[arg4.view.set]{fullShare} X4)
    ∗ (arg17.view.loc (c : Thread nD τ) ↦[arg17.view.set]{fullShare} X17) ∗ (arg18.view.loc (c : Thread nD τ) ↦[arg18.view.set]{fullShare} X18)
    ∗ (arg19.view.loc (c : Thread nD τ) ↦[arg19.view.set]{fullShare} X19)
    ∗ (arg15.view.loc (c : Thread nD τ) ↦[arg15.view.set]{fullShare} arg15.view.rep (yOf c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19)) ∗ (∃ W, owes (c : Thread nD τ) 0 W)
    ∗ bigSep Finset.univ (homeP c XA)
    ∗ ((∃ f, slotP c 0 f) ∗ cellP c 0) ∗ ((∃ f, slotP c 1 f) ∗ cellP c 1) ∗ ((∃ f, slotP c 2 f) ∗ cellP c 2))
  exit _ := by
    show resAt c XA arg3 arg4 arg15 arg17 arg18 arg19 X3 X4 X17 X18 X19 k0_t1_loop.trips (arg15.view.writes (Elt F) G15 (pb1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 k0_t1_loop.trips)) ⊢ _
    unfold resAt
    rw [ringAt_out c XA _ (show ¬ k0_t1_loop.trips < 18 by rw [trips1_eq]; decide), ringAt_out c XA _ (show ¬ k0_t1_loop.trips + 1 < 18 by rw [trips1_eq]; decide),
      ringAt_out c XA _ (show ¬ k0_t1_loop.trips + 2 < 18 by rw [trips1_eq]; decide),
      show Ring.sl 3 k0_t1_loop.trips = 0 from by rw [trips1_eq]; rfl, show Ring.sl 3 (k0_t1_loop.trips + 1) = 1 from by rw [trips1_eq]; rfl,
      show Ring.sl 3 (k0_t1_loop.trips + 2) = 2 from by rw [trips1_eq]; rfl, Ring.homeSet_last 3 _ (show 18 ≤ k0_t1_loop.trips by rw [trips1_eq])]
    iintro ⟨H3, H4, H17, H18, H19, HO, HW, Hh, HF0, HF1, HF2⟩
    isplitl [H3]; · iexact H3
    isplitl [H4]; · iexact H4
    isplitl [H17]; · iexact H17
    isplitl [H18]; · iexact H18
    isplitl [H19]; · iexact H19
    isplitl [HO]
    · ihave HO' := (pointsTo_rep_entails (c : Thread nD τ) arg15 _ fullShare) $$ HO
      rw [View.read_writes_of_cover _ _ arg15.view arg15.view.junk _ (cover1 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19)]
      iexact HO'
    isplitl [HW]; · iexact HW
    isplitl [Hh]; · iexact Hh
    isplitl [HF0]; · iexact HF0
    isplitl [HF1]; · iexact HF1
    iexact HF2

end Trip

/-! ## The packing loop: one batch row of packed key and value codes per trip -/

section Pack

variable (c : Dev nD)
variable (i : grid0.Coords) (arg1 : Memref sig .tc .vmem S20x7168 .bf16) (harg1 : arg1.IsWhole) (arg2 : Memref sig .tc .vmem S1x7168 .f32) (harg2 : arg2.IsWhole) (arg3 : Memref sig .tc .vmem S72x1x128 .f32) (harg3 : arg3.IsWhole) (arg4 : Memref sig .tc .vmem S72x1x128 .f32) (harg4 : arg4.IsWhole) (arg5 : Memref sig .tc .vmem S20x1x64 .f32) (harg5 : arg5.IsWhole) (arg6 : Memref sig .tc .vmem S20x1x64 .f32) (harg6 : arg6.IsWhole) (arg8 : Memref sig .tc .vmem S20x7168 .i8) (harg8 : arg8.IsWhole) (arg9 : Memref sig .tc .vmem S1x20 .f32) (harg9 : arg9.IsWhole) (arg10 : Memref sig .tc .vmem S20x8x128 .i8) (harg10 : arg10.IsWhole) (arg11 : Memref sig .tc .vmem S8x20 .f32) (harg11 : arg11.IsWhole) (arg12 : Memref sig .tc .vmem S8x20 .f32) (harg12 : arg12.IsWhole) (arg13 : Memref sig .tc .vmem S8x20 .f32) (harg13 : arg13.IsWhole) (arg14 : Memref sig .tc .vmem S8x20 .f32) (harg14 : arg14.IsWhole) (arg15 : Memref sig .tc .vmem S1728x128 .f32) (harg15 : arg15.IsWhole) (arg17 : Memref sig .tc .vmem S32x7168 .bf16) (harg17 : arg17.IsWhole) (arg18 : Memref sig .tc .vmem S2x24x128 .f32) (harg18 : arg18.IsWhole) (arg19 : Memref sig .tc .vmem S2x24x128 .f32) (harg19 : arg19.IsWhole) (arg20 : Memref sig .tc .vmem S2x192x128 .f32) (harg20 : arg20.IsWhole) (arg21 : Memref sig .tc .vmem S4x192x128 .f32) (harg21 : arg21.IsWhole)
  (X20 : Buf (Elt F) (arg20.view.loc (c : Thread nD τ)))

/-- One trip's resources: what it reads at its contents, what it writes at any. -/
abbrev Trip2 (f : Buf (Elt F) (arg10.view.loc (c : Thread nD τ))) : sProp 𝕄 :=
  iprop((arg20.view.loc (c : Thread nD τ) ↦[arg20.view.set]{fullShare} X20) ∗ (arg10.view.loc (c : Thread nD τ) ↦[arg10.view.set]{fullShare} f))

/-- One trip at a symbolic `k`, the pieces it stores to be found by the run. -/
@[irreducible] def trip2 (k : Fin k0_t2_loop.trips) :
    { L : List (View.Piece (Elt F) S20x8x128 .i8) // ∀ f : Buf (Elt F) (arg10.view.loc (c : Thread nD τ)),
      Trip2 c arg10 arg20 X20 f ⊢ wp frame (wpE (defs₀ (F := F)) 𝒱₀ (c : Thread nD τ) none) Set.univ
          (k0_t2_body (F := F) i arg1 harg1 arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) arg17 harg17 arg18 harg18 arg19 harg19 arg20 harg20 arg21 harg21 cc0_scratch6 k PUnit.unit)
        (fun _ => Trip2 c arg10 arg20 X20 (arg10.view.writes (Elt F) f L)) } := by
  have hk : k.val < 20 := Nat.lt_of_lt_of_le k.isLt k0_t2_abs.2.1
  refine ⟨?_, fun f => ?run⟩
  case run =>
    unfold k0_t2_body
    iintro ⟨H20, H10⟩
    sl_exec
    sl_step
    sl_close

/-- The pieces a trip stores. -/
abbrev trip2L (k : Fin k0_t2_loop.trips) : List (View.Piece (Elt F) S20x8x128 .i8) := (trip2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k).1

/-- The pieces of the trips before `k`, last first. -/
@[irreducible] def pb2Step (k : ℕ) (prev : List (View.Piece (Elt F) S20x8x128 .i8)) : List (View.Piece (Elt F) S20x8x128 .i8) :=
  if h : k < k0_t2_loop.trips then trip2L c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 ⟨k, h⟩ ++ prev else prev
def pb2 : ℕ → List (View.Piece (Elt F) S20x8x128 .i8)
  | 0 => []
  | k + 1 => pb2Step c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k (pb2 k)
theorem pb2_succ (k : Fin k0_t2_loop.trips) :
    pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 (k.val + 1) = trip2L c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k ++ pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k.val := by
  rw [pb2.eq_2]; unfold pb2Step; exact dif_pos k.isLt

set_option warn.classDefReducibility false in
/-- THE PACKING LOOP BY ITS INVARIANT. -/
@[sl_loop] def loopInv2 (G10 : Buf (Elt F) (arg10.view.loc (c : Thread nD τ))) :
    LoopInvTy_k0_t2 (F := F) Unit ℕ (Pipeline.UD sig nD τ) ℕ 𝒱₀ c none Set.univ i arg1 harg1 arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) arg17 harg17 arg18 harg18 arg19 harg19 arg20 harg20 arg21 harg21 cc0_scratch6 where
  inv k _ := iprop((arg20.view.loc (c : Thread nD τ) ↦[arg20.view.set]{fullShare} X20)
    ∗ (∃ f, (arg10.view.loc (c : Thread nD τ) ↦[arg10.view.set]{fullShare} f) ∗ ⌜f = arg10.view.writes (Elt F) G10 (pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k)⌝))
  step k _ := by
    iintro ⟨H20, ⟨%f, H10, %hf⟩⟩
    iapply (wp_wand_r Idealize.ShloMosaic.frame (wpE (defs₀ (F := F)) 𝒱₀ (c : Thread nD τ) none) Set.univ)
    isplitl [H20 H10]
    · iapply ((trip2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k).2 f)
      isplitl [H20]; · iexact H20
      iexact H10
    · iintro %_ ⟨H20, H10⟩
      isplitl [H20]; · iexact H20
      rw [pb2_succ]
      iexists _; isplitl [H10]; · iexact H10
      ipureintro; rw [hf, ← View.writes_append]

/-! ### What the packing loop leaves: the twenty rows, whatever the buffer held before -/

theorem trips2_eq : k0_t2_loop.trips = 20 := by decide
/-- The row trip `k` stores. -/
abbrev R12 (k : Fin k0_t2_loop.trips) : Rect S20x8x128 := Rect.unit (s := S20x8x128) (k0_off12 k) S1x8x128.size (k0_off12_inb k)
/-- What trip `k` stores. -/
def trip2W (k : Fin k0_t2_loop.trips) : S1x8x128.Idx → Elt F .i8 :=
  k0_pay3 (View.readAt (Elt F) arg20.view (⟨k0_off10 k, S1x8x128.size, ![1, 24, 1], (k0_off10_inb k)⟩ : LoadRect S2x192x128) X20)
    (View.readAt (Elt F) arg20.view (⟨k0_off11 k, S1x8x128.size, ![1, 24, 1], (k0_off11_inb k)⟩ : LoadRect S2x192x128) X20)
theorem trip2L_eq (k : Fin k0_t2_loop.trips) : trip2L c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k = [⟨R12 k, trip2W c arg20 X20 k⟩] := by
  unfold trip2L; unfold trip2; rfl

theorem mem_pb2 (n : ℕ) (hn : n ≤ k0_t2_loop.trips) (p : View.Piece (Elt F) S20x8x128 .i8) :
    p ∈ pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 n ↔ ∃ k : Fin k0_t2_loop.trips, k.val < n ∧ p ∈ trip2L c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k := by
  induction n with
  | zero => simp [pb2]
  | succ n ih =>
    have h : n < k0_t2_loop.trips := by omega
    rw [show n + 1 = (⟨n, h⟩ : Fin k0_t2_loop.trips).val + 1 from rfl, pb2_succ, List.mem_append, ih (by omega)]
    constructor
    · rintro (hp | ⟨k, hk, hp⟩)
      · exact ⟨⟨n, h⟩, Nat.lt_succ_self n, hp⟩
      · exact ⟨k, Nat.lt_succ_of_lt hk, hp⟩
    · rintro ⟨k, hk, hp⟩
      rcases Nat.lt_succ_iff_lt_or_eq.1 hk with hlt | he
      · exact Or.inr ⟨k, hlt, hp⟩
      · have : k = ⟨n, h⟩ := Fin.ext he
        subst this; exact Or.inl hp

theorem mem_R12 (k : Fin k0_t2_loop.trips) (y : S20x8x128.Idx) : y ∈ (R12 k).set ↔ (y 0).val = k.val := by
  rw [Rect.mem_set_unit, Gen.k0_off12_eq]
  have h1 : (y 1).val < 8 := (y 1).isLt
  have h2 : (y 2).val < 128 := (y 2).isLt
  constructor
  · intro H; have a0 : k.val ≤ (y 0).val ∧ (y 0).val < k.val + 1 := H 0; omega
  · intro H i; fin_cases i
    · show k.val ≤ (y 0).val ∧ (y 0).val < k.val + 1; omega
    · show 0 ≤ (y 1).val ∧ (y 1).val < 0 + 8; omega
    · show 0 ≤ (y 2).val ∧ (y 2).val < 0 + 128; omega

theorem cover2 (y : S20x8x128.Idx) : ∃ p ∈ pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k0_t2_loop.trips, y ∈ p.1.set := by
  have h0 : (y 0).val < 20 := (y 0).isLt
  let k : Fin k0_t2_loop.trips := ⟨(y 0).val, by rw [trips2_eq]; omega⟩
  refine ⟨⟨R12 k, trip2W c arg20 X20 k⟩, ?_, ?_⟩
  · refine (mem_pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 _ (le_refl _) _).2 ⟨k, k.isLt, ?_⟩
    rw [trip2L_eq]; simp
  · rw [mem_R12]

/-- What the loop leaves in the packed keys and values' buffer. -/
def kvcOf : S20x8x128.Idx → Elt F .i8 :=
  arg10.view.read (Elt F) (arg10.view.writes (Elt F) arg10.view.junk (pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k0_t2_loop.trips))

theorem R12_emb_0 (k : Fin k0_t2_loop.trips) (x : S1x8x128.Idx) : (((R12 k).emb x) 0).val = k.val := by
  have hx : (x 0).val < 1 := (x 0).isLt
  show (k0_off12 k) 0 + 1 * (x 0).val = _
  rw [Gen.k0_off12_eq]; simp; omega
theorem R12_emb_1 (k : Fin k0_t2_loop.trips) (x : S1x8x128.Idx) : (((R12 k).emb x) 1).val = (x 1).val := by
  show (k0_off12 k) 1 + 1 * (x 1).val = _
  rw [Gen.k0_off12_eq]; simp
theorem R12_emb_2 (k : Fin k0_t2_loop.trips) (x : S1x8x128.Idx) : (((R12 k).emb x) 2).val = (x 2).val := by
  show (k0_off12 k) 2 + 1 * (x 2).val = _
  rw [Gen.k0_off12_eq]; simp

theorem trip2W_at (k : Fin k0_t2_loop.trips) (x : S1x8x128.Idx) :
    trip2W c arg20 X20 k x = (fun y : S20x8x128.Idx => trip2W c arg20 X20 ⟨(y 0).val, by rw [trips2_eq]; exact (y 0).isLt⟩
      (ValueIdx.ix3 (n0 := 1) (n1 := 8) (n2 := 128) 0 (y 1) (y 2))) ((R12 k).emb x) := by
  have h0 := R12_emb_0 k x
  have e1 : (⟨(((R12 k).emb x) 0).val, by rw [trips2_eq]; exact (((R12 k).emb x) 0).isLt⟩ : Fin k0_t2_loop.trips) = k := Fin.ext h0
  have e3 : ValueIdx.ix3 (n0 := 1) (n1 := 8) (n2 := 128) 0 (((R12 k).emb x) 1) (((R12 k).emb x) 2) = x := by
    funext d; fin_cases d
    · exact Subsingleton.elim (α := Fin 1) _ _
    · exact Fin.ext (R12_emb_1 k x)
    · exact Fin.ext (R12_emb_2 k x)
  show _ = trip2W c arg20 X20 (⟨(((R12 k).emb x) 0).val, _⟩ : Fin k0_t2_loop.trips) (ValueIdx.ix3 (n0 := 1) (n1 := 8) (n2 := 128) 0 (((R12 k).emb x) 1) (((R12 k).emb x) 2))
  rw [e1, e3]

/-- Row `k` of it is what trip `k` stores. -/
theorem kvcOf_apply (k : Fin k0_t2_loop.trips) (x : S1x8x128.Idx) :
    kvcOf c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 ((R12 k).emb x) = trip2W c arg20 X20 k x := by
  have key := View.read_writes_apply_of_pieces arg10.view arg10.view.junk
    (fun y : S20x8x128.Idx => trip2W c arg20 X20 ⟨(y 0).val, by rw [trips2_eq]; exact (y 0).isLt⟩
      (ValueIdx.ix3 (n0 := 1) (n1 := 8) (n2 := 128) 0 (y 1) (y 2)))
    (pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k0_t2_loop.trips) ?_ ((R12 k).emb x) (cover2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 _)
  · refine key.trans ?_
    exact (trip2W_at c arg20 X20 k x).symm
  · intro p hp x'
    obtain ⟨k', -, hp'⟩ := (mem_pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 _ (le_refl _) _).1 hp
    rw [trip2L_eq] at hp'
    simp only [List.mem_cons, List.not_mem_nil, _root_.or_false] at hp'
    subst hp'
    exact trip2W_at c arg20 X20 k' x'

/-- AFTER THE LOOP: the packed keys and values' buffer at `kvcOf`. -/
instance loopExit2 (G10 : Buf (Elt F) (arg10.view.loc (c : Thread nD τ))) : LoopExit (loopInv2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 G10) where
  post _ := iprop((arg20.view.loc (c : Thread nD τ) ↦[arg20.view.set]{fullShare} X20)
    ∗ (arg10.view.loc (c : Thread nD τ) ↦[arg10.view.set]{fullShare} arg10.view.rep (kvcOf c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20)))
  exit _ := by
    show iprop((arg20.view.loc (c : Thread nD τ) ↦[arg20.view.set]{fullShare} X20)
      ∗ (∃ f, (arg10.view.loc (c : Thread nD τ) ↦[arg10.view.set]{fullShare} f) ∗ ⌜f = arg10.view.writes (Elt F) G10 (pb2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 k0_t2_loop.trips)⌝)) ⊢ _
    iintro ⟨H20, ⟨%f, H10, %hf⟩⟩
    isplitl [H20]; · iexact H20
    subst hf
    ihave HO' := (pointsTo_rep_entails (c : Thread nD τ) arg10 _ fullShare) $$ H10
    rw [View.read_writes_of_cover _ _ arg10.view arg10.view.junk _ (cover2 c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20)]
    iexact HO'

end Pack

end Cert.KernelIdeal.Hand

end
-- ==== Proof.KernelIdealBody.lean ====
/-
  `KernelIdeal`'s body, run once: the weights split into their eighteen tiles and the buffer into its three slots, the prologue's
  three transfers handed to the projection loop as its invariant at trip 0, both loops taken by their invariants.
-/
module

public import proofs.«01_k».proof.Proof.KernelIdealRing
public import Idealize.ShloMosaic.Lib.Pipeline.TableIdle

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The weights' eighteen tiles, the buffer's three slots -/

abbrev G18 (b : Fin 18) : Finset S3584x9216.Idx := (Rect.unit (s := S3584x9216) (grpOff b) S3584x512.size (grpOff_inb b)).set
abbrev S3s (s : Fin 3) : Finset S3x3584x512.Idx := (Rect.unit (s := S3x3584x512) (slotOff s) S1x3584x512.size (slotOff_inb s)).set

theorem grp_set (b : Fin 18) : (grp b : Memref sig .tc .hbm _ _).view.set = G18 b := View.set_slice_whole _ _
theorem rslot_set (s : Fin 3) : (rslot s : Memref sig .tc .vmem _ _).view.set = S3s s := (View.set_reshape _ _).trans (View.set_slice_whole _ _)

theorem mem_G18 (b : Fin 18) (y : S3584x9216.Idx) : y ∈ G18 b ↔ (y 1).val / 512 = b.val := by
  rw [Rect.mem_set_unit]
  have h0 : (y 0).val < 3584 := (y 0).isLt
  constructor
  · intro H; have a0 : 512 * b.val ≤ (y 1).val ∧ (y 1).val < 512 * b.val + 512 := H 1; omega
  · intro H i; fin_cases i
    · show 0 ≤ (y 0).val ∧ (y 0).val < 0 + 3584; omega
    · show 512 * b.val ≤ (y 1).val ∧ (y 1).val < 512 * b.val + 512; omega
theorem mem_S3s (s : Fin 3) (y : S3x3584x512.Idx) : y ∈ S3s s ↔ (y 0).val = s.val := by
  rw [Rect.mem_set_unit]
  have h1 : (y 1).val < 3584 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 3584; omega
    · show 0 ≤ (y 2).val ∧ (y 2).val < 0 + 512; omega
theorem G18_disjoint : ∀ b b' : Fin 18, b ≠ b' → Disjoint (G18 b) (G18 b') := by
  intro b b' hne; rw [Finset.disjoint_left]; intro y hy hy'; rw [mem_G18] at hy hy'; exact hne (Fin.ext (hy.symm.trans hy'))
theorem G18_cover : (Finset.univ : Finset (Fin 18)).biUnion G18 = Finset.univ := by
  ext y; simp only [Finset.mem_biUnion, Finset.mem_univ, true_and, iff_true]
  have h1 : (y 1).val < 9216 := (y 1).isLt
  exact ⟨⟨(y 1).val / 512, by omega⟩, by rw [mem_G18]⟩
theorem S3s_disjoint : ∀ s s' : Fin 3, s ≠ s' → Disjoint (S3s s) (S3s s') := by
  intro s s' hne; rw [Finset.disjoint_left]; intro y hy hy'; rw [mem_S3s] at hy hy'; exact hne (Fin.ext (hy.symm.trans hy'))
theorem S3s_cover : (Finset.univ : Finset (Fin 3)).biUnion S3s = Finset.univ := by
  ext y; simp only [Finset.mem_biUnion, Finset.mem_univ, true_and, iff_true]; exact ⟨(y 0).cast (by decide), by rw [mem_S3s]; rfl⟩

omit [FloatOps F] in
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- The weights whole are their eighteen tiles home; -/
theorem a_eq (c : Dev nD) (XA : Buf (Elt F) (aM.view.loc (c : Thread nD τ))) :
    (((c : Thread nD τ).loc main_arg2) ↦{fullShare} XA : sProp 𝕄) = bigSep Finset.univ (homeP c XA) := by
  rw [Ring.pointsTo_blocks (ℓ := (c : Thread nD τ).loc main_arg2) G18 G18_disjoint G18_cover]
  exact bigSep_congr fun b _ => by rw [← grp_set]; rfl
/-- at the body's entry, tiles 0, 1 and 2 apart from the rest. -/
theorem homes_zero (c : Dev nD) (XA : Buf (Elt F) (aM.view.loc (c : Thread nD τ))) :
    bigSep Finset.univ (homeP c XA) = iprop(homeP c XA 0 ∗ homeP c XA 1 ∗ homeP c XA 2 ∗ bigSep (Ring.homeSet 3 0) (homeP c XA)) := by
  have e : (Finset.univ : Finset (Fin 18)) = insert 0 (insert 1 (insert 2 (Ring.homeSet (NB := 18) 3 0))) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet, Fin.ext_iff]), bigSep_insert (by simp [Ring.mem_homeSet])]; rfl

omit [FloatOps F] in
theorem slotP_eq (c : Dev nD) (s : Fin 3) (f) : slotP c s f = (((c : Thread nD τ).loc cc0_scratch0) ↦[S3s s]{fullShare} f : sProp 𝕄) :=
  congrArg (fun S => (_ ↦[S]{fullShare} f : sProp 𝕄)) (rslot_set s)
/-- The buffer whole is its three slots, and back. -/
theorem buf_split (c : Dev nD) :
    iprop(∃ f : Buf (Elt F) ((c : Thread nD τ).loc cc0_scratch0), ((c : Thread nD τ).loc cc0_scratch0) ↦{fullShare} f)
      ⊢ (iprop((∃ f, slotP c 0 f) ∗ (∃ f, slotP c 1 f) ∗ (∃ f, slotP c 2 f)) : sProp 𝕄) := by
  iintro ⟨%f, H⟩
  ihave H2 := (entails_of_eq ((Ring.pointsTo_blocks (Ix := Unit) (Name := ℕ) (U := UU) (Lvl := ℕ) (q := fullShare) (ℓ := (c : Thread nD τ).loc cc0_scratch0) S3s S3s_disjoint S3s_cover f).trans (bigSep_fin3 _))) $$ H
  icases H2 with ⟨H0, H1, H2⟩
  isplitl [H0]
  · iexists f; iapply (entails_of_eq (slotP_eq c 0 f).symm); iexact H0
  isplitl [H1]
  · iexists f; iapply (entails_of_eq (slotP_eq c 1 f).symm); iexact H1
  · iexists f; iapply (entails_of_eq (slotP_eq c 2 f).symm); iexact H2
theorem buf_join (c : Dev nD) :
    iprop((∃ f, slotP c 0 f) ∗ (∃ f, slotP c 1 f) ∗ (∃ f, slotP c 2 f))
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch0) S3s S3s_disjoint S3s_cover f0)
  irw [bigSep_fin3]
  isplitl [H0]
  · iexists f0; iapply (entails_of_eq (slotP_eq c 0 f0)); iexact H0
  isplitl [H1]
  · iexists f1; iapply (entails_of_eq (slotP_eq c 1 f1)); iexact H1
  · iexists f2; iapply (entails_of_eq (slotP_eq c 2 f2)); iexact H2

/-- A flight the prologue starts, as the ring's state before trip 0. -/
theorem ring_entry (c : Dev nD) (XA : Buf (Elt F) (aM.view.loc (c : Thread nD τ))) (j : ℕ) (h : j < 18) (f) :
    flightP c XA (Ring.sl 3 j) (Ring.bk 18 j) f ⊢ ringAt c XA j := by
  rw [ringAt_in c XA j h]; iintro H; iexists f; iexact H

/-- A buffer written over its whole extent holds the same words whatever it held before. -/
theorem pt_rebase (c : Dev nD) {sp : Space} {S : Shape} {e : EltTy} (M : Memref sig .tc sp S e) (f : Buf (Elt F) (M.view.loc (c : Thread nD τ)))
    (L : List (View.Piece (Elt F) S e)) (h : ∃ p, L.getLast? = some p ∧ ∀ y, y ∈ p.1.set) :
    (M.view.loc (c : Thread nD τ) ↦[M.view.set]{fullShare} M.view.writes (Elt F) f L : sProp 𝕄)
      = M.view.loc (c : Thread nD τ) ↦[M.view.set]{fullShare} M.view.rep (M.view.read (Elt F) (M.view.writes (Elt F) M.view.junk L)) := by
  obtain ⟨p, hl, hp⟩ := h
  rw [← View.read_writes_of_cover M.view f M.view M.view.junk L (fun y => ⟨p, List.mem_of_getLast? hl, hp y⟩)]
  exact pointsTo_rep (c : Thread nD τ) M _ fullShare
/-- What is written over known words is known. -/
theorem pt_rebase2 (c : Dev nD) {sp : Space} {S : Shape} {e : EltTy} (M : Memref sig .tc sp S e) (X : S.Idx → Elt F e)
    (L : List (View.Piece (Elt F) S e)) :
    (M.view.loc (c : Thread nD τ) ↦[M.view.set]{fullShare} M.view.writes (Elt F) (M.view.rep X) L : sProp 𝕄)
      = M.view.loc (c : Thread nD τ) ↦[M.view.set]{fullShare} M.view.rep (M.view.read (Elt F) (M.view.writes (Elt F) (M.view.rep X) L)) :=
  pointsTo_rep (c : Thread nD τ) M _ fullShare
theorem mem_unit_zero {S : Shape} (off : Fin S.rank → Nat) (h : off = fun _ => 0) (inb : ∀ a, off a + S.size a ≤ S.size a) (y : S.Idx) :
    y ∈ (Rect.unit (s := S) off S.size inb).set := by
  subst h; rw [Rect.mem_set_unit]; intro a; exact ⟨Nat.zero_le _, by simpa using (y a).isLt⟩
theorem zero2 : (![0, 0] : Fin 2 → Nat) = fun _ => 0 := by decide
theorem zero3 : (![0, 0, 0] : Fin 3 → Nat) = fun _ => 0 := by decide

/-! ## The body -/

variable (c : Dev nD) (XA : Buf (Elt F) (aM.view.loc (c : Thread nD τ)))
/-- THE BODY RUN: on whole staging memrefs, the six VMEM operands at their contents, the outputs and the scratch buffers at
    anything, the weights' tiles home, the slots and cells free. It ends with the operands as they were, each output at
    contents the run finds (the same whatever the buffers held before), and the tiles, slots and cells as at the start. -/
noncomputable def kernelRun (i : grid0.Coords) (arg1 : Memref sig .tc .vmem S20x7168 .bf16) (harg1 : arg1.IsWhole) (arg2 : Memref sig .tc .vmem S1x7168 .f32) (harg2 : arg2.IsWhole) (arg3 : Memref sig .tc .vmem S72x1x128 .f32) (harg3 : arg3.IsWhole) (arg4 : Memref sig .tc .vmem S72x1x128 .f32) (harg4 : arg4.IsWhole) (arg5 : Memref sig .tc .vmem S20x1x64 .f32) (harg5 : arg5.IsWhole) (arg6 : Memref sig .tc .vmem S20x1x64 .f32) (harg6 : arg6.IsWhole) (arg8 : Memref sig .tc .vmem S20x7168 .i8) (harg8 : arg8.IsWhole) (arg9 : Memref sig .tc .vmem S1x20 .f32) (harg9 : arg9.IsWhole) (arg10 : Memref sig .tc .vmem S20x8x128 .i8) (harg10 : arg10.IsWhole) (arg11 : Memref sig .tc .vmem S8x20 .f32) (harg11 : arg11.IsWhole) (arg12 : Memref sig .tc .vmem S8x20 .f32) (harg12 : arg12.IsWhole) (arg13 : Memref sig .tc .vmem S8x20 .f32) (harg13 : arg13.IsWhole) (arg14 : Memref sig .tc .vmem S8x20 .f32) (harg14 : arg14.IsWhole) (arg15 : Memref sig .tc .vmem S1728x128 .f32) (harg15 : arg15.IsWhole) (arg17 : Memref sig .tc .vmem S32x7168 .bf16) (harg17 : arg17.IsWhole) (arg18 : Memref sig .tc .vmem S2x24x128 .f32) (harg18 : arg18.IsWhole) (arg19 : Memref sig .tc .vmem S2x24x128 .f32) (harg19 : arg19.IsWhole) (arg20 : Memref sig .tc .vmem S2x192x128 .f32) (harg20 : arg20.IsWhole) (arg21 : Memref sig .tc .vmem S4x192x128 .f32) (harg21 : arg21.IsWhole) (x1 : S20x7168.Idx → Elt F .bf16) (x2 : S1x7168.Idx → Elt F .f32) (x3 : S72x1x128.Idx → Elt F .f32) (x4 : S72x1x128.Idx → Elt F .f32) (x5 : S20x1x64.Idx → Elt F .f32) (x6 : S20x1x64.Idx → Elt F .f32) :
    (L8 : List (View.Piece (Elt F) S20x7168 .i8)) ×' (L9 : List (View.Piece (Elt F) S1x20 .f32)) ×' (L11 : List (View.Piece (Elt F) S8x20 .f32)) ×' (L12 : List (View.Piece (Elt F) S8x20 .f32)) ×' (L13 : List (View.Piece (Elt F) S8x20 .f32)) ×' (L14 : List (View.Piece (Elt F) S8x20 .f32)) ×' (Y10 : S20x8x128.Idx → Elt F .i8) ×' { Y15 : S1728x128.Idx → Elt F .f32 //
      ∀ (W : Waits sig Unit) (K : PUnit → sProp 𝕄),
        iprop((arg1.view.loc (c : Thread nD τ) ↦[arg1.view.set]{fullShare} arg1.view.rep x1)
          ∗ (arg2.view.loc (c : Thread nD τ) ↦[arg2.view.set]{fullShare} arg2.view.rep x2)
          ∗ (arg3.view.loc (c : Thread nD τ) ↦[arg3.view.set]{fullShare} arg3.view.rep x3)
          ∗ (arg4.view.loc (c : Thread nD τ) ↦[arg4.view.set]{fullShare} arg4.view.rep x4)
          ∗ (arg5.view.loc (c : Thread nD τ) ↦[arg5.view.set]{fullShare} arg5.view.rep x5)
          ∗ (arg6.view.loc (c : Thread nD τ) ↦[arg6.view.set]{fullShare} arg6.view.rep x6)
          ∗ (∃ f, (arg8.view.loc (c : Thread nD τ) ↦[arg8.view.set]{fullShare} f))
          ∗ (∃ f, (arg9.view.loc (c : Thread nD τ) ↦[arg9.view.set]{fullShare} f))
          ∗ (∃ f, (arg10.view.loc (c : Thread nD τ) ↦[arg10.view.set]{fullShare} f))
          ∗ (∃ f, (arg11.view.loc (c : Thread nD τ) ↦[arg11.view.set]{fullShare} f))
          ∗ (∃ f, (arg12.view.loc (c : Thread nD τ) ↦[arg12.view.set]{fullShare} f))
          ∗ (∃ f, (arg13.view.loc (c : Thread nD τ) ↦[arg13.view.set]{fullShare} f))
          ∗ (∃ f, (arg14.view.loc (c : Thread nD τ) ↦[arg14.view.set]{fullShare} f))
          ∗ (∃ f, (arg15.view.loc (c : Thread nD τ) ↦[arg15.view.set]{fullShare} f))
          ∗ (∃ f, (arg17.view.loc (c : Thread nD τ) ↦[arg17.view.set]{fullShare} f))
          ∗ (∃ f, (arg18.view.loc (c : Thread nD τ) ↦[arg18.view.set]{fullShare} f))
          ∗ (∃ f, (arg19.view.loc (c : Thread nD τ) ↦[arg19.view.set]{fullShare} f))
          ∗ (∃ f, (arg20.view.loc (c : Thread nD τ) ↦[arg20.view.set]{fullShare} f))
          ∗ (∃ f, (arg21.view.loc (c : Thread nD τ) ↦[arg21.view.set]{fullShare} f))
          ∗ bigSep Finset.univ (homeP c XA)
          ∗ (∃ f, slotP c 0 f)
          ∗ (∃ f, slotP c 1 f)
          ∗ (∃ f, slotP c 2 f)
          ∗ cellP c 0
          ∗ cellP c 1
          ∗ cellP c 2
          ∗ owes (c : Thread nD τ) 0 W
          ∗ (iprop((arg1.view.loc (c : Thread nD τ) ↦[arg1.view.set]{fullShare} arg1.view.rep x1)
          ∗ (arg2.view.loc (c : Thread nD τ) ↦[arg2.view.set]{fullShare} arg2.view.rep x2)
          ∗ (arg3.view.loc (c : Thread nD τ) ↦[arg3.view.set]{fullShare} arg3.view.rep x3)
          ∗ (arg4.view.loc (c : Thread nD τ) ↦[arg4.view.set]{fullShare} arg4.view.rep x4)
          ∗ (arg5.view.loc (c : Thread nD τ) ↦[arg5.view.set]{fullShare} arg5.view.rep x5)
          ∗ (arg6.view.loc (c : Thread nD τ) ↦[arg6.view.set]{fullShare} arg6.view.rep x6)
          ∗ (∃ f, (arg8.view.loc (c : Thread nD τ) ↦[arg8.view.set]{fullShare} arg8.view.writes (Elt F) f L8))
          ∗ (∃ f, (arg9.view.loc (c : Thread nD τ) ↦[arg9.view.set]{fullShare} arg9.view.writes (Elt F) f L9))
          ∗ (arg10.view.loc (c : Thread nD τ) ↦[arg10.view.set]{fullShare} arg10.view.rep Y10)
          ∗ (∃ f, (arg11.view.loc (c : Thread nD τ) ↦[arg11.view.set]{fullShare} arg11.view.writes (Elt F) f L11))
          ∗ (∃ f, (arg12.view.loc (c : Thread nD τ) ↦[arg12.view.set]{fullShare} arg12.view.writes (Elt F) f L12))
          ∗ (∃ f, (arg13.view.loc (c : Thread nD τ) ↦[arg13.view.set]{fullShare} arg13.view.writes (Elt F) f L13))
          ∗ (∃ f, (arg14.view.loc (c : Thread nD τ) ↦[arg14.view.set]{fullShare} arg14.view.writes (Elt F) f L14))
          ∗ (arg15.view.loc (c : Thread nD τ) ↦[arg15.view.set]{fullShare} arg15.view.rep Y15)
          ∗ (∃ f, (arg17.view.loc (c : Thread nD τ) ↦[arg17.view.set]{fullShare} f))
          ∗ (∃ f, (arg18.view.loc (c : Thread nD τ) ↦[arg18.view.set]{fullShare} f))
          ∗ (∃ f, (arg19.view.loc (c : Thread nD τ) ↦[arg19.view.set]{fullShare} f))
          ∗ (∃ f, (arg20.view.loc (c : Thread nD τ) ↦[arg20.view.set]{fullShare} f))
          ∗ (∃ f, (arg21.view.loc (c : Thread nD τ) ↦[arg21.view.set]{fullShare} f))
          ∗ bigSep Finset.univ (homeP c XA)
          ∗ (∃ f, slotP c 0 f)
          ∗ (∃ f, slotP c 1 f)
          ∗ (∃ f, slotP c 2 f)
          ∗ cellP c 0
          ∗ cellP c 1
          ∗ cellP c 2
          ∗ (∃ W', owes (c : Thread nD τ) 0 W')) -∗ K ⟨⟩))
          ⊢ wp frame (wpE (defs₀ (F := F)) 𝒱₀ (c : Thread nD τ) none) Set.univ (cc0_lserve_decode i arg1 harg1 arg2 harg2 arg3 harg3 arg4 harg4 arg5 harg5 arg6 harg6 aM (Memref.isWhole_whole _) arg8 harg8 arg9 harg9 arg10 harg10 arg11 harg11 arg12 harg12 arg13 harg13 arg14 harg14 arg15 harg15 bufM (Memref.isWhole_whole _) arg17 harg17 arg18 harg18 arg19 harg19 arg20 harg20 arg21 harg21 cc0_scratch6) K } := by
  refine ⟨?_, ?_, ?_, ?_, ?_, ?_, ?_, ?_, fun W K => ?run⟩
  case run =>
    simp only [cc0_lserve_decode_eq_skeleton]; unfold cc0_lserve_decode_skel
    iintro ⟨H1, H2, H3, H4, H5, H6, ⟨%f8, H8⟩, ⟨%f9, H9⟩, ⟨%f10, H10⟩, ⟨%f11, H11⟩, ⟨%f12, H12⟩, ⟨%f13, H13⟩, ⟨%f14, H14⟩, ⟨%f15, H15⟩, ⟨%f17, H17⟩, ⟨%f18, H18⟩, ⟨%f19, H19⟩, ⟨%f20, H20⟩, ⟨%f21, H21⟩, Hh, ⟨%fs0, Hs0⟩, ⟨%fs1, Hs1⟩, ⟨%fs2, Hs2⟩, Hc0, Hc1, Hc2, HW, Hk⟩
    ihave Hh2 := (entails_of_eq (homes_zero c XA)) $$ Hh
    icases Hh2 with ⟨Hg0, Hg1, Hg2, Hh⟩
    set_option sl_exec.stopBefore "k0_part17" in sl_exec
    ihave HR0 : ringAt c XA 0 $$ [Hc0]
    · iapply (ring_entry c XA 0 (by decide) fs0); istop; exact entails_of_eq rfl
    ihave HR1 : ringAt c XA (0 + 1) $$ [Hc1]
    · iapply (ring_entry c XA 1 (by decide) fs1); istop; exact entails_of_eq rfl
    ihave HR2 : ringAt c XA (0 + 2) $$ [Hc2]
    · iapply (ring_entry c XA 2 (by decide) fs2); istop; exact entails_of_eq rfl
    ihave H17r := (entails_of_eq (pt_rebase c arg17 f17 _ ?h17)) $$ H17
    case h17 => exact ⟨_, rfl, mem_unit_zero _ zero2 (by decide)⟩
    ihave H18r := (entails_of_eq (pt_rebase c arg18 f18 _ ?h18)) $$ H18
    case h18 => exact ⟨_, rfl, mem_unit_zero _ zero3 (by decide)⟩
    ihave H19r := (entails_of_eq (pt_rebase c arg19 f19 _ ?h19)) $$ H19
    case h19 => exact ⟨_, rfl, mem_unit_zero _ zero3 (by decide)⟩
    sl_exec
    sl_step
    iapply Hk
    isplitl [H1]; · iexact H1
    isplitl [H2]; · iexact H2
    isplitl [HL0]; · iexact HL0
    isplitl [HL1]; · iexact HL1
    isplitl [H5]; · iexact H5
    isplitl [H6]; · iexact H6
    isplitl [H8]; · iexists _; iexact H8
    isplitl [H9]; · iexists _; iexact H9
    isplitl [HL15]; · iexact HL15
    isplitl [H11]; · iexists _; iexact H11
    isplitl [H12]; · iexists _; iexact H12
    isplitl [H13]; · iexists _; iexact H13
    isplitl [H14]; · iexists _; iexact H14
    isplitl [HL5]; · iexact HL5
    isplitl [HL2]; · iexists _; iexact HL2
    isplitl [HL3]; · iexists _; iexact HL3
    isplitl [HL4]; · iexists _; iexact HL4
    isplitl [HL14]; · iexists _; iexact HL14
    isplitl [H21]; · iexists _; iexact H21
    isplitl [HL7]; · iexact HL7
    isplitl [HL8]; · iexists _; iexact HL8
    isplitl [HL10]; · iexists _; iexact HL10
    isplitl [HL12]; · iexists _; iexact HL12
    isplitl [HL9]; · iexact HL9
    isplitl [HL11]; · iexact HL11
    isplitl [HL13]; · iexact HL13
    iexists _; iexact HL6

end Cert.KernelIdeal.Hand

end
-- ==== Proof.KernelIdealFrame.lean ====
/-
  `KernelIdeal`'s FRAME: the program terminates, nothing faults, its argument arrays end unchanged and every semaphore counter ends
  at zero. One pipeline of one grid point: the six staged operands are read, the eight staged results written back, and the
  weights stay in HBM for the body's own ring of transfers.
-/
module

public import proofs.«01_k».proof.Proof.KernelIdealBody
public import proofs.«01_k».proof.Proof.Gen.KernelIdeal.Frame
public import Idealize.ShloMosaic.Lib.Pipeline.FrameBody
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to its one region: the four host reshapes. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The frame claim's post from the run's. -/
theorem frameD_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (fun r => Pipeline.FramePost cfgs dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 4).trans (((dats 0 c).arrAt_in 4 rfl _).trans ((hA c 4).trans (V_main_arg5 m c))),
      ((h.1 c).1 5).trans (((dats 0 c).arrAt_in 5 rfl _).trans ((hA c 5).trans (V_main_arg6 m c)))⟩, h.2⟩) h

/-! ## The body's operands -/
abbrev ms0_0 (t : Fin cfg0.N) : Memref sig .tc .vmem S20x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S72x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S72x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S20x1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S20x1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S20x7168 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x20 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S20x8x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x20 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x20 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x20 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x20 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1728x128 .f32 := win0_13.stage (cfg0.slots t 13)
abbrev hs0_13 (t : Fin cfg0.N) : (ms0_13 t).IsWhole := hstage0_13 ((cfg0.slots t 13).cast nbuf0_13)
abbrev sc17 : Memref sig .tc .vmem S32x7168 .bf16 := Memref.whole cc0_scratch1
abbrev sc18 : Memref sig .tc .vmem S2x24x128 .f32 := Memref.whole cc0_scratch2
abbrev sc19 : Memref sig .tc .vmem S2x24x128 .f32 := Memref.whole cc0_scratch3
abbrev sc20 : Memref sig .tc .vmem S2x192x128 .f32 := Memref.whole cc0_scratch4
abbrev sc21 : Memref sig .tc .vmem S4x192x128 .f32 := Memref.whole cc0_scratch5
/-- Staged operand 0 at point `t`. -/
abbrev xin1 (c : Dev nD) (t : Fin cfg0.N) : S20x7168.Idx → Elt F .bf16 := iblk m c 0 t
/-- Staged operand 1 at point `t`. -/
abbrev xin2 (c : Dev nD) (t : Fin cfg0.N) : S1x7168.Idx → Elt F .f32 := iblk m c 1 t
/-- Staged operand 2 at point `t`. -/
abbrev xin3 (c : Dev nD) (t : Fin cfg0.N) : S72x1x128.Idx → Elt F .f32 := iblk m c 2 t
/-- Staged operand 3 at point `t`. -/
abbrev xin4 (c : Dev nD) (t : Fin cfg0.N) : S72x1x128.Idx → Elt F .f32 := iblk m c 3 t
/-- Staged operand 4 at point `t`. -/
abbrev xin5 (c : Dev nD) (t : Fin cfg0.N) : S20x1x64.Idx → Elt F .f32 := iblk m c 4 t
/-- Staged operand 5 at point `t`. -/
abbrev xin6 (c : Dev nD) (t : Fin cfg0.N) : S20x1x64.Idx → Elt F .f32 := iblk m c 5 t

/-- The body's run at point `t` on core `c`. -/
abbrev runAt (c : Dev nD) (t : Fin cfg0.N) := kernelRun (F := F) c (V m c main_arg2) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) sc17 (Memref.isWhole_whole _) sc18 (Memref.isWhole_whole _) sc19 (Memref.isWhole_whole _) sc20 (Memref.isWhole_whole _) sc21 (Memref.isWhole_whole _) (xin1 m c t) (xin2 m c t) (xin3 m c t) (xin4 m c t) (xin5 m c t) (xin6 m c t)
theorem coverL8 (c : Dev nD) (t : Fin cfg0.N) (y : S20x7168.Idx) : ∃ pc ∈ (runAt m c t).1, y ∈ pc.1.set :=
  ⟨_, List.mem_singleton.mpr rfl, mem_unit_zero _ zero2 (by decide) y⟩
/-- What the body leaves in result 0's staging buffer. -/
def outs6 (c : Dev nD) (t : Fin cfg0.N) : S20x7168.Idx → Elt F .i8 :=
  (ms0_6 t).view.read (Elt F) ((ms0_6 t).view.writes (Elt F) (ms0_6 t).view.junk (runAt m c t).1)
theorem coverL9 (c : Dev nD) (t : Fin cfg0.N) (y : S1x20.Idx) : ∃ pc ∈ (runAt m c t).2.1, y ∈ pc.1.set :=
  ⟨_, List.mem_singleton.mpr rfl, mem_unit_zero _ zero2 (by decide) y⟩
/-- What the body leaves in result 1's staging buffer. -/
def outs7 (c : Dev nD) (t : Fin cfg0.N) : S1x20.Idx → Elt F .f32 :=
  (ms0_7 t).view.read (Elt F) ((ms0_7 t).view.writes (Elt F) (ms0_7 t).view.junk (runAt m c t).2.1)
theorem coverL11 (c : Dev nD) (t : Fin cfg0.N) (y : S8x20.Idx) : ∃ pc ∈ (runAt m c t).2.2.1, y ∈ pc.1.set :=
  ⟨_, List.mem_singleton.mpr rfl, mem_unit_zero _ zero2 (by decide) y⟩
/-- What the body leaves in result 3's staging buffer. -/
def outs9 (c : Dev nD) (t : Fin cfg0.N) : S8x20.Idx → Elt F .f32 :=
  (ms0_9 t).view.read (Elt F) ((ms0_9 t).view.writes (Elt F) (ms0_9 t).view.junk (runAt m c t).2.2.1)
theorem coverL12 (c : Dev nD) (t : Fin cfg0.N) (y : S8x20.Idx) : ∃ pc ∈ (runAt m c t).2.2.2.1, y ∈ pc.1.set :=
  ⟨_, List.mem_singleton.mpr rfl, mem_unit_zero _ zero2 (by decide) y⟩
/-- What the body leaves in result 4's staging buffer. -/
def outs10 (c : Dev nD) (t : Fin cfg0.N) : S8x20.Idx → Elt F .f32 :=
  (ms0_10 t).view.read (Elt F) ((ms0_10 t).view.writes (Elt F) (ms0_10 t).view.junk (runAt m c t).2.2.2.1)
theorem coverL13 (c : Dev nD) (t : Fin cfg0.N) (y : S8x20.Idx) : ∃ pc ∈ (runAt m c t).2.2.2.2.1, y ∈ pc.1.set :=
  ⟨_, List.mem_singleton.mpr rfl, mem_unit_zero _ zero2 (by decide) y⟩
/-- What the body leaves in result 5's staging buffer. -/
def outs11 (c : Dev nD) (t : Fin cfg0.N) : S8x20.Idx → Elt F .f32 :=
  (ms0_11 t).view.read (Elt F) ((ms0_11 t).view.writes (Elt F) (ms0_11 t).view.junk (runAt m c t).2.2.2.2.1)
theorem coverL14 (c : Dev nD) (t : Fin cfg0.N) (y : S8x20.Idx) : ∃ pc ∈ (runAt m c t).2.2.2.2.2.1, y ∈ pc.1.set :=
  ⟨_, List.mem_singleton.mpr rfl, mem_unit_zero _ zero2 (by decide) y⟩
/-- What the body leaves in result 6's staging buffer. -/
def outs12 (c : Dev nD) (t : Fin cfg0.N) : S8x20.Idx → Elt F .f32 :=
  (ms0_12 t).view.read (Elt F) ((ms0_12 t).view.writes (Elt F) (ms0_12 t).view.junk (runAt m c t).2.2.2.2.2.1)
/-- What the body leaves in result 2's staging buffer. -/
def outs8 (c : Dev nD) (t : Fin cfg0.N) : S20x8x128.Idx → Elt F .i8 := (runAt m c t).2.2.2.2.2.2.1
/-- What the body leaves in result 7's staging buffer. -/
def outs13 (c : Dev nD) (t : Fin cfg0.N) : S1728x128.Idx → Elt F .f32 := (runAt m c t).2.2.2.2.2.2.2.1

/-! ## The invariant: scratch, cells, weights -/

abbrev osem0 : Fin 3 → SemLoc sig := fun j => (![SemLoc.dma 14, SemLoc.dma 15, SemLoc.dma 16] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP c 0 ∗ cellP c 1 ∗ cellP c 2) := by
  rw [Pipeline.ownSems0_eq_of_list c osem0 [0, 1, 2] (by decide) (by decide)]; rfl
def H0 : Finset (Ref sig .tc) := {main_arg2}
theorem H0_sub : H0 ⊆ Pipeline.restRefs sig spec0 := by decide
theorem hbmPts0_eq (c : Dev nD) :
    (bigSep H0 (fun b => ((c : Thread nD τ).loc b) ↦{fullShare} V m c b) : sProp 𝕄) = bigSep Finset.univ (homeP c (V m c main_arg2)) := by
  rw [BI.bigSep_eq_bigSepL_of_eq [main_arg2] (by decide) (by decide)]; exact a_eq c (V m c main_arg2)

/-- A scratch buffer whole, in the spelling the body's run holds it. -/
theorem scr_eq (c : Dev nD) (b : Ref sig .tc) :
    (iprop(∃ f : Buf (Elt F) ((c : Thread nD τ).loc b), ((c : Thread nD τ).loc b) ↦{fullShare} f) : sProp 𝕄)
      = iprop(∃ f, ((Memref.whole b).view.loc (c : Thread nD τ) ↦[(Memref.whole b).view.set]{fullShare} f)) := by
  rw [show (Memref.whole b).view.set = Finset.univ from View.set_whole b]

omit [FloatOps F] in
theorem sep6_congr (P R A1 A2 A3 A4 A5 B1 B2 B3 B4 B5 : sProp 𝕄) (h1 : A1 = B1) (h2 : A2 = B2) (h3 : A3 = B3) (h4 : A4 = B4) (h5 : A5 = B5) :
    (iprop(iprop(P ∗ A1 ∗ A2 ∗ A3 ∗ A4 ∗ A5) ∗ R) : sProp 𝕄) = iprop(iprop(P ∗ B1 ∗ B2 ∗ B3 ∗ B4 ∗ B5) ∗ R) := by
  subst h1 h2 h3 h4 h5; rfl
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f)
          ∗ (∃ f, (sc17.view.loc (c : Thread nD τ) ↦[sc17.view.set]{fullShare} f))
          ∗ (∃ f, (sc18.view.loc (c : Thread nD τ) ↦[sc18.view.set]{fullShare} f))
          ∗ (∃ f, (sc19.view.loc (c : Thread nD τ) ↦[sc19.view.set]{fullShare} f))
          ∗ (∃ f, (sc20.view.loc (c : Thread nD τ) ↦[sc20.view.set]{fullShare} f))
          ∗ (∃ f, (sc21.view.loc (c : Thread nD τ) ↦[sc21.view.set]{fullShare} f)))
          ∗ (∃ r, prngReg c r) ∗ iprop(cellP c 0 ∗ cellP c 1 ∗ cellP c 2) ∗ bigSep Finset.univ (homeP c (V m c main_arg2))) := by
  rw [Pipeline.ΦD_eq, scopedRest0_eq, ownSems00_eq, hbmPts0_eq]
  exact sep6_congr _ _ _ _ _ _ _ _ _ _ _ _ (scr_eq c cc0_scratch1) (scr_eq c cc0_scratch2) (scr_eq c cc0_scratch3) (scr_eq c cc0_scratch4) (scr_eq c cc0_scratch5)

/-! ## The proof data and the body's obligation -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outs6 m c t
    | ⟨7, _⟩ => outs7 m c t
    | ⟨8, _⟩ => outs8 m c t
    | ⟨9, _⟩ => outs9 m c t
    | ⟨10, _⟩ => outs10 m c t
    | ⟨11, _⟩ => outs11 m c t
    | ⟨12, _⟩ => outs12 m c t
    | ⟨13, _⟩ => outs13 m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outs6 m c t := by dsimp only [dats]
theorem after0_7 (c : Dev nD) (t : Fin cfg0.N) : (dats m 0 c).after 7 t = outs7 m c t := by dsimp only [dats]
theorem after0_8 (c : Dev nD) (t : Fin cfg0.N) : (dats m 0 c).after 8 t = outs8 m c t := by dsimp only [dats]
theorem after0_9 (c : Dev nD) (t : Fin cfg0.N) : (dats m 0 c).after 9 t = outs9 m c t := by dsimp only [dats]
theorem after0_10 (c : Dev nD) (t : Fin cfg0.N) : (dats m 0 c).after 10 t = outs10 m c t := by dsimp only [dats]
theorem after0_11 (c : Dev nD) (t : Fin cfg0.N) : (dats m 0 c).after 11 t = outs11 m c t := by dsimp only [dats]
theorem after0_12 (c : Dev nD) (t : Fin cfg0.N) : (dats m 0 c).after 12 t = outs12 m c t := by dsimp only [dats]
theorem after0_13 (c : Dev nD) (t : Fin cfg0.N) : (dats m 0 c).after 13 t = outs13 m c t := by dsimp only [dats]
theorem before0_0 (c : Dev nD) (t : Fin cfg0.N) (d) : (dats m 0 c).before 0 t d = iblk m c 0 t := by
  unfold Dat.before; rw [if_pos (fetch0_0 t)]; unfold Dat.fetched Dat.blockOf iblk; rfl
theorem before0_1 (c : Dev nD) (t : Fin cfg0.N) (d) : (dats m 0 c).before 1 t d = iblk m c 1 t := by
  unfold Dat.before; rw [if_pos (fetch0_1 t)]; unfold Dat.fetched Dat.blockOf iblk; rfl
theorem before0_2 (c : Dev nD) (t : Fin cfg0.N) (d) : (dats m 0 c).before 2 t d = iblk m c 2 t := by
  unfold Dat.before; rw [if_pos (fetch0_2 t)]; unfold Dat.fetched Dat.blockOf iblk; rfl
theorem before0_3 (c : Dev nD) (t : Fin cfg0.N) (d) : (dats m 0 c).before 3 t d = iblk m c 3 t := by
  unfold Dat.before; rw [if_pos (fetch0_3 t)]; unfold Dat.fetched Dat.blockOf iblk; rfl
theorem before0_4 (c : Dev nD) (t : Fin cfg0.N) (d) : (dats m 0 c).before 4 t d = iblk m c 4 t := by
  unfold Dat.before; rw [if_pos (fetch0_4 t)]; unfold Dat.fetched Dat.blockOf iblk; rfl
theorem before0_5 (c : Dev nD) (t : Fin cfg0.N) (d) : (dats m 0 c).before 5 t d = iblk m c 5 t := by
  unfold Dat.before; rw [if_pos (fetch0_5 t)]; unfold Dat.fetched Dat.blockOf iblk; rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl, after0_0, after0_1, after0_2, after0_3, after0_4, after0_5, after0_6, after0_7, after0_8, after0_9, after0_10, after0_11, after0_12, after0_13]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  simp only [owns_eq_rep]
  iintro ⟨⟨⟨HS0, HS17, HS18, HS19, HS20, HS21⟩, Hg, ⟨Hq0, Hq1, Hq2⟩, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave HB := (buf_split c) $$ HS0
  icases HB with ⟨Hb0, Hb1, Hb2⟩
  iapply ((runAt m c t).2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS17]; · iexact HS17
  isplitl [HS18]; · iexact HS18
  isplitl [HS19]; · iexact HS19
  isplitl [HS20]; · iexact HS20
  isplitl [HS21]; · iexact HS21
  isplitl [Hh]; · iexact Hh
  isplitl [Hb0]; · iexact Hb0
  isplitl [Hb1]; · iexact Hb1
  isplitl [Hb2]; · iexact Hb2
  isplitl [Hq0]; · iexact Hq0
  isplitl [Hq1]; · iexact Hq1
  isplitl [Hq2]; · iexact Hq2
  isplitl [HW]; · iexact HW
  iintro ⟨H0, H1, H2, H3, H4, H5, ⟨%e6, H6⟩, ⟨%e7, H7⟩, H8, ⟨%e9, H9⟩, ⟨%e10, H10⟩, ⟨%e11, H11⟩, ⟨%e12, H12⟩, H13, HS17, HS18, HS19, HS20, HS21, Hh, Hb0, Hb1, Hb2, Hq0, Hq1, Hq2, ⟨%W', HW'⟩⟩
  ihave HS0 : iprop(∃ f : Buf (Elt F) ((c : Thread nD τ).loc cc0_scratch0), ((c : Thread nD τ).loc cc0_scratch0) ↦{fullShare} f) $$ [Hb0 Hb1 Hb2]
  · iapply (buf_join c)
    isplitl [Hb0]; · iexact Hb0
    isplitl [Hb1]; · iexact Hb1
    iexact Hb2
  isplitl [HS0 HS17 HS18 HS19 HS20 HS21 Hg Hq0 Hq1 Hq2 Hh]
  · isplitl [HS0 HS17 HS18 HS19 HS20 HS21]
    · isplitl [HS0]; · iexact HS0
      isplitl [HS17]; · iexact HS17
      isplitl [HS18]; · iexact HS18
      isplitl [HS19]; · iexact HS19
      isplitl [HS20]; · iexact HS20
      iexact HS21
    isplitl [Hg]; · iexact Hg
    isplitl [Hq0 Hq1 Hq2]
    · isplitl [Hq0]; · iexact Hq0
      isplitl [Hq1]; · iexact Hq1
      iexact Hq2
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]
  · ihave Hr := (pointsTo_rep_entails (c : Thread nD τ) (ms0_6 t) _ fullShare) $$ H6
    unfold outs6
    rw [View.read_writes_of_cover (ms0_6 t).view _ (ms0_6 t).view (ms0_6 t).view.junk _ (coverL8 m c t)]
    iexact Hr
  isplitl [H7]
  · ihave Hr := (pointsTo_rep_entails (c : Thread nD τ) (ms0_7 t) _ fullShare) $$ H7
    unfold outs7
    rw [View.read_writes_of_cover (ms0_7 t).view _ (ms0_7 t).view (ms0_7 t).view.junk _ (coverL9 m c t)]
    iexact Hr
  isplitl [H8]; · iexact H8
  isplitl [H9]
  · ihave Hr := (pointsTo_rep_entails (c : Thread nD τ) (ms0_9 t) _ fullShare) $$ H9
    unfold outs9
    rw [View.read_writes_of_cover (ms0_9 t).view _ (ms0_9 t).view (ms0_9 t).view.junk _ (coverL11 m c t)]
    iexact Hr
  isplitl [H10]
  · ihave Hr := (pointsTo_rep_entails (c : Thread nD τ) (ms0_10 t) _ fullShare) $$ H10
    unfold outs10
    rw [View.read_writes_of_cover (ms0_10 t).view _ (ms0_10 t).view (ms0_10 t).view.junk _ (coverL12 m c t)]
    iexact Hr
  isplitl [H11]
  · ihave Hr := (pointsTo_rep_entails (c : Thread nD τ) (ms0_11 t) _ fullShare) $$ H11
    unfold outs11
    rw [View.read_writes_of_cover (ms0_11 t).view _ (ms0_11 t).view (ms0_11 t).view.junk _ (coverL13 m c t)]
    iexact Hr
  isplitl [H12]
  · ihave Hr := (pointsTo_rep_entails (c : Thread nD τ) (ms0_12 t) _ fullShare) $$ H12
    unfold outs12
    rw [View.read_writes_of_cover (ms0_12 t).view _ (ms0_12 t).view (ms0_12 t).view.junk _ (coverL14 m c t)]
    iexact Hr
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := fun r => Pipeline.FramePost cfgs (dats m) 0 (V m) r ∧ r.2.sem = fun _ => 0) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- THE FRAME, at any float model. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  frameD_of m ρ (dats m) (A_eq m) (run_main m ρ)

end Cert.KernelIdeal.Hand

end
-- ==== Proof.Spec.lean ====
/-
  What both programs compute, at an index: the projection of the quantised activations, its rotation and the 4-bit codes of its key and
  value heads, over the extended reals.
-/
module

public import proofs.«01_k».proof.Proof.Gen.ReferenceIdeal.Frame
public import Idealize.ShloMosaic.Lib.Pointwise

@[expose] public section

noncomputable section

namespace Cert.Spec

open Cert.ReferenceIdeal Cert.ReferenceIdeal.Gen Idealize.ShloMosaic

/-- The integer an extended real is rounded to (ties to even) and clipped to `[lo, hi]`, as an extended real. -/
def rclip (lo hi : ℤ) (z : EReal) : EReal := min ((hi : ℝ) : EReal) (max ((lo : ℝ) : EReal) (Ideal.liftRound Ideal.roundHalfEven z))

/-- A rounded and clipped value is an integer between the bounds. -/
theorem rclip_int (lo hi : ℤ) (h : lo ≤ hi) (z : EReal) : ∃ n : ℤ, lo ≤ n ∧ n ≤ hi ∧ rclip lo hi z = ((n : ℝ) : EReal) := by
  unfold rclip
  induction z using EReal.rec with
  | bot => exact ⟨lo, le_refl _, h, by
      rw [Ideal.liftRound_bot, max_eq_left bot_le]
      exact min_eq_right (by exact_mod_cast h)⟩
  | top => exact ⟨hi, h, le_refl _, by
      rw [Ideal.liftRound_top, max_eq_right le_top, min_eq_left le_top]⟩
  | coe r => exact ⟨min hi (max lo (Ideal.roundHalfEven r)), by omega, by omega, by
      rw [Ideal.liftRound_coe]; push_cast; rfl⟩

theorem toIntClamped_int (lo hi n : ℤ) (h1 : lo ≤ n) (h2 : n ≤ hi) : Ideal.toIntClamped lo hi ((n : ℝ) : EReal) = n := by
  rw [Ideal.toIntClamped_coe]
  simp only [Int.floor_intCast, Int.ceil_intCast, ite_self]
  omega

/-- An 8-bit signed code read back is the code. -/
theorem sitofp_fptosi8 (z : EReal) : ((((Ideal.fptosi 8 (rclip (-127) 127 z)).toInt : ℤ) : ℝ) : EReal) = rclip (-127) 127 z := by
  obtain ⟨n, h1, h2, h⟩ := rclip_int (-127) 127 (by omega) z
  rw [h]; unfold Ideal.fptosi
  rw [toIntClamped_int _ _ _ (by norm_num; omega) (by norm_num; omega)]
  congr 2
  rw [BitVec.toInt_ofInt]
  unfold Int.bmod; norm_num; omega

/-- Two 4-bit codes packed at 32 bits and cut to 8 are the two packed at 8 bits. -/
theorem pack_codes (z y : EReal) :
    BitVec.setWidth 8 (Ideal.fptosi 32 (rclip 0 15 z) ||| (Ideal.fptosi 32 (rclip 0 15 y) <<< 4))
      = Ideal.fptoui 8 (rclip 0 15 z) ||| (Ideal.fptoui 8 (rclip 0 15 y) <<< 4) := by
  obtain ⟨n, h1, h2, h⟩ := rclip_int 0 15 (by omega) z
  obtain ⟨k, h3, h4, h'⟩ := rclip_int 0 15 (by omega) y
  rw [h, h']; unfold Ideal.fptosi Ideal.fptoui
  rw [toIntClamped_int _ _ _ (by norm_num; omega) (by norm_num; omega), toIntClamped_int _ _ _ (by norm_num; omega) (by norm_num; omega),
    toIntClamped_int _ _ _ (by norm_num; omega) (by norm_num; omega), toIntClamped_int _ _ _ (by norm_num; omega) (by norm_num; omega)]
  interval_cases n <;> interval_cases k <;> rfl

/-- The low and the high four bits of a byte. -/
def lo (w : BitVec 8) : EReal := ((w.toNat % 16 : ℕ) : ℝ)
def hi (w : BitVec 8) : EReal := ((w.toNat / 16 : ℕ) : ℝ)

theorem toInt_lo : ∀ w : BitVec 8, (BitVec.setWidth 32 w &&& 15#32).toInt = ((w.toNat % 16 : ℕ) : ℤ) := by decide +kernel
theorem toInt_hi : ∀ w : BitVec 8, ((BitVec.setWidth 32 w).sshiftRight 4).toInt = ((w.toNat / 16 : ℕ) : ℤ) := by decide +kernel
theorem toInt_lo8 : ∀ w : BitVec 8, (w &&& 15#8).toInt = ((w.toNat % 16 : ℕ) : ℤ) := by decide +kernel
theorem toInt_hi8 : ∀ w : BitVec 8, (w >>> 4).toInt = ((w.toNat / 16 : ℕ) : ℤ) := by decide +kernel

section
variable (x0 : Vec Ideal S20x7168 .bf16) (x1 : Vec Ideal S1x7168 .f32) (x2 : Vec Ideal S3584x9216 .i8) (x3 x4 : Vec Ideal S1x9216 .f32)
  (x5 x6 : Vec Ideal S20x1x64 .f32)

/-- The scale of a row's codes. -/
def sc (b : Fin 20) : EReal := k0_pay8 x0 x1 (ix2 b 0)
/-- A row's codes. -/
def cf (b : Fin 20) (i : Fin 7168) : EReal := rclip (-127) 127 (Ideal.div (k0_pay7 x0 x1 (ix2 b i)) (sc x0 x1 b))

/-- The projection: row `b`, column `n`. -/
def T (b : Fin 20) (n : Fin 9216) : EReal :=
  (∑ x : Fin 3584, cf x0 x1 b ⟨x.val, by omega⟩ * lo (x2 (ix2 x n)) + ∑ x : Fin 3584, cf x0 x1 b ⟨3584 + x.val, by omega⟩ * hi (x2 (ix2 x n))
    - x4 (ix2 0 n) * ∑ x : Fin 7168, cf x0 x1 b x) * sc x0 x1 b * x3 (ix2 0 n)

/-- Row `b` of head `h` after the rotation (query and key heads; value heads are not rotated). -/
def Y (b : Fin 20) (h : Fin 72) (d : Fin 128) : EReal :=
  if h.val < 64 then
    if hd : d.val < 64 then
      T x0 x1 x2 x3 x4 b ⟨h.val * 128 + d.val, by omega⟩ * x5 (ix3 b 0 ⟨d.val, hd⟩) - T x0 x1 x2 x3 x4 b ⟨h.val * 128 + (64 + d.val), by omega⟩ * x6 (ix3 b 0 ⟨d.val, hd⟩)
    else
      T x0 x1 x2 x3 x4 b ⟨h.val * 128 + d.val, by omega⟩ * x5 (ix3 b 0 ⟨d.val - 64, by omega⟩) + T x0 x1 x2 x3 x4 b ⟨h.val * 128 + (d.val - 64), by omega⟩ * x6 (ix3 b 0 ⟨d.val - 64, by omega⟩)
  else T x0 x1 x2 x3 x4 b ⟨h.val * 128 + d.val, by omega⟩
end

/-- The least, the greatest, the step and the codes of a row of 128 values. -/
def zq (t : Fin 128 → EReal) : EReal := Finset.univ.fold min (Ideal.ofBits FTy.f32 0x7F800000#32) t
def mq (t : Fin 128 → EReal) : EReal := Finset.univ.fold max (Ideal.ofBits FTy.f32 0xFF800000#32) t
def sq (t : Fin 128 → EReal) : EReal := if mq t = zq t then 1 else Ideal.div (mq t - zq t) (Ideal.ofBits FTy.f32 0x41700000#32)
def cq (t : Fin 128 → EReal) (d : Fin 128) : EReal := rclip 0 15 (Ideal.div (t d - zq t) (sq t))

end Cert.Spec
-- ==== Proof.RefValue.lean ====
/-
  The reference's arrays, at an index, as the values of `Cert.Spec`.
-/
module

public import proofs.«01_k».proof.Proof.Spec

@[expose] public section

set_option maxRecDepth 16384

noncomputable section

namespace Cert.Spec

open Cert.ReferenceIdeal Cert.ReferenceIdeal.Gen Idealize.ShloMosaic

variable (x0 : Vec Ideal S20x7168 .bf16) (x1 : Vec Ideal S1x7168 .f32) (x2 : Vec Ideal S3584x9216 .i8) (x3 x4 : Vec Ideal S1x9216 .f32)
  (x5 x6 : Vec Ideal S20x1x64 .f32)

theorem p9 (b : Fin 20) (i : Fin 7168) : k0_pay9 x0 x1 (ix2 b i) = Ideal.fptosi 8 (cf x0 x1 b i) := by
  pointwise [k0_pay9]
  rfl

theorem p11 (b : Fin 20) (h : Fin 72) (d : Fin 128) :
    k0_pay11 (k0_pay8 x0 x1) (k0_pay9 x0 x1) x2 x3 x4 (ix3 b h d) = T x0 x1 x2 x3 x4 b ⟨h.val * 128 + d.val, by omega⟩ := by
  pointwise [k0_pay11]
  simp only [p9]
  have e1 : ∀ (φ : FTy) (b : BitVec 8), (FloatOps.sitofp φ b : Ideal φ) = ((b.toInt : ℝ) : EReal) := fun _ _ => rfl
  have e2 : ∀ (φ : FTy) (b : BitVec 32), (FloatOps.sitofp φ b : Ideal φ) = ((b.toInt : ℝ) : EReal) := fun _ _ => rfl
  have e3 : ∀ w : BitVec 8, (IntOp.andi (BitVec.setWidth 32 w) 15#32).toInt = ((w.toNat % 16 : ℕ) : ℤ) := toInt_lo
  have e4 : ∀ w : BitVec 8, (IntOp.shrsi ArithUnit.vector (BitVec.setWidth 32 w) 4#32).toInt = ((w.toNat / 16 : ℕ) : ℤ) := by decide +kernel
  have e5 : ∀ (b : Fin 20) (i : Fin 7168), ((((Ideal.fptosi 8 (cf x0 x1 b i)).toInt : ℤ) : ℝ) : EReal) = cf x0 x1 b i := fun b i => sitofp_fptosi8 _
  simp only [e1, e2, e3, e4, e5]
  rfl

theorem p17 (b : Fin 20) (h : Fin 64) (d : Fin 128) :
    k0_pay17 (k0_pay15 (k0_pay8 x0 x1) (k0_pay9 x0 x1) x2 x3 x4 x5 x6) (k0_pay16 (k0_pay8 x0 x1) (k0_pay9 x0 x1) x2 x3 x4 x5 x6) (ix3 b h d)
      = Y x0 x1 x2 x3 x4 x5 x6 b ⟨h.val, by omega⟩ d := by
  pointwise [k0_pay17, k0_pay15, k0_pay16, k0_pay14, k0_pay13, k0_pay12]
  simp only [p11]
  unfold Y
  rw [if_pos h.isLt]
  by_cases hd : d.val < 64
  · rw [dif_pos hd, dif_pos hd]
  · rw [dif_neg hd, dif_neg hd]
    have e : 64 + (d.val - 64) = d.val := by omega
    simp only [e]

theorem pv (b : Fin 20) (h : Fin 8) (d : Fin 128) :
    k0_pay19 (k0_pay11 (k0_pay8 x0 x1) (k0_pay9 x0 x1) x2 x3 x4) (ix3 b h d) = Y x0 x1 x2 x3 x4 x5 x6 b ⟨64 + h.val, by omega⟩ d := by
  pointwise [k0_pay19]
  rw [p11]; unfold Y
  rw [if_neg (by show ¬ 64 + h.val < 64; omega)]

theorem pk (b : Fin 20) (h : Fin 8) (d : Fin 128) :
    k0_pay18 (k0_pay15 (k0_pay8 x0 x1) (k0_pay9 x0 x1) x2 x3 x4 x5 x6) (k0_pay16 (k0_pay8 x0 x1) (k0_pay9 x0 x1) x2 x3 x4 x5 x6) (ix3 b h d)
      = Y x0 x1 x2 x3 x4 x5 x6 b ⟨56 + h.val, by omega⟩ d := by
  pointwise [k0_pay18]
  rw [p17]

/-- Key head `h`'s row and value head `h`'s row. -/
def kr (b : Fin 20) (h : Fin 8) : Fin 128 → EReal := fun d => Y x0 x1 x2 x3 x4 x5 x6 b ⟨56 + h.val, by omega⟩ d
def vr (b : Fin 20) (h : Fin 8) : Fin 128 → EReal := fun d => Y x0 x1 x2 x3 x4 x5 x6 b ⟨64 + h.val, by omega⟩ d

/-- The packed codes of one entry. -/
def kvSpec (b : Fin 20) (h : Fin 8) (d : Fin 128) : BitVec 8 :=
  Ideal.fptoui 8 (cq (kr x0 x1 x2 x3 x4 x5 x6 b h) d) ||| (Ideal.fptoui 8 (cq (vr x0 x1 x2 x3 x4 x5 x6 b h) d) <<< 4)

/-- The projection's rows, padded to 24 a head. -/
def ySpec (r : Fin 1728) (d : Fin 128) : EReal :=
  if h : r.val % 24 < 20 then Y x0 x1 x2 x3 x4 x5 x6 ⟨r.val % 24, h⟩ ⟨r.val / 24, by omega⟩ d else 0

theorem ld0 (x : Vec Ideal S20x7168 .bf16) : View.ld x r0_0 = x :=
  View.ld_unit_zero (S := S20x7168) (off := ![0, 0]) (by funext a; revert a; decide) _ x
theorem ld1 (x : Vec Ideal S1x7168 .f32) : View.ld x r0_1 = x :=
  View.ld_unit_zero (S := S1x7168) (off := ![0, 0]) (by funext a; revert a; decide) _ x
theorem ld3 (x : Vec Ideal S3584x9216 .i8) : View.ld x r0_3 = x :=
  View.ld_unit_zero (S := S3584x9216) (off := ![0, 0]) (by funext a; revert a; decide) _ x
theorem ld4 (x : Vec Ideal S1x9216 .f32) : View.ld x r0_4 = x :=
  View.ld_unit_zero (S := S1x9216) (off := ![0, 0]) (by funext a; revert a; decide) _ x
theorem ld5 (x : Vec Ideal S20x1x64 .f32) : View.ld x r0_5 = x :=
  View.ld_unit_zero (S := S20x1x64) (off := ![0, 0, 0]) (by funext a; revert a; decide) _ x

theorem ref7 : out0_7 x0 x1 x2 x3 x4 x5 x6 = fun j => Ideal.fptosi 8 (cf x0 x1 (j 0) (j 1)) := by
  unfold_out out0_7
  rw [View.canon_unit_zero (S := S20x7168) (off := ![0, 0]) (by funext a; revert a; decide), ld0, ld1]
  funext j
  conv_lhs => rw [eq_ix2 j]
  exact p9 x0 x1 (j 0) (j 1)

theorem ref8 : out0_8 x0 x1 x2 x3 x4 x5 x6 = fun j => sc x0 x1 (j 1) := by
  unfold_out out0_8
  rw [View.canon_unit_zero (S := S1x20) (off := ![0, 0]) (by funext a; revert a; decide), ld0, ld1]
  funext j
  conv_lhs => rw [eq_ix2 j]
  idx_vars j
  pointwise [k0_pay10]
  rfl

theorem ref9 : out0_9 x0 x1 x2 x3 x4 x5 x6 = fun j => kvSpec x0 x1 x2 x3 x4 x5 x6 (j 0) (j 1) (j 2) := by
  unfold_out out0_9
  rw [View.canon_unit_zero (S := S20x8x128) (off := ![0, 0, 0]) (by funext a; revert a; decide), ld0, ld1, ld3, ld4, ld4, ld5, ld5]
  funext j
  idx_vars j
  pointwise [k0_pay1, k0_pay22, k0_pay25, k0_pay21, k0_pay20, k0_pay23, k0_pay24]
  simp only [pk, pv x0 x1 x2 x3 x4 x5 x6]
  rfl

theorem ref10 : out0_10 x0 x1 x2 x3 x4 x5 x6 = fun j => sq (kr x0 x1 x2 x3 x4 x5 x6 (j 1) (j 0)) := by
  unfold_out out0_10
  rw [View.canon_unit_zero (S := S8x20) (off := ![0, 0]) (by funext a; revert a; decide)]
  simp only [ld0, ld1, ld3, ld4, ld5]
  funext j
  idx_vars j
  pointwise [k0_pay2, k0_pay21, k0_pay20]
  simp only [pk, pv x0 x1 x2 x3 x4 x5 x6]
  rfl

theorem ref11 : out0_11 x0 x1 x2 x3 x4 x5 x6 = fun j => zq (kr x0 x1 x2 x3 x4 x5 x6 (j 1) (j 0)) := by
  unfold_out out0_11
  rw [View.canon_unit_zero (S := S8x20) (off := ![0, 0]) (by funext a; revert a; decide)]
  simp only [ld0, ld1, ld3, ld4, ld5]
  funext j
  idx_vars j
  pointwise [k0_pay3, k0_pay20]
  simp only [pk, pv x0 x1 x2 x3 x4 x5 x6]
  rfl

theorem ref12 : out0_12 x0 x1 x2 x3 x4 x5 x6 = fun j => sq (vr x0 x1 x2 x3 x4 x5 x6 (j 1) (j 0)) := by
  unfold_out out0_12
  rw [View.canon_unit_zero (S := S8x20) (off := ![0, 0]) (by funext a; revert a; decide)]
  simp only [ld0, ld1, ld3, ld4, ld5]
  funext j
  idx_vars j
  pointwise [k0_pay4, k0_pay24, k0_pay23]
  simp only [pk, pv x0 x1 x2 x3 x4 x5 x6]
  rfl

theorem ref13 : out0_13 x0 x1 x2 x3 x4 x5 x6 = fun j => zq (vr x0 x1 x2 x3 x4 x5 x6 (j 1) (j 0)) := by
  unfold_out out0_13
  rw [View.canon_unit_zero (S := S8x20) (off := ![0, 0]) (by funext a; revert a; decide)]
  simp only [ld0, ld1, ld3, ld4, ld5]
  funext j
  idx_vars j
  pointwise [k0_pay5, k0_pay23]
  simp only [pk, pv x0 x1 x2 x3 x4 x5 x6]
  rfl

theorem ref14 : out0_14 x0 x1 x2 x3 x4 x5 x6 = fun j => ySpec x0 x1 x2 x3 x4 x5 x6 (j 0) (j 1) := by
  unfold_out out0_14
  rw [View.canon_unit_zero (S := S1728x128) (off := ![0, 0]) (by funext a; revert a; decide)]
  simp only [ld0, ld1, ld3, ld4, ld5]
  funext j
  idx_vars j
  pointwise [k0_pay6]
  simp only [p17, pv x0 x1 x2 x3 x4 x5 x6]
  unfold ySpec
  by_cases h : j0.val % 24 < 20
  · rw [dif_pos h, dif_pos h]
    by_cases h1 : j0.val / 24 < 64
    · rw [dif_pos h1]
    · rw [dif_neg h1]
      have e : 64 + (j0.val / 24 - 64) = j0.val / 24 := by omega
      simp only [e]
  · rw [dif_neg h, dif_neg h]

end Cert.Spec
-- ==== Proof.RefArr.lean ====
/-
  The reference's result arrays, as functions of its argument arrays.
-/
module

public import proofs.«01_k».proof.Proof.RefValue
public import Idealize.ShloMosaic.Lib.Pipeline.ValueKit

@[expose] public section

set_option maxRecDepth 16384

noncomputable section

namespace Cert.Spec

open Cert.ReferenceIdeal Cert.ReferenceIdeal.Gen Idealize.ShloMosaic Idealize.ShloMosaic.TcCoe

variable (m : (ℓ : Loc nD τ sig) → Buf (Elt Ideal) ℓ) (c : Dev nD)

/-- The blocks the reference's call reads, from the argument arrays. -/
abbrev X0 : Vec Ideal S20x7168 .bf16 := shapeCast S20x7168 (m ((c : Thread nD τ).loc main_arg0)) shapeCasts_S20x1x7168_S20x7168
abbrev X1 : Vec Ideal S1x7168 .f32 := shapeCast S1x7168 (m ((c : Thread nD τ).loc main_arg1)) shapeCasts_S7168_S1x7168
abbrev X2 : Vec Ideal S3584x9216 .i8 := m ((c : Thread nD τ).loc main_arg2)
abbrev X3 : Vec Ideal S1x9216 .f32 := shapeCast S1x9216 (m ((c : Thread nD τ).loc main_arg3)) shapeCasts_S9216_S1x9216
abbrev X4 : Vec Ideal S1x9216 .f32 := shapeCast S1x9216 (m ((c : Thread nD τ).loc main_arg4)) shapeCasts_S9216_S1x9216
abbrev X5 : Vec Ideal S20x1x64 .f32 := m ((c : Thread nD τ).loc main_arg5)
abbrev X6 : Vec Ideal S20x1x64 .f32 := m ((c : Thread nD τ).loc main_arg6)

theorem V0 : V m c main_v0 = X0 m c := by
  entry_read
  rfl

theorem ib0 (t : Fin cfg0.N) : iblk m c 0 t = X0 m c := by
  rw [← V0]
  funext y
  blk_simp [iblk]
  exact congrArg (V m c main_v0) (by
    have e : ∀ t : Fin cfg0.N, win0_0.index t = fun _ => 0 := by decide +kernel
    funext a; apply Fin.ext
    fin_cases a <;> blk_simp [e])

theorem V1 : V m c main_v1 = X1 m c := by
  entry_read
  rfl

theorem ib1 (t : Fin cfg0.N) : iblk m c 1 t = X1 m c := by
  rw [← V1]
  funext y
  blk_simp [iblk]
  exact congrArg (V m c main_v1) (by
    have e : ∀ t : Fin cfg0.N, win0_1.index t = fun _ => 0 := by decide +kernel
    funext a; apply Fin.ext
    fin_cases a <;> blk_simp [e])

theorem V2 : V m c main_arg2 = X2 m c := by
  entry_read
  rfl

theorem ib2 (t : Fin cfg0.N) : iblk m c 2 t = X2 m c := by
  rw [← V2]
  funext y
  blk_simp [iblk]
  exact congrArg (V m c main_arg2) (by
    have e : ∀ t : Fin cfg0.N, win0_2.index t = fun _ => 0 := by decide +kernel
    funext a; apply Fin.ext
    fin_cases a <;> blk_simp [e])

theorem V3 : V m c main_v2 = X3 m c := by
  entry_read
  rfl

theorem ib3 (t : Fin cfg0.N) : iblk m c 3 t = X3 m c := by
  rw [← V3]
  funext y
  blk_simp [iblk]
  exact congrArg (V m c main_v2) (by
    have e : ∀ t : Fin cfg0.N, win0_3.index t = fun _ => 0 := by decide +kernel
    funext a; apply Fin.ext
    fin_cases a <;> blk_simp [e])

theorem V4 : V m c main_v3 = X4 m c := by
  entry_read
  rfl

theorem ib4 (t : Fin cfg0.N) : iblk m c 4 t = X4 m c := by
  rw [← V4]
  funext y
  blk_simp [iblk]
  exact congrArg (V m c main_v3) (by
    have e : ∀ t : Fin cfg0.N, win0_4.index t = fun _ => 0 := by decide +kernel
    funext a; apply Fin.ext
    fin_cases a <;> blk_simp [e])

theorem V5 : V m c main_arg5 = X5 m c := by
  entry_read
  rfl

theorem ib5 (t : Fin cfg0.N) : iblk m c 5 t = X5 m c := by
  rw [← V5]
  funext y
  blk_simp [iblk]
  exact congrArg (V m c main_arg5) (by
    have e : ∀ t : Fin cfg0.N, win0_5.index t = fun _ => 0 := by decide +kernel
    funext a; apply Fin.ext
    fin_cases a <;> blk_simp [e])

theorem V6 : V m c main_arg6 = X6 m c := by
  entry_read
  rfl

theorem ib6 (t : Fin cfg0.N) : iblk m c 6 t = X6 m c := by
  rw [← V6]
  funext y
  blk_simp [iblk]
  exact congrArg (V m c main_arg6) (by
    have e : ∀ t : Fin cfg0.N, win0_6.index t = fun _ => 0 := by decide +kernel
    funext a; apply Fin.ext
    fin_cases a <;> blk_simp [e])

attribute [local irreducible] sc kvSpec sq zq kr vr ySpec cf Y T

theorem arr7 : (dats m 0 c).arrAt 7 cfg0.N = fun j => Ideal.fptosi 8 (cf (X0 m c) (X1 m c) (j 0) (j 1)) := by
  refine (dats m 0 c).arrAt_eq_of_after_last 7 ⟨0, by decide⟩ (by decide +kernel) _ fun y => ?_
  rw [after0_7, ib0, ib1, ib2, ib3, ib4, ib5, ib6, ref7]
  rfl

theorem arr8 : (dats m 0 c).arrAt 8 cfg0.N = fun j => sc (X0 m c) (X1 m c) (j 1) := by
  refine (dats m 0 c).arrAt_eq_of_after_last 8 ⟨0, by decide⟩ (by decide +kernel) _ fun y => ?_
  rw [after0_8, ib0, ib1, ib2, ib3, ib4, ib5, ib6, ref8]
  rfl

theorem arr9 : (dats m 0 c).arrAt 9 cfg0.N = fun j => kvSpec (X0 m c) (X1 m c) (X2 m c) (X3 m c) (X4 m c) (X5 m c) (X6 m c) (j 0) (j 1) (j 2) := by
  refine (dats m 0 c).arrAt_eq_of_after_last 9 ⟨0, by decide⟩ (by decide +kernel) _ fun y => ?_
  rw [after0_9, ib0, ib1, ib2, ib3, ib4, ib5, ib6, ref9]
  rfl

theorem arr10 : (dats m 0 c).arrAt 10 cfg0.N = fun j => sq (kr (X0 m c) (X1 m c) (X2 m c) (X3 m c) (X4 m c) (X5 m c) (X6 m c) (j 1) (j 0)) := by
  refine (dats m 0 c).arrAt_eq_of_after_last 10 ⟨0, by decide⟩ (by decide +kernel) _ fun y => ?_
  rw [after0_10, ib0, ib1, ib2, ib3, ib4, ib5, ib6, ref10]
  rfl

theorem arr11 : (dats m 0 c).arrAt 11 cfg0.N = fun j => zq (kr (X0 m c) (X1 m c) (X2 m c) (X3 m c) (X4 m c) (X5 m c) (X6 m c) (j 1) (j 0)) := by
  refine (dats m 0 c).arrAt_eq_of_after_last 11 ⟨0, by decide⟩ (by decide +kernel) _ fun y => ?_
  rw [after0_11, ib0, ib1, ib2, ib3, ib4, ib5, ib6, ref11]
  rfl

theorem arr12 : (dats m 0 c).arrAt 12 cfg0.N = fun j => sq (vr (X0 m c) (X1 m c) (X2 m c) (X3 m c) (X4 m c) (X5 m c) (X6 m c) (j 1) (j 0)) := by
  refine (dats m 0 c).arrAt_eq_of_after_last 12 ⟨0, by decide⟩ (by decide +kernel) _ fun y => ?_
  rw [after0_12, ib0, ib1, ib2, ib3, ib4, ib5, ib6, ref12]
  rfl

theorem arr13 : (dats m 0 c).arrAt 13 cfg0.N = fun j => zq (vr (X0 m c) (X1 m c) (X2 m c) (X3 m c) (X4 m c) (X5 m c) (X6 m c) (j 1) (j 0)) := by
  refine (dats m 0 c).arrAt_eq_of_after_last 13 ⟨0, by decide⟩ (by decide +kernel) _ fun y => ?_
  rw [after0_13, ib0, ib1, ib2, ib3, ib4, ib5, ib6, ref13]
  rfl

theorem arr14 : (dats m 0 c).arrAt 14 cfg0.N = fun j => ySpec (X0 m c) (X1 m c) (X2 m c) (X3 m c) (X4 m c) (X5 m c) (X6 m c) (j 0) (j 1) := by
  refine (dats m 0 c).arrAt_eq_of_after_last 14 ⟨0, by decide⟩ (by decide +kernel) _ fun y => ?_
  rw [after0_14, ib0, ib1, ib2, ib3, ib4, ib5, ib6, ref14]
  rfl

end Cert.Spec
-- ==== Proof.KernelVal1.lean ====
/-
  The projection loop's arithmetic at an index: the nibbles unpacked through 32-bit words, the scaled and centred product, and the
  rotation by the half-width lane roll.
-/
module

public import proofs.«01_k».proof.Proof.Gen.KernelIdeal.Skeleton
public import proofs.«01_k».proof.Proof.RefValue
public import Idealize.ShloMosaic.Lib.BitcastFour
public import Idealize.ShloMosaic.Lib.BitcastPair

@[expose] public section

set_option maxRecDepth 16384

noncomputable section

namespace Cert.Spec

open Cert.KernelIdeal Cert.KernelIdeal.Gen Idealize.ShloMosaic

theorem mask_bit : ∀ r : Fin 32, (252645135#32).getLsbD r.val = decide (r.val % 8 < 4) := by decide
theorem nib_bit : ∀ q : Fin 8, (15#8).getLsbD q.val = decide (q.val < 4) := by decide

/-- Bit `q` of byte row `x` of words read back as bytes. -/
theorem bytes_bit (V : IVec S896x512 32) (h' : S896x512.Bitcasts 32 S3584x512 8) (x : Fin 3584) (n : Fin 512) (q : ℕ) (hq : q < 8) :
    (bitcast S3584x512 8 V h' (ix2 x n)).getLsbD q = (V (ix2 ⟨x.val / 4, by omega⟩ n)).getLsbD (x.val % 4 * 8 + q) := by
  rw [bitcast_getLsbD V h' _ q hq (by decide)]
  have hrow : S3584x512.row (ix2 x n) = x.val := rfl
  congr 2
  · funext c
    match c with
    | ⟨0, _⟩ => exact Fin.ext ((h'.srcIdx_row _ _ _ ⟨0, Nat.zero_lt_two⟩ rfl).trans (by rw [hrow]; show _ = x.val / 4; omega))
    | ⟨1, _⟩ => exact Fin.ext (h'.srcIdx_other _ _ _ ⟨1, Nat.one_lt_two⟩ (by show ¬ 1 + 2 = 2; omega))
  · rw [hrow]; omega

/-- Bit `r` of the word row `x / 4` made of bytes. -/
theorem words_bit (W : IVec S3584x512 8) (h : S3584x512.Bitcasts 8 S896x512 32) (x : Fin 3584) (n : Fin 512) (q : ℕ) (hq : q < 8) :
    (bitcast S896x512 32 W h (ix2 ⟨x.val / 4, by omega⟩ n)).getLsbD (x.val % 4 * 8 + q) = (W (ix2 x n)).getLsbD q := by
  rw [ix2_eq_valueIdx, ix2_eq_valueIdx]
  rw [bitcast_8_32_getLsbD_ix2 W h _ n _ (by omega) x (by show x.val = 4 * (x.val / 4) + _; omega)]
  congr 1; omega

theorem byte_lo (W : IVec S3584x512 8) (h : S3584x512.Bitcasts 8 S896x512 32) (h' : S896x512.Bitcasts 32 S3584x512 8) (x : Fin 3584) (n : Fin 512) :
    bitcast S3584x512 8 (andi (bitcast S896x512 32 W h) (broadcast S896x512 252645135#32)) h' (ix2 x n) = W (ix2 x n) &&& 15#8 := by
  apply BitVec.eq_of_getLsbD_eq
  intro q hq
  rw [bytes_bit _ _ _ _ q hq]
  show (bitcast S896x512 32 W h (ix2 ⟨x.val / 4, _⟩ n) &&& 252645135#32).getLsbD _ = _
  rw [BitVec.getLsbD_and, BitVec.getLsbD_and, words_bit W h x n q hq]
  have e1 := mask_bit ⟨x.val % 4 * 8 + q, by omega⟩
  have e2 := nib_bit ⟨q, hq⟩
  rw [e1, e2]
  congr 2
  apply propext; show (x.val % 4 * 8 + q) % 8 < 4 ↔ q < 4; omega

theorem byte_hi (W : IVec S3584x512 8) (h : S3584x512.Bitcasts 8 S896x512 32) (h' : S896x512.Bitcasts 32 S3584x512 8) (x : Fin 3584) (n : Fin 512) :
    bitcast S3584x512 8 (andi (shrui (bitcast S896x512 32 W h) (broadcast S896x512 4#32)) (broadcast S896x512 252645135#32)) h' (ix2 x n) = W (ix2 x n) >>> 4 := by
  apply BitVec.eq_of_getLsbD_eq
  intro q hq
  rw [bytes_bit _ _ _ _ q hq]
  show ((bitcast S896x512 32 W h (ix2 ⟨x.val / 4, _⟩ n) >>> 4) &&& 252645135#32).getLsbD _ = _
  rw [BitVec.getLsbD_and, BitVec.getLsbD_ushiftRight, BitVec.getLsbD_ushiftRight]
  have e1 := mask_bit ⟨x.val % 4 * 8 + q, by omega⟩
  rw [e1]
  by_cases hq4 : q < 4
  · have e : 4 + (x.val % 4 * 8 + q) = x.val % 4 * 8 + (4 + q) := by omega
    rw [e, words_bit W h x n (4 + q) (by omega)]
    have : decide ((x.val % 4 * 8 + q) % 8 < 4) = true := decide_eq_true (by omega)
    rw [this, Bool.and_true]
  · have : decide ((x.val % 4 * 8 + q) % 8 < 4) = false := decide_eq_false (by omega)
    rw [this, Bool.and_false, BitVec.getLsbD_of_ge _ _ (by omega)]

/-- The projection of one tile's column. -/
theorem pay4_at (l h : Vec Ideal S32x3584 .bf16) (w : Vec Ideal S1x3584x512 .i8) (b : Fin 32) (n : Fin 512) :
    k0_pay4 l h w (ix2 b n) = ∑ x : Fin 3584, l (ix2 b x) * lo (w (ix3 0 x n)) + ∑ x : Fin 3584, h (ix2 b x) * hi (w (ix3 0 x n)) := by
  pointwise [k0_pay4]
  simp only [byte_lo, byte_hi]
  have e1 : ∀ (φ : FTy) (b : BitVec 8), (FloatOps.sitofp φ b : Ideal φ) = ((b.toInt : ℝ) : EReal) := fun _ _ => rfl
  simp only [e1]
  pointwise
  simp only [toInt_lo8, toInt_hi8]
  rfl

/-- A tile's column after the centring and the two scales. -/
def tk (acc : S32x512.Idx → EReal) (o : ℕ) (ho : o + 128 ≤ 512) (wz : S1x1x128.Idx → EReal) (xs1 xs0 : S1x24x128.Idx → EReal) (ws : S1x1x128.Idx → EReal)
    (b : Fin 24) (n : Fin 128) : EReal :=
  (acc (ix2 ⟨b.val, by omega⟩ ⟨o + n.val, by omega⟩) - wz (ix3 0 0 n) * xs1 (ix3 0 b n)) * xs0 (ix3 0 b n) * ws (ix3 0 0 n)

/-- The rotation: the row by the cosines, and the row turned by half its width by the signed sines. -/
def rot (t c s : Fin 128 → EReal) (n : Fin 128) : EReal := t n * c n + t ⟨(n.val + 64) % 128, Nat.mod_lt _ (by decide)⟩ * s n

theorem turn_eq (n : Fin 128) : (n.val + 128 - 64) % 128 = (n.val + 64) % 128 := by omega

section
variable (acc : Vec Ideal S32x512 .f32) (g : BitVec 1) (co si : Vec Ideal S24x128 .f32) (wz ws : Vec Ideal S1x1x128 .f32) (xs1 xs0 : Vec Ideal S1x24x128 .f32)
  (b : Fin 24) (n : Fin 128)

theorem pay8_at : k0_pay8 acc g co si wz xs1 xs0 ws (ix2 b n)
    = rot (tk acc 0 (by decide) wz xs1 xs0 ws b) (fun n => co (ix2 b n)) (fun n => (k0_pay7 (F := Ideal) g si (ix2 b n) : EReal)) n := by
  unfold rot tk
  pointwise [k0_pay8]
  simp only [turn_eq]

theorem pay11_at : k0_pay11 co si (k0_pay9 acc) (k0_pay10 wz) xs1 xs0 ws (ix2 b n)
    = rot (tk acc 128 (by decide) wz xs1 xs0 ws b) (fun n => co (ix2 b n)) (fun n => si (ix2 b n)) n := by
  unfold rot tk
  pointwise [k0_pay11, k0_pay9, k0_pay10]
  simp only [turn_eq]

theorem pay13_at : k0_pay13 co si (k0_pay12 acc wz xs1 xs0 ws) (ix2 b n)
    = rot (tk acc 256 (by decide) wz xs1 xs0 ws b) (fun n => co (ix2 b n)) (fun n => si (ix2 b n)) n := by
  unfold rot tk
  pointwise [k0_pay13, k0_pay12]
  simp only [turn_eq]

theorem pay14_at : k0_pay14 acc co si wz xs1 xs0 ws (ix2 b n)
    = rot (tk acc 384 (by decide) wz xs1 xs0 ws b) (fun n => co (ix2 b n)) (fun n => si (ix2 b n)) n := by
  unfold rot tk
  pointwise [k0_pay14]
  simp only [turn_eq]
end

theorem pay5_at (k : Fin k0_t1_loop.trips) (v : Vec Ideal S1x24x128 .f32) (b : Fin 24) (n : Fin 128) :
    k0_pay5 0#32 1#32 k v (ix2 b n) = if k.val < 16 then v (ix3 0 b n) else 1 := by
  pointwise [k0_pay5]
  have : ∀ k : Fin k0_t1_loop.trips, Scalar.cmpi .slt (Scf.iv 0#32 1#32 ↑k) 16#32 = if k.val < 16 then 1#1 else 0#1 := by decide +kernel
  rw [this]
  split <;> rfl

theorem pay7_at (k : Fin k0_t1_loop.trips) (v : Vec Ideal S1x24x128 .f32) (b : Fin 24) (n : Fin 128) :
    k0_pay7 (Scalar.cmpi .slt (Scf.iv 0#32 1#32 ↑k) 16#32) (k0_pay6 v) (ix2 b n) = if k.val < 16 then v (ix3 0 b n) else 0 := by
  have : ∀ k : Fin k0_t1_loop.trips, Scalar.cmpi .slt (Scf.iv 0#32 1#32 ↑k) 16#32 = if k.val < 16 then 1#1 else 0#1 := by decide +kernel
  rw [this]
  pointwise [k0_pay7, k0_pay6]
  split <;> pointwise <;> rfl

section
variable (x0 : Vec Ideal S20x7168 .bf16) (x1 : Vec Ideal S1x7168 .f32) (x2 : Vec Ideal S3584x9216 .i8) (x3 x4 : Vec Ideal Cert.ReferenceIdeal.S1x9216 .f32)
  (x5 x6 : Vec Ideal S20x1x64 .f32)

theorem tk_eq (h : Fin 72) (k r : ℕ) (hr : r < 4) (hk : k < 18) (hkr : h.val = 4 * k + r) (b : Fin 24) (acc : S32x512.Idx → EReal) (o : ℕ) (ho : o = 128 * r)
    (wz ws : S1x1x128.Idx → EReal) (xs1 xs0 : S1x24x128.Idx → EReal)
    (hacc : ∀ n : Fin 512, acc (ix2 ⟨b.val, by omega⟩ n) = if hb : b.val < 20 then
      ∑ x : Fin 3584, cf x0 x1 ⟨b.val, hb⟩ ⟨x.val, by omega⟩ * lo (x2 (ix2 x ⟨512 * k + n.val, by omega⟩))
        + ∑ x : Fin 3584, cf x0 x1 ⟨b.val, hb⟩ ⟨3584 + x.val, by omega⟩ * hi (x2 (ix2 x ⟨512 * k + n.val, by omega⟩)) else 0)
    (hwz : ∀ n, wz (ix3 0 0 n) = x4 (ix2 0 ⟨h.val * 128 + n.val, by omega⟩))
    (hws : ∀ n, ws (ix3 0 0 n) = x3 (ix2 0 ⟨h.val * 128 + n.val, by omega⟩))
    (hx1 : ∀ n, xs1 (ix3 0 b n) = if hb : b.val < 20 then ∑ x : Fin 7168, cf x0 x1 ⟨b.val, hb⟩ x else 0)
    (hx0 : ∀ n, xs0 (ix3 0 b n) = if hb : b.val < 20 then sc x0 x1 ⟨b.val, hb⟩ else 0) (n : Fin 128) :
    tk acc o (by omega) wz xs1 xs0 ws b n = if hb : b.val < 20 then T x0 x1 x2 x3 x4 ⟨b.val, hb⟩ ⟨h.val * 128 + n.val, by omega⟩ else 0 := by
  unfold tk T
  rw [hacc, hwz, hws, hx1, hx0]
  have e : (⟨512 * k + (o + n.val), by omega⟩ : Fin 9216) = ⟨h.val * 128 + n.val, by omega⟩ := Fin.ext (by show 512 * k + (o + n.val) = h.val * 128 + n.val; omega)
  by_cases hb : b.val < 20
  · simp only [dif_pos hb, e]
  · simp only [dif_neg hb, mul_zero, zero_mul]

theorem rot_eq (h : Fin 72) (b : Fin 24) (t c s : Fin 128 → EReal)
    (ht : ∀ n, t n = if hb : b.val < 20 then T x0 x1 x2 x3 x4 ⟨b.val, hb⟩ ⟨h.val * 128 + n.val, by omega⟩ else 0)
    (hc : ∀ n : Fin 128, c n = if h.val < 64 then (if hb : b.val < 20 then x5 (ix3 ⟨b.val, hb⟩ 0 ⟨n.val % 64, by omega⟩) else 0) else 1)
    (hs : ∀ n : Fin 128, s n = if h.val < 64 then (if hb : b.val < 20 then (if n.val < 64 then 0 - x6 (ix3 ⟨b.val, hb⟩ 0 ⟨n.val % 64, by omega⟩) else x6 (ix3 ⟨b.val, hb⟩ 0 ⟨n.val % 64, by omega⟩)) else 0) else 0)
    (n : Fin 128) :
    rot t c s n = if hb : b.val < 20 then Y x0 x1 x2 x3 x4 x5 x6 ⟨b.val, hb⟩ h n else 0 := by
  unfold rot Y
  rw [ht, ht, hc, hs]
  by_cases hb : b.val < 20
  · simp only [dif_pos hb]
    by_cases hh : h.val < 64
    · simp only [if_pos hh]
      by_cases hn : n.val < 64
      · have e1 : (⟨n.val % 64, by omega⟩ : Fin 64) = ⟨n.val, hn⟩ := Fin.ext (Nat.mod_eq_of_lt hn)
        have e2 : (⟨h.val * 128 + (n.val + 64) % 128, by have := h.isLt; omega⟩ : Fin 9216) = ⟨h.val * 128 + (64 + n.val), by have := h.isLt; omega⟩ := Fin.ext (by show h.val * 128 + (n.val + 64) % 128 = h.val * 128 + (64 + n.val); omega)
        simp only [dif_pos hn, if_pos hn, e1, e2, sub_eq_add_neg, zero_add, mul_neg]
      · have e1 : (⟨n.val % 64, by omega⟩ : Fin 64) = ⟨n.val - 64, by omega⟩ := Fin.ext (by show n.val % 64 = n.val - 64; omega)
        have e2 : (⟨h.val * 128 + (n.val + 64) % 128, by have := h.isLt; omega⟩ : Fin 9216) = ⟨h.val * 128 + (n.val - 64), by have := h.isLt; have := n.isLt; omega⟩ := Fin.ext (by show h.val * 128 + (n.val + 64) % 128 = h.val * 128 + (n.val - 64); have := n.isLt; omega)
        simp only [dif_neg hn, if_neg hn, e1, e2]
    · simp only [if_neg hh, mul_one, mul_zero, add_zero]
  · simp only [dif_neg hb, zero_mul, add_zero]
end

end Cert.Spec
-- ==== Proof.KernelVal2.lean ====
/-
  What the projection loop finds in the scratch buffers: the codes with zero rows under them, each row's scale and code sum on every
  lane, and the rotation's cosines and signed sines.
-/
module

public import proofs.«01_k».proof.Proof.KernelVal1
public import proofs.«01_k».proof.Proof.KernelIdealFrame

@[expose] public section

set_option maxRecDepth 16384

noncomputable section

namespace Cert.Spec

open Cert.KernelIdeal Cert.KernelIdeal.Gen Cert.KernelIdeal.Hand Idealize.ShloMosaic

/-- A buffer after writes that agree with `G` where they land, over contents that agree with it elsewhere. -/
theorem read_writes_at {sp : Space} {S : Shape} {e : EltTy} (v : View sig .tc sp S e) (f : v.ty.Contents (Elt Ideal)) (L : List (View.Piece (Elt Ideal) S e))
    (G : S.Idx → Elt Ideal e) (y : S.Idx) (hL : ∀ p ∈ L, ∀ x : p.1.shape.Idx, p.2 x = G (p.1.emb x))
    (hf : (∀ p ∈ L, y ∉ p.1.set) → v.read (Elt Ideal) f y = G y) : v.read (Elt Ideal) (v.writes (Elt Ideal) f L) y = G y := by
  by_cases h : ∃ p ∈ L, y ∈ p.1.set
  · exact View.read_writes_apply_of_pieces v f G L hL y h
  · have h' : ∀ p ∈ L, y ∉ p.1.set := fun p hp hy => h ⟨p, hp, hy⟩
    rw [View.read_writes_apply_of_forall_not_mem v f y L h']
    exact hf h'

section
variable (x0 : Vec Ideal S20x7168 .bf16) (x1 : Vec Ideal S1x7168 .f32)

theorem pay16_eq : k0_pay16 (k0_pay15 x0) x1 = Cert.ReferenceIdeal.Gen.k0_pay7 x0 x1 := rfl
theorem pay17_eq : k0_pay17 (k0_pay15 x0) x1 = Cert.ReferenceIdeal.Gen.k0_pay8 x0 x1 := rfl

theorem pay18_at (b : Fin 20) (i : Fin 7168) : k0_pay18 (k0_pay15 x0) x1 (ix2 b i) = cf x0 x1 b i := by
  pointwise [k0_pay18]
  rw [pay16_eq, pay17_eq]
  unfold cf sc rclip
  rw [show (127#32).toInt = 127 from by decide, show (4294967169#32).toInt = -127 from by decide]

theorem pay21_at (b : Fin 20) (i : Fin 7168) : k0_pay21 (k0_pay15 x0) x1 (ix2 b i) = cf x0 x1 b i := by
  pointwise [k0_pay21]
  exact pay18_at x0 x1 b i

theorem pay24_at (b : Fin 20) (n : Fin 128) : k0_pay24 (k0_pay23 (k0_pay15 x0) x1) (ix3 0 b n) = sc x0 x1 b := by
  pointwise [k0_pay24, k0_pay23]
  rw [pay17_eq]
  rfl

theorem pay25_at (b : Fin 20) (n : Fin 128) : k0_pay25 (k0_pay18 (k0_pay15 x0) x1) (ix3 0 b n) = ∑ i : Fin 7168, cf x0 x1 b i := by
  pointwise [k0_pay25]
  simp only [pay18_at]

/-- The codes' buffer. -/
def G17 (j : S32x7168.Idx) : EReal := if hb : (j 0).val < 20 then cf x0 x1 ⟨(j 0).val, hb⟩ (j 1) else 0
/-- The rows' scales (plane 0) and code sums (plane 1). -/
def G18 (j : S2x24x128.Idx) : EReal := if hb : (j 1).val < 20 then (if (j 0).val = 0 then sc x0 x1 ⟨(j 1).val, hb⟩ else ∑ i : Fin 7168, cf x0 x1 ⟨(j 1).val, hb⟩ i) else 0

theorem read17 (arg17 : Memref sig .tc .vmem S32x7168 .bf16) (f) (h1 h2) (y : S32x7168.Idx) :
    arg17.view.read (Elt Ideal) (arg17.view.writes (Elt Ideal) f [⟨Rect.unit ![0, 0] S20x7168.size h1, k0_pay21 (k0_pay15 x0) x1⟩, ⟨Rect.unit ![0, 0] S32x7168.size h2, k0_pay20 (F := Ideal)⟩]) y
      = G17 x0 x1 y := by
  rw [show ([⟨Rect.unit ![0, 0] S20x7168.size h1, k0_pay21 (k0_pay15 x0) x1⟩, ⟨Rect.unit ![0, 0] S32x7168.size h2, k0_pay20 (F := Ideal)⟩] : List (View.Piece (Elt Ideal) S32x7168 .bf16))
    = [⟨Rect.unit ![0, 0] S20x7168.size h1, k0_pay21 (k0_pay15 x0) x1⟩] ++ [⟨Rect.unit ![0, 0] S32x7168.size h2, k0_pay20 (F := Ideal)⟩] from rfl, View.writes_append]
  refine read_writes_at (e := .bf16) _ _ _ (G17 x0 x1) y ?_ ?_
  · intro p hp x
    obtain rfl := List.mem_singleton.mp hp
    have hx : (x 0).val < 20 := (x 0).isLt
    have hx1 : (x 1).val < 7168 := (x 1).isLt
    have e : x = ix2 ⟨(x 0).val, hx⟩ ⟨(x 1).val, hx1⟩ := eq_ix2 x
    have e0 : ((Rect.unit (s := S32x7168) ![0, 0] S20x7168.size h1).emb x 0).val = (x 0).val := by show 0 + 1 * (x 0).val = _; omega
    have e1 : ((Rect.unit (s := S32x7168) ![0, 0] S20x7168.size h1).emb x 1).val = (x 1).val := by show 0 + 1 * (x 1).val = _; omega
    unfold G17
    rw [dif_pos (by rw [e0]; exact hx)]
    refine (congrArg (k0_pay21 (k0_pay15 x0) x1) e).trans ((pay21_at x0 x1 _ _).trans ?_)
    congr 1
    · exact Fin.ext e0.symm
    · exact Fin.ext e1.symm
  · intro hn
    have hb : ¬ (y 0).val < 20 := by
      intro hb
      refine hn _ (List.mem_singleton_self _) ?_
      rw [Rect.mem_set_unit]
      intro a
      fin_cases a
      · show 0 ≤ (y 0).val ∧ (y 0).val < 0 + 20; omega
      · have := (y 1).isLt; show 0 ≤ (y 1).val ∧ (y 1).val < 0 + 7168; exact ⟨Nat.zero_le _, by simpa using this⟩
    refine (View.read_writes_cons_hit_of_coords _ _ _ _ _ y y (fun a => ?_)).trans ?_
    · fin_cases a
      · show (y 0).val = 0 + 1 * (y 0).val; omega
      · show (y 1).val = 0 + 1 * (y 1).val; omega
    · unfold G17; rw [dif_neg hb]
      show Ideal.ofBits .bf16 0#16 = 0
      exact (by simp)

theorem read18 (arg18 : Memref sig .tc .vmem S2x24x128 .f32) (f) (h1 h2 h3) (y : S2x24x128.Idx) :
    arg18.view.read (Elt Ideal) (arg18.view.writes (Elt Ideal) f [⟨Rect.unit ![1, 0, 0] S1x20x128.size h1, k0_pay25 (k0_pay18 (k0_pay15 x0) x1)⟩,
        ⟨Rect.unit ![0, 0, 0] S1x20x128.size h2, k0_pay24 (k0_pay23 (k0_pay15 x0) x1)⟩, ⟨Rect.unit ![0, 0, 0] S2x24x128.size h3, k0_pay22 (F := Ideal)⟩]) y
      = G18 x0 x1 y := by
  rw [show ([⟨Rect.unit ![1, 0, 0] S1x20x128.size h1, k0_pay25 (k0_pay18 (k0_pay15 x0) x1)⟩,
        ⟨Rect.unit ![0, 0, 0] S1x20x128.size h2, k0_pay24 (k0_pay23 (k0_pay15 x0) x1)⟩, ⟨Rect.unit ![0, 0, 0] S2x24x128.size h3, k0_pay22 (F := Ideal)⟩] : List (View.Piece (Elt Ideal) S2x24x128 .f32))
    = [⟨Rect.unit ![1, 0, 0] S1x20x128.size h1, k0_pay25 (k0_pay18 (k0_pay15 x0) x1)⟩,
        ⟨Rect.unit ![0, 0, 0] S1x20x128.size h2, k0_pay24 (k0_pay23 (k0_pay15 x0) x1)⟩] ++ [⟨Rect.unit ![0, 0, 0] S2x24x128.size h3, k0_pay22 (F := Ideal)⟩] from rfl, View.writes_append]
  refine read_writes_at (e := .f32) _ _ _ (G18 x0 x1) y ?_ ?_
  · intro p hp x
    rcases List.mem_cons.mp hp with rfl | hp
    · have hx0 : (x 0).val < 1 := (x 0).isLt
      have hx1 : (x 1).val < 20 := (x 1).isLt
      have hx2 : (x 2).val < 128 := (x 2).isLt
      have e : x = ix3 0 ⟨(x 1).val, hx1⟩ ⟨(x 2).val, hx2⟩ := (eq_ix3 x).trans (by congr 1; exact Fin.ext (by show (x 0).val = 0; omega))
      have e0 : ((Rect.unit (s := S2x24x128) ![1, 0, 0] S1x20x128.size h1).emb x 0).val = 1 := by show 1 + 1 * (x 0).val = _; omega
      have e1 : ((Rect.unit (s := S2x24x128) ![1, 0, 0] S1x20x128.size h1).emb x 1).val = (x 1).val := by show 0 + 1 * (x 1).val = _; omega
      unfold G18
      rw [dif_pos (by rw [e1]; exact hx1), if_neg (by rw [e0]; decide)]
      refine (congrArg (k0_pay25 (k0_pay18 (k0_pay15 x0) x1)) e).trans ((pay25_at x0 x1 _ _).trans ?_)
      exact Finset.sum_congr rfl fun i _ => congrArg (fun b => cf x0 x1 b i) (Fin.ext e1.symm)
    · obtain rfl := List.mem_singleton.mp hp
      have hx0 : (x 0).val < 1 := (x 0).isLt
      have hx1 : (x 1).val < 20 := (x 1).isLt
      have hx2 : (x 2).val < 128 := (x 2).isLt
      have e : x = ix3 0 ⟨(x 1).val, hx1⟩ ⟨(x 2).val, hx2⟩ := (eq_ix3 x).trans (by congr 1; exact Fin.ext (by show (x 0).val = 0; omega))
      have e0 : ((Rect.unit (s := S2x24x128) ![0, 0, 0] S1x20x128.size h2).emb x 0).val = 0 := by show 0 + 1 * (x 0).val = _; omega
      have e1 : ((Rect.unit (s := S2x24x128) ![0, 0, 0] S1x20x128.size h2).emb x 1).val = (x 1).val := by show 0 + 1 * (x 1).val = _; omega
      unfold G18
      rw [dif_pos (by rw [e1]; exact hx1)]
      have q : k0_pay24 (k0_pay23 (k0_pay15 x0) x1) x = sc x0 x1 ⟨(x 1).val, hx1⟩ :=
        (congrArg (k0_pay24 (k0_pay23 (k0_pay15 x0) x1)) e).trans (pay24_at x0 x1 ⟨(x 1).val, hx1⟩ ⟨(x 2).val, hx2⟩)
      refine Eq.trans ?_ (if_pos e0).symm
      dsimp only
      rw [q]
      exact congrArg (sc x0 x1) (Fin.ext e1.symm)
  · intro hn
    have hy0 : (y 0).val < 2 := (y 0).isLt
    have hy2 : (y 2).val < 128 := (y 2).isLt
    have hb : ¬ (y 1).val < 20 := by
      intro hb
      by_cases h0 : (y 0).val = 0
      · refine hn _ (List.mem_cons_of_mem _ (List.mem_singleton_self _)) ?_
        rw [Rect.mem_set_unit]
        intro a
        fin_cases a
        · show 0 ≤ (y 0).val ∧ (y 0).val < 0 + 1; omega
        · show 0 ≤ (y 1).val ∧ (y 1).val < 0 + 20; omega
        · show 0 ≤ (y 2).val ∧ (y 2).val < 0 + 128; omega
      · refine hn _ List.mem_cons_self ?_
        rw [Rect.mem_set_unit]
        intro a
        fin_cases a
        · show 1 ≤ (y 0).val ∧ (y 0).val < 1 + 1; omega
        · show 0 ≤ (y 1).val ∧ (y 1).val < 0 + 20; omega
        · show 0 ≤ (y 2).val ∧ (y 2).val < 0 + 128; omega
    refine (View.read_writes_cons_hit_of_coords _ _ _ _ _ y y (fun a => ?_)).trans ?_
    · fin_cases a
      · show (y 0).val = 0 + 1 * (y 0).val; omega
      · show (y 1).val = 0 + 1 * (y 1).val; omega
      · show (y 2).val = 0 + 1 * (y 2).val; omega
    · unfold G18; rw [dif_neg hb]
      show Ideal.ofBits .f32 0#32 = 0
      exact (by simp)
end

section
variable (x5 x6 : Vec Ideal S20x1x64 .f32)

theorem pay31_at (v : Vec Ideal S1x1x64 .f32) (n : Fin 128) : k0_pay31 v (ix3 0 0 n) = v (ix3 0 0 ⟨n.val % 64, by omega⟩) := by
  pointwise [k0_pay31]
  by_cases h : n.val < 64
  · rw [dif_pos h]; congr 2; exact Fin.ext (by show n.val = n.val % 64; omega)
  · rw [dif_neg h]; congr 2; exact Fin.ext (by have := n.isLt; show n.val - 64 = n.val % 64; omega)

theorem pay32_at (v : Vec Ideal S1x1x64 .f32) (n : Fin 128) :
    k0_pay32 v (ix3 0 0 n) = if n.val < 64 then 0 - v (ix3 0 0 ⟨n.val % 64, by omega⟩) else v (ix3 0 0 ⟨n.val % 64, by omega⟩) := by
  pointwise [k0_pay32]
  by_cases h : n.val < 64
  · rw [dif_pos h, if_pos h]; congr 3; exact Fin.ext (by show n.val = n.val % 64; omega)
  · rw [dif_neg h, if_neg h]; congr 2; exact Fin.ext (by have := n.isLt; show n.val - 64 = n.val % 64; omega)

/-- The rotation's cosines (plane 0) and signed sines (plane 1), each over both halves of a row. -/
def G19 (j : S2x24x128.Idx) : EReal :=
  if hb : (j 1).val < 20 then
    (if (j 0).val = 0 then x5 (ix3 ⟨(j 1).val, hb⟩ 0 ⟨(j 2).val % 64, by omega⟩)
      else if (j 2).val < 64 then 0 - x6 (ix3 ⟨(j 1).val, hb⟩ 0 ⟨(j 2).val % 64, by omega⟩) else x6 (ix3 ⟨(j 1).val, hb⟩ 0 ⟨(j 2).val % 64, by omega⟩))
  else 0

theorem inbC (k : Fin 20) : ∀ a, (![0, k.val, 0] : Fin 3 → ℕ) a + S1x1x128.size a ≤ S2x24x128.size a := by revert k; decide
theorem inbS (k : Fin 20) : ∀ a, (![1, k.val, 0] : Fin 3 → ℕ) a + S1x1x128.size a ≤ S2x24x128.size a := by revert k; decide
theorem inbR (k : Fin 20) : ∀ a, (![k.val, 0, 0] : Fin 3 → ℕ) a + S1x1x64.size a ≤ S20x1x64.size a := by revert k; decide

variable (arg5 arg6 : Memref sig .tc .vmem S20x1x64 .f32)
/-- Row `k`'s cosines and signed sines, as stored. -/
def cosP (k : Fin 20) : View.Piece (Elt Ideal) S2x24x128 .f32 :=
  ⟨Rect.unit ![0, k.val, 0] S1x1x128.size (inbC k), k0_pay31 (F := Ideal) (View.readAt (Elt Ideal) arg5.view (Rect.unit (s := S20x1x64) ![k.val, 0, 0] S1x1x64.size (inbR k)).toLoadRect (arg5.view.rep x5))⟩
def sinP (k : Fin 20) : View.Piece (Elt Ideal) S2x24x128 .f32 :=
  ⟨Rect.unit ![1, k.val, 0] S1x1x128.size (inbS k), k0_pay32 (F := Ideal) (View.readAt (Elt Ideal) arg6.view (Rect.unit (s := S20x1x64) ![k.val, 0, 0] S1x1x64.size (inbR k)).toLoadRect (arg6.view.rep x6))⟩
def rowsP (l : List (Fin 20)) : List (View.Piece (Elt Ideal) S2x24x128 .f32) := l.flatMap fun k => [sinP x6 arg6 k, cosP x5 arg5 k]

theorem mem_rowsP (l : List (Fin 20)) (p) : p ∈ rowsP x5 x6 arg5 arg6 l ↔ ∃ k ∈ l, p = sinP x6 arg6 k ∨ p = cosP x5 arg5 k := by
  unfold rowsP
  rw [List.mem_flatMap]
  refine exists_congr fun k => and_congr_right fun _ => ?_
  rw [List.mem_cons, List.mem_singleton]

theorem row_at (arg : Memref sig .tc .vmem S20x1x64 .f32) (X : Vec Ideal S20x1x64 .f32) (k : Fin 20) (n : Fin 64) :
    View.readAt (Elt Ideal) arg.view (Rect.unit (s := S20x1x64) ![k.val, 0, 0] S1x1x64.size (inbR k)).toLoadRect (arg.view.rep X) (ix3 0 0 n) = X (ix3 k 0 n) := by
  rw [View.readAt_rep]
  show X _ = X _
  congr 1
  funext a
  fin_cases a
  · exact Fin.ext (by show k.val + 1 * 0 = k.val; omega)
  · exact Fin.ext (by show 0 + 1 * 0 = 0; omega)
  · exact Fin.ext (by show 0 + 1 * n.val = n.val; omega)

theorem rowsP_agree (l : List (Fin 20)) : ∀ p ∈ rowsP x5 x6 arg5 arg6 l, ∀ x : p.1.shape.Idx, p.2 x = G19 x5 x6 (p.1.emb x) := by
  intro p hp x
  obtain ⟨k, -, rfl | rfl⟩ := (mem_rowsP x5 x6 arg5 arg6 l p).mp hp
  · have hx0 : (x 0).val < 1 := (x 0).isLt
    have hx1 : (x 1).val < 1 := (x 1).isLt
    have hx2 : (x 2).val < 128 := (x 2).isLt
    have e : x = ix3 0 0 ⟨(x 2).val, hx2⟩ := (eq_ix3 x).trans (by congr 1; exact Fin.ext (by show (x 0).val = 0; omega); exact Fin.ext (by show (x 1).val = 0; omega))
    have e0 : ((sinP x6 arg6 k).1.emb x 0).val = 1 := by show 1 + 1 * (x 0).val = _; omega
    have e1 : ((sinP x6 arg6 k).1.emb x 1).val = k.val := by show k.val + 1 * (x 1).val = _; omega
    have e2 : ((sinP x6 arg6 k).1.emb x 2).val = (x 2).val := by show 0 + 1 * (x 2).val = _; omega
    unfold G19
    rw [dif_pos (by rw [e1]; exact k.isLt), if_neg (by rw [e0]; decide)]
    refine (congrArg (sinP x6 arg6 k).2 e).trans ((pay32_at _ _).trans ?_)
    rw [row_at]
    simp only [e1, e2]
  · have hx0 : (x 0).val < 1 := (x 0).isLt
    have hx1 : (x 1).val < 1 := (x 1).isLt
    have hx2 : (x 2).val < 128 := (x 2).isLt
    have e : x = ix3 0 0 ⟨(x 2).val, hx2⟩ := (eq_ix3 x).trans (by congr 1; exact Fin.ext (by show (x 0).val = 0; omega); exact Fin.ext (by show (x 1).val = 0; omega))
    have e0 : ((cosP x5 arg5 k).1.emb x 0).val = 0 := by show 0 + 1 * (x 0).val = _; omega
    have e1 : ((cosP x5 arg5 k).1.emb x 1).val = k.val := by show k.val + 1 * (x 1).val = _; omega
    have e2 : ((cosP x5 arg5 k).1.emb x 2).val = (x 2).val := by show 0 + 1 * (x 2).val = _; omega
    unfold G19
    rw [dif_pos (by rw [e1]; exact k.isLt), if_pos e0]
    refine (congrArg (cosP x5 arg5 k).2 e).trans ((pay31_at _ _).trans ?_)
    rw [row_at]
    simp only [e1, e2]

theorem rowsP_mem (l : List (Fin 20)) (y : S2x24x128.Idx) (hb : (y 1).val < 20) (hk : (⟨(y 1).val, hb⟩ : Fin 20) ∈ l) : ∃ p ∈ rowsP x5 x6 arg5 arg6 l, y ∈ p.1.set := by
  have hy0 : (y 0).val < 2 := (y 0).isLt
  have hy2 : (y 2).val < 128 := (y 2).isLt
  by_cases h0 : (y 0).val = 0
  · refine ⟨cosP x5 arg5 ⟨(y 1).val, hb⟩, (mem_rowsP x5 x6 arg5 arg6 l _).mpr ⟨_, hk, .inr rfl⟩, ?_⟩
    unfold cosP
    rw [Rect.mem_set_unit]
    intro a
    fin_cases a
    · show 0 ≤ (y 0).val ∧ (y 0).val < 0 + 1; omega
    · show (y 1).val ≤ (y 1).val ∧ (y 1).val < (y 1).val + 1; omega
    · show 0 ≤ (y 2).val ∧ (y 2).val < 0 + 128; omega
  · refine ⟨sinP x6 arg6 ⟨(y 1).val, hb⟩, (mem_rowsP x5 x6 arg5 arg6 l _).mpr ⟨_, hk, .inl rfl⟩, ?_⟩
    unfold sinP
    rw [Rect.mem_set_unit]
    intro a
    fin_cases a
    · show 1 ≤ (y 0).val ∧ (y 0).val < 1 + 1; omega
    · show (y 1).val ≤ (y 1).val ∧ (y 1).val < (y 1).val + 1; omega
    · show 0 ≤ (y 2).val ∧ (y 2).val < 0 + 128; omega

theorem read19 (arg19 : Memref sig .tc .vmem S2x24x128 .f32) (f) (h3) (y : S2x24x128.Idx) :
    arg19.view.read (Elt Ideal) (arg19.view.writes (Elt Ideal) (arg19.view.rep (arg19.view.read (Elt Ideal) (arg19.view.writes (Elt Ideal) f
      (rowsP x5 x6 arg5 arg6 [18, 17, 16, 15, 14, 13, 12, 11, 10, 9, 8, 7, 6, 5, 4, 3, 2, 1, 0] ++ [⟨Rect.unit ![0, 0, 0] S2x24x128.size h3, k0_pay27 (F := Ideal)⟩]))))
      (rowsP x5 x6 arg5 arg6 [19])) y = G19 x5 x6 y := by
  refine read_writes_at (e := .f32) _ _ _ (G19 x5 x6) y (rowsP_agree x5 x6 arg5 arg6 _) ?_
  intro hn
  rw [View.read_rep, View.writes_append]
  refine read_writes_at (e := .f32) _ _ _ (G19 x5 x6) y (rowsP_agree x5 x6 arg5 arg6 _) ?_
  intro hn'
  have hb : ¬ (y 1).val < 20 := by
    intro hb
    by_cases h : (y 1).val = 19
    · obtain ⟨p, hp, hy⟩ := rowsP_mem x5 x6 arg5 arg6 [19] y hb (List.mem_singleton.mpr (Fin.ext h))
      exact hn p hp hy
    · have hk : (⟨(y 1).val, hb⟩ : Fin 20) ∈ ([18, 17, 16, 15, 14, 13, 12, 11, 10, 9, 8, 7, 6, 5, 4, 3, 2, 1, 0] : List (Fin 20)) := by
        have : ∀ k : Fin 20, k.val ≠ 19 → k ∈ ([18, 17, 16, 15, 14, 13, 12, 11, 10, 9, 8, 7, 6, 5, 4, 3, 2, 1, 0] : List (Fin 20)) := by decide
        exact this _ h
      obtain ⟨p, hp, hy⟩ := rowsP_mem x5 x6 arg5 arg6 _ y hb hk
      exact hn' p hp hy
  refine (View.read_writes_cons_hit_of_coords _ _ _ _ _ y y (fun a => ?_)).trans ?_
  · fin_cases a
    · show (y 0).val = 0 + 1 * (y 0).val; omega
    · show (y 1).val = 0 + 1 * (y 1).val; omega
    · show (y 2).val = 0 + 1 * (y 2).val; omega
  · unfold G19; rw [dif_neg hb]
    show Ideal.ofBits .f32 0#32 = 0
    exact (by simp)
end

end Cert.Spec
-- ==== Proof.KernelVal3.lean ====
/-
  The projection's buffer after the loop: row `24 h + b` is row `b` of head `h` after the rotation, zero from row 20 on.
-/
module

public import proofs.«01_k».proof.Proof.KernelVal2

@[expose] public section

set_option maxRecDepth 16384

noncomputable section

namespace Cert.Spec

open Cert.KernelIdeal Cert.KernelIdeal.Gen Cert.KernelIdeal.Hand Idealize.ShloMosaic

theorem hd_lt (h : Fin 72) (d : Fin 128) : h.val * 128 + d.val < 9216 := by omega

theorem off5_eq : ∀ (k : Fin k0_t1_loop.trips) (r : Fin 4), k0_off5 k (BitVec.ofNat 32 r.val) = ![4 * k.val + r.val, 0, 0] := by decide

theorem cast_at (V : Vec Ideal S1x3584x512 .i8) (h : S1x3584x512.ShapeCasts S3584x512) (x : Fin 3584) (n : Fin 512) :
    shapeCast S3584x512 V h (ix2 x n) = V (ix3 0 x n) := by
  pointwise

theorem slot_at (s : Fin 3) (off : Fin 3 → ℕ) (ho : off = slotOff s) (inb : ∀ a, off a + S1x3584x512.size a ≤ S3x3584x512.size a)
    (f : bufM.view.ty.Contents (Elt Ideal)) (w : S3584x512.Idx → Elt Ideal .i8) (x : Fin 3584) (n : Fin 512) :
    View.readAt (Elt Ideal) bufM.view (Rect.unit (s := S3x3584x512) off S1x3584x512.size inb).toLoadRect
      ((rslot s).view.writes (Elt Ideal) f [⟨Rect.whole S3584x512, w⟩]) (ix3 0 x n) = w (ix2 x n) := by
  subst ho
  have h1 := Memref.read_squeeze_slice bufM (Rect.unit (s := S3x3584x512) (slotOff s) S1x3584x512.size (slotOff_inb s)) (fun _ => rfl) squeezes_S1x3584x512_S3584x512
    shapeCasts_S1x3584x512_S3584x512 ((rslot s).view.writes (Elt Ideal) f [⟨Rect.whole S3584x512, w⟩])
  have h2 : (rslot s).view.read (Elt Ideal) ((rslot s).view.writes (Elt Ideal) f [⟨Rect.whole S3584x512, w⟩]) = w := View.read_writes_whole _ _ _
  have h3 := congrFun (h1.symm.trans h2) (ix2 x n)
  exact (cast_at _ _ x n).symm.trans h3

variable (c : Dev nD) (XA : Buf (Elt Ideal) (aM.view.loc (c.tc : Thread nD τ)))

theorem tile_at (k : Fin k0_t1_loop.trips) (x : Fin 3584) (n : Fin 512) :
    tripRun.sl.v1144 c XA k (ix3 0 x n) = (XA : Vec Ideal S3584x9216 .i8) (ix2 x ⟨512 * k.val + n.val, by have := lt18 k; omega⟩) := by
  have hk := lt18 k
  unfold tripRun.sl.v1144
  refine (slot_at _ _ (off4_eq k) _ _ _ x n).trans ?_
  show (XA : Vec Ideal S3584x9216 .i8) _ = (XA : Vec Ideal S3584x9216 .i8) _
  congr 1
  funext a
  fin_cases a
  · exact Fin.ext (by show 0 + 1 * x.val = x.val; omega)
  · exact Fin.ext (by show 512 * (k.val % 18) + 1 * n.val = 512 * k.val + n.val; omega)

variable (arg3 arg4 : Memref sig .tc .vmem S72x1x128 .f32) (arg17 : Memref sig .tc .vmem S32x7168 .bf16) (arg18 arg19 : Memref sig .tc .vmem S2x24x128 .f32)
variable (X3 : Buf (Elt Ideal) (arg3.view.loc (c.tc : Thread nD τ))) (X4 : Buf (Elt Ideal) (arg4.view.loc (c.tc : Thread nD τ)))
  (X17 : Buf (Elt Ideal) (arg17.view.loc (c.tc : Thread nD τ))) (X18 : Buf (Elt Ideal) (arg18.view.loc (c.tc : Thread nD τ))) (X19 : Buf (Elt Ideal) (arg19.view.loc (c.tc : Thread nD τ)))
variable (x0 : Vec Ideal S20x7168 .bf16) (x1 : Vec Ideal S1x7168 .f32) (x3 x4 : Vec Ideal Cert.ReferenceIdeal.S1x9216 .f32)
  (x5 x6 : Vec Ideal S20x1x64 .f32)
  (H3 : ∀ (h : Fin 72) (d : Fin 128), arg3.view.read (Elt Ideal) X3 (ix3 h 0 d) = x3 (ix2 0 ⟨h.val * 128 + d.val, hd_lt h d⟩))
  (H4 : ∀ (h : Fin 72) (d : Fin 128), arg4.view.read (Elt Ideal) X4 (ix3 h 0 d) = x4 (ix2 0 ⟨h.val * 128 + d.val, hd_lt h d⟩))
  (H17 : ∀ y, arg17.view.read (Elt Ideal) X17 y = G17 x0 x1 y)
  (H18 : ∀ y, arg18.view.read (Elt Ideal) X18 y = G18 x0 x1 y)
  (H19 : ∀ y, arg19.view.read (Elt Ideal) X19 y = G19 x5 x6 y)

include H17 in
theorem acc_at (k : Fin k0_t1_loop.trips) (b : Fin 24) (n : Fin 512) :
    tripRun.sl.r c XA arg17 X17 k (ix2 ⟨b.val, by omega⟩ n) = if hb : b.val < 20 then
      ∑ x : Fin 3584, cf x0 x1 ⟨b.val, hb⟩ ⟨x.val, by omega⟩ * lo ((XA : Vec Ideal S3584x9216 .i8) (ix2 x ⟨512 * k.val + n.val, by have := lt18 k; omega⟩))
        + ∑ x : Fin 3584, cf x0 x1 ⟨b.val, hb⟩ ⟨3584 + x.val, by omega⟩ * hi ((XA : Vec Ideal S3584x9216 .i8) (ix2 x ⟨512 * k.val + n.val, by have := lt18 k; omega⟩)) else 0 := by
  unfold tripRun.sl.r
  rw [pay4_at]
  have el : ∀ (x : Fin 3584), View.readAt (Elt Ideal) arg17.view (Rect.unit (s := S32x7168) ![0, 0] S32x3584.size inb_S32x7168_S32x3584_0_0).toLoadRect X17 (ix2 ⟨b.val, by omega⟩ x)
      = if hb : b.val < 20 then cf x0 x1 ⟨b.val, hb⟩ ⟨x.val, by omega⟩ else 0 := by
    intro x
    rw [View.readAt_apply, H17]
    unfold G17
    have e0 : ∀ h, (((Rect.unit (s := S32x7168) ![0, 0] S32x3584.size inb_S32x7168_S32x3584_0_0).toLoadRect.idx (ix2 (⟨b.val, h⟩ : Fin 32) x)) 0).val = b.val := fun h => by show 0 + 1 * b.val = b.val; omega
    have e1 : ∀ h, (((Rect.unit (s := S32x7168) ![0, 0] S32x3584.size inb_S32x7168_S32x3584_0_0).toLoadRect.idx (ix2 (⟨b.val, h⟩ : Fin 32) x)) 1) = ⟨x.val, by show x.val < 7168; omega⟩ := fun h => Fin.ext (by show 0 + 1 * x.val = x.val; omega)
    by_cases hb : b.val < 20
    · rw [dif_pos hb, dif_pos (by rw [e0]; exact hb), e1]
      congr 1
      exact Fin.ext (e0 _)
    · rw [dif_neg hb, dif_neg (by rw [e0]; exact hb)]
  have eh : ∀ (x : Fin 3584), View.readAt (Elt Ideal) arg17.view (Rect.unit (s := S32x7168) ![0, 3584] S32x3584.size inb_S32x7168_S32x3584_0_3584).toLoadRect X17 (ix2 ⟨b.val, by omega⟩ x)
      = if hb : b.val < 20 then cf x0 x1 ⟨b.val, hb⟩ ⟨3584 + x.val, by omega⟩ else 0 := by
    intro x
    rw [View.readAt_apply, H17]
    unfold G17
    have e0 : ∀ h, (((Rect.unit (s := S32x7168) ![0, 3584] S32x3584.size inb_S32x7168_S32x3584_0_3584).toLoadRect.idx (ix2 (⟨b.val, h⟩ : Fin 32) x)) 0).val = b.val := fun h => by show 0 + 1 * b.val = b.val; omega
    have e1 : ∀ h, (((Rect.unit (s := S32x7168) ![0, 3584] S32x3584.size inb_S32x7168_S32x3584_0_3584).toLoadRect.idx (ix2 (⟨b.val, h⟩ : Fin 32) x)) 1) = ⟨3584 + x.val, by show 3584 + x.val < 7168; omega⟩ := fun h => Fin.ext (by show 3584 + 1 * x.val = 3584 + x.val; omega)
    by_cases hb : b.val < 20
    · rw [dif_pos hb, dif_pos (by rw [e0]; exact hb), e1]
      congr 1
      exact Fin.ext (e0 _)
    · rw [dif_neg hb, dif_neg (by rw [e0]; exact hb)]
  simp only [el, eh, tile_at]
  by_cases hb : b.val < 20
  · simp only [dif_pos hb]
  · simp only [dif_neg hb, zero_mul, Finset.sum_const_zero, add_zero]

include H18 in
theorem x18_at (p : Fin 2) (off : Fin 3 → ℕ) (ho : off = ![p.val, 0, 0]) (inb : ∀ a, off a + S1x24x128.size a ≤ S2x24x128.size a) (b : Fin 24) (n : Fin 128) :
    View.readAt (Elt Ideal) arg18.view (Rect.unit (s := S2x24x128) off S1x24x128.size inb).toLoadRect X18 (ix3 0 b n)
      = if hb : b.val < 20 then (if p.val = 0 then sc x0 x1 ⟨b.val, hb⟩ else ∑ i : Fin 7168, cf x0 x1 ⟨b.val, hb⟩ i) else 0 := by
  subst ho
  rw [View.readAt_apply, H18]
  have e : (Rect.unit (s := S2x24x128) ![p.val, 0, 0] S1x24x128.size inb).toLoadRect.idx (ix3 0 b n) = (ix3 p b n : S2x24x128.Idx) := by
    funext a
    fin_cases a
    · exact Fin.ext (by show p.val + 1 * 0 = p.val; omega)
    · exact Fin.ext (by show 0 + 1 * b.val = b.val; omega)
    · exact Fin.ext (by show 0 + 1 * n.val = n.val; omega)
  rw [e]
  rfl

include H19 in
theorem x19_at (p : Fin 2) (off : Fin 3 → ℕ) (ho : off = ![p.val, 0, 0]) (inb : ∀ a, off a + S1x24x128.size a ≤ S2x24x128.size a) (b : Fin 24) (n : Fin 128) :
    View.readAt (Elt Ideal) arg19.view (Rect.unit (s := S2x24x128) off S1x24x128.size inb).toLoadRect X19 (ix3 0 b n)
      = if hb : b.val < 20 then (if p.val = 0 then x5 (ix3 ⟨b.val, hb⟩ 0 ⟨n.val % 64, by omega⟩)
      else if n.val < 64 then 0 - x6 (ix3 ⟨b.val, hb⟩ 0 ⟨n.val % 64, by omega⟩) else x6 (ix3 ⟨b.val, hb⟩ 0 ⟨n.val % 64, by omega⟩)) else 0 := by
  subst ho
  rw [View.readAt_apply, H19]
  have e : (Rect.unit (s := S2x24x128) ![p.val, 0, 0] S1x24x128.size inb).toLoadRect.idx (ix3 0 b n) = (ix3 p b n : S2x24x128.Idx) := by
    funext a
    fin_cases a
    · exact Fin.ext (by show p.val + 1 * 0 = p.val; omega)
    · exact Fin.ext (by show 0 + 1 * b.val = b.val; omega)
    · exact Fin.ext (by show 0 + 1 * n.val = n.val; omega)
  rw [e]
  rfl

/-- A head's row of a per-column vector. -/
theorem w_at (arg : Memref sig .tc .vmem S72x1x128 .f32) (X : Buf (Elt Ideal) (arg.view.loc (c.tc : Thread nD τ))) (x : Vec Ideal Cert.ReferenceIdeal.S1x9216 .f32)
    (H : ∀ (h : Fin 72) (d : Fin 128), arg.view.read (Elt Ideal) X (ix3 h 0 d) = x (ix2 0 ⟨h.val * 128 + d.val, hd_lt h d⟩)) (h : Fin 72)
    (off : Fin 3 → ℕ) (ho : off = ![h.val, 0, 0]) (inb : ∀ a, off a + S1x1x128.size a ≤ S72x1x128.size a) (n : Fin 128) :
    View.readAt (Elt Ideal) arg.view (Rect.unit (s := S72x1x128) off S1x1x128.size inb).toLoadRect X (ix3 0 0 n) = x (ix2 0 ⟨h.val * 128 + n.val, by omega⟩) := by
  subst ho
  rw [View.readAt_apply, ← H]
  have e : (Rect.unit (s := S72x1x128) ![h.val, 0, 0] S1x1x128.size inb).toLoadRect.idx (ix3 0 0 n) = (ix3 h 0 n : S72x1x128.Idx) := by
    funext a
    fin_cases a
    · exact Fin.ext (by show h.val + 1 * 0 = h.val; omega)
    · exact Fin.ext (by show 0 + 1 * 0 = 0; omega)
    · exact Fin.ext (by show 0 + 1 * n.val = n.val; omega)
  rw [e]

include H19 in
theorem cos_at (k : Fin k0_t1_loop.trips) (h : Fin 72) (r : Fin 4) (hh : h.val = 4 * k.val + r.val) (b : Fin 24) (n : Fin 128) :
    tripRun.sl.r_1 c arg19 X19 k (ix2 b n) = if h.val < 64 then (if hb : b.val < 20 then x5 (ix3 ⟨b.val, hb⟩ 0 ⟨n.val % 64, by omega⟩) else 0) else 1 := by
  unfold tripRun.sl.r_1
  rw [pay5_at, x19_at c arg19 X19 x5 x6 H19 0 ![0, 0, 0] rfl]
  have : (k.val < 16) = (h.val < 64) := propext (by have := r.isLt; omega)
  simp only [this]
  rfl

include H19 in
theorem sin_at (k : Fin k0_t1_loop.trips) (h : Fin 72) (r : Fin 4) (hh : h.val = 4 * k.val + r.val) (b : Fin 24) (n : Fin 128) :
    tripRun.sl.r_3 c arg19 X19 k (ix2 b n) = if h.val < 64 then (if hb : b.val < 20 then (if n.val < 64 then 0 - x6 (ix3 ⟨b.val, hb⟩ 0 ⟨n.val % 64, by omega⟩)
      else x6 (ix3 ⟨b.val, hb⟩ 0 ⟨n.val % 64, by omega⟩)) else 0) else 0 := by
  unfold tripRun.sl.r_3 tripRun.sl.r_2
  refine (pay7_at k _ b n).trans ?_
  rw [x19_at c arg19 X19 x5 x6 H19 1 ![1, 0, 0] rfl]
  have : (k.val < 16) = (h.val < 64) := propext (by have := r.isLt; omega)
  simp only [this]
  rfl

include H18 in
theorem codes_at (b : Fin 24) (n : Fin 128) :
    View.readAt (Elt Ideal) arg18.view (Rect.unit (s := S2x24x128) ![1, 0, 0] S1x24x128.size inb_S2x24x128_S1x24x128_1_0_0).toLoadRect X18 (ix3 0 b n)
      = if hb : b.val < 20 then ∑ i : Fin 7168, cf x0 x1 ⟨b.val, hb⟩ i else 0 :=
  (x18_at c arg18 X18 x0 x1 H18 1 ![1, 0, 0] rfl _ b n).trans (by simp)
include H18 in
theorem scales_at (b : Fin 24) (n : Fin 128) :
    View.readAt (Elt Ideal) arg18.view (Rect.unit (s := S2x24x128) ![0, 0, 0] S1x24x128.size inb_S2x24x128_S1x24x128_0_0_0).toLoadRect X18 (ix3 0 b n)
      = if hb : b.val < 20 then sc x0 x1 ⟨b.val, hb⟩ else 0 :=
  (x18_at c arg18 X18 x0 x1 H18 0 ![0, 0, 0] rfl _ b n).trans (by simp)

include H3 H4 H17 H18 in
/-- A head's projection before the rotation. -/
theorem head_at (k : Fin k0_t1_loop.trips) (r : Fin 4) (v : BitVec 32) (hv : v = BitVec.ofNat 32 r.val) (h : Fin 72) (hh : h.val = 4 * k.val + r.val) (o : ℕ) (ho : o = 128 * r.val)
    (ho' : o + 128 ≤ 512) (i3 i4) (b : Fin 24) (n : Fin 128) :
    tk (tripRun.sl.r c XA arg17 X17 k) o ho' (View.readAt (Elt Ideal) arg4.view (Rect.unit (s := S72x1x128) (k0_off5 k v) S1x1x128.size i4).toLoadRect X4)
      (View.readAt (Elt Ideal) arg18.view (Rect.unit (s := S2x24x128) ![1, 0, 0] S1x24x128.size inb_S2x24x128_S1x24x128_1_0_0).toLoadRect X18)
      (View.readAt (Elt Ideal) arg18.view (Rect.unit (s := S2x24x128) ![0, 0, 0] S1x24x128.size inb_S2x24x128_S1x24x128_0_0_0).toLoadRect X18)
      (View.readAt (Elt Ideal) arg3.view (Rect.unit (s := S72x1x128) (k0_off5 k v) S1x1x128.size i3).toLoadRect X3) b n
      = if hb : b.val < 20 then T x0 x1 (XA : Vec Ideal S3584x9216 .i8) x3 x4 ⟨b.val, hb⟩ ⟨h.val * 128 + n.val, by omega⟩ else 0 := by
  subst hv
  have o5 : k0_off5 k (BitVec.ofNat 32 r.val) = ![h.val, 0, 0] := (off5_eq k r).trans (by rw [hh])
  exact tk_eq x0 x1 (XA : Vec Ideal S3584x9216 .i8) x3 x4 h k.val r.val r.isLt (lt18 k) hh b (tripRun.sl.r c XA arg17 X17 k) o ho _ _ _ _
    (fun n => acc_at c XA arg17 X17 x0 x1 H17 k b n) (fun n => w_at c arg4 X4 x4 H4 h _ o5 _ n) (fun n => w_at c arg3 X3 x3 H3 h _ o5 _ n)
    (fun n => codes_at c arg18 X18 x0 x1 H18 b n) (fun n => scales_at c arg18 X18 x0 x1 H18 b n) n

include H3 H4 H17 H18 H19 in
/-- What trip `k` stores for its head `r`. -/
theorem tripW_eq (k : Fin k0_t1_loop.trips) (r : Fin 4) (h : Fin 72) (hh : h.val = 4 * k.val + r.val) (b : Fin 24) (n : Fin 128) :
    tripW c XA arg3 arg4 arg17 arg18 arg19 X3 X4 X17 X18 X19 k r (ix2 b n)
      = if hb : b.val < 20 then Y x0 x1 (XA : Vec Ideal S3584x9216 .i8) x3 x4 x5 x6 ⟨b.val, hb⟩ h n else 0 := by
  match r, hh with
  | 0, hh =>
    rw [tripW.eq_1, pay8_at]
    exact rot_eq x0 x1 _ x3 x4 x5 x6 h b _ _ _ (fun n => head_at c XA arg3 arg4 arg17 arg18 X3 X4 X17 X18 x0 x1 x3 x4 H3 H4 H17 H18 k 0 _ rfl h hh 0 rfl _ _ _ b n)
      (cos_at c arg19 X19 x5 x6 H19 k h 0 hh b) (sin_at c arg19 X19 x5 x6 H19 k h 0 hh b) n
  | 1, hh =>
    rw [tripW.eq_2]
    unfold tripRun.sl.r_4 tripRun.sl.r_5 tripRun.sl.r_6
    rw [pay11_at]
    exact rot_eq x0 x1 _ x3 x4 x5 x6 h b _ _ _ (fun n => head_at c XA arg3 arg4 arg17 arg18 X3 X4 X17 X18 x0 x1 x3 x4 H3 H4 H17 H18 k 1 _ rfl h hh 128 rfl _ _ _ b n)
      (cos_at c arg19 X19 x5 x6 H19 k h 1 hh b) (sin_at c arg19 X19 x5 x6 H19 k h 1 hh b) n
  | 2, hh =>
    rw [tripW.eq_3]
    unfold tripRun.sl.r_7
    rw [pay13_at]
    exact rot_eq x0 x1 _ x3 x4 x5 x6 h b _ _ _ (fun n => head_at c XA arg3 arg4 arg17 arg18 X3 X4 X17 X18 x0 x1 x3 x4 H3 H4 H17 H18 k 2 _ rfl h hh 256 rfl _ _ _ b n)
      (cos_at c arg19 X19 x5 x6 H19 k h 2 hh b) (sin_at c arg19 X19 x5 x6 H19 k h 2 hh b) n
  | 3, hh =>
    rw [tripW.eq_4, pay14_at]
    exact rot_eq x0 x1 _ x3 x4 x5 x6 h b _ _ _ (fun n => head_at c XA arg3 arg4 arg17 arg18 X3 X4 X17 X18 x0 x1 x3 x4 H3 H4 H17 H18 k 3 _ rfl h hh 384 rfl _ _ _ b n)
      (cos_at c arg19 X19 x5 x6 H19 k h 3 hh b) (sin_at c arg19 X19 x5 x6 H19 k h 3 hh b) n

end Cert.Spec
-- ==== Proof.KernelVal4.lean ====
/-
  The quantiser of the new keys and values: per-head scales, zeros and codes of the kernel, read off the heads' rows.
-/
module

public import proofs.«01_k».proof.Proof.KernelVal2

@[expose] public section

set_option maxRecDepth 16384

noncomputable section

namespace Cert.Spec

open Cert.KernelIdeal Cert.KernelIdeal.Gen Cert.KernelIdeal.Hand Idealize.ShloMosaic

theorem pay79_at (u : Vec Ideal S24x128 .f32) (b : Fin 24) : k0_pay79 u (ix2 b 0) = zq (fun d => u (ix2 b d)) := by
  pointwise [k0_pay79, k0_pay78]
  rfl

theorem pay80_at (u : Vec Ideal S24x128 .f32) (b : Fin 24) : k0_pay80 u (ix2 b 0) = sq (fun d => u (ix2 b d)) := by
  pointwise [k0_pay80, k0_pay79, k0_pay78]
  rfl

/-- A head's codes. -/
noncomputable def cqP (u : Vec Ideal S24x128 .f32) : FVec Ideal S1x24x128 .f32 := k0_pay82 15#32 (k0_pay81 u)

theorem cqP_at (u : Vec Ideal S24x128 .f32) (b : Fin 24) (d : Fin 128) : cqP u (ix3 0 b d) = cq (fun d => u (ix2 b d)) d := by
  unfold cqP
  pointwise [k0_pay82, k0_pay81]
  simp only [pay79_at, pay80_at]
  unfold cq rclip
  pointwise [k0_pay78]
  rw [show (15#32).toInt = 15 from by decide, show (0#32).toInt = 0 from by decide]

/-- Lane `h` of a per-head table set to a head's column. -/
noncomputable def setLane (h : BitVec 32) (A : FVec Ideal S24x128 .f32) (s : FVec Ideal S24x1 .f32) : FVec Ideal S24x128 .f32 :=
  select (cmpi .eq kernelRun.sl.v371 (broadcast S24x128 h)) (broadcastTo S24x128 (shapeCast S24x1 s shapeCasts_S24x1_S24x1) broadcasts_S24x1_S24x128) A

theorem setLane_at (h : Fin 8) (A : FVec Ideal S24x128 .f32) (s : FVec Ideal S24x1 .f32) (b : Fin 24) (n : Fin 128) :
    setLane (BitVec.ofNat 32 h.val) A s (ix2 b n) = if n.val = h.val then s (ix2 b 0) else A (ix2 b n) := by
  unfold setLane kernelRun.sl.v371
  pointwise
  have hb := h.isLt
  by_cases hn : n.val = h.val
  · rw [if_pos hn, hn]
    simp [Scalar.select, IntOp.cmpi]
  · have hne : BitVec.ofNat 32 n.val ≠ BitVec.ofNat 32 h.val := fun e => hn (by
      have := congrArg BitVec.toNat e
      simp only [BitVec.toNat_ofNat] at this
      omega)
    rw [if_neg hn]
    rw [show IntOp.cmpi .eq (BitVec.ofNat 32 n.val) (BitVec.ofNat 32 h.val) = 0#1 from by simp only [IntOp.cmpi]; rw [beq_eq_false_iff_ne.mpr hne]; rfl]
    rfl

theorem pay1_at (A : FVec Ideal S24x128 .f32) (h : Fin 8) (b : Fin 20) : k0_pay1 A (ix2 h b) = A (ix2 ⟨b.val, by omega⟩ ⟨h.val, by omega⟩) := by
  pointwise [k0_pay1]
  exact dif_pos (by omega)

/-- The table after the eight heads. -/
noncomputable def lanes (A : FVec Ideal S24x128 .f32) (s : Fin 8 → FVec Ideal S24x1 .f32) : FVec Ideal S24x128 .f32 :=
  setLane 7#32 (setLane 6#32 (setLane 5#32 (setLane 4#32 (setLane 3#32 (setLane 2#32 (setLane 1#32 (setLane 0#32 A (s 0)) (s 1)) (s 2)) (s 3)) (s 4)) (s 5)) (s 6)) (s 7)

theorem lanes_at (A : FVec Ideal S24x128 .f32) (s : Fin 8 → FVec Ideal S24x1 .f32) (b : Fin 24) (h : Fin 8) :
    lanes A s (ix2 b ⟨h.val, by omega⟩) = s h (ix2 b 0) := by
  unfold lanes
  rw [show (7#32) = BitVec.ofNat 32 (7 : Fin 8).val from rfl, show (6#32) = BitVec.ofNat 32 (6 : Fin 8).val from rfl, show (5#32) = BitVec.ofNat 32 (5 : Fin 8).val from rfl,
    show (4#32) = BitVec.ofNat 32 (4 : Fin 8).val from rfl, show (3#32) = BitVec.ofNat 32 (3 : Fin 8).val from rfl, show (2#32) = BitVec.ofNat 32 (2 : Fin 8).val from rfl,
    show (1#32) = BitVec.ofNat 32 (1 : Fin 8).val from rfl, show (0#32) = BitVec.ofNat 32 (0 : Fin 8).val from rfl]
  simp only [setLane_at]
  fin_cases h <;> rfl

variable (v : Fin 16 → Vec Ideal S24x128 .f32)

theorem chain11 : k0_pay149 kernelRun.sl.v371 (k0_pay140 kernelRun.sl.v371 (k0_pay131 kernelRun.sl.v371 (k0_pay122 kernelRun.sl.v371 (k0_pay113 kernelRun.sl.v371 (k0_pay105 kernelRun.sl.v371 (k0_pay94 kernelRun.sl.v371 (k0_pay85 kernelRun.sl.v371 k0_pay76 (k0_pay80 (v 0))) (k0_pay89 (v 1))) (k0_pay99 (v 2)) (k0_pay100 (v 2))) (k0_pay107 (v 3))) (k0_pay118 (v 4))) (k0_pay126 (v 5))) (k0_pay135 (v 6))) (k0_pay144 (v 7))
    = k0_pay1 (lanes k0_pay76 (fun h => k0_pay80 (v ⟨0 + h.val, by omega⟩))) := rfl
theorem tab11 (h : Fin 8) (b : Fin 20) : (k0_pay149 kernelRun.sl.v371 (k0_pay140 kernelRun.sl.v371 (k0_pay131 kernelRun.sl.v371 (k0_pay122 kernelRun.sl.v371 (k0_pay113 kernelRun.sl.v371 (k0_pay105 kernelRun.sl.v371 (k0_pay94 kernelRun.sl.v371 (k0_pay85 kernelRun.sl.v371 k0_pay76 (k0_pay80 (v 0))) (k0_pay89 (v 1))) (k0_pay99 (v 2)) (k0_pay100 (v 2))) (k0_pay107 (v 3))) (k0_pay118 (v 4))) (k0_pay126 (v 5))) (k0_pay135 (v 6))) (k0_pay144 (v 7)) : FVec Ideal S8x20 .f32) (ix2 h b)
    = sq (fun d => v ⟨0 + h.val, by omega⟩ (ix2 ⟨b.val, by omega⟩ d)) := by
  rw [chain11, pay1_at]
  refine (lanes_at _ _ ⟨b.val, by omega⟩ h).trans ?_
  exact pay80_at _ _

theorem chain12 : k0_pay150 kernelRun.sl.v371 (k0_pay141 kernelRun.sl.v371 (k0_pay132 kernelRun.sl.v371 (k0_pay123 kernelRun.sl.v371 (k0_pay115 kernelRun.sl.v371 (k0_pay106 kernelRun.sl.v371 (k0_pay95 kernelRun.sl.v371 (k0_pay86 kernelRun.sl.v371 k0_pay77 (k0_pay79 (v 0))) (k0_pay88 (v 1))) (k0_pay97 (v 2))) (k0_pay108 (k0_pay107 (v 3))) k0_pay114) (k0_pay117 (v 4))) (k0_pay125 (v 5))) (k0_pay134 (v 6))) (k0_pay143 (v 7))
    = k0_pay1 (lanes k0_pay77 (fun h => k0_pay79 (v ⟨0 + h.val, by omega⟩))) := rfl
theorem tab12 (h : Fin 8) (b : Fin 20) : (k0_pay150 kernelRun.sl.v371 (k0_pay141 kernelRun.sl.v371 (k0_pay132 kernelRun.sl.v371 (k0_pay123 kernelRun.sl.v371 (k0_pay115 kernelRun.sl.v371 (k0_pay106 kernelRun.sl.v371 (k0_pay95 kernelRun.sl.v371 (k0_pay86 kernelRun.sl.v371 k0_pay77 (k0_pay79 (v 0))) (k0_pay88 (v 1))) (k0_pay97 (v 2))) (k0_pay108 (k0_pay107 (v 3))) k0_pay114) (k0_pay117 (v 4))) (k0_pay125 (v 5))) (k0_pay134 (v 6))) (k0_pay143 (v 7)) : FVec Ideal S8x20 .f32) (ix2 h b)
    = zq (fun d => v ⟨0 + h.val, by omega⟩ (ix2 ⟨b.val, by omega⟩ d)) := by
  rw [chain12, pay1_at]
  refine (lanes_at _ _ ⟨b.val, by omega⟩ h).trans ?_
  exact pay79_at _ _

theorem chain13 : k0_pay1 (k0_pay224 kernelRun.sl.v371 (k0_pay215 kernelRun.sl.v371 (k0_pay203 kernelRun.sl.v371 (k0_pay194 kernelRun.sl.v371 (k0_pay184 kernelRun.sl.v371 (k0_pay176 kernelRun.sl.v371 (k0_pay168 kernelRun.sl.v371 (k0_pay159 kernelRun.sl.v371 k0_pay151 (v 8)) (k0_pay163 (v 9))) (k0_pay172 (v 10))) (k0_pay180 (v 11))) (k0_pay188 (v 12))) (k0_pay198 (v 13))) (k0_pay208 (v 14)) (k0_pay209 (v 14)) k0_pay210) (k0_pay217 (v 15)) (k0_pay218 (v 15)))
    = k0_pay1 (lanes k0_pay151 (fun h => k0_pay80 (v ⟨8 + h.val, by omega⟩))) := rfl
theorem tab13 (h : Fin 8) (b : Fin 20) : (k0_pay1 (k0_pay224 kernelRun.sl.v371 (k0_pay215 kernelRun.sl.v371 (k0_pay203 kernelRun.sl.v371 (k0_pay194 kernelRun.sl.v371 (k0_pay184 kernelRun.sl.v371 (k0_pay176 kernelRun.sl.v371 (k0_pay168 kernelRun.sl.v371 (k0_pay159 kernelRun.sl.v371 k0_pay151 (v 8)) (k0_pay163 (v 9))) (k0_pay172 (v 10))) (k0_pay180 (v 11))) (k0_pay188 (v 12))) (k0_pay198 (v 13))) (k0_pay208 (v 14)) (k0_pay209 (v 14)) k0_pay210) (k0_pay217 (v 15)) (k0_pay218 (v 15))) : FVec Ideal S8x20 .f32) (ix2 h b)
    = sq (fun d => v ⟨8 + h.val, by omega⟩ (ix2 ⟨b.val, by omega⟩ d)) := by
  rw [chain13, pay1_at]
  refine (lanes_at _ _ ⟨b.val, by omega⟩ h).trans ?_
  exact pay80_at _ _

theorem chain14 : k0_pay2 (k0_pay216 kernelRun.sl.v371 (k0_pay204 kernelRun.sl.v371 (k0_pay195 kernelRun.sl.v371 (k0_pay185 kernelRun.sl.v371 (k0_pay177 kernelRun.sl.v371 (k0_pay169 kernelRun.sl.v371 (k0_pay160 kernelRun.sl.v371 k0_pay152 (k0_pay154 (v 8))) (k0_pay162 (v 9))) (k0_pay171 (v 10))) (k0_pay179 (v 11))) (k0_pay187 (v 12))) (k0_pay197 (v 13))) (k0_pay206 (v 14))) (k0_pay225 kernelRun.sl.v371) (k0_pay226 (k0_pay218 (v 15)))
    = k0_pay1 (lanes k0_pay152 (fun h => k0_pay79 (v ⟨8 + h.val, by omega⟩))) := rfl
theorem tab14 (h : Fin 8) (b : Fin 20) : (k0_pay2 (k0_pay216 kernelRun.sl.v371 (k0_pay204 kernelRun.sl.v371 (k0_pay195 kernelRun.sl.v371 (k0_pay185 kernelRun.sl.v371 (k0_pay177 kernelRun.sl.v371 (k0_pay169 kernelRun.sl.v371 (k0_pay160 kernelRun.sl.v371 k0_pay152 (k0_pay154 (v 8))) (k0_pay162 (v 9))) (k0_pay171 (v 10))) (k0_pay179 (v 11))) (k0_pay187 (v 12))) (k0_pay197 (v 13))) (k0_pay206 (v 14))) (k0_pay225 kernelRun.sl.v371) (k0_pay226 (k0_pay218 (v 15))) : FVec Ideal S8x20 .f32) (ix2 h b)
    = zq (fun d => v ⟨8 + h.val, by omega⟩ (ix2 ⟨b.val, by omega⟩ d)) := by
  rw [chain14, pay1_at]
  refine (lanes_at _ _ ⟨b.val, by omega⟩ h).trans ?_
  exact pay79_at _ _

/-- The codes' rows in their buffer. -/
theorem inb20 (k : Fin 16) : ∀ a, (![k.val / 8, 24 * (k.val % 8), 0] : Fin 3 → ℕ) a + S1x24x128.size a ≤ S2x192x128.size a := by
  intro a
  fin_cases a
  · show k.val / 8 + 1 ≤ 2; omega
  · show 24 * (k.val % 8) + 24 ≤ 192; omega
  · show 0 + 128 ≤ 128; omega

/-- Head `k`'s piece: keys in plane 0, values in plane 1. -/
noncomputable def codeP (k : Fin 16) : View.Piece (Elt Ideal) S2x192x128 .f32 :=
  ⟨Rect.unit (s := S2x192x128) ![k.val / 8, 24 * (k.val % 8), 0] S1x24x128.size (inb20 k), cqP (v k)⟩
noncomputable def codeL : List (View.Piece (Elt Ideal) S2x192x128 .f32) :=
  [codeP v 15, codeP v 14, codeP v 13, codeP v 12, codeP v 11, codeP v 10, codeP v 9, codeP v 8, codeP v 7, codeP v 6, codeP v 5, codeP v 4, codeP v 3, codeP v 2, codeP v 1, codeP v 0]
theorem mem_codeL (k : Fin 16) : codeP v k ∈ codeL v := by
  unfold codeL
  fin_cases k <;> simp
theorem of_mem_codeL {p} (h : p ∈ codeL v) : ∃ k, p = codeP v k := by
  unfold codeL at h
  simp only [List.mem_cons, List.not_mem_nil, _root_.or_false] at h
  rcases h with h | h | h | h | h | h | h | h | h | h | h | h | h | h | h | h <;> exact ⟨_, h⟩

theorem code15 : k0_pay221 (k0_pay217 (v 15)) (k0_pay218 (v 15)) = cqP (v 15) := rfl
theorem code14 : k0_pay212 (k0_pay205 (v 14)) (k0_pay206 (v 14)) (k0_pay208 (v 14)) (k0_pay209 (v 14)) k0_pay210 = cqP (v 14) := rfl
theorem code13 : k0_pay200 (k0_pay199 (v 13)) = cqP (v 13) := rfl
theorem code12 : k0_pay191 (k0_pay189 (v 12)) k0_pay190 = cqP (v 12) := rfl
theorem code11 : k0_pay181 (v 11) = cqP (v 11) := rfl
theorem code10 : k0_pay173 (v 10) = cqP (v 10) := rfl
theorem code9 : k0_pay164 (v 9) = cqP (v 9) := rfl
theorem code8 : k0_pay156 (v 8) = cqP (v 8) := rfl
theorem code7 : k0_pay146 (k0_pay145 (v 7)) = cqP (v 7) := rfl
theorem code6 : k0_pay136 (v 6) = cqP (v 6) := rfl
theorem code5 : k0_pay127 (v 5) = cqP (v 5) := rfl
theorem code4 : k0_pay119 (v 4) = cqP (v 4) := rfl
theorem code3 : k0_pay110 (k0_pay107 (v 3)) = cqP (v 3) := rfl
theorem code2 : k0_pay102 (k0_pay96 (v 2)) (k0_pay97 (v 2)) (k0_pay99 (v 2)) (k0_pay100 (v 2)) = cqP (v 2) := rfl
theorem code1 : k0_pay91 (k0_pay89 (v 1)) (k0_pay90 (v 1)) = cqP (v 1) := rfl
theorem code0 : k0_pay82 15#32 (k0_pay81 (v 0)) = cqP (v 0) := rfl

noncomputable def G20 (y : S2x192x128.Idx) : EReal :=
  cq (fun d => v ⟨8 * (y 0).val + (y 1).val / 24, by have h0 : (y 0).val < 2 := (y 0).isLt; have h1 : (y 1).val < 192 := (y 1).isLt; omega⟩ (ix2 ⟨(y 1).val % 24, by omega⟩ d)) (y 2)

theorem read20 (arg20 : Memref sig .tc .vmem S2x192x128 .f32) (f) (y : S2x192x128.Idx) :
    arg20.view.read (Elt Ideal) (arg20.view.writes (Elt Ideal) f (codeL v)) y = G20 v y := by
  have h0 : (y 0).val < 2 := (y 0).isLt
  have h1 : (y 1).val < 192 := (y 1).isLt
  have h2 : (y 2).val < 128 := (y 2).isLt
  refine View.read_writes_apply_of_pieces arg20.view f (G20 v) (codeL v) ?_ y ⟨_, mem_codeL v ⟨8 * (y 0).val + (y 1).val / 24, by omega⟩, ?_⟩
  · intro p hp x
    obtain ⟨k, rfl⟩ := of_mem_codeL v hp
    have hk := k.isLt
    have hx0 : (x 0).val < 1 := (x 0).isLt
    have hx1 : (x 1).val < 24 := (x 1).isLt
    have hx2 : (x 2).val < 128 := (x 2).isLt
    have e : x = ix3 (0 : Fin 1) (⟨(x 1).val, hx1⟩ : Fin 24) (⟨(x 2).val, hx2⟩ : Fin 128) := by
      funext a
      fin_cases a
      · exact Fin.ext (by show (x 0).val = 0; omega)
      · rfl
      · rfl
    have e0 : ((codeP v k).1.emb x 0).val = k.val / 8 := by show k.val / 8 + 1 * (x 0).val = k.val / 8; omega
    have e1 : ((codeP v k).1.emb x 1).val = 24 * (k.val % 8) + (x 1).val := by show 24 * (k.val % 8) + 1 * (x 1).val = 24 * (k.val % 8) + (x 1).val; omega
    have e2 : ((codeP v k).1.emb x 2).val = (x 2).val := by show 0 + 1 * (x 2).val = (x 2).val; omega
    refine (congrArg (cqP (v k)) e).trans ((cqP_at (v k) _ _).trans ?_)
    unfold G20
    have g1 : ∀ h, (⟨8 * ((codeP v k).1.emb x 0).val + ((codeP v k).1.emb x 1).val / 24, h⟩ : Fin 16) = k := fun h => Fin.ext (by show 8 * _ + _ / 24 = _; rw [e0, e1]; omega)
    have g2 : ∀ h, (⟨((codeP v k).1.emb x 1).val % 24, h⟩ : Fin 24) = ⟨(x 1).val, hx1⟩ := fun h => Fin.ext (by show _ % 24 = (x 1).val; rw [e1]; omega)
    have g3 : ((codeP v k).1.emb x 2) = (⟨(x 2).val, hx2⟩ : Fin 128) := Fin.ext e2
    rw [g3]
    simp only [g1, g2]
  · show y ∈ (Rect.unit (s := S2x192x128) _ S1x24x128.size (inb20 ⟨8 * (y 0).val + (y 1).val / 24, by omega⟩)).set
    rw [Rect.mem_set_unit]
    intro a
    fin_cases a
    · show (8 * (y 0).val + (y 1).val / 24) / 8 ≤ (y 0).val ∧ (y 0).val < (8 * (y 0).val + (y 1).val / 24) / 8 + 1; omega
    · show 24 * ((8 * (y 0).val + (y 1).val / 24) % 8) ≤ (y 1).val ∧ (y 1).val < 24 * ((8 * (y 0).val + (y 1).val / 24) % 8) + 24; omega
    · show 0 ≤ (y 2).val ∧ (y 2).val < 0 + 128; omega

theorem pay3_at (a b : Vec Ideal S1x8x128 .f32) (h : Fin 8) (d : Fin 128) :
    k0_pay3 a b (ix3 0 h d) = BitVec.setWidth 8 (Ideal.fptosi 32 (a (ix3 0 h d)) ||| (Ideal.fptosi 32 (b (ix3 0 h d)) <<< 4)) := by
  pointwise [k0_pay3]
  rfl

end Cert.Spec
-- ==== Proof.KernelVal5.lean ====
/-
  The projection's buffer and the packed codes' buffer after the body's two loops.
-/
module

public import proofs.«01_k».proof.Proof.KernelVal3
public import proofs.«01_k».proof.Proof.KernelVal4

@[expose] public section

set_option maxRecDepth 16384

noncomputable section

namespace Cert.Spec

open Cert.KernelIdeal Cert.KernelIdeal.Gen Cert.KernelIdeal.Hand Idealize.ShloMosaic Idealize.ShloMosaic.TcCoe

variable (c : Dev nD) (XA : Buf (Elt Ideal) (aM.view.loc (c : Thread nD τ)))
variable (i : grid0.Coords) (arg1 : Memref sig .tc .vmem S20x7168 .bf16) (harg1 : arg1.IsWhole) (arg2 : Memref sig .tc .vmem S1x7168 .f32) (harg2 : arg2.IsWhole) (arg3 : Memref sig .tc .vmem S72x1x128 .f32) (harg3 : arg3.IsWhole) (arg4 : Memref sig .tc .vmem S72x1x128 .f32) (harg4 : arg4.IsWhole) (arg5 : Memref sig .tc .vmem S20x1x64 .f32) (harg5 : arg5.IsWhole) (arg6 : Memref sig .tc .vmem S20x1x64 .f32) (harg6 : arg6.IsWhole) (arg8 : Memref sig .tc .vmem S20x7168 .i8) (harg8 : arg8.IsWhole) (arg9 : Memref sig .tc .vmem S1x20 .f32) (harg9 : arg9.IsWhole) (arg10 : Memref sig .tc .vmem S20x8x128 .i8) (harg10 : arg10.IsWhole) (arg11 : Memref sig .tc .vmem S8x20 .f32) (harg11 : arg11.IsWhole) (arg12 : Memref sig .tc .vmem S8x20 .f32) (harg12 : arg12.IsWhole) (arg13 : Memref sig .tc .vmem S8x20 .f32) (harg13 : arg13.IsWhole) (arg14 : Memref sig .tc .vmem S8x20 .f32) (harg14 : arg14.IsWhole) (arg15 : Memref sig .tc .vmem S1728x128 .f32) (harg15 : arg15.IsWhole) (arg17 : Memref sig .tc .vmem S32x7168 .bf16) (harg17 : arg17.IsWhole) (arg18 : Memref sig .tc .vmem S2x24x128 .f32) (harg18 : arg18.IsWhole) (arg19 : Memref sig .tc .vmem S2x24x128 .f32) (harg19 : arg19.IsWhole) (arg20 : Memref sig .tc .vmem S2x192x128 .f32) (harg20 : arg20.IsWhole) (arg21 : Memref sig .tc .vmem S4x192x128 .f32) (harg21 : arg21.IsWhole)

section
variable (v357 : FVec Ideal S1x64 .f32) (X3 : Buf (Elt Ideal) (arg3.view.loc (c : Thread nD τ))) (X4 : Buf (Elt Ideal) (arg4.view.loc (c : Thread nD τ)))
  (X17 : Buf (Elt Ideal) (arg17.view.loc (c : Thread nD τ))) (X18 : Buf (Elt Ideal) (arg18.view.loc (c : Thread nD τ))) (X19 : Buf (Elt Ideal) (arg19.view.loc (c : Thread nD τ)))
variable (x0 : Vec Ideal S20x7168 .bf16) (x1 : Vec Ideal S1x7168 .f32) (x3 x4 : Vec Ideal Cert.ReferenceIdeal.S1x9216 .f32)
  (x5 x6 : Vec Ideal S20x1x64 .f32)

/-- THE PROJECTION LOOP'S RESULT. -/
theorem yOf_eq
    (H3 : ∀ (h : Fin 72) (d : Fin 128), arg3.view.read (Elt Ideal) X3 (ix3 h 0 d) = x3 (ix2 0 ⟨h.val * 128 + d.val, hd_lt h d⟩))
    (H4 : ∀ (h : Fin 72) (d : Fin 128), arg4.view.read (Elt Ideal) X4 (ix3 h 0 d) = x4 (ix2 0 ⟨h.val * 128 + d.val, hd_lt h d⟩))
    (H17 : ∀ y, arg17.view.read (Elt Ideal) X17 y = G17 x0 x1 y)
    (H18 : ∀ y, arg18.view.read (Elt Ideal) X18 y = G18 x0 x1 y)
    (H19 : ∀ y, arg19.view.read (Elt Ideal) X19 y = G19 x5 x6 y) (a : Fin 1728) (d : Fin 128) :
    yOf c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 (ix2 a d) = ySpec x0 x1 (XA : Vec Ideal S3584x9216 .i8) x3 x4 x5 x6 a d := by
  have ha := a.isLt
  have e : (ix2 a d : S1728x128.Idx) = (R6 ⟨a.val / 96, by rw [trips1_eq]; omega⟩ ⟨a.val / 24 % 4, by omega⟩).emb (ix2 ⟨a.val % 24, by omega⟩ d) := by
    funext q
    fin_cases q
    · refine Fin.ext (Eq.trans ?_ (R6_emb_0 _ _ _).symm)
      show a.val = 24 * (4 * (a.val / 96) + a.val / 24 % 4) + a.val % 24
      omega
    · exact Fin.ext (R6_emb_1 _ _ (ix2 ⟨a.val % 24, by omega⟩ d)).symm
  rw [e]
  refine (yOf_apply c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 v357 X3 X4 X17 X18 X19 _ _ _).trans ?_
  refine (tripW_eq c XA arg3 arg4 arg17 arg18 arg19 X3 X4 X17 X18 X19 x0 x1 x3 x4 x5 x6 H3 H4 H17 H18 H19 _ _ ⟨a.val / 24, by omega⟩ ?_ ⟨a.val % 24, by omega⟩ d).trans ?_
  · show a.val / 24 = 4 * (a.val / 96) + a.val / 24 % 4; omega
  · rfl
end

section
variable (v : Fin 16 → Vec Ideal S24x128 .f32) (X20 : Buf (Elt Ideal) (arg20.view.loc (c : Thread nD τ)))

theorem kvcOf_eq (H20 : ∀ y, arg20.view.read (Elt Ideal) X20 y = G20 v y) (b : Fin 20) (h : Fin 8) (d : Fin 128) :
    kvcOf c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 (ix3 b h d) = Ideal.fptoui 8 (cq (fun d => v ⟨h.val, by omega⟩ (ix2 ⟨b.val, by omega⟩ d)) d) ||| (Ideal.fptoui 8 (cq (fun d => v ⟨8 + h.val, by omega⟩ (ix2 ⟨b.val, by omega⟩ d)) d) <<< 4) := by
  have hb := b.isLt
  have e : (ix3 b h d : S20x8x128.Idx) = (R12 ⟨b.val, by rw [trips2_eq]; omega⟩).emb (ix3 0 h d) := by
    funext q
    fin_cases q
    · exact Fin.ext (R12_emb_0 _ _).symm
    · exact Fin.ext (R12_emb_1 _ (ix3 0 h d)).symm
    · exact Fin.ext (R12_emb_2 _ (ix3 0 h d)).symm
  rw [e]
  refine (kvcOf_apply c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 X20 _ _).trans ?_
  unfold trip2W
  have r10 : ∀ hk : b.val < k0_t2_loop.trips, View.readAt (Elt Ideal) arg20.view (⟨k0_off10 ⟨b.val, hk⟩, S1x8x128.size, ![1, 24, 1], k0_off10_inb ⟨b.val, hk⟩⟩ : LoadRect S2x192x128) X20 (ix3 0 h d)
      = cq (fun d => v ⟨h.val, by omega⟩ (ix2 ⟨b.val, by omega⟩ d)) d := by
    intro hk
    rw [View.readAt_apply, H20]
    have o : k0_off10 ⟨b.val, hk⟩ = ![0, b.val, 0] := k0_off10_eq _
    unfold G20
    have g0 : ((⟨k0_off10 ⟨b.val, hk⟩, S1x8x128.size, ![1, 24, 1], k0_off10_inb ⟨b.val, hk⟩⟩ : LoadRect S2x192x128).idx (ix3 0 h d) 0).val = 0 := by
      show k0_off10 ⟨b.val, hk⟩ 0 + 1 * 0 = 0
      rw [o]; rfl
    have g1 : ((⟨k0_off10 ⟨b.val, hk⟩, S1x8x128.size, ![1, 24, 1], k0_off10_inb ⟨b.val, hk⟩⟩ : LoadRect S2x192x128).idx (ix3 0 h d) 1).val = b.val + 24 * h.val := by
      show k0_off10 ⟨b.val, hk⟩ 1 + 24 * h.val = b.val + 24 * h.val
      rw [o]; rfl
    have g2 : ((⟨k0_off10 ⟨b.val, hk⟩, S1x8x128.size, ![1, 24, 1], k0_off10_inb ⟨b.val, hk⟩⟩ : LoadRect S2x192x128).idx (ix3 0 h d) 2) = d := by
      refine Fin.ext ?_
      show k0_off10 ⟨b.val, hk⟩ 2 + 1 * d.val = d.val
      rw [o]; show 0 + 1 * d.val = d.val; omega
    rw [g2]
    have k1 : ∀ h', (⟨8 * ((⟨k0_off10 ⟨b.val, hk⟩, S1x8x128.size, ![1, 24, 1], k0_off10_inb ⟨b.val, hk⟩⟩ : LoadRect S2x192x128).idx (ix3 0 h d) 0).val + ((⟨k0_off10 ⟨b.val, hk⟩, S1x8x128.size, ![1, 24, 1], k0_off10_inb ⟨b.val, hk⟩⟩ : LoadRect S2x192x128).idx (ix3 0 h d) 1).val / 24, h'⟩ : Fin 16) = ⟨h.val, by omega⟩ :=
      fun h' => Fin.ext (by show 8 * _ + _ / 24 = h.val; rw [g0, g1]; omega)
    have k2 : ∀ h', (⟨((⟨k0_off10 ⟨b.val, hk⟩, S1x8x128.size, ![1, 24, 1], k0_off10_inb ⟨b.val, hk⟩⟩ : LoadRect S2x192x128).idx (ix3 0 h d) 1).val % 24, h'⟩ : Fin 24) = ⟨b.val, by omega⟩ :=
      fun h' => Fin.ext (by show _ % 24 = b.val; rw [g1]; omega)
    simp only [k1, k2]
  have r11 : ∀ hk : b.val < k0_t2_loop.trips, View.readAt (Elt Ideal) arg20.view (⟨k0_off11 ⟨b.val, hk⟩, S1x8x128.size, ![1, 24, 1], k0_off11_inb ⟨b.val, hk⟩⟩ : LoadRect S2x192x128) X20 (ix3 0 h d)
      = cq (fun d => v ⟨8 + h.val, by omega⟩ (ix2 ⟨b.val, by omega⟩ d)) d := by
    intro hk
    rw [View.readAt_apply, H20]
    have o : k0_off11 ⟨b.val, hk⟩ = ![1, b.val, 0] := k0_off11_eq _
    unfold G20
    have g0 : ((⟨k0_off11 ⟨b.val, hk⟩, S1x8x128.size, ![1, 24, 1], k0_off11_inb ⟨b.val, hk⟩⟩ : LoadRect S2x192x128).idx (ix3 0 h d) 0).val = 1 := by
      show k0_off11 ⟨b.val, hk⟩ 0 + 1 * 0 = 1
      rw [o]; rfl
    have g1 : ((⟨k0_off11 ⟨b.val, hk⟩, S1x8x128.size, ![1, 24, 1], k0_off11_inb ⟨b.val, hk⟩⟩ : LoadRect S2x192x128).idx (ix3 0 h d) 1).val = b.val + 24 * h.val := by
      show k0_off11 ⟨b.val, hk⟩ 1 + 24 * h.val = b.val + 24 * h.val
      rw [o]; rfl
    have g2 : ((⟨k0_off11 ⟨b.val, hk⟩, S1x8x128.size, ![1, 24, 1], k0_off11_inb ⟨b.val, hk⟩⟩ : LoadRect S2x192x128).idx (ix3 0 h d) 2) = d := by
      refine Fin.ext ?_
      show k0_off11 ⟨b.val, hk⟩ 2 + 1 * d.val = d.val
      rw [o]; show 0 + 1 * d.val = d.val; omega
    rw [g2]
    have k1 : ∀ h', (⟨8 * ((⟨k0_off11 ⟨b.val, hk⟩, S1x8x128.size, ![1, 24, 1], k0_off11_inb ⟨b.val, hk⟩⟩ : LoadRect S2x192x128).idx (ix3 0 h d) 0).val + ((⟨k0_off11 ⟨b.val, hk⟩, S1x8x128.size, ![1, 24, 1], k0_off11_inb ⟨b.val, hk⟩⟩ : LoadRect S2x192x128).idx (ix3 0 h d) 1).val / 24, h'⟩ : Fin 16) = ⟨8 + h.val, by omega⟩ :=
      fun h' => Fin.ext (by show 8 * _ + _ / 24 = 8 + h.val; rw [g0, g1]; omega)
    have k2 : ∀ h', (⟨((⟨k0_off11 ⟨b.val, hk⟩, S1x8x128.size, ![1, 24, 1], k0_off11_inb ⟨b.val, hk⟩⟩ : LoadRect S2x192x128).idx (ix3 0 h d) 1).val % 24, h'⟩ : Fin 24) = ⟨b.val, by omega⟩ :=
      fun h' => Fin.ext (by show _ % 24 = b.val; rw [g1]; omega)
    simp only [k1, k2]
  refine (pay3_at _ _ h d).trans ?_
  rw [r10, r11]
  unfold cq
  exact pack_codes _ _
end

end Cert.Spec
-- ==== Proof.KernelVal6.lean ====
/-
  What the body's run leaves in each output.
-/
module

public import proofs.«01_k».proof.Proof.KernelVal5

@[expose] public section

set_option maxRecDepth 16384

noncomputable section

namespace Cert.Spec

open Cert.KernelIdeal Cert.KernelIdeal.Gen Cert.KernelIdeal.Hand Idealize.ShloMosaic Idealize.ShloMosaic.TcCoe

/-- A weight row staged one head a plane. -/
def W1 (x : S72x1x128.Idx → Elt Ideal .f32) (z : Vec Ideal Cert.ReferenceIdeal.S1x9216 .f32) : Prop :=
  ∀ (h : Fin 72) (d : Fin 128), x (ix3 h 0 d) = z (ix2 0 ⟨h.val * 128 + d.val, hd_lt h d⟩)

theorem whole_read {S : Shape} {e : EltTy} (arg : Memref sig .tc .vmem S e) (x : S.Idx → Elt Ideal e) (off : Fin S.rank → ℕ) (h : off = fun _ => 0) (inb) :
    View.readAt (Elt Ideal) arg.view (Rect.unit (s := S) off S.size inb).toLoadRect (arg.view.rep x) = x := by
  subst h
  rw [View.readAt_rep]
  funext y
  refine congrArg x (funext fun a => Fin.ext ?_)
  show 0 + 1 * (y a).val = (y a).val
  omega

theorem full_write {S : Shape} {e : EltTy} (v : View sig .tc .vmem S e) (f : v.ty.Contents (Elt Ideal)) (off : Fin S.rank → ℕ) (h : off = fun _ => 0) (inb)
    (w : S.Idx → Elt Ideal e) (y : S.Idx) : v.read (Elt Ideal) (v.writes (Elt Ideal) f [⟨Rect.unit (s := S) off S.size inb, w⟩]) y = w y := by
  subst h
  refine View.read_writes_cons_hit_of_coords v f (Rect.unit (s := S) (fun _ => 0) S.size inb) w [] y y ?_
  intro a
  show (y a).val = 0 + 1 * (y a).val
  omega

theorem rows_inb (k : Fin 16) : ∀ a, (![1344 + 24 * k.val, 0] : Fin 2 → ℕ) a + S24x128.size a ≤ S1728x128.size a := by
  revert k; decide

theorem pay26_at (v : Vec Ideal S1x24x128 .f32) (b : Fin 20) : k0_pay26 v (ix2 0 b) = v (ix3 0 ⟨b.val, by omega⟩ 0) := by
  pointwise [k0_pay26]
  exact dif_pos (by omega)

theorem G18_sc (x0 : Vec Ideal S20x7168 .bf16) (x1 : Vec Ideal S1x7168 .f32) (b : Fin 20) (inb) :
    G18 x0 x1 ((Rect.unit (s := S2x24x128) ![0, 0, 0] S1x24x128.size inb).toLoadRect.idx (ix3 0 ⟨b.val, by omega⟩ 0)) = sc x0 x1 b := by
  have hb := b.isLt
  have e0 : ((Rect.unit (s := S2x24x128) ![0, 0, 0] S1x24x128.size inb).toLoadRect.idx (ix3 0 ⟨b.val, by omega⟩ 0) 0).val = 0 := rfl
  have e1 : ((Rect.unit (s := S2x24x128) ![0, 0, 0] S1x24x128.size inb).toLoadRect.idx (ix3 0 ⟨b.val, by omega⟩ 0) 1).val = b.val := by show 0 + 1 * b.val = b.val; omega
  unfold G18
  rw [dif_pos (by rw [e1]; exact hb), if_pos e0]
  exact congrArg (sc x0 x1) (Fin.ext e1)

variable (c : Dev nD) (XA : Buf (Elt Ideal) (aM.view.loc (c : Thread nD τ)))
variable (i : grid0.Coords) (arg1 : Memref sig .tc .vmem S20x7168 .bf16) (harg1 : arg1.IsWhole) (arg2 : Memref sig .tc .vmem S1x7168 .f32) (harg2 : arg2.IsWhole) (arg3 : Memref sig .tc .vmem S72x1x128 .f32) (harg3 : arg3.IsWhole) (arg4 : Memref sig .tc .vmem S72x1x128 .f32) (harg4 : arg4.IsWhole) (arg5 : Memref sig .tc .vmem S20x1x64 .f32) (harg5 : arg5.IsWhole) (arg6 : Memref sig .tc .vmem S20x1x64 .f32) (harg6 : arg6.IsWhole) (arg8 : Memref sig .tc .vmem S20x7168 .i8) (harg8 : arg8.IsWhole) (arg9 : Memref sig .tc .vmem S1x20 .f32) (harg9 : arg9.IsWhole) (arg10 : Memref sig .tc .vmem S20x8x128 .i8) (harg10 : arg10.IsWhole) (arg11 : Memref sig .tc .vmem S8x20 .f32) (harg11 : arg11.IsWhole) (arg12 : Memref sig .tc .vmem S8x20 .f32) (harg12 : arg12.IsWhole) (arg13 : Memref sig .tc .vmem S8x20 .f32) (harg13 : arg13.IsWhole) (arg14 : Memref sig .tc .vmem S8x20 .f32) (harg14 : arg14.IsWhole) (arg15 : Memref sig .tc .vmem S1728x128 .f32) (harg15 : arg15.IsWhole) (arg17 : Memref sig .tc .vmem S32x7168 .bf16) (harg17 : arg17.IsWhole) (arg18 : Memref sig .tc .vmem S2x24x128 .f32) (harg18 : arg18.IsWhole) (arg19 : Memref sig .tc .vmem S2x24x128 .f32) (harg19 : arg19.IsWhole) (arg20 : Memref sig .tc .vmem S2x192x128 .f32) (harg20 : arg20.IsWhole) (arg21 : Memref sig .tc .vmem S4x192x128 .f32) (harg21 : arg21.IsWhole)
variable (x1 : S20x7168.Idx → Elt Ideal .bf16) (x2 : S1x7168.Idx → Elt Ideal .f32) (x3 x4 : S72x1x128.Idx → Elt Ideal .f32) (x5 x6 : S20x1x64.Idx → Elt Ideal .f32)
variable (z3 z4 : Vec Ideal Cert.ReferenceIdeal.S1x9216 .f32)

theorem run15_eq (H3 : W1 x3 z3) (H4 : W1 x4 z4) (a : Fin 1728) (d : Fin 128) :
    (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 (ix2 a d) = ySpec x1 x2 (XA : Vec Ideal S3584x9216 .i8) z3 z4 x5 x6 a d := by
  refine yOf_eq c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 _ _ _ _ _ _ x1 x2 z3 z4 x5 x6 ?_ ?_ ?_ ?_ ?_ a d
  · intro h d
    refine (congrFun (View.read_rep _ _) _).trans (H3 h d)
  · intro h d
    refine (congrFun (View.read_rep _ _) _).trans (H4 h d)
  · intro y
    refine (congrFun (View.read_rep _ _) _).trans ?_
    have e1 := whole_read arg1 x1 ![0, 0] zero2
    have e2 := whole_read arg2 x2 ![0, 0] zero2
    unfold kernelRun.sl.r
    rw [e1, e2]
    exact read17 x1 x2 arg17 _ _ _ y
  · intro y
    refine (congrFun (View.read_rep _ _) _).trans ?_
    have e1 := whole_read arg1 x1 ![0, 0] zero2
    have e2 := whole_read arg2 x2 ![0, 0] zero2
    unfold kernelRun.sl.H18_3 kernelRun.sl.r_1 kernelRun.sl.r_2 kernelRun.sl.r
    rw [e1, e2]
    exact read18 x1 x2 arg18 _ _ _ _ y
  · intro y
    exact read19 x5 x6 arg5 arg6 arg19 _ _ y

/-- Head `k` of the sixteen after the queries, as the body reads it back. -/
def headV (Y15 : S1728x128.Idx → Elt Ideal .f32) (k : Fin 16) : Vec Ideal S24x128 .f32 :=
  View.readAt (Elt Ideal) arg15.view (Rect.unit (s := S1728x128) ![1344 + 24 * k.val, 0] S24x128.size (rows_inb k)).toLoadRect (arg15.view.rep Y15)

theorem headV_at (Y15 : S1728x128.Idx → Elt Ideal .f32) (k : Fin 16) (b : Fin 24) (d : Fin 128) :
    headV arg15 Y15 k (ix2 b d) = Y15 (ix2 ⟨1344 + 24 * k.val + b.val, by omega⟩ d) := by
  unfold headV
  rw [View.readAt_rep]
  refine congrArg Y15 (funext fun a => ?_)
  fin_cases a
  · exact Fin.ext (by show 1344 + 24 * k.val + 1 * b.val = 1344 + 24 * k.val + b.val; omega)
  · exact Fin.ext (by show 0 + 1 * d.val = d.val; omega)

theorem h0_eq : kernelRun.sl.v374 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 = headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 0 := rfl
theorem h1_eq : kernelRun.sl.v420 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 = headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 1 := rfl
theorem h2_eq : kernelRun.sl.v466 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 = headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 2 := rfl
theorem h3_eq : kernelRun.sl.v512 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 = headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 3 := rfl
theorem h4_eq : kernelRun.sl.v558 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 = headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 4 := rfl
theorem h5_eq : kernelRun.sl.v604 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 = headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 5 := rfl
theorem h6_eq : kernelRun.sl.v650 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 = headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 6 := rfl
theorem h7_eq : kernelRun.sl.v696 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 = headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 7 := rfl
theorem h8_eq : kernelRun.sl.v754 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 = headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 8 := rfl
theorem h9_eq : kernelRun.sl.v800 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 = headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 9 := rfl
theorem h10_eq : kernelRun.sl.v846 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 = headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 10 := rfl
theorem h11_eq : kernelRun.sl.v892 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 = headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 11 := rfl
theorem h12_eq : kernelRun.sl.v938 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 = headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 12 := rfl
theorem h13_eq : kernelRun.sl.v984 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 = headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 13 := rfl
theorem h14_eq : kernelRun.sl.v1030 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 = headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 14 := rfl
theorem h15_eq : kernelRun.sl.v1076 c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 = headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 15 := rfl

theorem headkr (H3 : W1 x3 z3) (H4 : W1 x4 z4) (h : Fin 8) (b : Fin 20) (d : Fin 128) :
    headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 ⟨0 + h.val, by omega⟩ (ix2 ⟨b.val, by omega⟩ d) = kr x1 x2 (XA : Vec Ideal S3584x9216 .i8) z3 z4 x5 x6 b h d := by
  rw [headV_at, run15_eq c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 z3 z4 H3 H4]
  unfold ySpec
  have hb := b.isLt
  rw [dif_pos (by show (1344 + 24 * (0 + h.val) + b.val) % 24 < 20; omega)]
  unfold kr
  congr 1
  · exact Fin.ext (by show (1344 + 24 * (0 + h.val) + b.val) % 24 = b.val; omega)
  · exact Fin.ext (by show (1344 + 24 * (0 + h.val) + b.val) / 24 = 56 + h.val; omega)

theorem headvr (H3 : W1 x3 z3) (H4 : W1 x4 z4) (h : Fin 8) (b : Fin 20) (d : Fin 128) :
    headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 ⟨8 + h.val, by omega⟩ (ix2 ⟨b.val, by omega⟩ d) = vr x1 x2 (XA : Vec Ideal S3584x9216 .i8) z3 z4 x5 x6 b h d := by
  rw [headV_at, run15_eq c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 z3 z4 H3 H4]
  unfold ySpec
  have hb := b.isLt
  rw [dif_pos (by show (1344 + 24 * (8 + h.val) + b.val) % 24 < 20; omega)]
  unfold vr
  congr 1
  · exact Fin.ext (by show (1344 + 24 * (8 + h.val) + b.val) % 24 = b.val; omega)
  · exact Fin.ext (by show (1344 + 24 * (8 + h.val) + b.val) / 24 = 64 + h.val; omega)

theorem run8_eq (f) (y : S20x7168.Idx) :
    View.read (Elt Ideal) arg8.view (View.writes arg8.view (Elt Ideal) f (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).1) y = Ideal.fptosi 8 (cf x1 x2 (y 0) (y 1)) := by
  refine (full_write arg8.view f ![0, 0] zero2 _ _ y).trans ?_
  have e1 := whole_read arg1 x1 ![0, 0] zero2
  have e2 := whole_read arg2 x2 ![0, 0] zero2
  unfold kernelRun.sl.r
  rw [e1, e2]
  refine Eq.trans ?_ (congrArg (Ideal.fptosi 8) (pay18_at x1 x2 (y 0) (y 1)))
  exact (congrArg _ (eq_ix2 y)).trans rfl

theorem run9_eq (f) (y : S1x20.Idx) :
    View.read (Elt Ideal) arg9.view (View.writes arg9.view (Elt Ideal) f (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.1) y = sc x1 x2 (y 1) := by
  refine (full_write arg9.view f ![0, 0] zero2 _ _ y).trans ?_
  unfold kernelRun.sl.v79 kernelRun.sl.H18_3 kernelRun.sl.r_1 kernelRun.sl.r_2 kernelRun.sl.r
  rw [whole_read arg1 x1 ![0, 0] zero2, whole_read arg2 x2 ![0, 0] zero2]
  refine (congrArg _ (eq_ix2 y)).trans ?_
  have hy : (y 0).val < 1 := (y 0).isLt
  have e0 : y 0 = (0 : Fin 1) := Fin.ext (by show (y 0).val = 0; omega)
  rw [e0]
  refine (pay26_at _ (y 1)).trans ?_
  refine (read18 x1 x2 arg18 _ _ _ _ _).trans ?_
  exact G18_sc x1 x2 (y 1) _

theorem run11_eq (H3 : W1 x3 z3) (H4 : W1 x4 z4) (f) (y : S8x20.Idx) :
    View.read (Elt Ideal) arg11.view (View.writes arg11.view (Elt Ideal) f (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.1) y = sq (kr x1 x2 (XA : Vec Ideal S3584x9216 .i8) z3 z4 x5 x6 (y 1) (y 0)) := by
  refine (full_write arg11.view f ![0, 0] zero2 _ _ y).trans ?_
  refine (congrArg _ (eq_ix2 y)).trans ?_
  simp only [kernelRun.sl.r_12, kernelRun.sl.r_13, kernelRun.sl.r_14, kernelRun.sl.r_15, kernelRun.sl.r_16, kernelRun.sl.r_17, kernelRun.sl.r_18, kernelRun.sl.r_19, kernelRun.sl.r_20, kernelRun.sl.r_21, kernelRun.sl.r_22, kernelRun.sl.r_23, kernelRun.sl.r_24, kernelRun.sl.r_25, kernelRun.sl.r_26, kernelRun.sl.r_27, kernelRun.sl.r_28, kernelRun.sl.r_29, kernelRun.sl.r_30, kernelRun.sl.r_31, kernelRun.sl.r_32, kernelRun.sl.r_33, kernelRun.sl.r_34, kernelRun.sl.r_35, kernelRun.sl.r_36, kernelRun.sl.r_37, kernelRun.sl.r_38, kernelRun.sl.r_39, kernelRun.sl.r_40, kernelRun.sl.r_41, kernelRun.sl.r_42, kernelRun.sl.r_43, kernelRun.sl.r_44, kernelRun.sl.r_45, kernelRun.sl.r_46, kernelRun.sl.r_47, kernelRun.sl.r_48, kernelRun.sl.r_49, kernelRun.sl.r_50, kernelRun.sl.r_51, kernelRun.sl.r_52, kernelRun.sl.r_53, kernelRun.sl.r_54, kernelRun.sl.r_55, kernelRun.sl.r_56, kernelRun.sl.r_57, kernelRun.sl.r_58, kernelRun.sl.r_59, kernelRun.sl.r_60, kernelRun.sl.r_61, kernelRun.sl.r_62, kernelRun.sl.r_63, kernelRun.sl.r_64, kernelRun.sl.r_65, kernelRun.sl.r_66, kernelRun.sl.r_67, kernelRun.sl.r_68, kernelRun.sl.r_69, kernelRun.sl.r_70, kernelRun.sl.r_71, kernelRun.sl.r_72, kernelRun.sl.r_73, kernelRun.sl.r_74, kernelRun.sl.r_75, kernelRun.sl.r_76, kernelRun.sl.r_77, kernelRun.sl.r_78, kernelRun.sl.r_79, kernelRun.sl.r_80, kernelRun.sl.r_81, kernelRun.sl.r_82, kernelRun.sl.r_83, kernelRun.sl.r_84, kernelRun.sl.r_85, h0_eq, h1_eq, h2_eq, h3_eq, h4_eq, h5_eq, h6_eq, h7_eq, h8_eq, h9_eq, h10_eq, h11_eq, h12_eq, h13_eq, h14_eq, h15_eq]
  refine (tab11 (headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1) (y 0) (y 1)).trans ?_
  refine congrArg sq (funext fun d => ?_)
  exact headkr c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 z3 z4 H3 H4 (y 0) (y 1) d

theorem run12_eq (H3 : W1 x3 z3) (H4 : W1 x4 z4) (f) (y : S8x20.Idx) :
    View.read (Elt Ideal) arg12.view (View.writes arg12.view (Elt Ideal) f (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.1) y = zq (kr x1 x2 (XA : Vec Ideal S3584x9216 .i8) z3 z4 x5 x6 (y 1) (y 0)) := by
  refine (full_write arg12.view f ![0, 0] zero2 _ _ y).trans ?_
  refine (congrArg _ (eq_ix2 y)).trans ?_
  simp only [kernelRun.sl.r_12, kernelRun.sl.r_13, kernelRun.sl.r_14, kernelRun.sl.r_15, kernelRun.sl.r_16, kernelRun.sl.r_17, kernelRun.sl.r_18, kernelRun.sl.r_19, kernelRun.sl.r_20, kernelRun.sl.r_21, kernelRun.sl.r_22, kernelRun.sl.r_23, kernelRun.sl.r_24, kernelRun.sl.r_25, kernelRun.sl.r_26, kernelRun.sl.r_27, kernelRun.sl.r_28, kernelRun.sl.r_29, kernelRun.sl.r_30, kernelRun.sl.r_31, kernelRun.sl.r_32, kernelRun.sl.r_33, kernelRun.sl.r_34, kernelRun.sl.r_35, kernelRun.sl.r_36, kernelRun.sl.r_37, kernelRun.sl.r_38, kernelRun.sl.r_39, kernelRun.sl.r_40, kernelRun.sl.r_41, kernelRun.sl.r_42, kernelRun.sl.r_43, kernelRun.sl.r_44, kernelRun.sl.r_45, kernelRun.sl.r_46, kernelRun.sl.r_47, kernelRun.sl.r_48, kernelRun.sl.r_49, kernelRun.sl.r_50, kernelRun.sl.r_51, kernelRun.sl.r_52, kernelRun.sl.r_53, kernelRun.sl.r_54, kernelRun.sl.r_55, kernelRun.sl.r_56, kernelRun.sl.r_57, kernelRun.sl.r_58, kernelRun.sl.r_59, kernelRun.sl.r_60, kernelRun.sl.r_61, kernelRun.sl.r_62, kernelRun.sl.r_63, kernelRun.sl.r_64, kernelRun.sl.r_65, kernelRun.sl.r_66, kernelRun.sl.r_67, kernelRun.sl.r_68, kernelRun.sl.r_69, kernelRun.sl.r_70, kernelRun.sl.r_71, kernelRun.sl.r_72, kernelRun.sl.r_73, kernelRun.sl.r_74, kernelRun.sl.r_75, kernelRun.sl.r_76, kernelRun.sl.r_77, kernelRun.sl.r_78, kernelRun.sl.r_79, kernelRun.sl.r_80, kernelRun.sl.r_81, kernelRun.sl.r_82, kernelRun.sl.r_83, kernelRun.sl.r_84, kernelRun.sl.r_85, h0_eq, h1_eq, h2_eq, h3_eq, h4_eq, h5_eq, h6_eq, h7_eq, h8_eq, h9_eq, h10_eq, h11_eq, h12_eq, h13_eq, h14_eq, h15_eq]
  refine (tab12 (headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1) (y 0) (y 1)).trans ?_
  refine congrArg zq (funext fun d => ?_)
  exact headkr c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 z3 z4 H3 H4 (y 0) (y 1) d

theorem run13_eq (H3 : W1 x3 z3) (H4 : W1 x4 z4) (f) (y : S8x20.Idx) :
    View.read (Elt Ideal) arg13.view (View.writes arg13.view (Elt Ideal) f (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.1) y = sq (vr x1 x2 (XA : Vec Ideal S3584x9216 .i8) z3 z4 x5 x6 (y 1) (y 0)) := by
  refine (full_write arg13.view f ![0, 0] zero2 _ _ y).trans ?_
  refine (congrArg _ (eq_ix2 y)).trans ?_
  simp only [kernelRun.sl.r_12, kernelRun.sl.r_13, kernelRun.sl.r_14, kernelRun.sl.r_15, kernelRun.sl.r_16, kernelRun.sl.r_17, kernelRun.sl.r_18, kernelRun.sl.r_19, kernelRun.sl.r_20, kernelRun.sl.r_21, kernelRun.sl.r_22, kernelRun.sl.r_23, kernelRun.sl.r_24, kernelRun.sl.r_25, kernelRun.sl.r_26, kernelRun.sl.r_27, kernelRun.sl.r_28, kernelRun.sl.r_29, kernelRun.sl.r_30, kernelRun.sl.r_31, kernelRun.sl.r_32, kernelRun.sl.r_33, kernelRun.sl.r_34, kernelRun.sl.r_35, kernelRun.sl.r_36, kernelRun.sl.r_37, kernelRun.sl.r_38, kernelRun.sl.r_39, kernelRun.sl.r_40, kernelRun.sl.r_41, kernelRun.sl.r_42, kernelRun.sl.r_43, kernelRun.sl.r_44, kernelRun.sl.r_45, kernelRun.sl.r_46, kernelRun.sl.r_47, kernelRun.sl.r_48, kernelRun.sl.r_49, kernelRun.sl.r_50, kernelRun.sl.r_51, kernelRun.sl.r_52, kernelRun.sl.r_53, kernelRun.sl.r_54, kernelRun.sl.r_55, kernelRun.sl.r_56, kernelRun.sl.r_57, kernelRun.sl.r_58, kernelRun.sl.r_59, kernelRun.sl.r_60, kernelRun.sl.r_61, kernelRun.sl.r_62, kernelRun.sl.r_63, kernelRun.sl.r_64, kernelRun.sl.r_65, kernelRun.sl.r_66, kernelRun.sl.r_67, kernelRun.sl.r_68, kernelRun.sl.r_69, kernelRun.sl.r_70, kernelRun.sl.r_71, kernelRun.sl.r_72, kernelRun.sl.r_73, kernelRun.sl.r_74, kernelRun.sl.r_75, kernelRun.sl.r_76, kernelRun.sl.r_77, kernelRun.sl.r_78, kernelRun.sl.r_79, kernelRun.sl.r_80, kernelRun.sl.r_81, kernelRun.sl.r_82, kernelRun.sl.r_83, kernelRun.sl.r_84, kernelRun.sl.r_85, h0_eq, h1_eq, h2_eq, h3_eq, h4_eq, h5_eq, h6_eq, h7_eq, h8_eq, h9_eq, h10_eq, h11_eq, h12_eq, h13_eq, h14_eq, h15_eq]
  refine (tab13 (headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1) (y 0) (y 1)).trans ?_
  refine congrArg sq (funext fun d => ?_)
  exact headvr c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 z3 z4 H3 H4 (y 0) (y 1) d

theorem run14_eq (H3 : W1 x3 z3) (H4 : W1 x4 z4) (f) (y : S8x20.Idx) :
    View.read (Elt Ideal) arg14.view (View.writes arg14.view (Elt Ideal) f (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.1) y = zq (vr x1 x2 (XA : Vec Ideal S3584x9216 .i8) z3 z4 x5 x6 (y 1) (y 0)) := by
  refine (full_write arg14.view f ![0, 0] zero2 _ _ y).trans ?_
  refine (congrArg _ (eq_ix2 y)).trans ?_
  simp only [kernelRun.sl.r_12, kernelRun.sl.r_13, kernelRun.sl.r_14, kernelRun.sl.r_15, kernelRun.sl.r_16, kernelRun.sl.r_17, kernelRun.sl.r_18, kernelRun.sl.r_19, kernelRun.sl.r_20, kernelRun.sl.r_21, kernelRun.sl.r_22, kernelRun.sl.r_23, kernelRun.sl.r_24, kernelRun.sl.r_25, kernelRun.sl.r_26, kernelRun.sl.r_27, kernelRun.sl.r_28, kernelRun.sl.r_29, kernelRun.sl.r_30, kernelRun.sl.r_31, kernelRun.sl.r_32, kernelRun.sl.r_33, kernelRun.sl.r_34, kernelRun.sl.r_35, kernelRun.sl.r_36, kernelRun.sl.r_37, kernelRun.sl.r_38, kernelRun.sl.r_39, kernelRun.sl.r_40, kernelRun.sl.r_41, kernelRun.sl.r_42, kernelRun.sl.r_43, kernelRun.sl.r_44, kernelRun.sl.r_45, kernelRun.sl.r_46, kernelRun.sl.r_47, kernelRun.sl.r_48, kernelRun.sl.r_49, kernelRun.sl.r_50, kernelRun.sl.r_51, kernelRun.sl.r_52, kernelRun.sl.r_53, kernelRun.sl.r_54, kernelRun.sl.r_55, kernelRun.sl.r_56, kernelRun.sl.r_57, kernelRun.sl.r_58, kernelRun.sl.r_59, kernelRun.sl.r_60, kernelRun.sl.r_61, kernelRun.sl.r_62, kernelRun.sl.r_63, kernelRun.sl.r_64, kernelRun.sl.r_65, kernelRun.sl.r_66, kernelRun.sl.r_67, kernelRun.sl.r_68, kernelRun.sl.r_69, kernelRun.sl.r_70, kernelRun.sl.r_71, kernelRun.sl.r_72, kernelRun.sl.r_73, kernelRun.sl.r_74, kernelRun.sl.r_75, kernelRun.sl.r_76, kernelRun.sl.r_77, kernelRun.sl.r_78, kernelRun.sl.r_79, kernelRun.sl.r_80, kernelRun.sl.r_81, kernelRun.sl.r_82, kernelRun.sl.r_83, kernelRun.sl.r_84, kernelRun.sl.r_85, h0_eq, h1_eq, h2_eq, h3_eq, h4_eq, h5_eq, h6_eq, h7_eq, h8_eq, h9_eq, h10_eq, h11_eq, h12_eq, h13_eq, h14_eq, h15_eq]
  refine (tab14 (headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1) (y 0) (y 1)).trans ?_
  refine congrArg zq (funext fun d => ?_)
  exact headvr c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 z3 z4 H3 H4 (y 0) (y 1) d

theorem run10_eq (H3 : W1 x3 z3) (H4 : W1 x4 z4) (b : Fin 20) (h : Fin 8) (d : Fin 128) :
    (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.1 (ix3 b h d) = kvSpec x1 x2 (XA : Vec Ideal S3584x9216 .i8) z3 z4 x5 x6 b h d := by
  have hh := h.isLt
  have hb := b.isLt
  have hk : (fun d => headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 ⟨h.val, by omega⟩ (ix2 ⟨b.val, by omega⟩ d)) = kr x1 x2 (XA : Vec Ideal S3584x9216 .i8) z3 z4 x5 x6 b h :=
    funext fun d => Eq.trans (congrArg (fun k => headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 k (ix2 ⟨b.val, by omega⟩ d)) (Fin.ext (Nat.zero_add _).symm)) (headkr c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 z3 z4 H3 H4 h b d)
  have hv : (fun d => headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1 ⟨8 + h.val, by omega⟩ (ix2 ⟨b.val, by omega⟩ d)) = vr x1 x2 (XA : Vec Ideal S3584x9216 .i8) z3 z4 x5 x6 b h :=
    funext fun d => headvr c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6 z3 z4 H3 H4 h b d
  refine (kvcOf_eq c i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 (headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1) _ ?_ b h d).trans ?_
  · intro y
    simp only [kernelRun.sl.H20_16, kernelRun.sl.r_12, kernelRun.sl.r_13, kernelRun.sl.r_14, kernelRun.sl.r_15, kernelRun.sl.r_16, kernelRun.sl.r_17, kernelRun.sl.r_18, kernelRun.sl.r_19, kernelRun.sl.r_20, kernelRun.sl.r_21, kernelRun.sl.r_22, kernelRun.sl.r_23, kernelRun.sl.r_24, kernelRun.sl.r_25, kernelRun.sl.r_26, kernelRun.sl.r_27, kernelRun.sl.r_28, kernelRun.sl.r_29, kernelRun.sl.r_30, kernelRun.sl.r_31, kernelRun.sl.r_32, kernelRun.sl.r_33, kernelRun.sl.r_34, kernelRun.sl.r_35, kernelRun.sl.r_36, kernelRun.sl.r_37, kernelRun.sl.r_38, kernelRun.sl.r_39, kernelRun.sl.r_40, kernelRun.sl.r_41, kernelRun.sl.r_42, kernelRun.sl.r_43, kernelRun.sl.r_44, kernelRun.sl.r_45, kernelRun.sl.r_46, kernelRun.sl.r_47, kernelRun.sl.r_48, kernelRun.sl.r_49, kernelRun.sl.r_50, kernelRun.sl.r_51, kernelRun.sl.r_52, kernelRun.sl.r_53, kernelRun.sl.r_54, kernelRun.sl.r_55, kernelRun.sl.r_56, kernelRun.sl.r_57, kernelRun.sl.r_58, kernelRun.sl.r_59, kernelRun.sl.r_60, kernelRun.sl.r_61, kernelRun.sl.r_62, kernelRun.sl.r_63, kernelRun.sl.r_64, kernelRun.sl.r_65, kernelRun.sl.r_66, kernelRun.sl.r_67, kernelRun.sl.r_68, kernelRun.sl.r_69, kernelRun.sl.r_70, kernelRun.sl.r_71, kernelRun.sl.r_72, kernelRun.sl.r_73, kernelRun.sl.r_74, kernelRun.sl.r_75, kernelRun.sl.r_76, kernelRun.sl.r_77, kernelRun.sl.r_78, kernelRun.sl.r_79, kernelRun.sl.r_80, kernelRun.sl.r_81, kernelRun.sl.r_82, kernelRun.sl.r_83, kernelRun.sl.r_84, kernelRun.sl.r_85, h0_eq, h1_eq, h2_eq, h3_eq, h4_eq, h5_eq, h6_eq, h7_eq, h8_eq, h9_eq, h10_eq, h11_eq, h12_eq, h13_eq, h14_eq, h15_eq]
    exact read20 (headV arg15 (kernelRun c XA i arg1 harg1 arg2 harg2 arg3 harg3 arg4 harg4 arg5 harg5 arg6 harg6 arg8 harg8 arg9 harg9 arg10 harg10 arg11 harg11 arg12 harg12 arg13 harg13 arg14 harg14 arg15 harg15 arg17 harg17 arg18 harg18 arg19 harg19 arg20 harg20 arg21 harg21 x1 x2 x3 x4 x5 x6).2.2.2.2.2.2.2.1) arg20 _ y
  · exact congrArg₂ (fun u w => Ideal.fptoui 8 (cq u d) ||| (Ideal.fptoui 8 (cq w d) <<< 4)) hk hv

end Cert.Spec
-- ==== Proof.KernelVal7.lean ====
/-
  The kernel's result arrays, as functions of its argument arrays.
-/
module

public import proofs.«01_k».proof.Proof.KernelVal6
public import proofs.«01_k».proof.Proof.KernelIdealFrame
public import Idealize.ShloMosaic.Lib.Pipeline.ValueKit

@[expose] public section

set_option maxRecDepth 16384

noncomputable section

namespace Cert.Spec.Kern

open Cert.KernelIdeal Cert.KernelIdeal.Gen Cert.KernelIdeal.Hand Idealize.ShloMosaic Idealize.ShloMosaic.TcCoe

variable (m : (ℓ : Loc nD τ sig) → Buf (Elt Ideal) ℓ) (c : Dev nD)

/-- The argument arrays as the reference's call would read them. -/
abbrev X0 : Vec Ideal S20x7168 .bf16 := shapeCast S20x7168 (m ((c : Thread nD τ).loc main_arg0)) Cert.ReferenceIdeal.Gen.shapeCasts_S20x1x7168_S20x7168
abbrev X1 : Vec Ideal S1x7168 .f32 := shapeCast S1x7168 (m ((c : Thread nD τ).loc main_arg1)) Cert.ReferenceIdeal.Gen.shapeCasts_S7168_S1x7168
abbrev X2 : Vec Ideal S3584x9216 .i8 := m ((c : Thread nD τ).loc main_arg2)
abbrev X3 : Vec Ideal Cert.ReferenceIdeal.S1x9216 .f32 := shapeCast Cert.ReferenceIdeal.S1x9216 (m ((c : Thread nD τ).loc main_arg3)) Cert.ReferenceIdeal.Gen.shapeCasts_S9216_S1x9216
abbrev X4 : Vec Ideal Cert.ReferenceIdeal.S1x9216 .f32 := shapeCast Cert.ReferenceIdeal.S1x9216 (m ((c : Thread nD τ).loc main_arg4)) Cert.ReferenceIdeal.Gen.shapeCasts_S9216_S1x9216
abbrev X5 : Vec Ideal S20x1x64 .f32 := m ((c : Thread nD τ).loc main_arg5)
abbrev X6 : Vec Ideal S20x1x64 .f32 := m ((c : Thread nD τ).loc main_arg6)

theorem planes (A : Vec Ideal S9216 .f32) (h : S9216.ShapeCasts S72x1x128) (h' : S9216.ShapeCasts Cert.ReferenceIdeal.S1x9216) :
    W1 (shapeCast S72x1x128 A h) (shapeCast Cert.ReferenceIdeal.S1x9216 A h') := by
  intro a d
  pointwise

theorem V0 : V m c main_v0 = X0 m c := by
  entry_read
  rfl
theorem V1 : V m c main_v1 = X1 m c := by
  entry_read
  rfl
theorem VA : (V m c main_arg2 : Vec Ideal S3584x9216 .i8) = X2 m c := V_main_arg2 m c
theorem V2 : W1 (V m c main_v2) (X3 m c) := by
  have e : V m c main_v2 = shapeCast S72x1x128 (m ((c : Thread nD τ).loc main_arg3)) shapeCasts_S9216_S72x1x128 := by
    entry_read
    rfl
  rw [e]
  exact planes _ _ _
theorem V3 : W1 (V m c main_v3) (X4 m c) := by
  have e : V m c main_v3 = shapeCast S72x1x128 (m ((c : Thread nD τ).loc main_arg4)) shapeCasts_S9216_S72x1x128 := by
    entry_read
    rfl
  rw [e]
  exact planes _ _ _
theorem V4 : V m c main_arg5 = X5 m c := V_main_arg5 m c
theorem V5 : V m c main_arg6 = X6 m c := V_main_arg6 m c

theorem ib0 (t : Fin cfg0.N) : iblk m c 0 t = V m c main_v0 := by
  funext y
  blk_simp [iblk]
  exact congrArg (V m c main_v0) (by
    have e : ∀ t : Fin cfg0.N, win0_0.index t = fun _ => 0 := by decide +kernel
    funext a; apply Fin.ext
    fin_cases a <;> blk_simp [e])

theorem ib1 (t : Fin cfg0.N) : iblk m c 1 t = V m c main_v1 := by
  funext y
  blk_simp [iblk]
  exact congrArg (V m c main_v1) (by
    have e : ∀ t : Fin cfg0.N, win0_1.index t = fun _ => 0 := by decide +kernel
    funext a; apply Fin.ext
    fin_cases a <;> blk_simp [e])

theorem ib2 (t : Fin cfg0.N) : iblk m c 2 t = V m c main_v2 := by
  funext y
  blk_simp [iblk]
  exact congrArg (V m c main_v2) (by
    have e : ∀ t : Fin cfg0.N, win0_2.index t = fun _ => 0 := by decide +kernel
    funext a; apply Fin.ext
    fin_cases a <;> blk_simp [e])

theorem ib3 (t : Fin cfg0.N) : iblk m c 3 t = V m c main_v3 := by
  funext y
  blk_simp [iblk]
  exact congrArg (V m c main_v3) (by
    have e : ∀ t : Fin cfg0.N, win0_3.index t = fun _ => 0 := by decide +kernel
    funext a; apply Fin.ext
    fin_cases a <;> blk_simp [e])

theorem ib4 (t : Fin cfg0.N) : iblk m c 4 t = V m c main_arg5 := by
  funext y
  blk_simp [iblk]
  exact congrArg (V m c main_arg5) (by
    have e : ∀ t : Fin cfg0.N, win0_4.index t = fun _ => 0 := by decide +kernel
    funext a; apply Fin.ext
    fin_cases a <;> blk_simp [e])

theorem ib5 (t : Fin cfg0.N) : iblk m c 5 t = V m c main_arg6 := by
  funext y
  blk_simp [iblk]
  exact congrArg (V m c main_arg6) (by
    have e : ∀ t : Fin cfg0.N, win0_5.index t = fun _ => 0 := by decide +kernel
    funext a; apply Fin.ext
    fin_cases a <;> blk_simp [e])

theorem W3 (t : Fin cfg0.N) : W1 (iblk m c 2 t) (X3 m c) := by
  rw [ib2]; exact V2 m c
theorem W4 (t : Fin cfg0.N) : W1 (iblk m c 3 t) (X4 m c) := by
  rw [ib3]; exact V3 m c

attribute [local irreducible] sc kvSpec sq zq kr vr ySpec cf Y T

theorem out6 (t : Fin cfg0.N) (y) : outs6 m c t y = Ideal.fptosi 8 (cf (X0 m c) (X1 m c) (y 0) (y 1)) := by
  have h : outs6 m c t y = Ideal.fptosi 8 (cf (xin1 m c t) (xin2 m c t) (y 0) (y 1)) := run8_eq c (V m c main_arg2) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) sc17 (Memref.isWhole_whole _) sc18 (Memref.isWhole_whole _) sc19 (Memref.isWhole_whole _) sc20 (Memref.isWhole_whole _) sc21 (Memref.isWhole_whole _) (xin1 m c t) (xin2 m c t) (xin3 m c t) (xin4 m c t) (xin5 m c t) (xin6 m c t)  _ y
  rw [h, show xin1 m c t = X0 m c from (ib0 m c t).trans (V0 m c), show xin2 m c t = X1 m c from (ib1 m c t).trans (V1 m c)]

theorem arr6 : (dats m 0 c).arrAt 6 cfg0.N = fun j => Ideal.fptosi 8 (cf (X0 m c) (X1 m c) (j 0) (j 1)) := by
  refine (dats m 0 c).arrAt_eq_of_after_last 6 ⟨0, by decide⟩ (by decide +kernel) _ fun y => ?_
  rw [after0_6, out6]
  rfl

theorem out7 (t : Fin cfg0.N) (y) : outs7 m c t y = sc (X0 m c) (X1 m c) (y 1) := by
  have h : outs7 m c t y = sc (xin1 m c t) (xin2 m c t) (y 1) := run9_eq c (V m c main_arg2) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) sc17 (Memref.isWhole_whole _) sc18 (Memref.isWhole_whole _) sc19 (Memref.isWhole_whole _) sc20 (Memref.isWhole_whole _) sc21 (Memref.isWhole_whole _) (xin1 m c t) (xin2 m c t) (xin3 m c t) (xin4 m c t) (xin5 m c t) (xin6 m c t)  _ y
  rw [h, show xin1 m c t = X0 m c from (ib0 m c t).trans (V0 m c), show xin2 m c t = X1 m c from (ib1 m c t).trans (V1 m c)]

theorem arr7 : (dats m 0 c).arrAt 7 cfg0.N = fun j => sc (X0 m c) (X1 m c) (j 1) := by
  refine (dats m 0 c).arrAt_eq_of_after_last 7 ⟨0, by decide⟩ (by decide +kernel) _ fun y => ?_
  rw [after0_7, out7]
  rfl

theorem out8 (t : Fin cfg0.N) (y) : outs8 m c t y = kvSpec (X0 m c) (X1 m c) (X2 m c) (X3 m c) (X4 m c) (X5 m c) (X6 m c) (y 0) (y 1) (y 2) := by
  have h : outs8 m c t y = kvSpec (xin1 m c t) (xin2 m c t) (V m c main_arg2 : Vec Ideal S3584x9216 .i8) (X3 m c) (X4 m c) (xin5 m c t) (xin6 m c t) (y 0) (y 1) (y 2) := (congrArg (outs8 m c t) (eq_ix3 y)).trans (run10_eq c (V m c main_arg2) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) sc17 (Memref.isWhole_whole _) sc18 (Memref.isWhole_whole _) sc19 (Memref.isWhole_whole _) sc20 (Memref.isWhole_whole _) sc21 (Memref.isWhole_whole _) (xin1 m c t) (xin2 m c t) (xin3 m c t) (xin4 m c t) (xin5 m c t) (xin6 m c t) (X3 m c) (X4 m c) (W3 m c t) (W4 m c t) (y 0) (y 1) (y 2))
  rw [h, show xin1 m c t = X0 m c from (ib0 m c t).trans (V0 m c), show xin2 m c t = X1 m c from (ib1 m c t).trans (V1 m c), show xin5 m c t = X5 m c from (ib4 m c t).trans (V4 m c), show xin6 m c t = X6 m c from (ib5 m c t).trans (V5 m c), VA]

theorem arr8 : (dats m 0 c).arrAt 8 cfg0.N = fun j => kvSpec (X0 m c) (X1 m c) (X2 m c) (X3 m c) (X4 m c) (X5 m c) (X6 m c) (j 0) (j 1) (j 2) := by
  refine (dats m 0 c).arrAt_eq_of_after_last 8 ⟨0, by decide⟩ (by decide +kernel) _ fun y => ?_
  rw [after0_8, out8]
  rfl

theorem out9 (t : Fin cfg0.N) (y) : outs9 m c t y = sq (kr (X0 m c) (X1 m c) (X2 m c) (X3 m c) (X4 m c) (X5 m c) (X6 m c) (y 1) (y 0)) := by
  have h : outs9 m c t y = sq (kr (xin1 m c t) (xin2 m c t) (V m c main_arg2 : Vec Ideal S3584x9216 .i8) (X3 m c) (X4 m c) (xin5 m c t) (xin6 m c t) (y 1) (y 0)) := run11_eq c (V m c main_arg2) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) sc17 (Memref.isWhole_whole _) sc18 (Memref.isWhole_whole _) sc19 (Memref.isWhole_whole _) sc20 (Memref.isWhole_whole _) sc21 (Memref.isWhole_whole _) (xin1 m c t) (xin2 m c t) (xin3 m c t) (xin4 m c t) (xin5 m c t) (xin6 m c t) (X3 m c) (X4 m c) (W3 m c t) (W4 m c t) _ y
  rw [h, show xin1 m c t = X0 m c from (ib0 m c t).trans (V0 m c), show xin2 m c t = X1 m c from (ib1 m c t).trans (V1 m c), show xin5 m c t = X5 m c from (ib4 m c t).trans (V4 m c), show xin6 m c t = X6 m c from (ib5 m c t).trans (V5 m c), VA]

theorem arr9 : (dats m 0 c).arrAt 9 cfg0.N = fun j => sq (kr (X0 m c) (X1 m c) (X2 m c) (X3 m c) (X4 m c) (X5 m c) (X6 m c) (j 1) (j 0)) := by
  refine (dats m 0 c).arrAt_eq_of_after_last 9 ⟨0, by decide⟩ (by decide +kernel) _ fun y => ?_
  rw [after0_9, out9]
  rfl

theorem out10 (t : Fin cfg0.N) (y) : outs10 m c t y = zq (kr (X0 m c) (X1 m c) (X2 m c) (X3 m c) (X4 m c) (X5 m c) (X6 m c) (y 1) (y 0)) := by
  have h : outs10 m c t y = zq (kr (xin1 m c t) (xin2 m c t) (V m c main_arg2 : Vec Ideal S3584x9216 .i8) (X3 m c) (X4 m c) (xin5 m c t) (xin6 m c t) (y 1) (y 0)) := run12_eq c (V m c main_arg2) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) sc17 (Memref.isWhole_whole _) sc18 (Memref.isWhole_whole _) sc19 (Memref.isWhole_whole _) sc20 (Memref.isWhole_whole _) sc21 (Memref.isWhole_whole _) (xin1 m c t) (xin2 m c t) (xin3 m c t) (xin4 m c t) (xin5 m c t) (xin6 m c t) (X3 m c) (X4 m c) (W3 m c t) (W4 m c t) _ y
  rw [h, show xin1 m c t = X0 m c from (ib0 m c t).trans (V0 m c), show xin2 m c t = X1 m c from (ib1 m c t).trans (V1 m c), show xin5 m c t = X5 m c from (ib4 m c t).trans (V4 m c), show xin6 m c t = X6 m c from (ib5 m c t).trans (V5 m c), VA]

theorem arr10 : (dats m 0 c).arrAt 10 cfg0.N = fun j => zq (kr (X0 m c) (X1 m c) (X2 m c) (X3 m c) (X4 m c) (X5 m c) (X6 m c) (j 1) (j 0)) := by
  refine (dats m 0 c).arrAt_eq_of_after_last 10 ⟨0, by decide⟩ (by decide +kernel) _ fun y => ?_
  rw [after0_10, out10]
  rfl

theorem out11 (t : Fin cfg0.N) (y) : outs11 m c t y = sq (vr (X0 m c) (X1 m c) (X2 m c) (X3 m c) (X4 m c) (X5 m c) (X6 m c) (y 1) (y 0)) := by
  have h : outs11 m c t y = sq (vr (xin1 m c t) (xin2 m c t) (V m c main_arg2 : Vec Ideal S3584x9216 .i8) (X3 m c) (X4 m c) (xin5 m c t) (xin6 m c t) (y 1) (y 0)) := run13_eq c (V m c main_arg2) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) sc17 (Memref.isWhole_whole _) sc18 (Memref.isWhole_whole _) sc19 (Memref.isWhole_whole _) sc20 (Memref.isWhole_whole _) sc21 (Memref.isWhole_whole _) (xin1 m c t) (xin2 m c t) (xin3 m c t) (xin4 m c t) (xin5 m c t) (xin6 m c t) (X3 m c) (X4 m c) (W3 m c t) (W4 m c t) _ y
  rw [h, show xin1 m c t = X0 m c from (ib0 m c t).trans (V0 m c), show xin2 m c t = X1 m c from (ib1 m c t).trans (V1 m c), show xin5 m c t = X5 m c from (ib4 m c t).trans (V4 m c), show xin6 m c t = X6 m c from (ib5 m c t).trans (V5 m c), VA]

theorem arr11 : (dats m 0 c).arrAt 11 cfg0.N = fun j => sq (vr (X0 m c) (X1 m c) (X2 m c) (X3 m c) (X4 m c) (X5 m c) (X6 m c) (j 1) (j 0)) := by
  refine (dats m 0 c).arrAt_eq_of_after_last 11 ⟨0, by decide⟩ (by decide +kernel) _ fun y => ?_
  rw [after0_11, out11]
  rfl

theorem out12 (t : Fin cfg0.N) (y) : outs12 m c t y = zq (vr (X0 m c) (X1 m c) (X2 m c) (X3 m c) (X4 m c) (X5 m c) (X6 m c) (y 1) (y 0)) := by
  have h : outs12 m c t y = zq (vr (xin1 m c t) (xin2 m c t) (V m c main_arg2 : Vec Ideal S3584x9216 .i8) (X3 m c) (X4 m c) (xin5 m c t) (xin6 m c t) (y 1) (y 0)) := run14_eq c (V m c main_arg2) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) sc17 (Memref.isWhole_whole _) sc18 (Memref.isWhole_whole _) sc19 (Memref.isWhole_whole _) sc20 (Memref.isWhole_whole _) sc21 (Memref.isWhole_whole _) (xin1 m c t) (xin2 m c t) (xin3 m c t) (xin4 m c t) (xin5 m c t) (xin6 m c t) (X3 m c) (X4 m c) (W3 m c t) (W4 m c t) _ y
  rw [h, show xin1 m c t = X0 m c from (ib0 m c t).trans (V0 m c), show xin2 m c t = X1 m c from (ib1 m c t).trans (V1 m c), show xin5 m c t = X5 m c from (ib4 m c t).trans (V4 m c), show xin6 m c t = X6 m c from (ib5 m c t).trans (V5 m c), VA]

theorem arr12 : (dats m 0 c).arrAt 12 cfg0.N = fun j => zq (vr (X0 m c) (X1 m c) (X2 m c) (X3 m c) (X4 m c) (X5 m c) (X6 m c) (j 1) (j 0)) := by
  refine (dats m 0 c).arrAt_eq_of_after_last 12 ⟨0, by decide⟩ (by decide +kernel) _ fun y => ?_
  rw [after0_12, out12]
  rfl

theorem out13 (t : Fin cfg0.N) (y) : outs13 m c t y = ySpec (X0 m c) (X1 m c) (X2 m c) (X3 m c) (X4 m c) (X5 m c) (X6 m c) (y 0) (y 1) := by
  have h : outs13 m c t y = ySpec (xin1 m c t) (xin2 m c t) (V m c main_arg2 : Vec Ideal S3584x9216 .i8) (X3 m c) (X4 m c) (xin5 m c t) (xin6 m c t) (y 0) (y 1) := (congrArg (outs13 m c t) (eq_ix2 y)).trans (run15_eq c (V m c main_arg2) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) sc17 (Memref.isWhole_whole _) sc18 (Memref.isWhole_whole _) sc19 (Memref.isWhole_whole _) sc20 (Memref.isWhole_whole _) sc21 (Memref.isWhole_whole _) (xin1 m c t) (xin2 m c t) (xin3 m c t) (xin4 m c t) (xin5 m c t) (xin6 m c t) (X3 m c) (X4 m c) (W3 m c t) (W4 m c t) (y 0) (y 1))
  rw [h, show xin1 m c t = X0 m c from (ib0 m c t).trans (V0 m c), show xin2 m c t = X1 m c from (ib1 m c t).trans (V1 m c), show xin5 m c t = X5 m c from (ib4 m c t).trans (V4 m c), show xin6 m c t = X6 m c from (ib5 m c t).trans (V5 m c), VA]

theorem arr13 : (dats m 0 c).arrAt 13 cfg0.N = fun j => ySpec (X0 m c) (X1 m c) (X2 m c) (X3 m c) (X4 m c) (X5 m c) (X6 m c) (j 0) (j 1) := by
  refine (dats m 0 c).arrAt_eq_of_after_last 13 ⟨0, by decide⟩ (by decide +kernel) _ fun y => ?_
  rw [after0_13, out13]
  rfl

end Cert.Spec.Kern
-- ==== Proof.Agree.lean ====
/-
  Kernel and reference compute the same arrays from the same arguments.
-/
module

public import proofs.«01_k».proof.Defs
public import proofs.«01_k».proof.Proof.RefArr
public import proofs.«01_k».proof.Proof.KernelVal7
public import proofs.«01_k».proof.Proof.Gen.ReferenceIdeal.Frame

@[expose] public section

set_option maxRecDepth 16384

noncomputable section

namespace Cert.Spec

open Idealize.ShloMosaic Idealize.SL.Sem

attribute [local irreducible] sc kvSpec sq zq kr vr ySpec cf Y T

section
variable (m : (ℓ : Loc Cert.KernelIdeal.nD Cert.KernelIdeal.τ Cert.KernelIdeal.sig) → Buf (Elt Ideal) ℓ) (c : Dev Cert.KernelIdeal.nD)

/-- The result arrays. -/
def val0 : Buf (Elt Ideal) ((c.tc : Thread Cert.KernelIdeal.nD Cert.KernelIdeal.τ).loc Cert.KernelIdeal.main_v4_0) := fun j => Ideal.fptosi 8 (cf (Kern.X0 m c) (Kern.X1 m c) (j 0) (j 1))
def val1 : Buf (Elt Ideal) ((c.tc : Thread Cert.KernelIdeal.nD Cert.KernelIdeal.τ).loc Cert.KernelIdeal.main_v4_1) := fun j => sc (Kern.X0 m c) (Kern.X1 m c) (j 1)
def val2 : Buf (Elt Ideal) ((c.tc : Thread Cert.KernelIdeal.nD Cert.KernelIdeal.τ).loc Cert.KernelIdeal.main_v4_2) := fun j => kvSpec (Kern.X0 m c) (Kern.X1 m c) (Kern.X2 m c) (Kern.X3 m c) (Kern.X4 m c) (Kern.X5 m c) (Kern.X6 m c) (j 0) (j 1) (j 2)
def val3 : Buf (Elt Ideal) ((c.tc : Thread Cert.KernelIdeal.nD Cert.KernelIdeal.τ).loc Cert.KernelIdeal.main_v4_3) := fun j => sq (kr (Kern.X0 m c) (Kern.X1 m c) (Kern.X2 m c) (Kern.X3 m c) (Kern.X4 m c) (Kern.X5 m c) (Kern.X6 m c) (j 1) (j 0))
def val4 : Buf (Elt Ideal) ((c.tc : Thread Cert.KernelIdeal.nD Cert.KernelIdeal.τ).loc Cert.KernelIdeal.main_v4_4) := fun j => zq (kr (Kern.X0 m c) (Kern.X1 m c) (Kern.X2 m c) (Kern.X3 m c) (Kern.X4 m c) (Kern.X5 m c) (Kern.X6 m c) (j 1) (j 0))
def val5 : Buf (Elt Ideal) ((c.tc : Thread Cert.KernelIdeal.nD Cert.KernelIdeal.τ).loc Cert.KernelIdeal.main_v4_5) := fun j => sq (vr (Kern.X0 m c) (Kern.X1 m c) (Kern.X2 m c) (Kern.X3 m c) (Kern.X4 m c) (Kern.X5 m c) (Kern.X6 m c) (j 1) (j 0))
def val6 : Buf (Elt Ideal) ((c.tc : Thread Cert.KernelIdeal.nD Cert.KernelIdeal.τ).loc Cert.KernelIdeal.main_v4_6) := fun j => zq (vr (Kern.X0 m c) (Kern.X1 m c) (Kern.X2 m c) (Kern.X3 m c) (Kern.X4 m c) (Kern.X5 m c) (Kern.X6 m c) (j 1) (j 0))
def val7 : Buf (Elt Ideal) ((c.tc : Thread Cert.KernelIdeal.nD Cert.KernelIdeal.τ).loc Cert.KernelIdeal.main_v4_7) := fun j => ySpec (Kern.X0 m c) (Kern.X1 m c) (Kern.X2 m c) (Kern.X3 m c) (Kern.X4 m c) (Kern.X5 m c) (Kern.X6 m c) (j 0) (j 1)
end

theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v4_0) = val0 m c
      ∧ r.2.mem ((c.tc : Thread Cert.KernelIdeal.nD Cert.KernelIdeal.τ).loc Cert.KernelIdeal.main_v4_1) = val1 m c
      ∧ r.2.mem ((c.tc : Thread Cert.KernelIdeal.nD Cert.KernelIdeal.τ).loc Cert.KernelIdeal.main_v4_2) = val2 m c
      ∧ r.2.mem ((c.tc : Thread Cert.KernelIdeal.nD Cert.KernelIdeal.τ).loc Cert.KernelIdeal.main_v4_3) = val3 m c
      ∧ r.2.mem ((c.tc : Thread Cert.KernelIdeal.nD Cert.KernelIdeal.τ).loc Cert.KernelIdeal.main_v4_4) = val4 m c
      ∧ r.2.mem ((c.tc : Thread Cert.KernelIdeal.nD Cert.KernelIdeal.τ).loc Cert.KernelIdeal.main_v4_5) = val5 m c
      ∧ r.2.mem ((c.tc : Thread Cert.KernelIdeal.nD Cert.KernelIdeal.τ).loc Cert.KernelIdeal.main_v4_6) = val6 m c
      ∧ r.2.mem ((c.tc : Thread Cert.KernelIdeal.nD Cert.KernelIdeal.τ).loc Cert.KernelIdeal.main_v4_7) = val7 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono (fun r h c => ⟨
    ((h.1 c).1 6).trans (Kern.arr6 m c),
    ((h.1 c).1 7).trans (Kern.arr7 m c),
    ((h.1 c).1 8).trans (Kern.arr8 m c),
    ((h.1 c).1 9).trans (Kern.arr9 m c),
    ((h.1 c).1 10).trans (Kern.arr10 m c),
    ((h.1 c).1 11).trans (Kern.arr11 m c),
    ((h.1 c).1 12).trans (Kern.arr12 m c),
    ((h.1 c).1 13).trans (Kern.arr13 m c),
    ((h.1 c).2 Cert.KernelIdeal.main_arg0 (Pipeline.mem_restRefs_of Cert.KernelIdeal.main_arg0 (by decide) (by decide))).trans (Cert.KernelIdeal.Gen.V_main_arg0 m c),
    ((h.1 c).2 Cert.KernelIdeal.main_arg1 (Pipeline.mem_restRefs_of Cert.KernelIdeal.main_arg1 (by decide) (by decide))).trans (Cert.KernelIdeal.Gen.V_main_arg1 m c),
    ((h.1 c).2 Cert.KernelIdeal.main_arg2 (Pipeline.mem_restRefs_of Cert.KernelIdeal.main_arg2 (by decide) (by decide))).trans (Cert.KernelIdeal.Gen.V_main_arg2 m c),
    ((h.1 c).2 Cert.KernelIdeal.main_arg3 (Pipeline.mem_restRefs_of Cert.KernelIdeal.main_arg3 (by decide) (by decide))).trans (Cert.KernelIdeal.Gen.V_main_arg3 m c),
    ((h.1 c).2 Cert.KernelIdeal.main_arg4 (Pipeline.mem_restRefs_of Cert.KernelIdeal.main_arg4 (by decide) (by decide))).trans (Cert.KernelIdeal.Gen.V_main_arg4 m c),
    ((h.1 c).1 4).trans (((Cert.KernelIdeal.Hand.dats m 0 c).arrAt_in 4 rfl _).trans ((Cert.KernelIdeal.Hand.A_eq m c 4).trans (Cert.KernelIdeal.Gen.V_main_arg5 m c))),
    ((h.1 c).1 5).trans (((Cert.KernelIdeal.Hand.dats m 0 c).arrAt_in 5 rfl _).trans ((Cert.KernelIdeal.Hand.A_eq m c 5).trans (Cert.KernelIdeal.Gen.V_main_arg6 m c)))⟩) (Cert.KernelIdeal.Hand.run_main m g)

section
variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
  (e : X0 m' c = Kern.X0 m c ∧ X1 m' c = Kern.X1 m c ∧ X2 m' c = Kern.X2 m c ∧ X3 m' c = Kern.X3 m c ∧ X4 m' c = Kern.X4 m c ∧ X5 m' c = Kern.X5 m c ∧ X6 m' c = Kern.X6 m c)
include e
theorem val0_eq : (fun j => Ideal.fptosi 8 (cf (X0 m' c) (X1 m' c) (j 0) (j 1)) : Vec Ideal Cert.ReferenceIdeal.S20x7168 .i8) = val0 m c := by
  obtain ⟨e0, e1, e2, e3, e4, e5, e6⟩ := e
  rw [e0, e1]
  rfl
theorem val1_eq : (fun j => sc (X0 m' c) (X1 m' c) (j 1) : Vec Ideal Cert.ReferenceIdeal.S1x20 .f32) = val1 m c := by
  obtain ⟨e0, e1, e2, e3, e4, e5, e6⟩ := e
  rw [e0, e1]
  rfl
theorem val2_eq : (fun j => kvSpec (X0 m' c) (X1 m' c) (X2 m' c) (X3 m' c) (X4 m' c) (X5 m' c) (X6 m' c) (j 0) (j 1) (j 2) : Vec Ideal Cert.ReferenceIdeal.S20x8x128 .i8) = val2 m c := by
  obtain ⟨e0, e1, e2, e3, e4, e5, e6⟩ := e
  rw [e0, e1, e2, e3, e4, e5, e6]
  rfl
theorem val3_eq : (fun j => sq (kr (X0 m' c) (X1 m' c) (X2 m' c) (X3 m' c) (X4 m' c) (X5 m' c) (X6 m' c) (j 1) (j 0)) : Vec Ideal Cert.ReferenceIdeal.S8x20 .f32) = val3 m c := by
  obtain ⟨e0, e1, e2, e3, e4, e5, e6⟩ := e
  rw [e0, e1, e2, e3, e4, e5, e6]
  rfl
theorem val4_eq : (fun j => zq (kr (X0 m' c) (X1 m' c) (X2 m' c) (X3 m' c) (X4 m' c) (X5 m' c) (X6 m' c) (j 1) (j 0)) : Vec Ideal Cert.ReferenceIdeal.S8x20 .f32) = val4 m c := by
  obtain ⟨e0, e1, e2, e3, e4, e5, e6⟩ := e
  rw [e0, e1, e2, e3, e4, e5, e6]
  rfl
theorem val5_eq : (fun j => sq (vr (X0 m' c) (X1 m' c) (X2 m' c) (X3 m' c) (X4 m' c) (X5 m' c) (X6 m' c) (j 1) (j 0)) : Vec Ideal Cert.ReferenceIdeal.S8x20 .f32) = val5 m c := by
  obtain ⟨e0, e1, e2, e3, e4, e5, e6⟩ := e
  rw [e0, e1, e2, e3, e4, e5, e6]
  rfl
theorem val6_eq : (fun j => zq (vr (X0 m' c) (X1 m' c) (X2 m' c) (X3 m' c) (X4 m' c) (X5 m' c) (X6 m' c) (j 1) (j 0)) : Vec Ideal Cert.ReferenceIdeal.S8x20 .f32) = val6 m c := by
  obtain ⟨e0, e1, e2, e3, e4, e5, e6⟩ := e
  rw [e0, e1, e2, e3, e4, e5, e6]
  rfl
theorem val7_eq : (fun j => ySpec (X0 m' c) (X1 m' c) (X2 m' c) (X3 m' c) (X4 m' c) (X5 m' c) (X6 m' c) (j 0) (j 1) : Vec Ideal Cert.ReferenceIdeal.S1728x128 .f32) = val7 m c := by
  obtain ⟨e0, e1, e2, e3, e4, e5, e6⟩ := e
  rw [e0, e1, e2, e3, e4, e5, e6]
  rfl
end

theorem reference_run (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (g' : Dev Cert.ReferenceIdeal.nD → PrngReg)
    (e : ∀ c : Dev Cert.KernelIdeal.nD, X0 m' c = Kern.X0 m c ∧ X1 m' c = Kern.X1 m c ∧ X2 m' c = Kern.X2 m c ∧ X3 m' c = Kern.X3 m c ∧ X4 m' c = Kern.X4 m c ∧ X5 m' c = Kern.X5 m c ∧ X6 m' c = Kern.X6 m c) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v4_0) = val0 m c
      ∧ r.2.mem ((c.tc : Thread Cert.ReferenceIdeal.nD Cert.ReferenceIdeal.τ).loc Cert.ReferenceIdeal.main_v4_1) = val1 m c
      ∧ r.2.mem ((c.tc : Thread Cert.ReferenceIdeal.nD Cert.ReferenceIdeal.τ).loc Cert.ReferenceIdeal.main_v4_2) = val2 m c
      ∧ r.2.mem ((c.tc : Thread Cert.ReferenceIdeal.nD Cert.ReferenceIdeal.τ).loc Cert.ReferenceIdeal.main_v4_3) = val3 m c
      ∧ r.2.mem ((c.tc : Thread Cert.ReferenceIdeal.nD Cert.ReferenceIdeal.τ).loc Cert.ReferenceIdeal.main_v4_4) = val4 m c
      ∧ r.2.mem ((c.tc : Thread Cert.ReferenceIdeal.nD Cert.ReferenceIdeal.τ).loc Cert.ReferenceIdeal.main_v4_5) = val5 m c
      ∧ r.2.mem ((c.tc : Thread Cert.ReferenceIdeal.nD Cert.ReferenceIdeal.τ).loc Cert.ReferenceIdeal.main_v4_6) = val6 m c
      ∧ r.2.mem ((c.tc : Thread Cert.ReferenceIdeal.nD Cert.ReferenceIdeal.τ).loc Cert.ReferenceIdeal.main_v4_7) = val7 m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run Cert.ReferenceIdeal.defs _ _).mono (fun r h c => ⟨
    ((h c).1 7).trans ((arr7 m' c).trans (val0_eq m m' c (e c))),
    ((h c).1 8).trans ((arr8 m' c).trans (val1_eq m m' c (e c))),
    ((h c).1 9).trans ((arr9 m' c).trans (val2_eq m m' c (e c))),
    ((h c).1 10).trans ((arr10 m' c).trans (val3_eq m m' c (e c))),
    ((h c).1 11).trans ((arr11 m' c).trans (val4_eq m m' c (e c))),
    ((h c).1 12).trans ((arr12 m' c).trans (val5_eq m m' c (e c))),
    ((h c).1 13).trans ((arr13 m' c).trans (val6_eq m m' c (e c))),
    ((h c).1 14).trans ((arr14 m' c).trans (val7_eq m m' c (e c))),
    ((h c).2 Cert.ReferenceIdeal.main_arg0 (Pipeline.mem_restRefs_of Cert.ReferenceIdeal.main_arg0 (by decide) (by decide))).trans (Cert.ReferenceIdeal.Gen.V_main_arg0 m' c),
    ((h c).2 Cert.ReferenceIdeal.main_arg1 (Pipeline.mem_restRefs_of Cert.ReferenceIdeal.main_arg1 (by decide) (by decide))).trans (Cert.ReferenceIdeal.Gen.V_main_arg1 m' c),
    ((h c).1 2).trans (((Cert.ReferenceIdeal.Gen.dats m' 0 c).arrAt_in 2 rfl _).trans ((Cert.ReferenceIdeal.Gen.A_eq m' c 2).trans (Cert.ReferenceIdeal.Gen.V_main_arg2 m' c))),
    ((h c).2 Cert.ReferenceIdeal.main_arg3 (Pipeline.mem_restRefs_of Cert.ReferenceIdeal.main_arg3 (by decide) (by decide))).trans (Cert.ReferenceIdeal.Gen.V_main_arg3 m' c),
    ((h c).2 Cert.ReferenceIdeal.main_arg4 (Pipeline.mem_restRefs_of Cert.ReferenceIdeal.main_arg4 (by decide) (by decide))).trans (Cert.ReferenceIdeal.Gen.V_main_arg4 m' c),
    ((h c).1 5).trans (((Cert.ReferenceIdeal.Gen.dats m' 0 c).arrAt_in 5 rfl _).trans ((Cert.ReferenceIdeal.Gen.A_eq m' c 5).trans (Cert.ReferenceIdeal.Gen.V_main_arg5 m' c))),
    ((h c).1 6).trans (((Cert.ReferenceIdeal.Gen.dats m' 0 c).arrAt_in 6 rfl _).trans ((Cert.ReferenceIdeal.Gen.A_eq m' c 6).trans (Cert.ReferenceIdeal.Gen.V_main_arg6 m' c)))⟩) (Cert.ReferenceIdeal.Gen.run_main m' g')

theorem algebraic : Cert.algebraic_KernelIdeal_ReferenceIdeal (hKernelIdeal := Cert.KernelIdeal.Gen.facts) (hReferenceIdeal := Cert.ReferenceIdeal.Gen.facts) := by
  intro m g m' g' _ hag
  refine ⟨val0 m, val1 m, val2 m, val3 m, val4 m, val5 m, val6 m, val7 m, kernel_run m g, reference_run m m' g' fun c => ?_⟩
  obtain ⟨a0, a1, a2, a3, a4, a5, a6⟩ := hag c
  refine ⟨congrArg (fun A => shapeCast _ A _) a0, congrArg (fun A => shapeCast _ A _) a1, a2, congrArg (fun A => shapeCast _ A _) a3, congrArg (fun A => shapeCast _ A _) a4, a5, a6⟩

end Cert.Spec
-- ==== Proof.KernelORing.lean ====
/-
  `KernelO`'s weight ring. The body streams the fourteen column tiles of the packed weight matrix through the three slots
  of a VMEM buffer, one DMA semaphore per slot: a prologue starts tiles 0, 1 and 2; trip `k` of the output loop
  waits for tile `k` in slot `k % 3`, computes four groups of 128 columns from it, and starts tile `k + 3` into the slot it has freed
  while there is one. This module names the tiles, the slots and the cells, proves the printed offsets equal to
  those names, runs one trip at a symbolic `k`, and states the counted loop by its invariant.
-/
module

public import proofs.«01_k».proof.Proof.Gen.KernelO.Launch
public import proofs.«01_k».proof.Proof.Gen.KernelO.Skeleton
public import proofs.«01_k».proof.Proof.Gen.KernelO.Loops
public import proofs.«01_k».proof.Proof.Gen.KernelO.Points
public import Idealize.ShloMosaic.Lib.Pipeline.KitQuiescent
public import Idealize.ShloMosaic.Lib.Pipeline.Frame
public import Idealize.ShloMosaic.Lib.Ring
public import Idealize.ShloMosaic.Lib.Affine
public import Idealize.ShloMosaic.Lib.Tactic
public import Idealize.ShloMosaic.Lib.ValueIdxCore

@[expose] public section

set_option maxRecDepth 8192
set_option maxHeartbeats 4000000

noncomputable section

namespace Cert.KernelO.Hand

open Cert.KernelO Cert.KernelO.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The resource algebra: the pipeline library's, beside the counters the kernel's own transfers ride on -/

abbrev UU : Type := Pipeline.UD sig nD τ
local notation "𝕄" => MT nD τ sig Unit (Elt F) ℕ (Pipeline.UD sig nD τ) ℕ
abbrev 𝒱₀ : Variants := Variants.none

omit [FloatOps F] in
theorem entails_of_eq {P Q : sProp 𝕄} (e : P = Q) : P ⊢ Q := e ▸ .rfl

/-! ## Canonical names: tile `b` of the weights, slot `s` of the buffer, slot `s`'s cell -/

abbrev aM : Memref sig .tc .hbm S3584x7168 .i8 := Memref.whole main_arg1
abbrev bufM : Memref sig .tc .vmem S3x3584x512 .i8 := Memref.whole cc0_scratch0

abbrev grpOff (b : Fin 14) : Fin 2 → Nat := ![0, 512 * b.val]
theorem grpOff_inb (b : Fin 14) : ∀ a, grpOff b a + S3584x512.size a ≤ S3584x7168.size a := by
  have := b.isLt; intro a; fin_cases a
  · show 0 + 3584 ≤ 3584; omega
  · show 512 * b.val + 512 ≤ 7168; omega
abbrev slotOff (s : Fin 3) : Fin 3 → Nat := ![s.val, 0, 0]
theorem slotOff_inb (s : Fin 3) : ∀ a, slotOff s a + S1x3584x512.size a ≤ S3x3584x512.size a := by
  have := s.isLt; intro a; fin_cases a
  · show s.val + 1 ≤ 3; omega
  · show 0 + 3584 ≤ 3584; omega
  · show 0 + 512 ≤ 512; omega
abbrev semOff (s : Fin 3) : Fin 1 → Nat := ![s.val]
theorem semOff_inb (s : Fin 3) : ∀ a, semOff s a + S1.size a ≤ S3.size a := by
  have := s.isLt; intro a; fin_cases a; show s.val + 1 ≤ 3; omega

/-- Tile `b` of the weights: columns `512 b … 512 b + 511`. -/
def grp (b : Fin 14) : Memref sig .tc .hbm S3584x512 .i8 :=
  aM.slice (Rect.unit (s := S3584x7168) (grpOff b) S3584x512.size (grpOff_inb b)) (fun _ => rfl)
/-- Slot `s` of the buffer, as the body slices and squeezes it. -/
def rslot (s : Fin 3) : Memref sig .tc .vmem S3584x512 .i8 :=
  (bufM.slice (Rect.unit (s := S3x3584x512) (slotOff s) S1x3584x512.size (slotOff_inb s)) (fun _ => rfl)).squeeze S3584x512 squeezes_S1x3584x512_S3584x512
/-- Slot `s`'s DMA semaphore. -/
def csm (s : Fin 3) : DmaSems sig S_ := (cc0_scratch3.slice (Rect.unit (s := S3) (semOff s) S1.size (semOff_inb s))).squeeze S_ squeezes_S1_S_

instance (s : Fin 3) : ClosedOff (slotOff s) := ⟨slotOff s, rfl⟩
instance (b : Fin 14) : ClosedOff (grpOff b) := ⟨grpOff b, rfl⟩

/-! ## The induction variable's chain in closed form -/

section Chain
open Affine

theorem trips1_eq : k0_t1_loop.trips = 14 := by decide
theorem lt14 (k : Fin k0_t1_loop.trips) : k.val < 14 := Nat.lt_of_lt_of_eq k.isLt trips1_eq

theorem isInt_iv (k : Fin k0_t1_loop.trips) : IsInt (Scf.iv 0#32 1#32 k.val) k.val :=
  have := lt14 k
  iv (e := k.val) (ofNat (e := 0) 0 ⟨rfl, by decide⟩) (ofNat (e := 1) 1 ⟨rfl, by decide⟩) k.val ⟨by omega, by omega, by omega⟩
theorem isInt_rem (k : Fin k0_t1_loop.trips) : IsInt (Scalar.remsi (Scf.iv 0#32 1#32 k.val) 3#32) (k.val % 3 : Nat) :=
  remsi (e := (k.val % 3 : Nat)) (isInt_iv k) (ofNat (e := 3) 3 ⟨rfl, by decide⟩) ⟨by omega, by omega, by omega⟩
theorem isInt_tile (k : Fin k0_t1_loop.trips) : IsInt (Scalar.muli (Scf.iv 0#32 1#32 k.val) 512#32) (512 * k.val : Nat) :=
  have := lt14 k
  muli (e := (512 * k.val : Nat)) (isInt_iv k) (ofNat (e := 512) 512 ⟨rfl, by decide⟩) ⟨by push_cast; omega, by push_cast; omega, by push_cast; omega⟩
theorem isInt_next (k : Fin k0_t1_loop.trips) : IsInt (Scalar.addi (Scf.iv 0#32 1#32 k.val) 3#32) (k.val + 3 : Nat) :=
  have := lt14 k
  addi (e := (k.val + 3 : Nat)) (isInt_iv k) (ofNat (e := 3) 3 ⟨rfl, by decide⟩) ⟨by push_cast; omega, by push_cast; omega, by push_cast; omega⟩
theorem isInt_nextTile (k : Fin k0_t1_loop.trips) : IsInt (Scalar.muli (Scalar.addi (Scf.iv 0#32 1#32 k.val) 3#32) 512#32) (512 * (k.val + 3) : Nat) :=
  have := lt14 k
  muli (e := (512 * (k.val + 3) : Nat)) (isInt_next k) (ofNat (e := 512) 512 ⟨rfl, by decide⟩) ⟨by push_cast; omega, by push_cast; omega, by push_cast; omega⟩

theorem off1_eq (k : Fin k0_t1_loop.trips) : k0_off1 k = semOff (Ring.sl 3 k.val) :=
  vec_cons (isInt_rem k) (by simp [Ring.sl, Fin.ofNat]) vec_nil
theorem off2_eq (k : Fin k0_t1_loop.trips) : k0_off2 k = slotOff (Ring.sl 3 k.val) :=
  vec_cons (isInt_rem k) (by simp [Ring.sl, Fin.ofNat]) rfl
theorem off4_eq (k : Fin k0_t1_loop.trips) : k0_off4 k = slotOff (Ring.sl 3 k.val) :=
  vec_cons (indexCast (isInt_rem k)) (by simp [Ring.sl, Fin.ofNat]) rfl
theorem off7_eq (k : Fin k0_t1_loop.trips) : k0_off7 k = semOff (Ring.sl 3 k.val) := off1_eq k
theorem off8_eq (k : Fin k0_t1_loop.trips) : k0_off8 k = slotOff (Ring.sl 3 k.val) := off2_eq k
theorem off3_eq (k : Fin k0_t1_loop.trips) (hk : k.val < 14) : k0_off3 k = grpOff (Ring.bk 14 k.val) := by
  have e : (Scalar.muli (Scf.iv 0#32 1#32 k.val) 512#32).toNat = 512 * k.val := nat_eq (isInt_tile k) _ rfl
  show (![0, (Scalar.muli (Scf.iv 0#32 1#32 k.val) 512#32).toNat] : Fin 2 → Nat) = _
  rw [e]; unfold grpOff; rw [Ring.bk_val hk]
theorem off9_eq (k : Fin k0_t1_loop.trips) (hk : k.val + 3 < 14) : k0_off9 k = grpOff (Ring.bk 14 (k.val + 3)) := by
  have e : (Scalar.muli (Scalar.addi (Scf.iv 0#32 1#32 k.val) 3#32) 512#32).toNat = 512 * (k.val + 3) := nat_eq (isInt_nextTile k) _ rfl
  show (![0, (Scalar.muli (Scalar.addi (Scf.iv 0#32 1#32 k.val) 3#32) 512#32).toNat] : Fin 2 → Nat) = _
  rw [e]; unfold grpOff; rw [Ring.bk_val hk]

/-- The trip starts another tile exactly while there is one. -/
theorem cond1_iff : ∀ k : Fin k0_t1_loop.trips, k0_cond1 k = 1#1 ↔ k.val + 3 < 14 := by decide

instance (k : Fin k0_t1_loop.trips) : ClosedOff (k0_off4 k) := ⟨slotOff (Ring.sl 3 k.val), off4_eq k⟩
instance (k : Fin k0_t1_loop.trips) : ClosedOff (k0_off2 k) := ⟨slotOff (Ring.sl 3 k.val), off2_eq k⟩
instance (k : Fin k0_t1_loop.trips) : ClosedOff (k0_off8 k) := ⟨slotOff (Ring.sl 3 k.val), off8_eq k⟩

end Chain

/-! ### The canonical-name equations: the body's slices are `csm`, `rslot`, `grp` -/

section Canon

theorem csm_congr {off : Fin 1 → Nat} {s : Fin 3} (e : off = semOff s) (hh) :
    (cc0_scratch3.slice (Rect.unit (s := S3) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 3} (e : off = slotOff s) (hh hs) :
    (bufM.slice (Rect.unit (s := S3x3584x512) off S1x3584x512.size hh) hs).squeeze S3584x512 squeezes_S1x3584x512_S3584x512 = rslot s :=
  congrArg (fun M : Memref sig .tc .vmem S1x3584x512 .i8 => M.squeeze S3584x512 squeezes_S1x3584x512_S3584x512) (Memref.slice_unit_congr _ e _ _ _ _)
theorem grp_congr {off : Fin 2 → Nat} {b : Fin 14} (e : off = grpOff b) (hh hs) :
    aM.slice (Rect.unit (s := S3584x7168) off S3584x512.size hh) hs = grp b :=
  Memref.slice_unit_congr _ e _ _ _ (fun _ => rfl)

/-- The prologue's literal slices: slots, cells and tiles 0, 1 and 2. -/
@[sl_canon] theorem semL0 (hh) : (cc0_scratch3.slice (Rect.unit (s := S3) ![0] S1.size hh)).squeeze S_ squeezes_S1_S_ = csm 0 := csm_congr (by decide) _
@[sl_canon] theorem semL1 (hh) : (cc0_scratch3.slice (Rect.unit (s := S3) ![1] S1.size hh)).squeeze S_ squeezes_S1_S_ = csm 1 := csm_congr (by decide) _
@[sl_canon] theorem semL2 (hh) : (cc0_scratch3.slice (Rect.unit (s := S3) ![2] S1.size hh)).squeeze S_ squeezes_S1_S_ = csm 2 := csm_congr (by decide) _
@[sl_canon] theorem slotL0 (hh hs) : (bufM.slice (Rect.unit (s := S3x3584x512) ![0, 0, 0] S1x3584x512.size hh) hs).squeeze S3584x512 squeezes_S1x3584x512_S3584x512 = rslot 0 := rslot_congr (by decide) _ _
@[sl_canon] theorem slotL1 (hh hs) : (bufM.slice (Rect.unit (s := S3x3584x512) ![1, 0, 0] S1x3584x512.size hh) hs).squeeze S3584x512 squeezes_S1x3584x512_S3584x512 = rslot 1 := rslot_congr (by decide) _ _
@[sl_canon] theorem slotL2 (hh hs) : (bufM.slice (Rect.unit (s := S3x3584x512) ![2, 0, 0] S1x3584x512.size hh) hs).squeeze S3584x512 squeezes_S1x3584x512_S3584x512 = rslot 2 := rslot_congr (by decide) _ _
@[sl_canon] theorem grpL0 (hh hs) : aM.slice (Rect.unit (s := S3584x7168) ![0, 0] S3584x512.size hh) hs = grp 0 := grp_congr (by decide) _ _
@[sl_canon] theorem grpL1 (hh hs) : aM.slice (Rect.unit (s := S3584x7168) ![0, 512] S3584x512.size hh) hs = grp 1 := grp_congr (by decide) _ _
@[sl_canon] theorem grpL2 (hh hs) : aM.slice (Rect.unit (s := S3584x7168) ![0, 1024] S3584x512.size hh) hs = grp 2 := grp_congr (by decide) _ _

/-- Trip `k`: cell and slot `k % 3`, tile `k` waited, tile `k + 3` started. -/
@[sl_canon] theorem semK (k : Fin k0_t1_loop.trips) (hh) :
    (cc0_scratch3.slice (Rect.unit (s := S3) (k0_off1 k) S1.size hh)).squeeze S_ squeezes_S1_S_ = csm (Ring.sl 3 k.val) := csm_congr (off1_eq k) _
@[sl_canon] theorem slotK (k : Fin k0_t1_loop.trips) (hh hs) :
    (bufM.slice (Rect.unit (s := S3x3584x512) (k0_off2 k) S1x3584x512.size hh) hs).squeeze S3584x512 squeezes_S1x3584x512_S3584x512 = rslot (Ring.sl 3 k.val) := rslot_congr (off2_eq k) _ _
@[sl_canon] theorem grpW (k : Fin k0_t1_loop.trips) (hk : k.val < 14) (hh hs) :
    aM.slice (Rect.unit (s := S3584x7168) (k0_off3 k) S3584x512.size hh) hs = grp (Ring.bk 14 k.val) := grp_congr (off3_eq k hk) _ _
@[sl_canon] theorem semI (k : Fin k0_t1_loop.trips) (hh) :
    (cc0_scratch3.slice (Rect.unit (s := S3) (k0_off7 k) S1.size hh)).squeeze S_ squeezes_S1_S_ = csm (Ring.sl 3 k.val) := csm_congr (off7_eq k) _
@[sl_canon] theorem slotI (k : Fin k0_t1_loop.trips) (hh hs) :
    (bufM.slice (Rect.unit (s := S3x3584x512) (k0_off8 k) S1x3584x512.size hh) hs).squeeze S3584x512 squeezes_S1x3584x512_S3584x512 = rslot (Ring.sl 3 k.val) := rslot_congr (off8_eq k) _ _
@[sl_canon] theorem grpI (k : Fin k0_t1_loop.trips) (hk : k.val + 3 < 14) (hh hs) :
    aM.slice (Rect.unit (s := S3584x7168) (k0_off9 k) S3584x512.size hh) hs = grp (Ring.bk 14 (k.val + 3)) := grp_congr (off9_eq k hk) _ _

end Canon

/-! ## The pieces: a tile home, a slot held, a slot's cell, a slot in flight -/

section Pieces
variable (c : Dev nD) (XA : Buf (Elt F) (aM.view.loc (c : Thread nD τ)))

abbrev cellP (s : Fin 3) : sProp 𝕄 := semVal ((c : Thread nD τ), SemLoc.dma (csm s).sem) 0
abbrev slotP (s : Fin 3) (f : Buf (Elt F) ((rslot s).view.loc (c : Thread nD τ))) : sProp 𝕄 :=
  (rslot s).view.loc (c : Thread nD τ) ↦[(rslot s).view.set]{fullShare} f
/-- Tile `b` HOME: held on its elements at the weights' contents. -/
abbrev homeP (b : Fin 14) : sProp 𝕄 := (grp b).view.loc (c : Thread nD τ) ↦[(grp b).view.set]{fullShare} XA
/-- Tile `b`'s words as a slot's payload. -/
abbrev payload (b : Fin 14) : S3584x512.Idx → Elt F .i8 := ReadAs.same.apply ((grp b).view.read (Elt F) XA)
/-- What tile `b`'s transfer leaves in slot `s` over prior contents `f`: the tile, written whole. -/
abbrev landed (s : Fin 3) (b : Fin 14) (f : Buf (Elt F) ((rslot s).view.loc (c : Thread nD τ))) : Buf (Elt F) ((rslot s).view.loc (c : Thread nD τ)) :=
  (rslot s).view.writes (Elt F) f [⟨Rect.whole S3584x512, payload c XA b⟩]
/-- A tile's transfer moves 57344 units on its cell. -/
abbrev NN : ℕ := 57344
/-- Slot `s` IN FLIGHT with tile `b`, started over `f`. -/
abbrev flightP (s : Fin 3) (b : Fin 14) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

/-- Slot `j % 3` before a trip at most `j`: in flight with tile `j` while there is one, free otherwise. -/
@[irreducible] def ringAt (j : ℕ) : sProp 𝕄 :=
  if j < 14 then iprop(∃ f, flightP c XA (Ring.sl 3 j) (Ring.bk 14 j) f)
  else iprop((∃ f, slotP c (Ring.sl 3 j) f) ∗ cellP c (Ring.sl 3 j))
theorem ringAt_in (j : ℕ) (h : j < 14) : ringAt c XA j = iprop(∃ f, flightP c XA (Ring.sl 3 j) (Ring.bk 14 j) f) := by unfold ringAt; exact if_pos h
theorem ringAt_out (j : ℕ) (h : ¬ j < 14) : ringAt c XA j = iprop((∃ f, slotP c (Ring.sl 3 j) f) ∗ cellP c (Ring.sl 3 j)) := by unfold ringAt; exact if_neg h

/-- Trip `k`'s homes: tile `k + 3` (about to go out) beside the rest. -/
theorem homes_here (k : ℕ) (hk : k + 3 < 14) :
    bigSep (Ring.homeSet 3 k) (homeP c XA) = iprop(homeP c XA (Ring.bk 14 (k + 3)) ∗ bigSep ((Ring.homeSet 3 k).erase (Ring.bk 14 (k + 3))) (homeP c XA)) := by
  conv_lhs => rw [Ring.homeSet_out 3 k hk, bigSep_insert (Ring.bkL_not_mem_erase 3 k)]
  rfl
/-- Trip `k + 1`'s homes: tile `k` (just back) beside that rest; -/
theorem homes_next (k : ℕ) (hk : k + 3 < 14) :
    bigSep (Ring.homeSet 3 (k + 1)) (homeP c XA) = iprop(homeP c XA (Ring.bk 14 k) ∗ bigSep ((Ring.homeSet 3 k).erase (Ring.bk 14 (k + 3))) (homeP c XA)) := by
  conv_lhs => rw [Ring.homeSet_succ 3 k hk, bigSep_insert (Ring.bk_not_mem_erase 3 k (by omega) (by decide))]
  rfl
/-- near the end, beside all that were home. -/
theorem homes_tail (k : ℕ) (hk : ¬ k + 3 < 14) (h : k < 14) :
    bigSep (Ring.homeSet 3 (k + 1)) (homeP c XA) = iprop(homeP c XA (Ring.bk 14 k) ∗ bigSep (Ring.homeSet 3 k) (homeP c XA)) := by
  conv_lhs => rw [Ring.homeSet_succ_tail 3 k (by omega) h, bigSep_insert (Ring.bk_not_mem_homeSet 3 k h (by decide))]
  rfl

/-- The flight a trip starts, as the run states it: into the slot as the previous tile's flight delivered it (restated
    over junk), the new payload consed on. -/
theorem flightP_after (s : Fin 3) (b b' : Fin 14) :
    flightP c XA s b' ((rslot s).view.writes (Elt F) (rslot s).view.junk [⟨Rect.whole S3584x512, payload c XA b⟩])
      = Transfers.Flight countersEmb (c : Thread nD τ) (SemLoc.dma (csm s).sem) () 57344
          iprop(((rslot s).view.loc (c : Thread nD τ) ↦[(rslot s).view.set]{fullShare}
                  (rslot s).view.writes (Elt F) (rslot s).view.junk [⟨Rect.whole S3584x512, payload c XA b'⟩, ⟨Rect.whole S3584x512, payload c XA b⟩])
                ∗ homeP c XA b') := by
  simp only [flightP, landed, slotP, NN, View.writes]

end Pieces

/-! ## One trip of the output loop -/

section Trip

variable (c : Dev nD) (XA : Buf (Elt F) (aM.view.loc (c : Thread nD τ)))
variable (i : grid0.Coords) (arg1 : Memref sig .tc .vmem S20x7168 .bf16) (harg1 : arg1.IsWhole) (arg2 : Memref sig .tc .vmem S56x1x128 .f32) (harg2 : arg2.IsWhole) (arg3 : Memref sig .tc .vmem S56x1x128 .f32) (harg3 : arg3.IsWhole) (arg4 : Memref sig .tc .vmem S1344x128 .f32) (harg4 : arg4.IsWhole) (arg6 : Memref sig .tc .vmem S20x7168 .bf16) (harg6 : arg6.IsWhole) (arg7 : Memref sig .tc .vmem S20x7168 .i8) (harg7 : arg7.IsWhole) (arg8 : Memref sig .tc .vmem S1x20 .f32) (harg8 : arg8.IsWhole) (arg10 : Memref sig .tc .vmem S32x7168 .bf16) (harg10 : arg10.IsWhole) (arg11 : Memref sig .tc .vmem S2x24x128 .f32) (harg11 : arg11.IsWhole)
  (X2 : Buf (Elt F) (arg2.view.loc (c : Thread nD τ))) (X3 : Buf (Elt F) (arg3.view.loc (c : Thread nD τ)))
  (X10 : Buf (Elt F) (arg10.view.loc (c : Thread nD τ))) (X11 : Buf (Elt F) (arg11.view.loc (c : Thread nD τ)))
  (X1 : Buf (Elt F) (arg1.view.loc (c : Thread nD τ)))

/-- The resources before trip `k`, the result's buffer at `fo`. -/
abbrev resAt (k : ℕ) (fo : Buf (Elt F) (arg6.view.loc (c : Thread nD τ))) : sProp 𝕄 :=
  iprop((arg2.view.loc (c : Thread nD τ) ↦[arg2.view.set]{fullShare} X2) ∗ (arg3.view.loc (c : Thread nD τ) ↦[arg3.view.set]{fullShare} X3)
    ∗ (arg10.view.loc (c : Thread nD τ) ↦[arg10.view.set]{fullShare} X10) ∗ (arg11.view.loc (c : Thread nD τ) ↦[arg11.view.set]{fullShare} X11)
    ∗ (arg1.view.loc (c : Thread nD τ) ↦[arg1.view.set]{fullShare} X1)
    ∗ (arg6.view.loc (c : Thread nD τ) ↦[arg6.view.set]{fullShare} fo) ∗ (∃ W, owes (c : Thread nD τ) 0 W)
    ∗ bigSep (Ring.homeSet 3 k) (homeP c XA)
    ∗ ringAt c XA k ∗ ringAt c XA (k + 1) ∗ ringAt c XA (k + 2))

set_option backward.proofsInPublic true in
/-- ONE TRIP at a symbolic `k`, the pieces it stores to be found by the run. -/
@[irreducible] def tripRun (k : Fin k0_t1_loop.trips) :
    { L : List (View.Piece (Elt F) S20x7168 .bf16) // ∀ (fo : Buf (Elt F) (arg6.view.loc (c : Thread nD τ))),
      resAt c XA arg1 arg2 arg3 arg6 arg10 arg11 X2 X3 X10 X11 X1 k fo ⊢ wp frame (wpE (defs₀ (F := F)) 𝒱₀ (c : Thread nD τ) none) Set.univ
          (k0_t1_body (F := F) i arg1 harg1 arg2 harg2 arg3 harg3 arg4 harg4 aM (Memref.isWhole_whole _) arg6 harg6 arg7 harg7 arg8 harg8 bufM (Memref.isWhole_whole _) arg10 harg10 arg11 harg11 cc0_scratch3 k ())
        (fun _ => resAt c XA arg1 arg2 arg3 arg6 arg10 arg11 X2 X3 X10 X11 X1 (k.val + 1) (arg6.view.writes (Elt F) fo L)) } := by
  have hk14 : k.val < 14 := lt14 k
  refine ⟨?_, fun fo => ?run⟩
  case run =>
    unfold resAt
    rw [ringAt_in c XA k.val hk14]
    iintro ⟨H3, H4, H17, H18, H19, HO, ⟨%W, HW⟩, Hh, ⟨%f0, HF0⟩, HF1, HF2⟩
    sl_unfold [k0_t1_body]
    set_option sl_exec.stopBefore "k0_cond1" in sl_exec
    by_cases hc : k0_cond1 k = 1#1
    · have hk3 := (cond1_iff k).1 hc
      ihave Hh2 := (entails_of_eq (homes_here c XA k.val hk3)) $$ Hh
      icases Hh2 with ⟨Hg, Hrest⟩
      sl_exec
      sl_step
      irw [homes_next c XA k.val hk3, show k.val + 1 + 1 = k.val + 2 from rfl, show k.val + 1 + 2 = k.val + 3 from rfl,
        ringAt_in c XA (k.val + 3) hk3, Ring.sl_add]
      isplitl [H3]; · iexact H3
      isplitl [H4]; · iexact H4
      isplitl [H17]; · iexact H17
      isplitl [H18]; · iexact H18
      isplitl [H19]; · iexact H19
      isplitl [HO]; · iexact HO
      isplitl [HW]; · iexists _; iexact HW
      isplitl [HF0_src Hrest]
      · isplitl [HF0_src]; · iexact HF0_src
        iexact Hrest
      isplitl [HF1]; · iexact HF1
      isplitl [HF2]; · iexact HF2
      iexists ((rslot (Ring.sl 3 k.val)).view.writes (Elt F) (rslot (Ring.sl 3 k.val)).view.junk [⟨Rect.whole S3584x512, payload c XA (Ring.bk 14 k.val)⟩])
      irw [flightP_after]
      iexact HF0
    · have hk3 := (cond1_iff k).not.1 hc
      sl_exec
      sl_step
      irw [homes_tail c XA k.val hk3 hk14, show k.val + 1 + 1 = k.val + 2 from rfl, show k.val + 1 + 2 = k.val + 3 from rfl,
        ringAt_out c XA (k.val + 3) hk3, Ring.sl_add]
      isplitl [H3]; · iexact H3
      isplitl [H4]; · iexact H4
      isplitl [H17]; · iexact H17
      isplitl [H18]; · iexact H18
      isplitl [H19]; · iexact H19
      isplitl [HO]; · iexact HO
      isplitl [HW]; · iexists _; iexact HW
      isplitl [HF0_src Hh]
      · isplitl [HF0_src]; · iexact HF0_src
        iexact Hh
      isplitl [HF1]; · iexact HF1
      isplitl [HF2]; · iexact HF2
      isplitl [HF0_dst]; · iexists _; iexact HF0_dst
      iexact HF0

/-- The pieces a trip stores. -/
abbrev tripL (k : Fin k0_t1_loop.trips) : List (View.Piece (Elt F) S20x7168 .bf16) :=
  (tripRun c XA i arg1 harg1 arg2 harg2 arg3 harg3 arg4 harg4 arg6 harg6 arg7 harg7 arg8 harg8 arg10 harg10 arg11 harg11 X2 X3 X10 X11 X1 k).1

/-- The pieces of the trips before `k`, last first. -/
@[irreducible] def pb1Step (k : ℕ) (prev : List (View.Piece (Elt F) S20x7168 .bf16)) : List (View.Piece (Elt F) S20x7168 .bf16) :=
  if h : k < k0_t1_loop.trips then tripL c XA i arg1 harg1 arg2 harg2 arg3 harg3 arg4 harg4 arg6 harg6 arg7 harg7 arg8 harg8 arg10 harg10 arg11 harg11 X2 X3 X10 X11 X1 ⟨k, h⟩ ++ prev else prev
def pb1 : ℕ → List (View.Piece (Elt F) S20x7168 .bf16)
  | 0 => []
  | k + 1 => pb1Step c XA i arg1 harg1 arg2 harg2 arg3 harg3 arg4 harg4 arg6 harg6 arg7 harg7 arg8 harg8 arg10 harg10 arg11 harg11 X2 X3 X10 X11 X1 k (pb1 k)
theorem pb1_succ (k : Fin k0_t1_loop.trips) :
    pb1 c XA i arg1 harg1 arg2 harg2 arg3 harg3 arg4 harg4 arg6 harg6 arg7 harg7 arg8 harg8 arg10 harg10 arg11 harg11 X2 X3 X10 X11 X1 (k.val + 1)
      = tripL c XA i arg1 harg1 arg2 harg2 arg3 harg3 arg4 harg4 arg6 harg6 arg7 harg7 arg8 harg8 arg10 harg10 arg11 harg11 X2 X3 X10 X11 X1 k ++ pb1 c XA i arg1 harg1 arg2 harg2 arg3 harg3 arg4 harg4 arg6 harg6 arg7 harg7 arg8 harg8 arg10 harg10 arg11 harg11 X2 X3 X10 X11 X1 k.val := by
  rw [pb1.eq_2]; unfold pb1Step; exact dif_pos k.isLt

set_option warn.classDefReducibility false in
/-- THE PROJECTION LOOP BY ITS INVARIANT. -/
@[sl_loop] def loopInv1 (G6 : Buf (Elt F) (arg6.view.loc (c : Thread nD τ))) :
    LoopInvTy_k0_t1 (F := F) Unit ℕ (Pipeline.UD sig nD τ) ℕ 𝒱₀ c none Set.univ i arg1 harg1 arg2 harg2 arg3 harg3 arg4 harg4 aM (Memref.isWhole_whole _) arg6 harg6 arg7 harg7 arg8 harg8 bufM (Memref.isWhole_whole _) arg10 harg10 arg11 harg11 cc0_scratch3 where
  inv k _ := resAt c XA arg1 arg2 arg3 arg6 arg10 arg11 X2 X3 X10 X11 X1 k (arg6.view.writes (Elt F) G6 (pb1 c XA i arg1 harg1 arg2 harg2 arg3 harg3 arg4 harg4 arg6 harg6 arg7 harg7 arg8 harg8 arg10 harg10 arg11 harg11 X2 X3 X10 X11 X1 k))
  step k _ := by
    iintro H
    iapply (wp_wand_r Idealize.ShloMosaic.frame (wpE (defs₀ (F := F)) 𝒱₀ (c : Thread nD τ) none) Set.univ)
    isplitl [H]
    · iapply ((tripRun c XA i arg1 harg1 arg2 harg2 arg3 harg3 arg4 harg4 arg6 harg6 arg7 harg7 arg8 harg8 arg10 harg10 arg11 harg11 X2 X3 X10 X11 X1 k).2 _); iexact H
    · iintro %_ H'
      rw [pb1_succ, View.writes_append]
      iexact H'

/-! ### What the output loop leaves: the fifty-six groups of columns, whatever the buffer held before -/

/-- The columns trip `k` stores its group `r` to. -/
abbrev R6 (k : Fin k0_t1_loop.trips) (r : Fin 4) : Rect S20x7168 :=
  Rect.unit (s := S20x7168) (k0_off6 k (BitVec.ofNat 32 r.val)) S20x128.size (k0_off6_inb k r)
/-- What trip `k` stores for its group `r`. -/
def tripW (k : Fin k0_t1_loop.trips) : Fin 4 → S20x128.Idx → Elt F .bf16
  | 0 => k0_pay7 (tripRun.sl.r_1 c XA arg10 X10 k) (tripRun.sl.r_2 c arg3 X3 k) (tripRun.sl.r_3 c arg11 X11) (View.readAt (Elt F) arg11.view (Rect.unit (s := S2x24x128) (![0, 0, 0]) S1x24x128.size inb_S2x24x128_S1x24x128_0_0_0).toLoadRect X11)
      (View.readAt (Elt F) arg2.view (Rect.unit (s := S56x1x128) (k0_off5 k 0#32) S1x1x128.size (k0_off5_inb k 0)).toLoadRect X2) (View.readAt (Elt F) arg1.view (Rect.unit (s := S20x7168) (k0_off6 k 0#32) S20x128.size (k0_off6_inb k 0)).toLoadRect X1)
  | 1 => k0_pay10 (tripRun.sl.r_4 c XA arg3 arg10 arg11 X3 X10 X11 k) (tripRun.sl.r_5 c arg2 X2 k) (View.readAt (Elt F) arg1.view (Rect.unit (s := S20x7168) (k0_off6 k 1#32) S20x128.size (k0_off6_inb k 1)).toLoadRect X1)
  | 2 => tripRun.sl.r_6 c XA arg1 arg2 arg3 arg10 arg11 X2 X3 X10 X11 X1 k
  | 3 => k0_pay12 (tripRun.sl.r c XA arg10 X10 k) (View.readAt (Elt F) arg3.view (Rect.unit (s := S56x1x128) (k0_off5 k 3#32) S1x1x128.size (k0_off5_inb k 3)).toLoadRect X3) (View.readAt (Elt F) arg11.view (Rect.unit (s := S2x24x128) (![1, 0, 0]) S1x24x128.size inb_S2x24x128_S1x24x128_1_0_0).toLoadRect X11) (View.readAt (Elt F) arg11.view (Rect.unit (s := S2x24x128) (![0, 0, 0]) S1x24x128.size inb_S2x24x128_S1x24x128_0_0_0).toLoadRect X11)
      (View.readAt (Elt F) arg2.view (Rect.unit (s := S56x1x128) (k0_off5 k 3#32) S1x1x128.size (k0_off5_inb k 3)).toLoadRect X2) (View.readAt (Elt F) arg1.view (Rect.unit (s := S20x7168) (k0_off6 k 3#32) S20x128.size (k0_off6_inb k 3)).toLoadRect X1)

/-- The pieces a trip stores, named. -/
theorem tripL_eq (k : Fin k0_t1_loop.trips) :
    tripL c XA i arg1 harg1 arg2 harg2 arg3 harg3 arg4 harg4 arg6 harg6 arg7 harg7 arg8 harg8 arg10 harg10 arg11 harg11 X2 X3 X10 X11 X1 k
      = [⟨R6 k 3, tripW c XA arg1 arg2 arg3 arg10 arg11 X2 X3 X10 X11 X1 k 3⟩, ⟨R6 k 2, tripW c XA arg1 arg2 arg3 arg10 arg11 X2 X3 X10 X11 X1 k 2⟩,
         ⟨R6 k 1, tripW c XA arg1 arg2 arg3 arg10 arg11 X2 X3 X10 X11 X1 k 1⟩, ⟨R6 k 0, tripW c XA arg1 arg2 arg3 arg10 arg11 X2 X3 X10 X11 X1 k 0⟩] := by
  unfold tripL; unfold tripRun; rfl

theorem mem_pb1 (n : ℕ) (hn : n ≤ k0_t1_loop.trips) (p : View.Piece (Elt F) S20x7168 .bf16) :
    p ∈ pb1 c XA i arg1 harg1 arg2 harg2 arg3 harg3 arg4 harg4 arg6 harg6 arg7 harg7 arg8 harg8 arg10 harg10 arg11 harg11 X2 X3 X10 X11 X1 n
      ↔ ∃ k : Fin k0_t1_loop.trips, k.val < n ∧ p ∈ tripL c XA i arg1 harg1 arg2 harg2 arg3 harg3 arg4 harg4 arg6 harg6 arg7 harg7 arg8 harg8 arg10 harg10 arg11 harg11 X2 X3 X10 X11 X1 k := by
  induction n with
  | zero => simp [pb1]
  | succ n ih =>
    have h : n < k0_t1_loop.trips := by omega
    rw [show n + 1 = (⟨n, h⟩ : Fin k0_t1_loop.trips).val + 1 from rfl, pb1_succ, List.mem_append, ih (by omega)]
    constructor
    · rintro (hp | ⟨k, hk, hp⟩)
      · exact ⟨⟨n, h⟩, Nat.lt_succ_self n, hp⟩
      · exact ⟨k, Nat.lt_succ_of_lt hk, hp⟩
    · rintro ⟨k, hk, hp⟩
      rcases Nat.lt_succ_iff_lt_or_eq.1 hk with hlt | he
      · exact Or.inr ⟨k, hlt, hp⟩
      · have : k = ⟨n, h⟩ := Fin.ext he
        subst this; exact Or.inl hp

theorem mem_R6 (k : Fin k0_t1_loop.trips) (r : Fin 4) (y : S20x7168.Idx) :
    y ∈ (R6 k r).set ↔ (y 1).val / 128 = 4 * k.val + r.val := by
  rw [Rect.mem_set_unit, k0_off6_eq]
  have h1 : (y 0).val < 20 := (y 0).isLt
  constructor
  · intro H; have a0 : 512 * k.val + 128 * r.val ≤ (y 1).val ∧ (y 1).val < 512 * k.val + 128 * r.val + 128 := H 1; omega
  · intro H i; fin_cases i
    · show 0 ≤ (y 0).val ∧ (y 0).val < 0 + 20; omega
    · show 512 * k.val + 128 * r.val ≤ (y 1).val ∧ (y 1).val < 512 * k.val + 128 * r.val + 128; omega

/-- The loop's pieces cover the result's buffer. -/
theorem cover1 (y : S20x7168.Idx) : ∃ p ∈ pb1 c XA i arg1 harg1 arg2 harg2 arg3 harg3 arg4 harg4 arg6 harg6 arg7 harg7 arg8 harg8 arg10 harg10 arg11 harg11 X2 X3 X10 X11 X1 k0_t1_loop.trips, y ∈ p.1.set := by
  have h0 : (y 1).val < 7168 := (y 1).isLt
  let k : Fin k0_t1_loop.trips := ⟨(y 1).val / 512, by rw [trips1_eq]; omega⟩
  let r : Fin 4 := ⟨(y 1).val / 128 % 4, by omega⟩
  refine ⟨⟨R6 k r, tripW c XA arg1 arg2 arg3 arg10 arg11 X2 X3 X10 X11 X1 k r⟩, ?_, ?_⟩
  · refine (mem_pb1 c XA i arg1 harg1 arg2 harg2 arg3 harg3 arg4 harg4 arg6 harg6 arg7 harg7 arg8 harg8 arg10 harg10 arg11 harg11 X2 X3 X10 X11 X1 _ (le_refl _) _).2 ?_
    refine ⟨k, k.isLt, ?_⟩
    rw [tripL_eq]
    generalize r = r'
    fin_cases r' <;> simp
  · rw [mem_R6]; show (y 1).val / 128 = 4 * ((y 1).val / 512) + (y 1).val / 128 % 4; omega

theorem R6_emb_0 (k : Fin k0_t1_loop.trips) (r : Fin 4) (x : S20x128.Idx) :
    (((R6 k r).emb x) 0).val = (x 0).val := by
  show (k0_off6 k (BitVec.ofNat 32 r.val)) 0 + 1 * (x 0).val = _
  rw [k0_off6_eq]; simp
theorem R6_emb_1 (k : Fin k0_t1_loop.trips) (r : Fin 4) (x : S20x128.Idx) :
    (((R6 k r).emb x) 1).val = 512 * k.val + 128 * r.val + (x 1).val := by
  show (k0_off6 k (BitVec.ofNat 32 r.val)) 1 + 1 * (x 1).val = _
  rw [k0_off6_eq]; simp

/-- What the columns' group that holds `y` is stored as. -/
def tripY (y : S20x7168.Idx) : Elt F .bf16 :=
  tripW c XA arg1 arg2 arg3 arg10 arg11 X2 X3 X10 X11 X1
      ⟨(y 1).val / 512, by have := (y 1).isLt; rw [trips1_eq]; have h : (y 1).val < 7168 := this; omega⟩ ⟨(y 1).val / 128 % 4, by omega⟩
      (ValueIdx.ix2 (n0 := 20) (n1 := 128) (y 0) ⟨(y 1).val % 128, by omega⟩)

/-- A trip's stored words, named by the columns they land in. -/
theorem tripW_at (k : Fin k0_t1_loop.trips) (r : Fin 4) (x : S20x128.Idx) :
    tripW c XA arg1 arg2 arg3 arg10 arg11 X2 X3 X10 X11 X1 k r x
      = tripY c XA arg1 arg2 arg3 arg10 arg11 X2 X3 X10 X11 X1 ((R6 k r).emb x) := by
  have h0 := R6_emb_0 k r x
  have h1 := R6_emb_1 k r x
  have hx : (x 1).val < 128 := (x 1).isLt
  have hr := r.isLt
  have e1 : (⟨(((R6 k r).emb x) 1).val / 512, lt_of_lt_of_eq (by rw [h1]; have := lt14 k; omega : _ < 14) trips1_eq.symm⟩ : Fin k0_t1_loop.trips) = k := Fin.ext (by show _ / 512 = _; rw [h1]; omega)
  have e2 : (⟨(((R6 k r).emb x) 1).val / 128 % 4, by omega⟩ : Fin 4) = r := Fin.ext (by show _ / 128 % 4 = _; rw [h1]; omega)
  have e3 : ValueIdx.ix2 (n0 := 20) (n1 := 128) (((R6 k r).emb x) 0) ⟨(((R6 k r).emb x) 1).val % 128, by omega⟩ = x := by
    funext d; fin_cases d
    · exact Fin.ext h0
    · exact Fin.ext (by show _ % 128 = _; rw [h1]; show _ = (x 1).val; omega)
  show _ = tripW c XA arg1 arg2 arg3 arg10 arg11 X2 X3 X10 X11 X1 (⟨(((R6 k r).emb x) 1).val / 512, _⟩ : Fin k0_t1_loop.trips) (⟨(((R6 k r).emb x) 1).val / 128 % 4, _⟩ : Fin 4) (ValueIdx.ix2 (n0 := 20) (n1 := 128) (((R6 k r).emb x) 0) ⟨(((R6 k r).emb x) 1).val % 128, _⟩)
  rw [e1, e2, e3]

/-- What the loop leaves in the result's buffer. -/
def yOf : S20x7168.Idx → Elt F .bf16 :=
  arg6.view.read (Elt F) (arg6.view.writes (Elt F) arg6.view.junk (pb1 c XA i arg1 harg1 arg2 harg2 arg3 harg3 arg4 harg4 arg6 harg6 arg7 harg7 arg8 harg8 arg10 harg10 arg11 harg11 X2 X3 X10 X11 X1 k0_t1_loop.trips))

/-- Column `512 k + 128 r + l` of it is column `l` of what trip `k` stores for its group `r`. -/
theorem yOf_apply (k : Fin k0_t1_loop.trips) (r : Fin 4) (x : S20x128.Idx) :
    yOf c XA i arg1 harg1 arg2 harg2 arg3 harg3 arg4 harg4 arg6 harg6 arg7 harg7 arg8 harg8 arg10 harg10 arg11 harg11 X2 X3 X10 X11 X1 ((R6 k r).emb x) = tripW c XA arg1 arg2 arg3 arg10 arg11 X2 X3 X10 X11 X1 k r x := by
  have key := View.read_writes_apply_of_pieces arg6.view arg6.view.junk
    (tripY c XA arg1 arg2 arg3 arg10 arg11 X2 X3 X10 X11 X1)
    (pb1 c XA i arg1 harg1 arg2 harg2 arg3 harg3 arg4 harg4 arg6 harg6 arg7 harg7 arg8 harg8 arg10 harg10 arg11 harg11 X2 X3 X10 X11 X1 k0_t1_loop.trips) ?_ ((R6 k r).emb x) (cover1 c XA i arg1 harg1 arg2 harg2 arg3 harg3 arg4 harg4 arg6 harg6 arg7 harg7 arg8 harg8 arg10 harg10 arg11 harg11 X2 X3 X10 X11 X1 _)
  · refine key.trans ?_
    exact (tripW_at c XA arg1 arg2 arg3 arg10 arg11 X2 X3 X10 X11 X1 k r x).symm
  · intro p hp x'
    obtain ⟨k', -, hp'⟩ := (mem_pb1 c XA i arg1 harg1 arg2 harg2 arg3 harg3 arg4 harg4 arg6 harg6 arg7 harg7 arg8 harg8 arg10 harg10 arg11 harg11 X2 X3 X10 X11 X1 _ (le_refl _) _).1 hp
    rw [tripL_eq] at hp'
    simp only [List.mem_cons, List.not_mem_nil, _root_.or_false] at hp'
    rcases hp' with rfl | rfl | rfl | rfl
    · exact tripW_at c XA arg1 arg2 arg3 arg10 arg11 X2 X3 X10 X11 X1 k' 3 x'
    · exact tripW_at c XA arg1 arg2 arg3 arg10 arg11 X2 X3 X10 X11 X1 k' 2 x'
    · exact tripW_at c XA arg1 arg2 arg3 arg10 arg11 X2 X3 X10 X11 X1 k' 1 x'
    · exact tripW_at c XA arg1 arg2 arg3 arg10 arg11 X2 X3 X10 X11 X1 k' 0 x'

/-- AFTER THE LOOP: the result's buffer at `yOf`, every tile home, every slot and cell free. -/
instance loopExit1 (G6 : Buf (Elt F) (arg6.view.loc (c : Thread nD τ))) :
    LoopExit (loopInv1 c XA i arg1 harg1 arg2 harg2 arg3 harg3 arg4 harg4 arg6 harg6 arg7 harg7 arg8 harg8 arg10 harg10 arg11 harg11 X2 X3 X10 X11 X1 G6) where
  post _ := iprop((arg2.view.loc (c : Thread nD τ) ↦[arg2.view.set]{fullShare} X2) ∗ (arg3.view.loc (c : Thread nD τ) ↦[arg3.view.set]{fullShare} X3)
    ∗ (arg10.view.loc (c : Thread nD τ) ↦[arg10.view.set]{fullShare} X10) ∗ (arg11.view.loc (c : Thread nD τ) ↦[arg11.view.set]{fullShare} X11)
    ∗ (arg1.view.loc (c : Thread nD τ) ↦[arg1.view.set]{fullShare} X1)
    ∗ (arg6.view.loc (c : Thread nD τ) ↦[arg6.view.set]{fullShare} arg6.view.rep (yOf c XA i arg1 harg1 arg2 harg2 arg3 harg3 arg4 harg4 arg6 harg6 arg7 harg7 arg8 harg8 arg10 harg10 arg11 harg11 X2 X3 X10 X11 X1)) ∗ (∃ W, owes (c : Thread nD τ) 0 W)
    ∗ bigSep Finset.univ (homeP c XA)
    ∗ ((∃ f, slotP c 2 f) ∗ cellP c 2) ∗ ((∃ f, slotP c 0 f) ∗ cellP c 0) ∗ ((∃ f, slotP c 1 f) ∗ cellP c 1))
  exit _ := by
    show resAt c XA arg1 arg2 arg3 arg6 arg10 arg11 X2 X3 X10 X11 X1 k0_t1_loop.trips (arg6.view.writes (Elt F) G6 (pb1 c XA i arg1 harg1 arg2 harg2 arg3 harg3 arg4 harg4 arg6 harg6 arg7 harg7 arg8 harg8 arg10 harg10 arg11 harg11 X2 X3 X10 X11 X1 k0_t1_loop.trips)) ⊢ _
    unfold resAt
    rw [ringAt_out c XA _ (show ¬ k0_t1_loop.trips < 14 by rw [trips1_eq]; decide), ringAt_out c XA _ (show ¬ k0_t1_loop.trips + 1 < 14 by rw [trips1_eq]; decide),
      ringAt_out c XA _ (show ¬ k0_t1_loop.trips + 2 < 14 by rw [trips1_eq]; decide),
      show Ring.sl 3 k0_t1_loop.trips = 2 from by rw [trips1_eq]; rfl, show Ring.sl 3 (k0_t1_loop.trips + 1) = 0 from by rw [trips1_eq]; rfl,
      show Ring.sl 3 (k0_t1_loop.trips + 2) = 1 from by rw [trips1_eq]; rfl, Ring.homeSet_last 3 _ (show 14 ≤ k0_t1_loop.trips by rw [trips1_eq])]
    iintro ⟨H3, H4, H17, H18, H19, HO, HW, Hh, HF0, HF1, HF2⟩
    isplitl [H3]; · iexact H3
    isplitl [H4]; · iexact H4
    isplitl [H17]; · iexact H17
    isplitl [H18]; · iexact H18
    isplitl [H19]; · iexact H19
    isplitl [HO]
    · ihave HO' := (pointsTo_rep_entails (c : Thread nD τ) arg6 _ fullShare) $$ HO
      rw [View.read_writes_of_cover _ _ arg6.view arg6.view.junk _ (cover1 c XA i arg1 harg1 arg2 harg2 arg3 harg3 arg4 harg4 arg6 harg6 arg7 harg7 arg8 harg8 arg10 harg10 arg11 harg11 X2 X3 X10 X11 X1)]
      iexact HO'
    isplitl [HW]; · iexact HW
    isplitl [Hh]; · iexact Hh
    isplitl [HF0]; · iexact HF0
    isplitl [HF1]; · iexact HF1
    iexact HF2

end Trip
end Cert.KernelO.Hand

end
-- ==== Proof.KernelOBody.lean ====
/-
  `KernelO`'s body, run once: the weights split into their fourteen tiles and the buffer into its three slots, the prologue's
  three transfers handed to the output loop as its invariant at trip 0, the loop taken by its invariant.
-/
module

public import proofs.«01_k».proof.Proof.KernelORing
public import Idealize.ShloMosaic.Lib.Pipeline.TableIdle

@[expose] public section

noncomputable section

namespace Cert.KernelO.Hand

open Cert.KernelO Cert.KernelO.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The weights' fourteen tiles, the buffer's three slots -/

abbrev G14 (b : Fin 14) : Finset S3584x7168.Idx := (Rect.unit (s := S3584x7168) (grpOff b) S3584x512.size (grpOff_inb b)).set
abbrev S3s (s : Fin 3) : Finset S3x3584x512.Idx := (Rect.unit (s := S3x3584x512) (slotOff s) S1x3584x512.size (slotOff_inb s)).set

theorem grp_set (b : Fin 14) : (grp b : Memref sig .tc .hbm _ _).view.set = G14 b := View.set_slice_whole _ _
theorem rslot_set (s : Fin 3) : (rslot s : Memref sig .tc .vmem _ _).view.set = S3s s := (View.set_reshape _ _).trans (View.set_slice_whole _ _)

theorem mem_G14 (b : Fin 14) (y : S3584x7168.Idx) : y ∈ G14 b ↔ (y 1).val / 512 = b.val := by
  rw [Rect.mem_set_unit]
  have h0 : (y 0).val < 3584 := (y 0).isLt
  constructor
  · intro H; have a0 : 512 * b.val ≤ (y 1).val ∧ (y 1).val < 512 * b.val + 512 := H 1; omega
  · intro H i; fin_cases i
    · show 0 ≤ (y 0).val ∧ (y 0).val < 0 + 3584; omega
    · show 512 * b.val ≤ (y 1).val ∧ (y 1).val < 512 * b.val + 512; omega
theorem mem_S3s (s : Fin 3) (y : S3x3584x512.Idx) : y ∈ S3s s ↔ (y 0).val = s.val := by
  rw [Rect.mem_set_unit]
  have h1 : (y 1).val < 3584 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 3584; omega
    · show 0 ≤ (y 2).val ∧ (y 2).val < 0 + 512; omega
theorem G14_disjoint : ∀ b b' : Fin 14, b ≠ b' → Disjoint (G14 b) (G14 b') := by
  intro b b' hne; rw [Finset.disjoint_left]; intro y hy hy'; rw [mem_G14] at hy hy'; exact hne (Fin.ext (hy.symm.trans hy'))
theorem G14_cover : (Finset.univ : Finset (Fin 14)).biUnion G14 = Finset.univ := by
  ext y; simp only [Finset.mem_biUnion, Finset.mem_univ, true_and, iff_true]
  have h1 : (y 1).val < 7168 := (y 1).isLt
  exact ⟨⟨(y 1).val / 512, by omega⟩, by rw [mem_G14]⟩
theorem S3s_disjoint : ∀ s s' : Fin 3, s ≠ s' → Disjoint (S3s s) (S3s s') := by
  intro s s' hne; rw [Finset.disjoint_left]; intro y hy hy'; rw [mem_S3s] at hy hy'; exact hne (Fin.ext (hy.symm.trans hy'))
theorem S3s_cover : (Finset.univ : Finset (Fin 3)).biUnion S3s = Finset.univ := by
  ext y; simp only [Finset.mem_biUnion, Finset.mem_univ, true_and, iff_true]; exact ⟨(y 0).cast (by decide), by rw [mem_S3s]; rfl⟩

omit [FloatOps F] in
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- The weights whole are their fourteen tiles home; -/
theorem a_eq (c : Dev nD) (XA : Buf (Elt F) (aM.view.loc (c : Thread nD τ))) :
    (((c : Thread nD τ).loc main_arg1) ↦{fullShare} XA : sProp 𝕄) = bigSep Finset.univ (homeP c XA) := by
  rw [Ring.pointsTo_blocks (ℓ := (c : Thread nD τ).loc main_arg1) G14 G14_disjoint G14_cover]
  exact bigSep_congr fun b _ => by rw [← grp_set]; rfl
/-- at the body's entry, tiles 0, 1 and 2 apart from the rest. -/
theorem homes_zero (c : Dev nD) (XA : Buf (Elt F) (aM.view.loc (c : Thread nD τ))) :
    bigSep Finset.univ (homeP c XA) = iprop(homeP c XA 0 ∗ homeP c XA 1 ∗ homeP c XA 2 ∗ bigSep (Ring.homeSet 3 0) (homeP c XA)) := by
  have e : (Finset.univ : Finset (Fin 14)) = insert 0 (insert 1 (insert 2 (Ring.homeSet (NB := 14) 3 0))) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet, Fin.ext_iff]), bigSep_insert (by simp [Ring.mem_homeSet])]; rfl

omit [FloatOps F] in
theorem slotP_eq (c : Dev nD) (s : Fin 3) (f) : slotP c s f = (((c : Thread nD τ).loc cc0_scratch0) ↦[S3s s]{fullShare} f : sProp 𝕄) :=
  congrArg (fun S => (_ ↦[S]{fullShare} f : sProp 𝕄)) (rslot_set s)
/-- The buffer whole is its three slots, and back. -/
theorem buf_split (c : Dev nD) :
    iprop(∃ f : Buf (Elt F) ((c : Thread nD τ).loc cc0_scratch0), ((c : Thread nD τ).loc cc0_scratch0) ↦{fullShare} f)
      ⊢ (iprop((∃ f, slotP c 0 f) ∗ (∃ f, slotP c 1 f) ∗ (∃ f, slotP c 2 f)) : sProp 𝕄) := by
  iintro ⟨%f, H⟩
  ihave H2 := (entails_of_eq ((Ring.pointsTo_blocks (Ix := Unit) (Name := ℕ) (U := UU) (Lvl := ℕ) (q := fullShare) (ℓ := (c : Thread nD τ).loc cc0_scratch0) S3s S3s_disjoint S3s_cover f).trans (bigSep_fin3 _))) $$ H
  icases H2 with ⟨H0, H1, H2⟩
  isplitl [H0]
  · iexists f; iapply (entails_of_eq (slotP_eq c 0 f).symm); iexact H0
  isplitl [H1]
  · iexists f; iapply (entails_of_eq (slotP_eq c 1 f).symm); iexact H1
  · iexists f; iapply (entails_of_eq (slotP_eq c 2 f).symm); iexact H2
theorem buf_join (c : Dev nD) :
    iprop((∃ f, slotP c 0 f) ∗ (∃ f, slotP c 1 f) ∗ (∃ f, slotP c 2 f))
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch0) S3s S3s_disjoint S3s_cover f0)
  irw [bigSep_fin3]
  isplitl [H0]
  · iexists f0; iapply (entails_of_eq (slotP_eq c 0 f0)); iexact H0
  isplitl [H1]
  · iexists f1; iapply (entails_of_eq (slotP_eq c 1 f1)); iexact H1
  · iexists f2; iapply (entails_of_eq (slotP_eq c 2 f2)); iexact H2

/-- A flight the prologue starts, as the ring's state before trip 0. -/
theorem ring_entry (c : Dev nD) (XA : Buf (Elt F) (aM.view.loc (c : Thread nD τ))) (j : ℕ) (h : j < 14) (f) :
    flightP c XA (Ring.sl 3 j) (Ring.bk 14 j) f ⊢ ringAt c XA j := by
  rw [ringAt_in c XA j h]; iintro H; iexists f; iexact H

/-- A buffer written over its whole extent holds the same words whatever it held before. -/
theorem pt_rebase (c : Dev nD) {sp : Space} {S : Shape} {e : EltTy} (M : Memref sig .tc sp S e) (f : Buf (Elt F) (M.view.loc (c : Thread nD τ)))
    (L : List (View.Piece (Elt F) S e)) (h : ∃ p, L.getLast? = some p ∧ ∀ y, y ∈ p.1.set) :
    (M.view.loc (c : Thread nD τ) ↦[M.view.set]{fullShare} M.view.writes (Elt F) f L : sProp 𝕄)
      = M.view.loc (c : Thread nD τ) ↦[M.view.set]{fullShare} M.view.rep (M.view.read (Elt F) (M.view.writes (Elt F) M.view.junk L)) := by
  obtain ⟨p, hl, hp⟩ := h
  rw [← View.read_writes_of_cover M.view f M.view M.view.junk L (fun y => ⟨p, List.mem_of_getLast? hl, hp y⟩)]
  exact pointsTo_rep (c : Thread nD τ) M _ fullShare
/-- What is written over known words is known. -/
theorem pt_rebase2 (c : Dev nD) {sp : Space} {S : Shape} {e : EltTy} (M : Memref sig .tc sp S e) (X : S.Idx → Elt F e)
    (L : List (View.Piece (Elt F) S e)) :
    (M.view.loc (c : Thread nD τ) ↦[M.view.set]{fullShare} M.view.writes (Elt F) (M.view.rep X) L : sProp 𝕄)
      = M.view.loc (c : Thread nD τ) ↦[M.view.set]{fullShare} M.view.rep (M.view.read (Elt F) (M.view.writes (Elt F) (M.view.rep X) L)) :=
  pointsTo_rep (c : Thread nD τ) M _ fullShare
theorem mem_unit_zero {S : Shape} (off : Fin S.rank → Nat) (h : off = fun _ => 0) (inb : ∀ a, off a + S.size a ≤ S.size a) (y : S.Idx) :
    y ∈ (Rect.unit (s := S) off S.size inb).set := by
  subst h; rw [Rect.mem_set_unit]; intro a; exact ⟨Nat.zero_le _, by simpa using (y a).isLt⟩
theorem zero2 : (![0, 0] : Fin 2 → Nat) = fun _ => 0 := by decide
theorem zero3 : (![0, 0, 0] : Fin 3 → Nat) = fun _ => 0 := by decide

/-! ## The body -/

variable (c : Dev nD) (XA : Buf (Elt F) (aM.view.loc (c : Thread nD τ)))
set_option maxHeartbeats 16000000 in
set_option maxRecDepth 16384 in
/-- THE BODY RUN: on whole staging memrefs, the four VMEM operands at their contents, the outputs and the scratch buffers at
    anything, the weights' tiles home, the slots and cells free. It ends with the operands as they were, each output at
    contents the run finds (the same whatever the buffers held before), and the tiles, slots and cells as at the start. -/
noncomputable def kernelRun (i : grid0.Coords) (arg1 : Memref sig .tc .vmem S20x7168 .bf16) (harg1 : arg1.IsWhole) (arg2 : Memref sig .tc .vmem S56x1x128 .f32) (harg2 : arg2.IsWhole) (arg3 : Memref sig .tc .vmem S56x1x128 .f32) (harg3 : arg3.IsWhole) (arg4 : Memref sig .tc .vmem S1344x128 .f32) (harg4 : arg4.IsWhole) (arg6 : Memref sig .tc .vmem S20x7168 .bf16) (harg6 : arg6.IsWhole) (arg7 : Memref sig .tc .vmem S20x7168 .i8) (harg7 : arg7.IsWhole) (arg8 : Memref sig .tc .vmem S1x20 .f32) (harg8 : arg8.IsWhole) (arg10 : Memref sig .tc .vmem S32x7168 .bf16) (harg10 : arg10.IsWhole) (arg11 : Memref sig .tc .vmem S2x24x128 .f32) (harg11 : arg11.IsWhole) (x1 : S20x7168.Idx → Elt F .bf16) (x2 : S56x1x128.Idx → Elt F .f32) (x3 : S56x1x128.Idx → Elt F .f32) (x4 : S1344x128.Idx → Elt F .f32) :
    (L7 : List (View.Piece (Elt F) S20x7168 .i8)) ×' (L8 : List (View.Piece (Elt F) S1x20 .f32)) ×' { Y6 : S20x7168.Idx → Elt F .bf16 //
      ∀ (W : Waits sig Unit) (K : PUnit → sProp 𝕄),
        iprop((arg1.view.loc (c : Thread nD τ) ↦[arg1.view.set]{fullShare} arg1.view.rep x1)
          ∗ (arg2.view.loc (c : Thread nD τ) ↦[arg2.view.set]{fullShare} arg2.view.rep x2)
          ∗ (arg3.view.loc (c : Thread nD τ) ↦[arg3.view.set]{fullShare} arg3.view.rep x3)
          ∗ (arg4.view.loc (c : Thread nD τ) ↦[arg4.view.set]{fullShare} arg4.view.rep x4)
          ∗ (∃ f, (arg6.view.loc (c : Thread nD τ) ↦[arg6.view.set]{fullShare} f))
          ∗ (∃ f, (arg7.view.loc (c : Thread nD τ) ↦[arg7.view.set]{fullShare} f))
          ∗ (∃ f, (arg8.view.loc (c : Thread nD τ) ↦[arg8.view.set]{fullShare} f))
          ∗ (∃ f, (arg10.view.loc (c : Thread nD τ) ↦[arg10.view.set]{fullShare} f))
          ∗ (∃ f, (arg11.view.loc (c : Thread nD τ) ↦[arg11.view.set]{fullShare} f))
          ∗ bigSep Finset.univ (homeP c XA)
          ∗ (∃ f, slotP c 0 f)
          ∗ (∃ f, slotP c 1 f)
          ∗ (∃ f, slotP c 2 f)
          ∗ cellP c 0
          ∗ cellP c 1
          ∗ cellP c 2
          ∗ owes (c : Thread nD τ) 0 W
          ∗ (iprop((arg1.view.loc (c : Thread nD τ) ↦[arg1.view.set]{fullShare} arg1.view.rep x1)
          ∗ (arg2.view.loc (c : Thread nD τ) ↦[arg2.view.set]{fullShare} arg2.view.rep x2)
          ∗ (arg3.view.loc (c : Thread nD τ) ↦[arg3.view.set]{fullShare} arg3.view.rep x3)
          ∗ (arg4.view.loc (c : Thread nD τ) ↦[arg4.view.set]{fullShare} arg4.view.rep x4)
          ∗ (arg6.view.loc (c : Thread nD τ) ↦[arg6.view.set]{fullShare} arg6.view.rep Y6)
          ∗ (∃ f, (arg7.view.loc (c : Thread nD τ) ↦[arg7.view.set]{fullShare} arg7.view.writes (Elt F) f L7))
          ∗ (∃ f, (arg8.view.loc (c : Thread nD τ) ↦[arg8.view.set]{fullShare} arg8.view.writes (Elt F) f L8))
          ∗ (∃ f, (arg10.view.loc (c : Thread nD τ) ↦[arg10.view.set]{fullShare} f))
          ∗ (∃ f, (arg11.view.loc (c : Thread nD τ) ↦[arg11.view.set]{fullShare} f))
          ∗ bigSep Finset.univ (homeP c XA)
          ∗ (∃ f, slotP c 0 f)
          ∗ (∃ f, slotP c 1 f)
          ∗ (∃ f, slotP c 2 f)
          ∗ cellP c 0
          ∗ cellP c 1
          ∗ cellP c 2
          ∗ (∃ W', owes (c : Thread nD τ) 0 W')) -∗ K ⟨⟩))
          ⊢ wp frame (wpE (defs₀ (F := F)) 𝒱₀ (c : Thread nD τ) none) Set.univ (cc0_lserve_decode i arg1 harg1 arg2 harg2 arg3 harg3 arg4 harg4 aM (Memref.isWhole_whole _) arg6 harg6 arg7 harg7 arg8 harg8 bufM (Memref.isWhole_whole _) arg10 harg10 arg11 harg11 cc0_scratch3) K } := by
  refine ⟨?_, ?_, ?_, fun W K => ?run⟩
  case run =>
    simp only [cc0_lserve_decode_eq_skeleton]; unfold cc0_lserve_decode_skel
    iintro ⟨H1, H2, H3, H4, ⟨%f6, H6⟩, ⟨%f7, H7⟩, ⟨%f8, H8⟩, ⟨%f10, H10⟩, ⟨%f11, H11⟩, Hh, ⟨%fs0, Hs0⟩, ⟨%fs1, Hs1⟩, ⟨%fs2, Hs2⟩, Hc0, Hc1, Hc2, HW, Hk⟩
    ihave Hh2 := (entails_of_eq (homes_zero c XA)) $$ Hh
    icases Hh2 with ⟨Hg0, Hg1, Hg2, Hh⟩
    set_option sl_exec.stopBefore "Loop.for" in sl_exec
    ihave HR0 : ringAt c XA 0 $$ [Hc0]
    · iapply (ring_entry c XA 0 (by decide) fs0); istop; exact entails_of_eq rfl
    ihave HR1 : ringAt c XA (0 + 1) $$ [Hc1]
    · iapply (ring_entry c XA 1 (by decide) fs1); istop; exact entails_of_eq rfl
    ihave HR2 : ringAt c XA (0 + 2) $$ [Hc2]
    · iapply (ring_entry c XA 2 (by decide) fs2); istop; exact entails_of_eq rfl
    sl_exec
    sl_step
    iapply Hk
    isplitl [HL4]; · iexact HL4
    isplitl [HL0]; · iexact HL0
    isplitl [HL1]; · iexact HL1
    isplitl [H4]; · iexact H4
    isplitl [HL5]; · iexact HL5
    isplitl [H7]; · iexists _; iexact H7
    isplitl [H8]; · iexists _; iexact H8
    isplitl [HL2]; · iexists _; iexact HL2
    isplitl [HL3]; · iexists _; iexact HL3
    isplitl [HL7]; · iexact HL7
    isplitl [HL10]; · iexists _; iexact HL10
    isplitl [HL12]; · iexists _; iexact HL12
    isplitl [HL8]; · iexists _; iexact HL8
    isplitl [HL11]; · iexact HL11
    isplitl [HL13]; · iexact HL13
    isplitl [HL9]; · iexact HL9
    iexists _; iexact HL6

end Cert.KernelO.Hand

end
-- ==== Proof.KernelOCodes.lean ====
/-
  `KernelO`'s quantised attention: the fifty-six heads' codes as the body stores them, one block of 128 columns per head, named by
  the head; and the running sum of the codes, named by the heads summed.
-/
module

public import proofs.«01_k».proof.Proof.KernelOBody

@[expose] public section

set_option maxRecDepth 16384
set_option maxHeartbeats 4000000

noncomputable section

namespace Cert.KernelO.Hand

open Cert.KernelO Cert.KernelO.Gen
open Idealize.ShloMosaic
open Idealize.ShloMosaic.TcCoe Idealize.ShloMosaic.Tactic

variable {F : FTy → Type} [FloatOps F]
variable (arg4 : Memref sig .tc .vmem S1344x128 .f32) (x4 : S1344x128.Idx → Elt F .f32)

theorem at_inb (h : Fin 56) : ∀ a, (![24 * h.val, 0] : Fin 2 → Nat) a + S24x128.size a ≤ S1344x128.size a := by
  have := h.isLt; intro a; fin_cases a
  · show 24 * h.val + 24 ≤ 1344; omega
  · show 0 + 128 ≤ 128; omega
theorem ac_inb (h : Fin 56) : ∀ a, (![0, 128 * h.val] : Fin 2 → Nat) a + S20x128.size a ≤ S20x7168.size a := by
  have := h.isLt; intro a; fin_cases a
  · show 0 + 20 ≤ 20; omega
  · show 128 * h.val + 128 ≤ 7168; omega
theorem xq_inb (h : Fin 56) : ∀ a, (![0, 128 * h.val] : Fin 2 → Nat) a + S24x128.size a ≤ S32x7168.size a := by
  have := h.isLt; intro a; fin_cases a
  · show 0 + 24 ≤ 32; omega
  · show 128 * h.val + 128 ≤ 7168; omega

/-- Head `h`'s rows of the attention operand. -/
def hRows (h : Fin 56) : S24x128.Idx → Elt F .f32 :=
  View.readAt (Elt F) arg4.view (Rect.unit (s := S1344x128) ![24 * h.val, 0] S24x128.size (at_inb h)).toLoadRect (arg4.view.rep x4)
/-- Head `h`'s block of the stored codes. -/
def acP (h : Fin 56) : View.Piece (Elt F) S20x7168 .i8 :=
  ⟨Rect.unit (s := S20x7168) ![0, 128 * h.val] S20x128.size (ac_inb h), k0_pay34 (kernelRun.sl.r_12 arg4 x4) (hRows arg4 x4 h)⟩
/-- Head `h`'s block of the codes the product reads. -/
def xqP (h : Fin 56) : View.Piece (Elt F) S32x7168 .bf16 :=
  ⟨Rect.unit (s := S32x7168) ![0, 128 * h.val] S24x128.size (xq_inb h), k0_pay36 (kernelRun.sl.r_12 arg4 x4) (hRows arg4 x4 h)⟩
/-- The zeros stored before them. -/
def xqZ : View.Piece (Elt F) S32x7168 .bf16 :=
  ⟨Rect.unit (s := S32x7168) ![0, 0] S32x7168.size inb_S32x7168_S32x7168_0_0, k0_pay13⟩

set_option backward.isDefEq.respectTransparency false in
theorem H7_eq : kernelRun.sl.H7_56 arg4 x4 = [acP arg4 x4 ⟨55, by decide⟩, acP arg4 x4 ⟨54, by decide⟩, acP arg4 x4 ⟨53, by decide⟩, acP arg4 x4 ⟨52, by decide⟩, acP arg4 x4 ⟨51, by decide⟩, acP arg4 x4 ⟨50, by decide⟩, acP arg4 x4 ⟨49, by decide⟩, acP arg4 x4 ⟨48, by decide⟩, acP arg4 x4 ⟨47, by decide⟩, acP arg4 x4 ⟨46, by decide⟩, acP arg4 x4 ⟨45, by decide⟩, acP arg4 x4 ⟨44, by decide⟩, acP arg4 x4 ⟨43, by decide⟩, acP arg4 x4 ⟨42, by decide⟩, acP arg4 x4 ⟨41, by decide⟩, acP arg4 x4 ⟨40, by decide⟩, acP arg4 x4 ⟨39, by decide⟩, acP arg4 x4 ⟨38, by decide⟩, acP arg4 x4 ⟨37, by decide⟩, acP arg4 x4 ⟨36, by decide⟩, acP arg4 x4 ⟨35, by decide⟩, acP arg4 x4 ⟨34, by decide⟩, acP arg4 x4 ⟨33, by decide⟩, acP arg4 x4 ⟨32, by decide⟩, acP arg4 x4 ⟨31, by decide⟩, acP arg4 x4 ⟨30, by decide⟩, acP arg4 x4 ⟨29, by decide⟩, acP arg4 x4 ⟨28, by decide⟩, acP arg4 x4 ⟨27, by decide⟩, acP arg4 x4 ⟨26, by decide⟩, acP arg4 x4 ⟨25, by decide⟩, acP arg4 x4 ⟨24, by decide⟩, acP arg4 x4 ⟨23, by decide⟩, acP arg4 x4 ⟨22, by decide⟩, acP arg4 x4 ⟨21, by decide⟩, acP arg4 x4 ⟨20, by decide⟩, acP arg4 x4 ⟨19, by decide⟩, acP arg4 x4 ⟨18, by decide⟩, acP arg4 x4 ⟨17, by decide⟩, acP arg4 x4 ⟨16, by decide⟩, acP arg4 x4 ⟨15, by decide⟩, acP arg4 x4 ⟨14, by decide⟩, acP arg4 x4 ⟨13, by decide⟩, acP arg4 x4 ⟨12, by decide⟩, acP arg4 x4 ⟨11, by decide⟩, acP arg4 x4 ⟨10, by decide⟩, acP arg4 x4 ⟨9, by decide⟩, acP arg4 x4 ⟨8, by decide⟩, acP arg4 x4 ⟨7, by decide⟩, acP arg4 x4 ⟨6, by decide⟩, acP arg4 x4 ⟨5, by decide⟩, acP arg4 x4 ⟨4, by decide⟩, acP arg4 x4 ⟨3, by decide⟩, acP arg4 x4 ⟨2, by decide⟩, acP arg4 x4 ⟨1, by decide⟩, acP arg4 x4 ⟨0, by decide⟩] := by
  rfl
set_option backward.isDefEq.respectTransparency false in
theorem H10_eq : kernelRun.sl.H10_57 arg4 x4 = [xqP arg4 x4 ⟨55, by decide⟩, xqP arg4 x4 ⟨54, by decide⟩, xqP arg4 x4 ⟨53, by decide⟩, xqP arg4 x4 ⟨52, by decide⟩, xqP arg4 x4 ⟨51, by decide⟩, xqP arg4 x4 ⟨50, by decide⟩, xqP arg4 x4 ⟨49, by decide⟩, xqP arg4 x4 ⟨48, by decide⟩, xqP arg4 x4 ⟨47, by decide⟩, xqP arg4 x4 ⟨46, by decide⟩, xqP arg4 x4 ⟨45, by decide⟩, xqP arg4 x4 ⟨44, by decide⟩, xqP arg4 x4 ⟨43, by decide⟩, xqP arg4 x4 ⟨42, by decide⟩, xqP arg4 x4 ⟨41, by decide⟩, xqP arg4 x4 ⟨40, by decide⟩, xqP arg4 x4 ⟨39, by decide⟩, xqP arg4 x4 ⟨38, by decide⟩, xqP arg4 x4 ⟨37, by decide⟩, xqP arg4 x4 ⟨36, by decide⟩, xqP arg4 x4 ⟨35, by decide⟩, xqP arg4 x4 ⟨34, by decide⟩, xqP arg4 x4 ⟨33, by decide⟩, xqP arg4 x4 ⟨32, by decide⟩, xqP arg4 x4 ⟨31, by decide⟩, xqP arg4 x4 ⟨30, by decide⟩, xqP arg4 x4 ⟨29, by decide⟩, xqP arg4 x4 ⟨28, by decide⟩, xqP arg4 x4 ⟨27, by decide⟩, xqP arg4 x4 ⟨26, by decide⟩, xqP arg4 x4 ⟨25, by decide⟩, xqP arg4 x4 ⟨24, by decide⟩, xqP arg4 x4 ⟨23, by decide⟩, xqP arg4 x4 ⟨22, by decide⟩, xqP arg4 x4 ⟨21, by decide⟩, xqP arg4 x4 ⟨20, by decide⟩, xqP arg4 x4 ⟨19, by decide⟩, xqP arg4 x4 ⟨18, by decide⟩, xqP arg4 x4 ⟨17, by decide⟩, xqP arg4 x4 ⟨16, by decide⟩, xqP arg4 x4 ⟨15, by decide⟩, xqP arg4 x4 ⟨14, by decide⟩, xqP arg4 x4 ⟨13, by decide⟩, xqP arg4 x4 ⟨12, by decide⟩, xqP arg4 x4 ⟨11, by decide⟩, xqP arg4 x4 ⟨10, by decide⟩, xqP arg4 x4 ⟨9, by decide⟩, xqP arg4 x4 ⟨8, by decide⟩, xqP arg4 x4 ⟨7, by decide⟩, xqP arg4 x4 ⟨6, by decide⟩, xqP arg4 x4 ⟨5, by decide⟩, xqP arg4 x4 ⟨4, by decide⟩, xqP arg4 x4 ⟨3, by decide⟩, xqP arg4 x4 ⟨2, by decide⟩, xqP arg4 x4 ⟨1, by decide⟩, xqP arg4 x4 ⟨0, by decide⟩, xqZ] := by
  rfl

theorem mem_H7 (h : Fin 56) : acP arg4 x4 h ∈ kernelRun.sl.H7_56 arg4 x4 := by
  rw [H7_eq]
  fin_cases h <;> (repeat (first | exact List.mem_cons_self | apply List.mem_cons_of_mem))
theorem of_mem_H7 : ∀ p ∈ kernelRun.sl.H7_56 arg4 x4, ∃ h, p = acP arg4 x4 h := by
  rw [H7_eq]
  repeat refine List.forall_mem_cons.2 ⟨⟨_, rfl⟩, ?_⟩
  exact fun p hp => absurd hp List.not_mem_nil
theorem cover_H7 (y : S20x7168.Idx) : ∃ p ∈ kernelRun.sl.H7_56 arg4 x4, y ∈ p.1.set := by
  have h0 : (y 0).val < 20 := (y 0).isLt
  have h1 : (y 1).val < 7168 := (y 1).isLt
  refine ⟨_, mem_H7 arg4 x4 ⟨(y 1).val / 128, by omega⟩, ?_⟩
  unfold acP
  rw [Rect.mem_set_unit]; intro i; fin_cases i
  · show 0 ≤ (y 0).val ∧ (y 0).val < 0 + 20; omega
  · show 128 * ((y 1).val / 128) ≤ (y 1).val ∧ (y 1).val < 128 * ((y 1).val / 128) + 128; omega

end Cert.KernelO.Hand

end
-- ==== Proof.KernelOFrame.lean ====
/-
  `KernelO`'s FRAME: the program terminates, nothing faults, its argument arrays end unchanged and every semaphore counter ends
  at zero. One pipeline of one grid point: the four staged operands are read, the three staged results written back, and the
  weights stay in HBM for the body's own ring of transfers.
-/
module

public import proofs.«01_k».proof.Proof.KernelOCodes
public import proofs.«01_k».proof.Proof.Gen.KernelO.Frame
public import Idealize.ShloMosaic.Lib.Pipeline.FrameBody
public import Idealize.ShloMosaic.Lib.WordCmp

@[expose] public section

set_option maxRecDepth 16384

noncomputable section

namespace Cert.KernelO.Hand

open Cert.KernelO Cert.KernelO.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to its one region: the host's layout of the operands. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The frame claim's post from the run's. -/
theorem frameD_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (fun r => Pipeline.FramePost cfgs dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) h

/-! ## The body's operands -/
abbrev ms0_0 (t : Fin cfg0.N) : Memref sig .tc .vmem S20x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S56x1x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S56x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1344x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S20x7168 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S20x7168 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x20 .f32 := win0_6.stage (cfg0.slots t 6)
abbrev hs0_6 (t : Fin cfg0.N) : (ms0_6 t).IsWhole := hstage0_6 ((cfg0.slots t 6).cast nbuf0_6)
abbrev sc10 : Memref sig .tc .vmem S32x7168 .bf16 := Memref.whole cc0_scratch1
abbrev sc11 : Memref sig .tc .vmem S2x24x128 .f32 := Memref.whole cc0_scratch2
/-- Staged operand 0 at point `t`. -/
abbrev xin1 (c : Dev nD) (t : Fin cfg0.N) : S20x7168.Idx → Elt F .bf16 := iblk m c 0 t
/-- Staged operand 1 at point `t`. -/
abbrev xin2 (c : Dev nD) (t : Fin cfg0.N) : S56x1x128.Idx → Elt F .f32 := iblk m c 1 t
/-- Staged operand 2 at point `t`. -/
abbrev xin3 (c : Dev nD) (t : Fin cfg0.N) : S56x1x128.Idx → Elt F .f32 := iblk m c 2 t
/-- Staged operand 3 at point `t`. -/
abbrev xin4 (c : Dev nD) (t : Fin cfg0.N) : S1344x128.Idx → Elt F .f32 := iblk m c 3 t

/-- The body's run at point `t` on core `c`. -/
abbrev runAt (c : Dev nD) (t : Fin cfg0.N) := kernelRun (F := F) c (V m c main_arg1) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) sc10 (Memref.isWhole_whole _) sc11 (Memref.isWhole_whole _) (xin1 m c t) (xin2 m c t) (xin3 m c t) (xin4 m c t)
theorem coverL7 (c : Dev nD) (t : Fin cfg0.N) (y : S20x7168.Idx) : ∃ pc ∈ (runAt m c t).1, y ∈ pc.1.set :=
  cover_H7 (ms0_3 t) (xin4 m c t) y
/-- What the body leaves in result 1's staging buffer. -/
def outs5 (c : Dev nD) (t : Fin cfg0.N) : S20x7168.Idx → Elt F .i8 :=
  (ms0_5 t).view.read (Elt F) ((ms0_5 t).view.writes (Elt F) (ms0_5 t).view.junk (runAt m c t).1)
theorem coverL8 (c : Dev nD) (t : Fin cfg0.N) (y : S1x20.Idx) : ∃ pc ∈ (runAt m c t).2.1, y ∈ pc.1.set :=
  ⟨_, List.mem_singleton.mpr rfl, mem_unit_zero _ zero2 (by decide) y⟩
/-- What the body leaves in result 2's staging buffer. -/
def outs6 (c : Dev nD) (t : Fin cfg0.N) : S1x20.Idx → Elt F .f32 :=
  (ms0_6 t).view.read (Elt F) ((ms0_6 t).view.writes (Elt F) (ms0_6 t).view.junk (runAt m c t).2.1)
/-- What the body leaves in result 0's staging buffer. -/
def outs4 (c : Dev nD) (t : Fin cfg0.N) : S20x7168.Idx → Elt F .bf16 := (runAt m c t).2.2.1

/-! ## The invariant: scratch, cells, weights -/

abbrev osem0 : Fin 3 → SemLoc sig := fun j => (![SemLoc.dma 7, SemLoc.dma 8, SemLoc.dma 9] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP c 0 ∗ cellP c 1 ∗ cellP c 2) := by
  rw [Pipeline.ownSems0_eq_of_list c osem0 [0, 1, 2] (by decide) (by decide)]; rfl
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = bigSep Finset.univ (homeP c (V m c main_arg1)) := by
  rw [BI.bigSep_eq_bigSepL_of_eq [main_arg1] (by decide) (by decide)]; exact a_eq c (V m c main_arg1)

/-- A scratch buffer whole, in the spelling the body's run holds it. -/
theorem scr_eq (c : Dev nD) (b : Ref sig .tc) :
    (iprop(∃ f : Buf (Elt F) ((c : Thread nD τ).loc b), ((c : Thread nD τ).loc b) ↦{fullShare} f) : sProp 𝕄)
      = iprop(∃ f, ((Memref.whole b).view.loc (c : Thread nD τ) ↦[(Memref.whole b).view.set]{fullShare} f)) := by
  rw [show (Memref.whole b).view.set = Finset.univ from View.set_whole b]

omit [FloatOps F] in
theorem sep3_congr (P R A1 A2 B1 B2 : sProp 𝕄) (h1 : A1 = B1) (h2 : A2 = B2) :
    (iprop(iprop(P ∗ A1 ∗ A2) ∗ R) : sProp 𝕄) = iprop(iprop(P ∗ B1 ∗ B2) ∗ R) := by
  subst h1 h2; rfl
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f)
          ∗ (∃ f, (sc10.view.loc (c : Thread nD τ) ↦[sc10.view.set]{fullShare} f))
          ∗ (∃ f, (sc11.view.loc (c : Thread nD τ) ↦[sc11.view.set]{fullShare} f)))
          ∗ (∃ r, prngReg c r) ∗ iprop(cellP c 0 ∗ cellP c 1 ∗ cellP c 2) ∗ bigSep Finset.univ (homeP c (V m c main_arg1))) := by
  rw [Pipeline.ΦD_eq, scopedRest0_eq, ownSems00_eq, hbmPts0_eq]
  exact sep3_congr _ _ _ _ _ _ (scr_eq c cc0_scratch1) (scr_eq c cc0_scratch2)

/-! ## The proof data and the body's obligation -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outs4 m c t
    | ⟨5, _⟩ => outs5 m c t
    | ⟨6, _⟩ => outs6 m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outs4 m c t := by dsimp only [dats]
theorem after0_5 (c : Dev nD) (t : Fin cfg0.N) : (dats m 0 c).after 5 t = outs5 m c t := by dsimp only [dats]
theorem after0_6 (c : Dev nD) (t : Fin cfg0.N) : (dats m 0 c).after 6 t = outs6 m c t := by dsimp only [dats]
theorem before0_0 (c : Dev nD) (t : Fin cfg0.N) (d) : (dats m 0 c).before 0 t d = iblk m c 0 t := by
  unfold Dat.before; rw [if_pos (fetch0_0 t)]; unfold Dat.fetched Dat.blockOf iblk; rfl
theorem before0_1 (c : Dev nD) (t : Fin cfg0.N) (d) : (dats m 0 c).before 1 t d = iblk m c 1 t := by
  unfold Dat.before; rw [if_pos (fetch0_1 t)]; unfold Dat.fetched Dat.blockOf iblk; rfl
theorem before0_2 (c : Dev nD) (t : Fin cfg0.N) (d) : (dats m 0 c).before 2 t d = iblk m c 2 t := by
  unfold Dat.before; rw [if_pos (fetch0_2 t)]; unfold Dat.fetched Dat.blockOf iblk; rfl
theorem before0_3 (c : Dev nD) (t : Fin cfg0.N) (d) : (dats m 0 c).before 3 t d = iblk m c 3 t := by
  unfold Dat.before; rw [if_pos (fetch0_3 t)]; unfold Dat.fetched Dat.blockOf iblk; rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl, after0_0, after0_1, after0_2, after0_3, after0_4, after0_5, after0_6]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  simp only [owns_eq_rep]
  iintro ⟨⟨⟨HS0, HS10, HS11⟩, Hg, ⟨Hq0, Hq1, Hq2⟩, Hh⟩, ⟨%W, -, HW⟩, ⟨%d0, H0⟩, ⟨%d1, H1⟩, ⟨%d2, H2⟩, ⟨%d3, H3⟩, ⟨%d4, H4⟩, ⟨%d5, H5⟩, ⟨%d6, H6⟩⟩
  ihave HB := (buf_split c) $$ HS0
  icases HB with ⟨Hb0, Hb1, Hb2⟩
  iapply ((runAt m c t).2.2.2 W _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS10]; · iexact HS10
  isplitl [HS11]; · iexact HS11
  isplitl [Hh]; · iexact Hh
  isplitl [Hb0]; · iexact Hb0
  isplitl [Hb1]; · iexact Hb1
  isplitl [Hb2]; · iexact Hb2
  isplitl [Hq0]; · iexact Hq0
  isplitl [Hq1]; · iexact Hq1
  isplitl [Hq2]; · iexact Hq2
  isplitl [HW]; · iexact HW
  iintro ⟨H0, H1, H2, H3, H4, ⟨%e5, H5⟩, ⟨%e6, H6⟩, HS10, HS11, Hh, Hb0, Hb1, Hb2, Hq0, Hq1, Hq2, ⟨%W', HW'⟩⟩
  ihave HS0 : iprop(∃ f : Buf (Elt F) ((c : Thread nD τ).loc cc0_scratch0), ((c : Thread nD τ).loc cc0_scratch0) ↦{fullShare} f) $$ [Hb0 Hb1 Hb2]
  · iapply (buf_join c)
    isplitl [Hb0]; · iexact Hb0
    isplitl [Hb1]; · iexact Hb1
    iexact Hb2
  isplitl [HS0 HS10 HS11 Hg Hq0 Hq1 Hq2 Hh]
  · isplitl [HS0 HS10 HS11]
    · isplitl [HS0]; · iexact HS0
      isplitl [HS10]; · iexact HS10
      iexact HS11
    isplitl [Hg]; · iexact Hg
    isplitl [Hq0 Hq1 Hq2]
    · isplitl [Hq0]; · iexact Hq0
      isplitl [Hq1]; · iexact Hq1
      iexact Hq2
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]
  · ihave Hr := (pointsTo_rep_entails (c : Thread nD τ) (ms0_5 t) _ fullShare) $$ H5
    unfold outs5
    rw [View.read_writes_of_cover (ms0_5 t).view _ (ms0_5 t).view (ms0_5 t).view.junk _ (coverL7 m c t)]
    iexact Hr
  ihave Hr := (pointsTo_rep_entails (c : Thread nD τ) (ms0_6 t) _ fullShare) $$ H6
  unfold outs6
  rw [View.read_writes_of_cover (ms0_6 t).view _ (ms0_6 t).view (ms0_6 t).view.junk _ (coverL8 m c t)]
  iexact Hr

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := fun r => Pipeline.FramePost cfgs (dats m) 0 (V m) r ∧ r.2.sem = fun _ => 0) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- THE FRAME, at any float model. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  frameD_of m ρ (dats m) (A_eq m) (run_main m ρ)

end Cert.KernelO.Hand

end
-- ==== Proof.KernelOIdealRing.lean ====
/-
  `KernelOIdeal`'s weight ring. The body streams the fourteen column tiles of the packed weight matrix through the three slots
  of a VMEM buffer, one DMA semaphore per slot: a prologue starts tiles 0, 1 and 2; trip `k` of the output loop
  waits for tile `k` in slot `k % 3`, computes four groups of 128 columns from it, and starts tile `k + 3` into the slot it has freed
  while there is one. This module names the tiles, the slots and the cells, proves the printed offsets equal to
  those names, runs one trip at a symbolic `k`, and states the counted loop by its invariant.
-/
module

public import proofs.«01_k».proof.Proof.Gen.KernelOIdeal.Launch
public import proofs.«01_k».proof.Proof.Gen.KernelOIdeal.Skeleton
public import proofs.«01_k».proof.Proof.Gen.KernelOIdeal.Loops
public import proofs.«01_k».proof.Proof.Gen.KernelOIdeal.Points
public import Idealize.ShloMosaic.Lib.Pipeline.KitQuiescent
public import Idealize.ShloMosaic.Lib.Pipeline.Frame
public import Idealize.ShloMosaic.Lib.Ring
public import Idealize.ShloMosaic.Lib.Affine
public import Idealize.ShloMosaic.Lib.Tactic
public import Idealize.ShloMosaic.Lib.ValueIdxCore

@[expose] public section

set_option maxRecDepth 8192
set_option maxHeartbeats 4000000

noncomputable section

namespace Cert.KernelOIdeal.Hand

open Cert.KernelOIdeal Cert.KernelOIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The resource algebra: the pipeline library's, beside the counters the kernel's own transfers ride on -/

abbrev UU : Type := Pipeline.UD sig nD τ
local notation "𝕄" => MT nD τ sig Unit (Elt F) ℕ (Pipeline.UD sig nD τ) ℕ
abbrev 𝒱₀ : Variants := Variants.none

omit [FloatOps F] in
theorem entails_of_eq {P Q : sProp 𝕄} (e : P = Q) : P ⊢ Q := e ▸ .rfl

/-! ## Canonical names: tile `b` of the weights, slot `s` of the buffer, slot `s`'s cell -/

abbrev aM : Memref sig .tc .hbm S3584x7168 .i8 := Memref.whole main_arg1
abbrev bufM : Memref sig .tc .vmem S3x3584x512 .i8 := Memref.whole cc0_scratch0

abbrev grpOff (b : Fin 14) : Fin 2 → Nat := ![0, 512 * b.val]
theorem grpOff_inb (b : Fin 14) : ∀ a, grpOff b a + S3584x512.size a ≤ S3584x7168.size a := by
  have := b.isLt; intro a; fin_cases a
  · show 0 + 3584 ≤ 3584; omega
  · show 512 * b.val + 512 ≤ 7168; omega
abbrev slotOff (s : Fin 3) : Fin 3 → Nat := ![s.val, 0, 0]
theorem slotOff_inb (s : Fin 3) : ∀ a, slotOff s a + S1x3584x512.size a ≤ S3x3584x512.size a := by
  have := s.isLt; intro a; fin_cases a
  · show s.val + 1 ≤ 3; omega
  · show 0 + 3584 ≤ 3584; omega
  · show 0 + 512 ≤ 512; omega
abbrev semOff (s : Fin 3) : Fin 1 → Nat := ![s.val]
theorem semOff_inb (s : Fin 3) : ∀ a, semOff s a + S1.size a ≤ S3.size a := by
  have := s.isLt; intro a; fin_cases a; show s.val + 1 ≤ 3; omega

/-- Tile `b` of the weights: columns `512 b … 512 b + 511`. -/
def grp (b : Fin 14) : Memref sig .tc .hbm S3584x512 .i8 :=
  aM.slice (Rect.unit (s := S3584x7168) (grpOff b) S3584x512.size (grpOff_inb b)) (fun _ => rfl)
/-- Slot `s` of the buffer, as the body slices and squeezes it. -/
def rslot (s : Fin 3) : Memref sig .tc .vmem S3584x512 .i8 :=
  (bufM.slice (Rect.unit (s := S3x3584x512) (slotOff s) S1x3584x512.size (slotOff_inb s)) (fun _ => rfl)).squeeze S3584x512 squeezes_S1x3584x512_S3584x512
/-- Slot `s`'s DMA semaphore. -/
def csm (s : Fin 3) : DmaSems sig S_ := (cc0_scratch3.slice (Rect.unit (s := S3) (semOff s) S1.size (semOff_inb s))).squeeze S_ squeezes_S1_S_

instance (s : Fin 3) : ClosedOff (slotOff s) := ⟨slotOff s, rfl⟩
instance (b : Fin 14) : ClosedOff (grpOff b) := ⟨grpOff b, rfl⟩

/-! ## The induction variable's chain in closed form -/

section Chain
open Affine

theorem trips1_eq : k0_t1_loop.trips = 14 := by decide
theorem lt14 (k : Fin k0_t1_loop.trips) : k.val < 14 := Nat.lt_of_lt_of_eq k.isLt trips1_eq

theorem isInt_iv (k : Fin k0_t1_loop.trips) : IsInt (Scf.iv 0#32 1#32 k.val) k.val :=
  have := lt14 k
  iv (e := k.val) (ofNat (e := 0) 0 ⟨rfl, by decide⟩) (ofNat (e := 1) 1 ⟨rfl, by decide⟩) k.val ⟨by omega, by omega, by omega⟩
theorem isInt_rem (k : Fin k0_t1_loop.trips) : IsInt (Scalar.remsi (Scf.iv 0#32 1#32 k.val) 3#32) (k.val % 3 : Nat) :=
  remsi (e := (k.val % 3 : Nat)) (isInt_iv k) (ofNat (e := 3) 3 ⟨rfl, by decide⟩) ⟨by omega, by omega, by omega⟩
theorem isInt_tile (k : Fin k0_t1_loop.trips) : IsInt (Scalar.muli (Scf.iv 0#32 1#32 k.val) 512#32) (512 * k.val : Nat) :=
  have := lt14 k
  muli (e := (512 * k.val : Nat)) (isInt_iv k) (ofNat (e := 512) 512 ⟨rfl, by decide⟩) ⟨by push_cast; omega, by push_cast; omega, by push_cast; omega⟩
theorem isInt_next (k : Fin k0_t1_loop.trips) : IsInt (Scalar.addi (Scf.iv 0#32 1#32 k.val) 3#32) (k.val + 3 : Nat) :=
  have := lt14 k
  addi (e := (k.val + 3 : Nat)) (isInt_iv k) (ofNat (e := 3) 3 ⟨rfl, by decide⟩) ⟨by push_cast; omega, by push_cast; omega, by push_cast; omega⟩
theorem isInt_nextTile (k : Fin k0_t1_loop.trips) : IsInt (Scalar.muli (Scalar.addi (Scf.iv 0#32 1#32 k.val) 3#32) 512#32) (512 * (k.val + 3) : Nat) :=
  have := lt14 k
  muli (e := (512 * (k.val + 3) : Nat)) (isInt_next k) (ofNat (e := 512) 512 ⟨rfl, by decide⟩) ⟨by push_cast; omega, by push_cast; omega, by push_cast; omega⟩

theorem off1_eq (k : Fin k0_t1_loop.trips) : k0_off1 k = semOff (Ring.sl 3 k.val) :=
  vec_cons (isInt_rem k) (by simp [Ring.sl, Fin.ofNat]) vec_nil
theorem off2_eq (k : Fin k0_t1_loop.trips) : k0_off2 k = slotOff (Ring.sl 3 k.val) :=
  vec_cons (isInt_rem k) (by simp [Ring.sl, Fin.ofNat]) rfl
theorem off4_eq (k : Fin k0_t1_loop.trips) : k0_off4 k = slotOff (Ring.sl 3 k.val) :=
  vec_cons (indexCast (isInt_rem k)) (by simp [Ring.sl, Fin.ofNat]) rfl
theorem off7_eq (k : Fin k0_t1_loop.trips) : k0_off7 k = semOff (Ring.sl 3 k.val) := off1_eq k
theorem off8_eq (k : Fin k0_t1_loop.trips) : k0_off8 k = slotOff (Ring.sl 3 k.val) := off2_eq k
theorem off3_eq (k : Fin k0_t1_loop.trips) (hk : k.val < 14) : k0_off3 k = grpOff (Ring.bk 14 k.val) := by
  have e : (Scalar.muli (Scf.iv 0#32 1#32 k.val) 512#32).toNat = 512 * k.val := nat_eq (isInt_tile k) _ rfl
  show (![0, (Scalar.muli (Scf.iv 0#32 1#32 k.val) 512#32).toNat] : Fin 2 → Nat) = _
  rw [e]; unfold grpOff; rw [Ring.bk_val hk]
theorem off9_eq (k : Fin k0_t1_loop.trips) (hk : k.val + 3 < 14) : k0_off9 k = grpOff (Ring.bk 14 (k.val + 3)) := by
  have e : (Scalar.muli (Scalar.addi (Scf.iv 0#32 1#32 k.val) 3#32) 512#32).toNat = 512 * (k.val + 3) := nat_eq (isInt_nextTile k) _ rfl
  show (![0, (Scalar.muli (Scalar.addi (Scf.iv 0#32 1#32 k.val) 3#32) 512#32).toNat] : Fin 2 → Nat) = _
  rw [e]; unfold grpOff; rw [Ring.bk_val hk]

/-- The trip starts another tile exactly while there is one. -/
theorem cond1_iff : ∀ k : Fin k0_t1_loop.trips, k0_cond1 k = 1#1 ↔ k.val + 3 < 14 := by decide

instance (k : Fin k0_t1_loop.trips) : ClosedOff (k0_off4 k) := ⟨slotOff (Ring.sl 3 k.val), off4_eq k⟩
instance (k : Fin k0_t1_loop.trips) : ClosedOff (k0_off2 k) := ⟨slotOff (Ring.sl 3 k.val), off2_eq k⟩
instance (k : Fin k0_t1_loop.trips) : ClosedOff (k0_off8 k) := ⟨slotOff (Ring.sl 3 k.val), off8_eq k⟩

end Chain

/-! ### The canonical-name equations: the body's slices are `csm`, `rslot`, `grp` -/

section Canon

theorem csm_congr {off : Fin 1 → Nat} {s : Fin 3} (e : off = semOff s) (hh) :
    (cc0_scratch3.slice (Rect.unit (s := S3) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 3} (e : off = slotOff s) (hh hs) :
    (bufM.slice (Rect.unit (s := S3x3584x512) off S1x3584x512.size hh) hs).squeeze S3584x512 squeezes_S1x3584x512_S3584x512 = rslot s :=
  congrArg (fun M : Memref sig .tc .vmem S1x3584x512 .i8 => M.squeeze S3584x512 squeezes_S1x3584x512_S3584x512) (Memref.slice_unit_congr _ e _ _ _ _)
theorem grp_congr {off : Fin 2 → Nat} {b : Fin 14} (e : off = grpOff b) (hh hs) :
    aM.slice (Rect.unit (s := S3584x7168) off S3584x512.size hh) hs = grp b :=
  Memref.slice_unit_congr _ e _ _ _ (fun _ => rfl)

/-- The prologue's literal slices: slots, cells and tiles 0, 1 and 2. -/
@[sl_canon] theorem semL0 (hh) : (cc0_scratch3.slice (Rect.unit (s := S3) ![0] S1.size hh)).squeeze S_ squeezes_S1_S_ = csm 0 := csm_congr (by decide) _
@[sl_canon] theorem semL1 (hh) : (cc0_scratch3.slice (Rect.unit (s := S3) ![1] S1.size hh)).squeeze S_ squeezes_S1_S_ = csm 1 := csm_congr (by decide) _
@[sl_canon] theorem semL2 (hh) : (cc0_scratch3.slice (Rect.unit (s := S3) ![2] S1.size hh)).squeeze S_ squeezes_S1_S_ = csm 2 := csm_congr (by decide) _
@[sl_canon] theorem slotL0 (hh hs) : (bufM.slice (Rect.unit (s := S3x3584x512) ![0, 0, 0] S1x3584x512.size hh) hs).squeeze S3584x512 squeezes_S1x3584x512_S3584x512 = rslot 0 := rslot_congr (by decide) _ _
@[sl_canon] theorem slotL1 (hh hs) : (bufM.slice (Rect.unit (s := S3x3584x512) ![1, 0, 0] S1x3584x512.size hh) hs).squeeze S3584x512 squeezes_S1x3584x512_S3584x512 = rslot 1 := rslot_congr (by decide) _ _
@[sl_canon] theorem slotL2 (hh hs) : (bufM.slice (Rect.unit (s := S3x3584x512) ![2, 0, 0] S1x3584x512.size hh) hs).squeeze S3584x512 squeezes_S1x3584x512_S3584x512 = rslot 2 := rslot_congr (by decide) _ _
@[sl_canon] theorem grpL0 (hh hs) : aM.slice (Rect.unit (s := S3584x7168) ![0, 0] S3584x512.size hh) hs = grp 0 := grp_congr (by decide) _ _
@[sl_canon] theorem grpL1 (hh hs) : aM.slice (Rect.unit (s := S3584x7168) ![0, 512] S3584x512.size hh) hs = grp 1 := grp_congr (by decide) _ _
@[sl_canon] theorem grpL2 (hh hs) : aM.slice (Rect.unit (s := S3584x7168) ![0, 1024] S3584x512.size hh) hs = grp 2 := grp_congr (by decide) _ _

/-- Trip `k`: cell and slot `k % 3`, tile `k` waited, tile `k + 3` started. -/
@[sl_canon] theorem semK (k : Fin k0_t1_loop.trips) (hh) :
    (cc0_scratch3.slice (Rect.unit (s := S3) (k0_off1 k) S1.size hh)).squeeze S_ squeezes_S1_S_ = csm (Ring.sl 3 k.val) := csm_congr (off1_eq k) _
@[sl_canon] theorem slotK (k : Fin k0_t1_loop.trips) (hh hs) :
    (bufM.slice (Rect.unit (s := S3x3584x512) (k0_off2 k) S1x3584x512.size hh) hs).squeeze S3584x512 squeezes_S1x3584x512_S3584x512 = rslot (Ring.sl 3 k.val) := rslot_congr (off2_eq k) _ _
@[sl_canon] theorem grpW (k : Fin k0_t1_loop.trips) (hk : k.val < 14) (hh hs) :
    aM.slice (Rect.unit (s := S3584x7168) (k0_off3 k) S3584x512.size hh) hs = grp (Ring.bk 14 k.val) := grp_congr (off3_eq k hk) _ _
@[sl_canon] theorem semI (k : Fin k0_t1_loop.trips) (hh) :
    (cc0_scratch3.slice (Rect.unit (s := S3) (k0_off7 k) S1.size hh)).squeeze S_ squeezes_S1_S_ = csm (Ring.sl 3 k.val) := csm_congr (off7_eq k) _
@[sl_canon] theorem slotI (k : Fin k0_t1_loop.trips) (hh hs) :
    (bufM.slice (Rect.unit (s := S3x3584x512) (k0_off8 k) S1x3584x512.size hh) hs).squeeze S3584x512 squeezes_S1x3584x512_S3584x512 = rslot (Ring.sl 3 k.val) := rslot_congr (off8_eq k) _ _
@[sl_canon] theorem grpI (k : Fin k0_t1_loop.trips) (hk : k.val + 3 < 14) (hh hs) :
    aM.slice (Rect.unit (s := S3584x7168) (k0_off9 k) S3584x512.size hh) hs = grp (Ring.bk 14 (k.val + 3)) := grp_congr (off9_eq k hk) _ _

end Canon

/-! ## The pieces: a tile home, a slot held, a slot's cell, a slot in flight -/

section Pieces
variable (c : Dev nD) (XA : Buf (Elt F) (aM.view.loc (c : Thread nD τ)))

abbrev cellP (s : Fin 3) : sProp 𝕄 := semVal ((c : Thread nD τ), SemLoc.dma (csm s).sem) 0
abbrev slotP (s : Fin 3) (f : Buf (Elt F) ((rslot s).view.loc (c : Thread nD τ))) : sProp 𝕄 :=
  (rslot s).view.loc (c : Thread nD τ) ↦[(rslot s).view.set]{fullShare} f
/-- Tile `b` HOME: held on its elements at the weights' contents. -/
abbrev homeP (b : Fin 14) : sProp 𝕄 := (grp b).view.loc (c : Thread nD τ) ↦[(grp b).view.set]{fullShare} XA
/-- Tile `b`'s words as a slot's payload. -/
abbrev payload (b : Fin 14) : S3584x512.Idx → Elt F .i8 := ReadAs.same.apply ((grp b).view.read (Elt F) XA)
/-- What tile `b`'s transfer leaves in slot `s` over prior contents `f`: the tile, written whole. -/
abbrev landed (s : Fin 3) (b : Fin 14) (f : Buf (Elt F) ((rslot s).view.loc (c : Thread nD τ))) : Buf (Elt F) ((rslot s).view.loc (c : Thread nD τ)) :=
  (rslot s).view.writes (Elt F) f [⟨Rect.whole S3584x512, payload c XA b⟩]
/-- A tile's transfer moves 57344 units on its cell. -/
abbrev NN : ℕ := 57344
/-- Slot `s` IN FLIGHT with tile `b`, started over `f`. -/
abbrev flightP (s : Fin 3) (b : Fin 14) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

/-- Slot `j % 3` before a trip at most `j`: in flight with tile `j` while there is one, free otherwise. -/
@[irreducible] def ringAt (j : ℕ) : sProp 𝕄 :=
  if j < 14 then iprop(∃ f, flightP c XA (Ring.sl 3 j) (Ring.bk 14 j) f)
  else iprop((∃ f, slotP c (Ring.sl 3 j) f) ∗ cellP c (Ring.sl 3 j))
theorem ringAt_in (j : ℕ) (h : j < 14) : ringAt c XA j = iprop(∃ f, flightP c XA (Ring.sl 3 j) (Ring.bk 14 j) f) := by unfold ringAt; exact if_pos h
theorem ringAt_out (j : ℕ) (h : ¬ j < 14) : ringAt c XA j = iprop((∃ f, slotP c (Ring.sl 3 j) f) ∗ cellP c (Ring.sl 3 j)) := by unfold ringAt; exact if_neg h

/-- Trip `k`'s homes: tile `k + 3` (about to go out) beside the rest. -/
theorem homes_here (k : ℕ) (hk : k + 3 < 14) :
    bigSep (Ring.homeSet 3 k) (homeP c XA) = iprop(homeP c XA (Ring.bk 14 (k + 3)) ∗ bigSep ((Ring.homeSet 3 k).erase (Ring.bk 14 (k + 3))) (homeP c XA)) := by
  conv_lhs => rw [Ring.homeSet_out 3 k hk, bigSep_insert (Ring.bkL_not_mem_erase 3 k)]
  rfl
/-- Trip `k + 1`'s homes: tile `k` (just back) beside that rest; -/
theorem homes_next (k : ℕ) (hk : k + 3 < 14) :
    bigSep (Ring.homeSet 3 (k + 1)) (homeP c XA) = iprop(homeP c XA (Ring.bk 14 k) ∗ bigSep ((Ring.homeSet 3 k).erase (Ring.bk 14 (k + 3))) (homeP c XA)) := by
  conv_lhs => rw [Ring.homeSet_succ 3 k hk, bigSep_insert (Ring.bk_not_mem_erase 3 k (by omega) (by decide))]
  rfl
/-- near the end, beside all that were home. -/
theorem homes_tail (k : ℕ) (hk : ¬ k + 3 < 14) (h : k < 14) :
    bigSep (Ring.homeSet 3 (k + 1)) (homeP c XA) = iprop(homeP c XA (Ring.bk 14 k) ∗ bigSep (Ring.homeSet 3 k) (homeP c XA)) := by
  conv_lhs => rw [Ring.homeSet_succ_tail 3 k (by omega) h, bigSep_insert (Ring.bk_not_mem_homeSet 3 k h (by decide))]
  rfl

/-- The flight a trip starts, as the run states it: into the slot as the previous tile's flight delivered it (restated
    over junk), the new payload consed on. -/
theorem flightP_after (s : Fin 3) (b b' : Fin 14) :
    flightP c XA s b' ((rslot s).view.writes (Elt F) (rslot s).view.junk [⟨Rect.whole S3584x512, payload c XA b⟩])
      = Transfers.Flight countersEmb (c : Thread nD τ) (SemLoc.dma (csm s).sem) () 57344
          iprop(((rslot s).view.loc (c : Thread nD τ) ↦[(rslot s).view.set]{fullShare}
                  (rslot s).view.writes (Elt F) (rslot s).view.junk [⟨Rect.whole S3584x512, payload c XA b'⟩, ⟨Rect.whole S3584x512, payload c XA b⟩])
                ∗ homeP c XA b') := by
  simp only [flightP, landed, slotP, NN, View.writes]

end Pieces

/-! ## One trip of the output loop -/

section Trip

variable (c : Dev nD) (XA : Buf (Elt F) (aM.view.loc (c : Thread nD τ)))
variable (i : grid0.Coords) (arg1 : Memref sig .tc .vmem S20x7168 .bf16) (harg1 : arg1.IsWhole) (arg2 : Memref sig .tc .vmem S56x1x128 .f32) (harg2 : arg2.IsWhole) (arg3 : Memref sig .tc .vmem S56x1x128 .f32) (harg3 : arg3.IsWhole) (arg4 : Memref sig .tc .vmem S1344x128 .f32) (harg4 : arg4.IsWhole) (arg6 : Memref sig .tc .vmem S20x7168 .bf16) (harg6 : arg6.IsWhole) (arg7 : Memref sig .tc .vmem S20x7168 .i8) (harg7 : arg7.IsWhole) (arg8 : Memref sig .tc .vmem S1x20 .f32) (harg8 : arg8.IsWhole) (arg10 : Memref sig .tc .vmem S32x7168 .bf16) (harg10 : arg10.IsWhole) (arg11 : Memref sig .tc .vmem S2x24x128 .f32) (harg11 : arg11.IsWhole)
  (X2 : Buf (Elt F) (arg2.view.loc (c : Thread nD τ))) (X3 : Buf (Elt F) (arg3.view.loc (c : Thread nD τ)))
  (X10 : Buf (Elt F) (arg10.view.loc (c : Thread nD τ))) (X11 : Buf (Elt F) (arg11.view.loc (c : Thread nD τ)))
  (X1 : Buf (Elt F) (arg1.view.loc (c : Thread nD τ)))

/-- The resources before trip `k`, the result's buffer at `fo`. -/
abbrev resAt (k : ℕ) (fo : Buf (Elt F) (arg6.view.loc (c : Thread nD τ))) : sProp 𝕄 :=
  iprop((arg2.view.loc (c : Thread nD τ) ↦[arg2.view.set]{fullShare} X2) ∗ (arg3.view.loc (c : Thread nD τ) ↦[arg3.view.set]{fullShare} X3)
    ∗ (arg10.view.loc (c : Thread nD τ) ↦[arg10.view.set]{fullShare} X10) ∗ (arg11.view.loc (c : Thread nD τ) ↦[arg11.view.set]{fullShare} X11)
    ∗ (arg1.view.loc (c : Thread nD τ) ↦[arg1.view.set]{fullShare} X1)
    ∗ (arg6.view.loc (c : Thread nD τ) ↦[arg6.view.set]{fullShare} fo) ∗ (∃ W, owes (c : Thread nD τ) 0 W)
    ∗ bigSep (Ring.homeSet 3 k) (homeP c XA)
    ∗ ringAt c XA k ∗ ringAt c XA (k + 1) ∗ ringAt c XA (k + 2))

set_option backward.proofsInPublic true in
/-- ONE TRIP at a symbolic `k`, the pieces it stores to be found by the run. -/
@[irreducible] def tripRun (k : Fin k0_t1_loop.trips) :
    { L : List (View.Piece (Elt F) S20x7168 .bf16) // ∀ (fo : Buf (Elt F) (arg6.view.loc (c : Thread nD τ))),
      resAt c XA arg1 arg2 arg3 arg6 arg10 arg11 X2 X3 X10 X11 X1 k fo ⊢ wp frame (wpE (defs₀ (F := F)) 𝒱₀ (c : Thread nD τ) none) Set.univ
          (k0_t1_body (F := F) i arg1 harg1 arg2 harg2 arg3 harg3 arg4 harg4 aM (Memref.isWhole_whole _) arg6 harg6 arg7 harg7 arg8 harg8 bufM (Memref.isWhole_whole _) arg10 harg10 arg11 harg11 cc0_scratch3 k ())
        (fun _ => resAt c XA arg1 arg2 arg3 arg6 arg10 arg11 X2 X3 X10 X11 X1 (k.val + 1) (arg6.view.writes (Elt F) fo L)) } := by
  have hk14 : k.val < 14 := lt14 k
  refine ⟨?_, fun fo => ?run⟩
  case run =>
    unfold resAt
    rw [ringAt_in c XA k.val hk14]
    iintro ⟨H3, H4, H17, H18, H19, HO, ⟨%W, HW⟩, Hh, ⟨%f0, HF0⟩, HF1, HF2⟩
    sl_unfold [k0_t1_body]
    set_option sl_exec.stopBefore "k0_cond1" in sl_exec
    by_cases hc : k0_cond1 k = 1#1
    · have hk3 := (cond1_iff k).1 hc
      ihave Hh2 := (entails_of_eq (homes_here c XA k.val hk3)) $$ Hh
      icases Hh2 with ⟨Hg, Hrest⟩
      sl_exec
      sl_step
      irw [homes_next c XA k.val hk3, show k.val + 1 + 1 = k.val + 2 from rfl, show k.val + 1 + 2 = k.val + 3 from rfl,
        ringAt_in c XA (k.val + 3) hk3, Ring.sl_add]
      isplitl [H3]; · iexact H3
      isplitl [H4]; · iexact H4
      isplitl [H17]; · iexact H17
      isplitl [H18]; · iexact H18
      isplitl [H19]; · iexact H19
      isplitl [HO]; · iexact HO
      isplitl [HW]; · iexists _; iexact HW
      isplitl [HF0_src Hrest]
      · isplitl [HF0_src]; · iexact HF0_src
        iexact Hrest
      isplitl [HF1]; · iexact HF1
      isplitl [HF2]; · iexact HF2
      iexists ((rslot (Ring.sl 3 k.val)).view.writes (Elt F) (rslot (Ring.sl 3 k.val)).view.junk [⟨Rect.whole S3584x512, payload c XA (Ring.bk 14 k.val)⟩])
      irw [flightP_after]
      iexact HF0
    · have hk3 := (cond1_iff k).not.1 hc
      sl_exec
      sl_step
      irw [homes_tail c XA k.val hk3 hk14, show k.val + 1 + 1 = k.val + 2 from rfl, show k.val + 1 + 2 = k.val + 3 from rfl,
        ringAt_out c XA (k.val + 3) hk3, Ring.sl_add]
      isplitl [H3]; · iexact H3
      isplitl [H4]; · iexact H4
      isplitl [H17]; · iexact H17
      isplitl [H18]; · iexact H18
      isplitl [H19]; · iexact H19
      isplitl [HO]; · iexact HO
      isplitl [HW]; · iexists _; iexact HW
      isplitl [HF0_src Hh]
      · isplitl [HF0_src]; · iexact HF0_src
        iexact Hh
      isplitl [HF1]; · iexact HF1
      isplitl [HF2]; · iexact HF2
      isplitl [HF0_dst]; · iexists _; iexact HF0_dst
      iexact HF0

/-- The pieces a trip stores. -/
abbrev tripL (k : Fin k0_t1_loop.trips) : List (View.Piece (Elt F) S20x7168 .bf16) :=
  (tripRun c XA i arg1 harg1 arg2 harg2 arg3 harg3 arg4 harg4 arg6 harg6 arg7 harg7 arg8 harg8 arg10 harg10 arg11 harg11 X2 X3 X10 X11 X1 k).1

/-- The pieces of the trips before `k`, last first. -/
@[irreducible] def pb1Step (k : ℕ) (prev : List (View.Piece (Elt F) S20x7168 .bf16)) : List (View.Piece (Elt F) S20x7168 .bf16) :=
  if h : k < k0_t1_loop.trips then tripL c XA i arg1 harg1 arg2 harg2 arg3 harg3 arg4 harg4 arg6 harg6 arg7 harg7 arg8 harg8 arg10 harg10 arg11 harg11 X2 X3 X10 X11 X1 ⟨k, h⟩ ++ prev else prev
def pb1 : ℕ → List (View.Piece (Elt F) S20x7168 .bf16)
  | 0 => []
  | k + 1 => pb1Step c XA i arg1 harg1 arg2 harg2 arg3 harg3 arg4 harg4 arg6 harg6 arg7 harg7 arg8 harg8 arg10 harg10 arg11 harg11 X2 X3 X10 X11 X1 k (pb1 k)
theorem pb1_succ (k : Fin k0_t1_loop.trips) :
    pb1 c XA i arg1 harg1 arg2 harg2 arg3 harg3 arg4 harg4 arg6 harg6 arg7 harg7 arg8 harg8 arg10 harg10 arg11 harg11 X2 X3 X10 X11 X1 (k.val + 1)
      = tripL c XA i arg1 harg1 arg2 harg2 arg3 harg3 arg4 harg4 arg6 harg6 arg7 harg7 arg8 harg8 arg10 harg10 arg11 harg11 X2 X3 X10 X11 X1 k ++ pb1 c XA i arg1 harg1 arg2 harg2 arg3 harg3 arg4 harg4 arg6 harg6 arg7 harg7 arg8 harg8 arg10 harg10 arg11 harg11 X2 X3 X10 X11 X1 k.val := by
  rw [pb1.eq_2]; unfold pb1Step; exact dif_pos k.isLt

set_option warn.classDefReducibility false in
/-- THE PROJECTION LOOP BY ITS INVARIANT. -/
@[sl_loop] def loopInv1 (G6 : Buf (Elt F) (arg6.view.loc (c : Thread nD τ))) :
    LoopInvTy_k0_t1 (F := F) Unit ℕ (Pipeline.UD sig nD τ) ℕ 𝒱₀ c none Set.univ i arg1 harg1 arg2 harg2 arg3 harg3 arg4 harg4 aM (Memref.isWhole_whole _) arg6 harg6 arg7 harg7 arg8 harg8 bufM (Memref.isWhole_whole _) arg10 harg10 arg11 harg11 cc0_scratch3 where
  inv k _ := resAt c XA arg1 arg2 arg3 arg6 arg10 arg11 X2 X3 X10 X11 X1 k (arg6.view.writes (Elt F) G6 (pb1 c XA i arg1 harg1 arg2 harg2 arg3 harg3 arg4 harg4 arg6 harg6 arg7 harg7 arg8 harg8 arg10 harg10 arg11 harg11 X2 X3 X10 X11 X1 k))
  step k _ := by
    iintro H
    iapply (wp_wand_r Idealize.ShloMosaic.frame (wpE (defs₀ (F := F)) 𝒱₀ (c : Thread nD τ) none) Set.univ)
    isplitl [H]
    · iapply ((tripRun c XA i arg1 harg1 arg2 harg2 arg3 harg3 arg4 harg4 arg6 harg6 arg7 harg7 arg8 harg8 arg10 harg10 arg11 harg11 X2 X3 X10 X11 X1 k).2 _); iexact H
    · iintro %_ H'
      rw [pb1_succ, View.writes_append]
      iexact H'

/-! ### What the output loop leaves: the fifty-six groups of columns, whatever the buffer held before -/

/-- The columns trip `k` stores its group `r` to. -/
abbrev R6 (k : Fin k0_t1_loop.trips) (r : Fin 4) : Rect S20x7168 :=
  Rect.unit (s := S20x7168) (k0_off6 k (BitVec.ofNat 32 r.val)) S20x128.size (k0_off6_inb k r)
/-- What trip `k` stores for its group `r`. -/
def tripW (k : Fin k0_t1_loop.trips) : Fin 4 → S20x128.Idx → Elt F .bf16
  | 0 => k0_pay7 (tripRun.sl.r_1 c XA arg10 X10 k) (tripRun.sl.r_2 c arg3 X3 k) (tripRun.sl.r_3 c arg11 X11) (View.readAt (Elt F) arg11.view (Rect.unit (s := S2x24x128) (![0, 0, 0]) S1x24x128.size inb_S2x24x128_S1x24x128_0_0_0).toLoadRect X11)
      (View.readAt (Elt F) arg2.view (Rect.unit (s := S56x1x128) (k0_off5 k 0#32) S1x1x128.size (k0_off5_inb k 0)).toLoadRect X2) (View.readAt (Elt F) arg1.view (Rect.unit (s := S20x7168) (k0_off6 k 0#32) S20x128.size (k0_off6_inb k 0)).toLoadRect X1)
  | 1 => k0_pay10 (tripRun.sl.r_4 c XA arg3 arg10 arg11 X3 X10 X11 k) (tripRun.sl.r_5 c arg2 X2 k) (View.readAt (Elt F) arg1.view (Rect.unit (s := S20x7168) (k0_off6 k 1#32) S20x128.size (k0_off6_inb k 1)).toLoadRect X1)
  | 2 => tripRun.sl.r_6 c XA arg1 arg2 arg3 arg10 arg11 X2 X3 X10 X11 X1 k
  | 3 => k0_pay12 (tripRun.sl.r c XA arg10 X10 k) (View.readAt (Elt F) arg3.view (Rect.unit (s := S56x1x128) (k0_off5 k 3#32) S1x1x128.size (k0_off5_inb k 3)).toLoadRect X3) (View.readAt (Elt F) arg11.view (Rect.unit (s := S2x24x128) (![1, 0, 0]) S1x24x128.size inb_S2x24x128_S1x24x128_1_0_0).toLoadRect X11) (View.readAt (Elt F) arg11.view (Rect.unit (s := S2x24x128) (![0, 0, 0]) S1x24x128.size inb_S2x24x128_S1x24x128_0_0_0).toLoadRect X11)
      (View.readAt (Elt F) arg2.view (Rect.unit (s := S56x1x128) (k0_off5 k 3#32) S1x1x128.size (k0_off5_inb k 3)).toLoadRect X2) (View.readAt (Elt F) arg1.view (Rect.unit (s := S20x7168) (k0_off6 k 3#32) S20x128.size (k0_off6_inb k 3)).toLoadRect X1)

/-- The pieces a trip stores, named. -/
theorem tripL_eq (k : Fin k0_t1_loop.trips) :
    tripL c XA i arg1 harg1 arg2 harg2 arg3 harg3 arg4 harg4 arg6 harg6 arg7 harg7 arg8 harg8 arg10 harg10 arg11 harg11 X2 X3 X10 X11 X1 k
      = [⟨R6 k 3, tripW c XA arg1 arg2 arg3 arg10 arg11 X2 X3 X10 X11 X1 k 3⟩, ⟨R6 k 2, tripW c XA arg1 arg2 arg3 arg10 arg11 X2 X3 X10 X11 X1 k 2⟩,
         ⟨R6 k 1, tripW c XA arg1 arg2 arg3 arg10 arg11 X2 X3 X10 X11 X1 k 1⟩, ⟨R6 k 0, tripW c XA arg1 arg2 arg3 arg10 arg11 X2 X3 X10 X11 X1 k 0⟩] := by
  unfold tripL; unfold tripRun; rfl

theorem mem_pb1 (n : ℕ) (hn : n ≤ k0_t1_loop.trips) (p : View.Piece (Elt F) S20x7168 .bf16) :
    p ∈ pb1 c XA i arg1 harg1 arg2 harg2 arg3 harg3 arg4 harg4 arg6 harg6 arg7 harg7 arg8 harg8 arg10 harg10 arg11 harg11 X2 X3 X10 X11 X1 n
      ↔ ∃ k : Fin k0_t1_loop.trips, k.val < n ∧ p ∈ tripL c XA i arg1 harg1 arg2 harg2 arg3 harg3 arg4 harg4 arg6 harg6 arg7 harg7 arg8 harg8 arg10 harg10 arg11 harg11 X2 X3 X10 X11 X1 k := by
  induction n with
  | zero => simp [pb1]
  | succ n ih =>
    have h : n < k0_t1_loop.trips := by omega
    rw [show n + 1 = (⟨n, h⟩ : Fin k0_t1_loop.trips).val + 1 from rfl, pb1_succ, List.mem_append, ih (by omega)]
    constructor
    · rintro (hp | ⟨k, hk, hp⟩)
      · exact ⟨⟨n, h⟩, Nat.lt_succ_self n, hp⟩
      · exact ⟨k, Nat.lt_succ_of_lt hk, hp⟩
    · rintro ⟨k, hk, hp⟩
      rcases Nat.lt_succ_iff_lt_or_eq.1 hk with hlt | he
      · exact Or.inr ⟨k, hlt, hp⟩
      · have : k = ⟨n, h⟩ := Fin.ext he
        subst this; exact Or.inl hp

theorem mem_R6 (k : Fin k0_t1_loop.trips) (r : Fin 4) (y : S20x7168.Idx) :
    y ∈ (R6 k r).set ↔ (y 1).val / 128 = 4 * k.val + r.val := by
  rw [Rect.mem_set_unit, k0_off6_eq]
  have h1 : (y 0).val < 20 := (y 0).isLt
  constructor
  · intro H; have a0 : 512 * k.val + 128 * r.val ≤ (y 1).val ∧ (y 1).val < 512 * k.val + 128 * r.val + 128 := H 1; omega
  · intro H i; fin_cases i
    · show 0 ≤ (y 0).val ∧ (y 0).val < 0 + 20; omega
    · show 512 * k.val + 128 * r.val ≤ (y 1).val ∧ (y 1).val < 512 * k.val + 128 * r.val + 128; omega

/-- The loop's pieces cover the result's buffer. -/
theorem cover1 (y : S20x7168.Idx) : ∃ p ∈ pb1 c XA i arg1 harg1 arg2 harg2 arg3 harg3 arg4 harg4 arg6 harg6 arg7 harg7 arg8 harg8 arg10 harg10 arg11 harg11 X2 X3 X10 X11 X1 k0_t1_loop.trips, y ∈ p.1.set := by
  have h0 : (y 1).val < 7168 := (y 1).isLt
  let k : Fin k0_t1_loop.trips := ⟨(y 1).val / 512, by rw [trips1_eq]; omega⟩
  let r : Fin 4 := ⟨(y 1).val / 128 % 4, by omega⟩
  refine ⟨⟨R6 k r, tripW c XA arg1 arg2 arg3 arg10 arg11 X2 X3 X10 X11 X1 k r⟩, ?_, ?_⟩
  · refine (mem_pb1 c XA i arg1 harg1 arg2 harg2 arg3 harg3 arg4 harg4 arg6 harg6 arg7 harg7 arg8 harg8 arg10 harg10 arg11 harg11 X2 X3 X10 X11 X1 _ (le_refl _) _).2 ?_
    refine ⟨k, k.isLt, ?_⟩
    rw [tripL_eq]
    generalize r = r'
    fin_cases r' <;> simp
  · rw [mem_R6]; show (y 1).val / 128 = 4 * ((y 1).val / 512) + (y 1).val / 128 % 4; omega

theorem R6_emb_0 (k : Fin k0_t1_loop.trips) (r : Fin 4) (x : S20x128.Idx) :
    (((R6 k r).emb x) 0).val = (x 0).val := by
  show (k0_off6 k (BitVec.ofNat 32 r.val)) 0 + 1 * (x 0).val = _
  rw [k0_off6_eq]; simp
theorem R6_emb_1 (k : Fin k0_t1_loop.trips) (r : Fin 4) (x : S20x128.Idx) :
    (((R6 k r).emb x) 1).val = 512 * k.val + 128 * r.val + (x 1).val := by
  show (k0_off6 k (BitVec.ofNat 32 r.val)) 1 + 1 * (x 1).val = _
  rw [k0_off6_eq]; simp

/-- What the columns' group that holds `y` is stored as. -/
def tripY (y : S20x7168.Idx) : Elt F .bf16 :=
  tripW c XA arg1 arg2 arg3 arg10 arg11 X2 X3 X10 X11 X1
      ⟨(y 1).val / 512, by have := (y 1).isLt; rw [trips1_eq]; have h : (y 1).val < 7168 := this; omega⟩ ⟨(y 1).val / 128 % 4, by omega⟩
      (ValueIdx.ix2 (n0 := 20) (n1 := 128) (y 0) ⟨(y 1).val % 128, by omega⟩)

/-- A trip's stored words, named by the columns they land in. -/
theorem tripW_at (k : Fin k0_t1_loop.trips) (r : Fin 4) (x : S20x128.Idx) :
    tripW c XA arg1 arg2 arg3 arg10 arg11 X2 X3 X10 X11 X1 k r x
      = tripY c XA arg1 arg2 arg3 arg10 arg11 X2 X3 X10 X11 X1 ((R6 k r).emb x) := by
  have h0 := R6_emb_0 k r x
  have h1 := R6_emb_1 k r x
  have hx : (x 1).val < 128 := (x 1).isLt
  have hr := r.isLt
  have e1 : (⟨(((R6 k r).emb x) 1).val / 512, lt_of_lt_of_eq (by rw [h1]; have := lt14 k; omega : _ < 14) trips1_eq.symm⟩ : Fin k0_t1_loop.trips) = k := Fin.ext (by show _ / 512 = _; rw [h1]; omega)
  have e2 : (⟨(((R6 k r).emb x) 1).val / 128 % 4, by omega⟩ : Fin 4) = r := Fin.ext (by show _ / 128 % 4 = _; rw [h1]; omega)
  have e3 : ValueIdx.ix2 (n0 := 20) (n1 := 128) (((R6 k r).emb x) 0) ⟨(((R6 k r).emb x) 1).val % 128, by omega⟩ = x := by
    funext d; fin_cases d
    · exact Fin.ext h0
    · exact Fin.ext (by show _ % 128 = _; rw [h1]; show _ = (x 1).val; omega)
  show _ = tripW c XA arg1 arg2 arg3 arg10 arg11 X2 X3 X10 X11 X1 (⟨(((R6 k r).emb x) 1).val / 512, _⟩ : Fin k0_t1_loop.trips) (⟨(((R6 k r).emb x) 1).val / 128 % 4, _⟩ : Fin 4) (ValueIdx.ix2 (n0 := 20) (n1 := 128) (((R6 k r).emb x) 0) ⟨(((R6 k r).emb x) 1).val % 128, _⟩)
  rw [e1, e2, e3]

/-- What the loop leaves in the result's buffer. -/
def yOf : S20x7168.Idx → Elt F .bf16 :=
  arg6.view.read (Elt F) (arg6.view.writes (Elt F) arg6.view.junk (pb1 c XA i arg1 harg1 arg2 harg2 arg3 harg3 arg4 harg4 arg6 harg6 arg7 harg7 arg8 harg8 arg10 harg10 arg11 harg11 X2 X3 X10 X11 X1 k0_t1_loop.trips))

/-- Column `512 k + 128 r + l` of it is column `l` of what trip `k` stores for its group `r`. -/
theorem yOf_apply (k : Fin k0_t1_loop.trips) (r : Fin 4) (x : S20x128.Idx) :
    yOf c XA i arg1 harg1 arg2 harg2 arg3 harg3 arg4 harg4 arg6 harg6 arg7 harg7 arg8 harg8 arg10 harg10 arg11 harg11 X2 X3 X10 X11 X1 ((R6 k r).emb x) = tripW c XA arg1 arg2 arg3 arg10 arg11 X2 X3 X10 X11 X1 k r x := by
  have key := View.read_writes_apply_of_pieces arg6.view arg6.view.junk
    (tripY c XA arg1 arg2 arg3 arg10 arg11 X2 X3 X10 X11 X1)
    (pb1 c XA i arg1 harg1 arg2 harg2 arg3 harg3 arg4 harg4 arg6 harg6 arg7 harg7 arg8 harg8 arg10 harg10 arg11 harg11 X2 X3 X10 X11 X1 k0_t1_loop.trips) ?_ ((R6 k r).emb x) (cover1 c XA i arg1 harg1 arg2 harg2 arg3 harg3 arg4 harg4 arg6 harg6 arg7 harg7 arg8 harg8 arg10 harg10 arg11 harg11 X2 X3 X10 X11 X1 _)
  · refine key.trans ?_
    exact (tripW_at c XA arg1 arg2 arg3 arg10 arg11 X2 X3 X10 X11 X1 k r x).symm
  · intro p hp x'
    obtain ⟨k', -, hp'⟩ := (mem_pb1 c XA i arg1 harg1 arg2 harg2 arg3 harg3 arg4 harg4 arg6 harg6 arg7 harg7 arg8 harg8 arg10 harg10 arg11 harg11 X2 X3 X10 X11 X1 _ (le_refl _) _).1 hp
    rw [tripL_eq] at hp'
    simp only [List.mem_cons, List.not_mem_nil, _root_.or_false] at hp'
    rcases hp' with rfl | rfl | rfl | rfl
    · exact tripW_at c XA arg1 arg2 arg3 arg10 arg11 X2 X3 X10 X11 X1 k' 3 x'
    · exact tripW_at c XA arg1 arg2 arg3 arg10 arg11 X2 X3 X10 X11 X1 k' 2 x'
    · exact tripW_at c XA arg1 arg2 arg3 arg10 arg11 X2 X3 X10 X11 X1 k' 1 x'
    · exact tripW_at c XA arg1 arg2 arg3 arg10 arg11 X2 X3 X10 X11 X1 k' 0 x'

/-- AFTER THE LOOP: the result's buffer at `yOf`, every tile home, every slot and cell free. -/
instance loopExit1 (G6 : Buf (Elt F) (arg6.view.loc (c : Thread nD τ))) :
    LoopExit (loopInv1 c XA i arg1 harg1 arg2 harg2 arg3 harg3 arg4 harg4 arg6 harg6 arg7 harg7 arg8 harg8 arg10 harg10 arg11 harg11 X2 X3 X10 X11 X1 G6) where
  post _ := iprop((arg2.view.loc (c : Thread nD τ) ↦[arg2.view.set]{fullShare} X2) ∗ (arg3.view.loc (c : Thread nD τ) ↦[arg3.view.set]{fullShare} X3)
    ∗ (arg10.view.loc (c : Thread nD τ) ↦[arg10.view.set]{fullShare} X10) ∗ (arg11.view.loc (c : Thread nD τ) ↦[arg11.view.set]{fullShare} X11)
    ∗ (arg1.view.loc (c : Thread nD τ) ↦[arg1.view.set]{fullShare} X1)
    ∗ (arg6.view.loc (c : Thread nD τ) ↦[arg6.view.set]{fullShare} arg6.view.rep (yOf c XA i arg1 harg1 arg2 harg2 arg3 harg3 arg4 harg4 arg6 harg6 arg7 harg7 arg8 harg8 arg10 harg10 arg11 harg11 X2 X3 X10 X11 X1)) ∗ (∃ W, owes (c : Thread nD τ) 0 W)
    ∗ bigSep Finset.univ (homeP c XA)
    ∗ ((∃ f, slotP c 2 f) ∗ cellP c 2) ∗ ((∃ f, slotP c 0 f) ∗ cellP c 0) ∗ ((∃ f, slotP c 1 f) ∗ cellP c 1))
  exit _ := by
    show resAt c XA arg1 arg2 arg3 arg6 arg10 arg11 X2 X3 X10 X11 X1 k0_t1_loop.trips (arg6.view.writes (Elt F) G6 (pb1 c XA i arg1 harg1 arg2 harg2 arg3 harg3 arg4 harg4 arg6 harg6 arg7 harg7 arg8 harg8 arg10 harg10 arg11 harg11 X2 X3 X10 X11 X1 k0_t1_loop.trips)) ⊢ _
    unfold resAt
    rw [ringAt_out c XA _ (show ¬ k0_t1_loop.trips < 14 by rw [trips1_eq]; decide), ringAt_out c XA _ (show ¬ k0_t1_loop.trips + 1 < 14 by rw [trips1_eq]; decide),
      ringAt_out c XA _ (show ¬ k0_t1_loop.trips + 2 < 14 by rw [trips1_eq]; decide),
      show Ring.sl 3 k0_t1_loop.trips = 2 from by rw [trips1_eq]; rfl, show Ring.sl 3 (k0_t1_loop.trips + 1) = 0 from by rw [trips1_eq]; rfl,
      show Ring.sl 3 (k0_t1_loop.trips + 2) = 1 from by rw [trips1_eq]; rfl, Ring.homeSet_last 3 _ (show 14 ≤ k0_t1_loop.trips by rw [trips1_eq])]
    iintro ⟨H3, H4, H17, H18, H19, HO, HW, Hh, HF0, HF1, HF2⟩
    isplitl [H3]; · iexact H3
    isplitl [H4]; · iexact H4
    isplitl [H17]; · iexact H17
    isplitl [H18]; · iexact H18
    isplitl [H19]; · iexact H19
    isplitl [HO]
    · ihave HO' := (pointsTo_rep_entails (c : Thread nD τ) arg6 _ fullShare) $$ HO
      rw [View.read_writes_of_cover _ _ arg6.view arg6.view.junk _ (cover1 c XA i arg1 harg1 arg2 harg2 arg3 harg3 arg4 harg4 arg6 harg6 arg7 harg7 arg8 harg8 arg10 harg10 arg11 harg11 X2 X3 X10 X11 X1)]
      iexact HO'
    isplitl [HW]; · iexact HW
    isplitl [Hh]; · iexact Hh
    isplitl [HF0]; · iexact HF0
    isplitl [HF1]; · iexact HF1
    iexact HF2

end Trip
end Cert.KernelOIdeal.Hand

end
-- ==== Proof.KernelOIdealBody.lean ====
/-
  `KernelOIdeal`'s body, run once: the weights split into their fourteen tiles and the buffer into its three slots, the prologue's
  three transfers handed to the output loop as its invariant at trip 0, the loop taken by its invariant.
-/
module

public import proofs.«01_k».proof.Proof.KernelOIdealRing
public import Idealize.ShloMosaic.Lib.Pipeline.TableIdle

@[expose] public section

noncomputable section

namespace Cert.KernelOIdeal.Hand

open Cert.KernelOIdeal Cert.KernelOIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The weights' fourteen tiles, the buffer's three slots -/

abbrev G14 (b : Fin 14) : Finset S3584x7168.Idx := (Rect.unit (s := S3584x7168) (grpOff b) S3584x512.size (grpOff_inb b)).set
abbrev S3s (s : Fin 3) : Finset S3x3584x512.Idx := (Rect.unit (s := S3x3584x512) (slotOff s) S1x3584x512.size (slotOff_inb s)).set

theorem grp_set (b : Fin 14) : (grp b : Memref sig .tc .hbm _ _).view.set = G14 b := View.set_slice_whole _ _
theorem rslot_set (s : Fin 3) : (rslot s : Memref sig .tc .vmem _ _).view.set = S3s s := (View.set_reshape _ _).trans (View.set_slice_whole _ _)

theorem mem_G14 (b : Fin 14) (y : S3584x7168.Idx) : y ∈ G14 b ↔ (y 1).val / 512 = b.val := by
  rw [Rect.mem_set_unit]
  have h0 : (y 0).val < 3584 := (y 0).isLt
  constructor
  · intro H; have a0 : 512 * b.val ≤ (y 1).val ∧ (y 1).val < 512 * b.val + 512 := H 1; omega
  · intro H i; fin_cases i
    · show 0 ≤ (y 0).val ∧ (y 0).val < 0 + 3584; omega
    · show 512 * b.val ≤ (y 1).val ∧ (y 1).val < 512 * b.val + 512; omega
theorem mem_S3s (s : Fin 3) (y : S3x3584x512.Idx) : y ∈ S3s s ↔ (y 0).val = s.val := by
  rw [Rect.mem_set_unit]
  have h1 : (y 1).val < 3584 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 3584; omega
    · show 0 ≤ (y 2).val ∧ (y 2).val < 0 + 512; omega
theorem G14_disjoint : ∀ b b' : Fin 14, b ≠ b' → Disjoint (G14 b) (G14 b') := by
  intro b b' hne; rw [Finset.disjoint_left]; intro y hy hy'; rw [mem_G14] at hy hy'; exact hne (Fin.ext (hy.symm.trans hy'))
theorem G14_cover : (Finset.univ : Finset (Fin 14)).biUnion G14 = Finset.univ := by
  ext y; simp only [Finset.mem_biUnion, Finset.mem_univ, true_and, iff_true]
  have h1 : (y 1).val < 7168 := (y 1).isLt
  exact ⟨⟨(y 1).val / 512, by omega⟩, by rw [mem_G14]⟩
theorem S3s_disjoint : ∀ s s' : Fin 3, s ≠ s' → Disjoint (S3s s) (S3s s') := by
  intro s s' hne; rw [Finset.disjoint_left]; intro y hy hy'; rw [mem_S3s] at hy hy'; exact hne (Fin.ext (hy.symm.trans hy'))
theorem S3s_cover : (Finset.univ : Finset (Fin 3)).biUnion S3s = Finset.univ := by
  ext y; simp only [Finset.mem_biUnion, Finset.mem_univ, true_and, iff_true]; exact ⟨(y 0).cast (by decide), by rw [mem_S3s]; rfl⟩

omit [FloatOps F] in
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- The weights whole are their fourteen tiles home; -/
theorem a_eq (c : Dev nD) (XA : Buf (Elt F) (aM.view.loc (c : Thread nD τ))) :
    (((c : Thread nD τ).loc main_arg1) ↦{fullShare} XA : sProp 𝕄) = bigSep Finset.univ (homeP c XA) := by
  rw [Ring.pointsTo_blocks (ℓ := (c : Thread nD τ).loc main_arg1) G14 G14_disjoint G14_cover]
  exact bigSep_congr fun b _ => by rw [← grp_set]; rfl
/-- at the body's entry, tiles 0, 1 and 2 apart from the rest. -/
theorem homes_zero (c : Dev nD) (XA : Buf (Elt F) (aM.view.loc (c : Thread nD τ))) :
    bigSep Finset.univ (homeP c XA) = iprop(homeP c XA 0 ∗ homeP c XA 1 ∗ homeP c XA 2 ∗ bigSep (Ring.homeSet 3 0) (homeP c XA)) := by
  have e : (Finset.univ : Finset (Fin 14)) = insert 0 (insert 1 (insert 2 (Ring.homeSet (NB := 14) 3 0))) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet, Fin.ext_iff]), bigSep_insert (by simp [Ring.mem_homeSet])]; rfl

omit [FloatOps F] in
theorem slotP_eq (c : Dev nD) (s : Fin 3) (f) : slotP c s f = (((c : Thread nD τ).loc cc0_scratch0) ↦[S3s s]{fullShare} f : sProp 𝕄) :=
  congrArg (fun S => (_ ↦[S]{fullShare} f : sProp 𝕄)) (rslot_set s)
/-- The buffer whole is its three slots, and back. -/
theorem buf_split (c : Dev nD) :
    iprop(∃ f : Buf (Elt F) ((c : Thread nD τ).loc cc0_scratch0), ((c : Thread nD τ).loc cc0_scratch0) ↦{fullShare} f)
      ⊢ (iprop((∃ f, slotP c 0 f) ∗ (∃ f, slotP c 1 f) ∗ (∃ f, slotP c 2 f)) : sProp 𝕄) := by
  iintro ⟨%f, H⟩
  ihave H2 := (entails_of_eq ((Ring.pointsTo_blocks (Ix := Unit) (Name := ℕ) (U := UU) (Lvl := ℕ) (q := fullShare) (ℓ := (c : Thread nD τ).loc cc0_scratch0) S3s S3s_disjoint S3s_cover f).trans (bigSep_fin3 _))) $$ H
  icases H2 with ⟨H0, H1, H2⟩
  isplitl [H0]
  · iexists f; iapply (entails_of_eq (slotP_eq c 0 f).symm); iexact H0
  isplitl [H1]
  · iexists f; iapply (entails_of_eq (slotP_eq c 1 f).symm); iexact H1
  · iexists f; iapply (entails_of_eq (slotP_eq c 2 f).symm); iexact H2
theorem buf_join (c : Dev nD) :
    iprop((∃ f, slotP c 0 f) ∗ (∃ f, slotP c 1 f) ∗ (∃ f, slotP c 2 f))
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch0) S3s S3s_disjoint S3s_cover f0)
  irw [bigSep_fin3]
  isplitl [H0]
  · iexists f0; iapply (entails_of_eq (slotP_eq c 0 f0)); iexact H0
  isplitl [H1]
  · iexists f1; iapply (entails_of_eq (slotP_eq c 1 f1)); iexact H1
  · iexists f2; iapply (entails_of_eq (slotP_eq c 2 f2)); iexact H2

/-- A flight the prologue starts, as the ring's state before trip 0. -/
theorem ring_entry (c : Dev nD) (XA : Buf (Elt F) (aM.view.loc (c : Thread nD τ))) (j : ℕ) (h : j < 14) (f) :
    flightP c XA (Ring.sl 3 j) (Ring.bk 14 j) f ⊢ ringAt c XA j := by
  rw [ringAt_in c XA j h]; iintro H; iexists f; iexact H

/-- A buffer written over its whole extent holds the same words whatever it held before. -/
theorem pt_rebase (c : Dev nD) {sp : Space} {S : Shape} {e : EltTy} (M : Memref sig .tc sp S e) (f : Buf (Elt F) (M.view.loc (c : Thread nD τ)))
    (L : List (View.Piece (Elt F) S e)) (h : ∃ p, L.getLast? = some p ∧ ∀ y, y ∈ p.1.set) :
    (M.view.loc (c : Thread nD τ) ↦[M.view.set]{fullShare} M.view.writes (Elt F) f L : sProp 𝕄)
      = M.view.loc (c : Thread nD τ) ↦[M.view.set]{fullShare} M.view.rep (M.view.read (Elt F) (M.view.writes (Elt F) M.view.junk L)) := by
  obtain ⟨p, hl, hp⟩ := h
  rw [← View.read_writes_of_cover M.view f M.view M.view.junk L (fun y => ⟨p, List.mem_of_getLast? hl, hp y⟩)]
  exact pointsTo_rep (c : Thread nD τ) M _ fullShare
/-- What is written over known words is known. -/
theorem pt_rebase2 (c : Dev nD) {sp : Space} {S : Shape} {e : EltTy} (M : Memref sig .tc sp S e) (X : S.Idx → Elt F e)
    (L : List (View.Piece (Elt F) S e)) :
    (M.view.loc (c : Thread nD τ) ↦[M.view.set]{fullShare} M.view.writes (Elt F) (M.view.rep X) L : sProp 𝕄)
      = M.view.loc (c : Thread nD τ) ↦[M.view.set]{fullShare} M.view.rep (M.view.read (Elt F) (M.view.writes (Elt F) (M.view.rep X) L)) :=
  pointsTo_rep (c : Thread nD τ) M _ fullShare
theorem mem_unit_zero {S : Shape} (off : Fin S.rank → Nat) (h : off = fun _ => 0) (inb : ∀ a, off a + S.size a ≤ S.size a) (y : S.Idx) :
    y ∈ (Rect.unit (s := S) off S.size inb).set := by
  subst h; rw [Rect.mem_set_unit]; intro a; exact ⟨Nat.zero_le _, by simpa using (y a).isLt⟩
theorem zero2 : (![0, 0] : Fin 2 → Nat) = fun _ => 0 := by decide
theorem zero3 : (![0, 0, 0] : Fin 3 → Nat) = fun _ => 0 := by decide

/-! ## The body -/

variable (c : Dev nD) (XA : Buf (Elt F) (aM.view.loc (c : Thread nD τ)))
set_option maxHeartbeats 16000000 in
set_option maxRecDepth 16384 in
/-- THE BODY RUN: on whole staging memrefs, the four VMEM operands at their contents, the outputs and the scratch buffers at
    anything, the weights' tiles home, the slots and cells free. It ends with the operands as they were, each output at
    contents the run finds (the same whatever the buffers held before), and the tiles, slots and cells as at the start. -/
noncomputable def kernelRun (i : grid0.Coords) (arg1 : Memref sig .tc .vmem S20x7168 .bf16) (harg1 : arg1.IsWhole) (arg2 : Memref sig .tc .vmem S56x1x128 .f32) (harg2 : arg2.IsWhole) (arg3 : Memref sig .tc .vmem S56x1x128 .f32) (harg3 : arg3.IsWhole) (arg4 : Memref sig .tc .vmem S1344x128 .f32) (harg4 : arg4.IsWhole) (arg6 : Memref sig .tc .vmem S20x7168 .bf16) (harg6 : arg6.IsWhole) (arg7 : Memref sig .tc .vmem S20x7168 .i8) (harg7 : arg7.IsWhole) (arg8 : Memref sig .tc .vmem S1x20 .f32) (harg8 : arg8.IsWhole) (arg10 : Memref sig .tc .vmem S32x7168 .bf16) (harg10 : arg10.IsWhole) (arg11 : Memref sig .tc .vmem S2x24x128 .f32) (harg11 : arg11.IsWhole) (x1 : S20x7168.Idx → Elt F .bf16) (x2 : S56x1x128.Idx → Elt F .f32) (x3 : S56x1x128.Idx → Elt F .f32) (x4 : S1344x128.Idx → Elt F .f32) :
    (L7 : List (View.Piece (Elt F) S20x7168 .i8)) ×' (L8 : List (View.Piece (Elt F) S1x20 .f32)) ×' { Y6 : S20x7168.Idx → Elt F .bf16 //
      ∀ (W : Waits sig Unit) (K : PUnit → sProp 𝕄),
        iprop((arg1.view.loc (c : Thread nD τ) ↦[arg1.view.set]{fullShare} arg1.view.rep x1)
          ∗ (arg2.view.loc (c : Thread nD τ) ↦[arg2.view.set]{fullShare} arg2.view.rep x2)
          ∗ (arg3.view.loc (c : Thread nD τ) ↦[arg3.view.set]{fullShare} arg3.view.rep x3)
          ∗ (arg4.view.loc (c : Thread nD τ) ↦[arg4.view.set]{fullShare} arg4.view.rep x4)
          ∗ (∃ f, (arg6.view.loc (c : Thread nD τ) ↦[arg6.view.set]{fullShare} f))
          ∗ (∃ f, (arg7.view.loc (c : Thread nD τ) ↦[arg7.view.set]{fullShare} f))
          ∗ (∃ f, (arg8.view.loc (c : Thread nD τ) ↦[arg8.view.set]{fullShare} f))
          ∗ (∃ f, (arg10.view.loc (c : Thread nD τ) ↦[arg10.view.set]{fullShare} f))
          ∗ (∃ f, (arg11.view.loc (c : Thread nD τ) ↦[arg11.view.set]{fullShare} f))
          ∗ bigSep Finset.univ (homeP c XA)
          ∗ (∃ f, slotP c 0 f)
          ∗ (∃ f, slotP c 1 f)
          ∗ (∃ f, slotP c 2 f)
          ∗ cellP c 0
          ∗ cellP c 1
          ∗ cellP c 2
          ∗ owes (c : Thread nD τ) 0 W
          ∗ (iprop((arg1.view.loc (c : Thread nD τ) ↦[arg1.view.set]{fullShare} arg1.view.rep x1)
          ∗ (arg2.view.loc (c : Thread nD τ) ↦[arg2.view.set]{fullShare} arg2.view.rep x2)
          ∗ (arg3.view.loc (c : Thread nD τ) ↦[arg3.view.set]{fullShare} arg3.view.rep x3)
          ∗ (arg4.view.loc (c : Thread nD τ) ↦[arg4.view.set]{fullShare} arg4.view.rep x4)
          ∗ (arg6.view.loc (c : Thread nD τ) ↦[arg6.view.set]{fullShare} arg6.view.rep Y6)
          ∗ (∃ f, (arg7.view.loc (c : Thread nD τ) ↦[arg7.view.set]{fullShare} arg7.view.writes (Elt F) f L7))
          ∗ (∃ f, (arg8.view.loc (c : Thread nD τ) ↦[arg8.view.set]{fullShare} arg8.view.writes (Elt F) f L8))
          ∗ (∃ f, (arg10.view.loc (c : Thread nD τ) ↦[arg10.view.set]{fullShare} f))
          ∗ (∃ f, (arg11.view.loc (c : Thread nD τ) ↦[arg11.view.set]{fullShare} f))
          ∗ bigSep Finset.univ (homeP c XA)
          ∗ (∃ f, slotP c 0 f)
          ∗ (∃ f, slotP c 1 f)
          ∗ (∃ f, slotP c 2 f)
          ∗ cellP c 0
          ∗ cellP c 1
          ∗ cellP c 2
          ∗ (∃ W', owes (c : Thread nD τ) 0 W')) -∗ K ⟨⟩))
          ⊢ wp frame (wpE (defs₀ (F := F)) 𝒱₀ (c : Thread nD τ) none) Set.univ (cc0_lserve_decode i arg1 harg1 arg2 harg2 arg3 harg3 arg4 harg4 aM (Memref.isWhole_whole _) arg6 harg6 arg7 harg7 arg8 harg8 bufM (Memref.isWhole_whole _) arg10 harg10 arg11 harg11 cc0_scratch3) K } := by
  refine ⟨?_, ?_, ?_, fun W K => ?run⟩
  case run =>
    simp only [cc0_lserve_decode_eq_skeleton]; unfold cc0_lserve_decode_skel
    iintro ⟨H1, H2, H3, H4, ⟨%f6, H6⟩, ⟨%f7, H7⟩, ⟨%f8, H8⟩, ⟨%f10, H10⟩, ⟨%f11, H11⟩, Hh, ⟨%fs0, Hs0⟩, ⟨%fs1, Hs1⟩, ⟨%fs2, Hs2⟩, Hc0, Hc1, Hc2, HW, Hk⟩
    ihave Hh2 := (entails_of_eq (homes_zero c XA)) $$ Hh
    icases Hh2 with ⟨Hg0, Hg1, Hg2, Hh⟩
    set_option sl_exec.stopBefore "Loop.for" in sl_exec
    ihave HR0 : ringAt c XA 0 $$ [Hc0]
    · iapply (ring_entry c XA 0 (by decide) fs0); istop; exact entails_of_eq rfl
    ihave HR1 : ringAt c XA (0 + 1) $$ [Hc1]
    · iapply (ring_entry c XA 1 (by decide) fs1); istop; exact entails_of_eq rfl
    ihave HR2 : ringAt c XA (0 + 2) $$ [Hc2]
    · iapply (ring_entry c XA 2 (by decide) fs2); istop; exact entails_of_eq rfl
    sl_exec
    sl_step
    iapply Hk
    isplitl [HL4]; · iexact HL4
    isplitl [HL0]; · iexact HL0
    isplitl [HL1]; · iexact HL1
    isplitl [H4]; · iexact H4
    isplitl [HL5]; · iexact HL5
    isplitl [H7]; · iexists _; iexact H7
    isplitl [H8]; · iexists _; iexact H8
    isplitl [HL2]; · iexists _; iexact HL2
    isplitl [HL3]; · iexists _; iexact HL3
    isplitl [HL7]; · iexact HL7
    isplitl [HL10]; · iexists _; iexact HL10
    isplitl [HL12]; · iexists _; iexact HL12
    isplitl [HL8]; · iexists _; iexact HL8
    isplitl [HL11]; · iexact HL11
    isplitl [HL13]; · iexact HL13
    isplitl [HL9]; · iexact HL9
    iexists _; iexact HL6

end Cert.KernelOIdeal.Hand

end
-- ==== Proof.KernelOIdealCodes.lean ====
/-
  `KernelOIdeal`'s quantised attention: the fifty-six heads' codes as the body stores them, one block of 128 columns per head, named by
  the head; and the running sum of the codes, named by the heads summed.
-/
module

public import proofs.«01_k».proof.Proof.KernelOIdealBody

@[expose] public section

set_option maxRecDepth 16384
set_option maxHeartbeats 4000000

noncomputable section

namespace Cert.KernelOIdeal.Hand

open Cert.KernelOIdeal Cert.KernelOIdeal.Gen
open Idealize.ShloMosaic
open Idealize.ShloMosaic.TcCoe Idealize.ShloMosaic.Tactic

variable {F : FTy → Type} [FloatOps F]
variable (arg4 : Memref sig .tc .vmem S1344x128 .f32) (x4 : S1344x128.Idx → Elt F .f32)

theorem at_inb (h : Fin 56) : ∀ a, (![24 * h.val, 0] : Fin 2 → Nat) a + S24x128.size a ≤ S1344x128.size a := by
  have := h.isLt; intro a; fin_cases a
  · show 24 * h.val + 24 ≤ 1344; omega
  · show 0 + 128 ≤ 128; omega
theorem ac_inb (h : Fin 56) : ∀ a, (![0, 128 * h.val] : Fin 2 → Nat) a + S20x128.size a ≤ S20x7168.size a := by
  have := h.isLt; intro a; fin_cases a
  · show 0 + 20 ≤ 20; omega
  · show 128 * h.val + 128 ≤ 7168; omega
theorem xq_inb (h : Fin 56) : ∀ a, (![0, 128 * h.val] : Fin 2 → Nat) a + S24x128.size a ≤ S32x7168.size a := by
  have := h.isLt; intro a; fin_cases a
  · show 0 + 24 ≤ 32; omega
  · show 128 * h.val + 128 ≤ 7168; omega

/-- Head `h`'s rows of the attention operand. -/
def hRows (h : Fin 56) : S24x128.Idx → Elt F .f32 :=
  View.readAt (Elt F) arg4.view (Rect.unit (s := S1344x128) ![24 * h.val, 0] S24x128.size (at_inb h)).toLoadRect (arg4.view.rep x4)
/-- Head `h`'s block of the stored codes. -/
def acP (h : Fin 56) : View.Piece (Elt F) S20x7168 .i8 :=
  ⟨Rect.unit (s := S20x7168) ![0, 128 * h.val] S20x128.size (ac_inb h), k0_pay34 (kernelRun.sl.r_12 arg4 x4) (hRows arg4 x4 h)⟩
/-- Head `h`'s block of the codes the product reads. -/
def xqP (h : Fin 56) : View.Piece (Elt F) S32x7168 .bf16 :=
  ⟨Rect.unit (s := S32x7168) ![0, 128 * h.val] S24x128.size (xq_inb h), k0_pay36 (kernelRun.sl.r_12 arg4 x4) (hRows arg4 x4 h)⟩
/-- The zeros stored before them. -/
def xqZ : View.Piece (Elt F) S32x7168 .bf16 :=
  ⟨Rect.unit (s := S32x7168) ![0, 0] S32x7168.size inb_S32x7168_S32x7168_0_0, k0_pay13⟩

set_option backward.isDefEq.respectTransparency false in
theorem H7_eq : kernelRun.sl.H7_56 arg4 x4 = [acP arg4 x4 ⟨55, by decide⟩, acP arg4 x4 ⟨54, by decide⟩, acP arg4 x4 ⟨53, by decide⟩, acP arg4 x4 ⟨52, by decide⟩, acP arg4 x4 ⟨51, by decide⟩, acP arg4 x4 ⟨50, by decide⟩, acP arg4 x4 ⟨49, by decide⟩, acP arg4 x4 ⟨48, by decide⟩, acP arg4 x4 ⟨47, by decide⟩, acP arg4 x4 ⟨46, by decide⟩, acP arg4 x4 ⟨45, by decide⟩, acP arg4 x4 ⟨44, by decide⟩, acP arg4 x4 ⟨43, by decide⟩, acP arg4 x4 ⟨42, by decide⟩, acP arg4 x4 ⟨41, by decide⟩, acP arg4 x4 ⟨40, by decide⟩, acP arg4 x4 ⟨39, by decide⟩, acP arg4 x4 ⟨38, by decide⟩, acP arg4 x4 ⟨37, by decide⟩, acP arg4 x4 ⟨36, by decide⟩, acP arg4 x4 ⟨35, by decide⟩, acP arg4 x4 ⟨34, by decide⟩, acP arg4 x4 ⟨33, by decide⟩, acP arg4 x4 ⟨32, by decide⟩, acP arg4 x4 ⟨31, by decide⟩, acP arg4 x4 ⟨30, by decide⟩, acP arg4 x4 ⟨29, by decide⟩, acP arg4 x4 ⟨28, by decide⟩, acP arg4 x4 ⟨27, by decide⟩, acP arg4 x4 ⟨26, by decide⟩, acP arg4 x4 ⟨25, by decide⟩, acP arg4 x4 ⟨24, by decide⟩, acP arg4 x4 ⟨23, by decide⟩, acP arg4 x4 ⟨22, by decide⟩, acP arg4 x4 ⟨21, by decide⟩, acP arg4 x4 ⟨20, by decide⟩, acP arg4 x4 ⟨19, by decide⟩, acP arg4 x4 ⟨18, by decide⟩, acP arg4 x4 ⟨17, by decide⟩, acP arg4 x4 ⟨16, by decide⟩, acP arg4 x4 ⟨15, by decide⟩, acP arg4 x4 ⟨14, by decide⟩, acP arg4 x4 ⟨13, by decide⟩, acP arg4 x4 ⟨12, by decide⟩, acP arg4 x4 ⟨11, by decide⟩, acP arg4 x4 ⟨10, by decide⟩, acP arg4 x4 ⟨9, by decide⟩, acP arg4 x4 ⟨8, by decide⟩, acP arg4 x4 ⟨7, by decide⟩, acP arg4 x4 ⟨6, by decide⟩, acP arg4 x4 ⟨5, by decide⟩, acP arg4 x4 ⟨4, by decide⟩, acP arg4 x4 ⟨3, by decide⟩, acP arg4 x4 ⟨2, by decide⟩, acP arg4 x4 ⟨1, by decide⟩, acP arg4 x4 ⟨0, by decide⟩] := by
  rfl
set_option backward.isDefEq.respectTransparency false in
theorem H10_eq : kernelRun.sl.H10_57 arg4 x4 = [xqP arg4 x4 ⟨55, by decide⟩, xqP arg4 x4 ⟨54, by decide⟩, xqP arg4 x4 ⟨53, by decide⟩, xqP arg4 x4 ⟨52, by decide⟩, xqP arg4 x4 ⟨51, by decide⟩, xqP arg4 x4 ⟨50, by decide⟩, xqP arg4 x4 ⟨49, by decide⟩, xqP arg4 x4 ⟨48, by decide⟩, xqP arg4 x4 ⟨47, by decide⟩, xqP arg4 x4 ⟨46, by decide⟩, xqP arg4 x4 ⟨45, by decide⟩, xqP arg4 x4 ⟨44, by decide⟩, xqP arg4 x4 ⟨43, by decide⟩, xqP arg4 x4 ⟨42, by decide⟩, xqP arg4 x4 ⟨41, by decide⟩, xqP arg4 x4 ⟨40, by decide⟩, xqP arg4 x4 ⟨39, by decide⟩, xqP arg4 x4 ⟨38, by decide⟩, xqP arg4 x4 ⟨37, by decide⟩, xqP arg4 x4 ⟨36, by decide⟩, xqP arg4 x4 ⟨35, by decide⟩, xqP arg4 x4 ⟨34, by decide⟩, xqP arg4 x4 ⟨33, by decide⟩, xqP arg4 x4 ⟨32, by decide⟩, xqP arg4 x4 ⟨31, by decide⟩, xqP arg4 x4 ⟨30, by decide⟩, xqP arg4 x4 ⟨29, by decide⟩, xqP arg4 x4 ⟨28, by decide⟩, xqP arg4 x4 ⟨27, by decide⟩, xqP arg4 x4 ⟨26, by decide⟩, xqP arg4 x4 ⟨25, by decide⟩, xqP arg4 x4 ⟨24, by decide⟩, xqP arg4 x4 ⟨23, by decide⟩, xqP arg4 x4 ⟨22, by decide⟩, xqP arg4 x4 ⟨21, by decide⟩, xqP arg4 x4 ⟨20, by decide⟩, xqP arg4 x4 ⟨19, by decide⟩, xqP arg4 x4 ⟨18, by decide⟩, xqP arg4 x4 ⟨17, by decide⟩, xqP arg4 x4 ⟨16, by decide⟩, xqP arg4 x4 ⟨15, by decide⟩, xqP arg4 x4 ⟨14, by decide⟩, xqP arg4 x4 ⟨13, by decide⟩, xqP arg4 x4 ⟨12, by decide⟩, xqP arg4 x4 ⟨11, by decide⟩, xqP arg4 x4 ⟨10, by decide⟩, xqP arg4 x4 ⟨9, by decide⟩, xqP arg4 x4 ⟨8, by decide⟩, xqP arg4 x4 ⟨7, by decide⟩, xqP arg4 x4 ⟨6, by decide⟩, xqP arg4 x4 ⟨5, by decide⟩, xqP arg4 x4 ⟨4, by decide⟩, xqP arg4 x4 ⟨3, by decide⟩, xqP arg4 x4 ⟨2, by decide⟩, xqP arg4 x4 ⟨1, by decide⟩, xqP arg4 x4 ⟨0, by decide⟩, xqZ] := by
  rfl

theorem mem_H7 (h : Fin 56) : acP arg4 x4 h ∈ kernelRun.sl.H7_56 arg4 x4 := by
  rw [H7_eq]
  fin_cases h <;> (repeat (first | exact List.mem_cons_self | apply List.mem_cons_of_mem))
theorem of_mem_H7 : ∀ p ∈ kernelRun.sl.H7_56 arg4 x4, ∃ h, p = acP arg4 x4 h := by
  rw [H7_eq]
  repeat refine List.forall_mem_cons.2 ⟨⟨_, rfl⟩, ?_⟩
  exact fun p hp => absurd hp List.not_mem_nil
theorem cover_H7 (y : S20x7168.Idx) : ∃ p ∈ kernelRun.sl.H7_56 arg4 x4, y ∈ p.1.set := by
  have h0 : (y 0).val < 20 := (y 0).isLt
  have h1 : (y 1).val < 7168 := (y 1).isLt
  refine ⟨_, mem_H7 arg4 x4 ⟨(y 1).val / 128, by omega⟩, ?_⟩
  unfold acP
  rw [Rect.mem_set_unit]; intro i; fin_cases i
  · show 0 ≤ (y 0).val ∧ (y 0).val < 0 + 20; omega
  · show 128 * ((y 1).val / 128) ≤ (y 1).val ∧ (y 1).val < 128 * ((y 1).val / 128) + 128; omega

end Cert.KernelOIdeal.Hand

end
-- ==== Proof.KernelOIdealFrame.lean ====
/-
  `KernelOIdeal`'s FRAME: the program terminates, nothing faults, its argument arrays end unchanged and every semaphore counter ends
  at zero. One pipeline of one grid point: the four staged operands are read, the three staged results written back, and the
  weights stay in HBM for the body's own ring of transfers.
-/
module

public import proofs.«01_k».proof.Proof.KernelOIdealCodes
public import proofs.«01_k».proof.Proof.Gen.KernelOIdeal.Frame
public import Idealize.ShloMosaic.Lib.Pipeline.FrameBody
public import Idealize.ShloMosaic.Lib.WordCmp

@[expose] public section

set_option maxRecDepth 16384

noncomputable section

namespace Cert.KernelOIdeal.Hand

open Cert.KernelOIdeal Cert.KernelOIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to its one region: the host's layout of the operands. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The frame claim's post from the run's. -/
theorem frameD_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (fun r => Pipeline.FramePost cfgs dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) h

/-! ## The body's operands -/
abbrev ms0_0 (t : Fin cfg0.N) : Memref sig .tc .vmem S20x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S56x1x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S56x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1344x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S20x7168 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S20x7168 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x20 .f32 := win0_6.stage (cfg0.slots t 6)
abbrev hs0_6 (t : Fin cfg0.N) : (ms0_6 t).IsWhole := hstage0_6 ((cfg0.slots t 6).cast nbuf0_6)
abbrev sc10 : Memref sig .tc .vmem S32x7168 .bf16 := Memref.whole cc0_scratch1
abbrev sc11 : Memref sig .tc .vmem S2x24x128 .f32 := Memref.whole cc0_scratch2
/-- Staged operand 0 at point `t`. -/
abbrev xin1 (c : Dev nD) (t : Fin cfg0.N) : S20x7168.Idx → Elt F .bf16 := iblk m c 0 t
/-- Staged operand 1 at point `t`. -/
abbrev xin2 (c : Dev nD) (t : Fin cfg0.N) : S56x1x128.Idx → Elt F .f32 := iblk m c 1 t
/-- Staged operand 2 at point `t`. -/
abbrev xin3 (c : Dev nD) (t : Fin cfg0.N) : S56x1x128.Idx → Elt F .f32 := iblk m c 2 t
/-- Staged operand 3 at point `t`. -/
abbrev xin4 (c : Dev nD) (t : Fin cfg0.N) : S1344x128.Idx → Elt F .f32 := iblk m c 3 t

/-- The body's run at point `t` on core `c`. -/
abbrev runAt (c : Dev nD) (t : Fin cfg0.N) := kernelRun (F := F) c (V m c main_arg1) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) sc10 (Memref.isWhole_whole _) sc11 (Memref.isWhole_whole _) (xin1 m c t) (xin2 m c t) (xin3 m c t) (xin4 m c t)
theorem coverL7 (c : Dev nD) (t : Fin cfg0.N) (y : S20x7168.Idx) : ∃ pc ∈ (runAt m c t).1, y ∈ pc.1.set :=
  cover_H7 (ms0_3 t) (xin4 m c t) y
/-- What the body leaves in result 1's staging buffer. -/
def outs5 (c : Dev nD) (t : Fin cfg0.N) : S20x7168.Idx → Elt F .i8 :=
  (ms0_5 t).view.read (Elt F) ((ms0_5 t).view.writes (Elt F) (ms0_5 t).view.junk (runAt m c t).1)
theorem coverL8 (c : Dev nD) (t : Fin cfg0.N) (y : S1x20.Idx) : ∃ pc ∈ (runAt m c t).2.1, y ∈ pc.1.set :=
  ⟨_, List.mem_singleton.mpr rfl, mem_unit_zero _ zero2 (by decide) y⟩
/-- What the body leaves in result 2's staging buffer. -/
def outs6 (c : Dev nD) (t : Fin cfg0.N) : S1x20.Idx → Elt F .f32 :=
  (ms0_6 t).view.read (Elt F) ((ms0_6 t).view.writes (Elt F) (ms0_6 t).view.junk (runAt m c t).2.1)
/-- What the body leaves in result 0's staging buffer. -/
def outs4 (c : Dev nD) (t : Fin cfg0.N) : S20x7168.Idx → Elt F .bf16 := (runAt m c t).2.2.1

/-! ## The invariant: scratch, cells, weights -/

abbrev osem0 : Fin 3 → SemLoc sig := fun j => (![SemLoc.dma 7, SemLoc.dma 8, SemLoc.dma 9] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP c 0 ∗ cellP c 1 ∗ cellP c 2) := by
  rw [Pipeline.ownSems0_eq_of_list c osem0 [0, 1, 2] (by decide) (by decide)]; rfl
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = bigSep Finset.univ (homeP c (V m c main_arg1)) := by
  rw [BI.bigSep_eq_bigSepL_of_eq [main_arg1] (by decide) (by decide)]; exact a_eq c (V m c main_arg1)

/-- A scratch buffer whole, in the spelling the body's run holds it. -/
theorem scr_eq (c : Dev nD) (b : Ref sig .tc) :
    (iprop(∃ f : Buf (Elt F) ((c : Thread nD τ).loc b), ((c : Thread nD τ).loc b) ↦{fullShare} f) : sProp 𝕄)
      = iprop(∃ f, ((Memref.whole b).view.loc (c : Thread nD τ) ↦[(Memref.whole b).view.set]{fullShare} f)) := by
  rw [show (Memref.whole b).view.set = Finset.univ from View.set_whole b]

omit [FloatOps F] in
theorem sep3_congr (P R A1 A2 B1 B2 : sProp 𝕄) (h1 : A1 = B1) (h2 : A2 = B2) :
    (iprop(iprop(P ∗ A1 ∗ A2) ∗ R) : sProp 𝕄) = iprop(iprop(P ∗ B1 ∗ B2) ∗ R) := by
  subst h1 h2; rfl
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f)
          ∗ (∃ f, (sc10.view.loc (c : Thread nD τ) ↦[sc10.view.set]{fullShare} f))
          ∗ (∃ f, (sc11.view.loc (c : Thread nD τ) ↦[sc11.view.set]{fullShare} f)))
          ∗ (∃ r, prngReg c r) ∗ iprop(cellP c 0 ∗ cellP c 1 ∗ cellP c 2) ∗ bigSep Finset.univ (homeP c (V m c main_arg1))) := by
  rw [Pipeline.ΦD_eq, scopedRest0_eq, ownSems00_eq, hbmPts0_eq]
  exact sep3_congr _ _ _ _ _ _ (scr_eq c cc0_scratch1) (scr_eq c cc0_scratch2)

/-! ## The proof data and the body's obligation -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outs4 m c t
    | ⟨5, _⟩ => outs5 m c t
    | ⟨6, _⟩ => outs6 m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outs4 m c t := by dsimp only [dats]
theorem after0_5 (c : Dev nD) (t : Fin cfg0.N) : (dats m 0 c).after 5 t = outs5 m c t := by dsimp only [dats]
theorem after0_6 (c : Dev nD) (t : Fin cfg0.N) : (dats m 0 c).after 6 t = outs6 m c t := by dsimp only [dats]
theorem before0_0 (c : Dev nD) (t : Fin cfg0.N) (d) : (dats m 0 c).before 0 t d = iblk m c 0 t := by
  unfold Dat.before; rw [if_pos (fetch0_0 t)]; unfold Dat.fetched Dat.blockOf iblk; rfl
theorem before0_1 (c : Dev nD) (t : Fin cfg0.N) (d) : (dats m 0 c).before 1 t d = iblk m c 1 t := by
  unfold Dat.before; rw [if_pos (fetch0_1 t)]; unfold Dat.fetched Dat.blockOf iblk; rfl
theorem before0_2 (c : Dev nD) (t : Fin cfg0.N) (d) : (dats m 0 c).before 2 t d = iblk m c 2 t := by
  unfold Dat.before; rw [if_pos (fetch0_2 t)]; unfold Dat.fetched Dat.blockOf iblk; rfl
theorem before0_3 (c : Dev nD) (t : Fin cfg0.N) (d) : (dats m 0 c).before 3 t d = iblk m c 3 t := by
  unfold Dat.before; rw [if_pos (fetch0_3 t)]; unfold Dat.fetched Dat.blockOf iblk; rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl, after0_0, after0_1, after0_2, after0_3, after0_4, after0_5, after0_6]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  simp only [owns_eq_rep]
  iintro ⟨⟨⟨HS0, HS10, HS11⟩, Hg, ⟨Hq0, Hq1, Hq2⟩, Hh⟩, ⟨%W, -, HW⟩, ⟨%d0, H0⟩, ⟨%d1, H1⟩, ⟨%d2, H2⟩, ⟨%d3, H3⟩, ⟨%d4, H4⟩, ⟨%d5, H5⟩, ⟨%d6, H6⟩⟩
  ihave HB := (buf_split c) $$ HS0
  icases HB with ⟨Hb0, Hb1, Hb2⟩
  iapply ((runAt m c t).2.2.2 W _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS10]; · iexact HS10
  isplitl [HS11]; · iexact HS11
  isplitl [Hh]; · iexact Hh
  isplitl [Hb0]; · iexact Hb0
  isplitl [Hb1]; · iexact Hb1
  isplitl [Hb2]; · iexact Hb2
  isplitl [Hq0]; · iexact Hq0
  isplitl [Hq1]; · iexact Hq1
  isplitl [Hq2]; · iexact Hq2
  isplitl [HW]; · iexact HW
  iintro ⟨H0, H1, H2, H3, H4, ⟨%e5, H5⟩, ⟨%e6, H6⟩, HS10, HS11, Hh, Hb0, Hb1, Hb2, Hq0, Hq1, Hq2, ⟨%W', HW'⟩⟩
  ihave HS0 : iprop(∃ f : Buf (Elt F) ((c : Thread nD τ).loc cc0_scratch0), ((c : Thread nD τ).loc cc0_scratch0) ↦{fullShare} f) $$ [Hb0 Hb1 Hb2]
  · iapply (buf_join c)
    isplitl [Hb0]; · iexact Hb0
    isplitl [Hb1]; · iexact Hb1
    iexact Hb2
  isplitl [HS0 HS10 HS11 Hg Hq0 Hq1 Hq2 Hh]
  · isplitl [HS0 HS10 HS11]
    · isplitl [HS0]; · iexact HS0
      isplitl [HS10]; · iexact HS10
      iexact HS11
    isplitl [Hg]; · iexact Hg
    isplitl [Hq0 Hq1 Hq2]
    · isplitl [Hq0]; · iexact Hq0
      isplitl [Hq1]; · iexact Hq1
      iexact Hq2
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]
  · ihave Hr := (pointsTo_rep_entails (c : Thread nD τ) (ms0_5 t) _ fullShare) $$ H5
    unfold outs5
    rw [View.read_writes_of_cover (ms0_5 t).view _ (ms0_5 t).view (ms0_5 t).view.junk _ (coverL7 m c t)]
    iexact Hr
  ihave Hr := (pointsTo_rep_entails (c : Thread nD τ) (ms0_6 t) _ fullShare) $$ H6
  unfold outs6
  rw [View.read_writes_of_cover (ms0_6 t).view _ (ms0_6 t).view (ms0_6 t).view.junk _ (coverL8 m c t)]
  iexact Hr

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := fun r => Pipeline.FramePost cfgs (dats m) 0 (V m) r ∧ r.2.sem = fun _ => 0) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- THE FRAME, at any float model. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  frameD_of m ρ (dats m) (A_eq m) (run_main m ρ)

end Cert.KernelOIdeal.Hand

end
-- ==== Proof.SpecO.lean ====
/-
  What the output projection computes, at an index, over the extended reals: the attention rows' scales and 8-bit codes, and the
  residual plus the scaled and centred product; and the reference's arrays as these values.
-/
module

public import proofs.«01_k».proof.Proof.Spec
public import proofs.«01_k».proof.Proof.Gen.ReferenceOIdeal.Frame
public import Idealize.ShloMosaic.Lib.Pipeline.ValueKit

@[expose] public section

set_option maxRecDepth 16384

noncomputable section

namespace Cert.Spec.O

open Cert.ReferenceOIdeal Cert.ReferenceOIdeal.Gen Idealize.ShloMosaic Idealize.ShloMosaic.TcCoe

/-- The scale made of a row's greatest magnitude. -/
def scl (M : EReal) : EReal := if M = 0 then 1 else Ideal.div M (Ideal.ofBits FTy.f32 1123942400#32)
/-- A row's greatest magnitude. -/
def amx (t : Fin 7168 → EReal) : EReal :=
  Finset.fold max (Ideal.ofBits FTy.f32 4286578688#32) (fun i => (FloatOps.absf (t i : Ideal .f32) : Ideal .f32)) Finset.univ
/-- A row's scale and its codes. -/
def sO (t : Fin 7168 → EReal) : EReal := scl (amx t)
def co (t : Fin 7168 → EReal) (i : Fin 7168) : EReal := rclip (-127) 127 (Ideal.div (t i) (sO t))

section
variable (x0 : Vec Ideal S20x7168 .bf16) (x1 : Vec Ideal S3584x7168 .i8) (x2 x3 : Vec Ideal S1x7168 .f32) (x4 : Vec Ideal S20x7168 .f32)

/-- Row `b` of the attention. -/
def ar (b : Fin 20) : Fin 7168 → EReal := fun i => x4 (ix2 b i)
/-- The residual plus the projection: row `b`, column `n`. -/
def hO (b : Fin 20) (n : Fin 7168) : EReal :=
  x0 (ix2 b n) + (∑ x : Fin 3584, co (ar x4 b) ⟨x.val, by omega⟩ * lo (x1 (ix2 x n)) + ∑ x : Fin 3584, co (ar x4 b) ⟨3584 + x.val, by omega⟩ * hi (x1 (ix2 x n))
    - x3 (ix2 0 n) * ∑ x : Fin 7168, co (ar x4 b) x) * sO (ar x4 b) * x2 (ix2 0 n)

theorem p4 (b : Fin 20) : k0_pay4 x4 (ix2 b 0) = sO (ar x4 b) := by
  pointwise [k0_pay4, k0_pay3]
  rfl

theorem p5 (b : Fin 20) (i : Fin 7168) : k0_pay5 x4 (ix2 b i) = Ideal.fptosi 8 (co (ar x4 b) i) := by
  pointwise [k0_pay5, k0_pay3]
  rw [p4]
  rfl

theorem p6 (b : Fin 20) : k0_pay6 x4 (ix2 0 b) = sO (ar x4 b) := by
  pointwise [k0_pay6]
  rw [p4]

theorem p1 (b : Fin 20) (n : Fin 7168) :
    k0_pay1 (k0_pay2 x0) (k0_pay4 x4) (k0_pay5 x4) (k0_pay7 x2) (k0_pay8 x3) (k0_pay9 x4) (k0_pay10 x1) (k0_pay11 x1) (ix2 b n) = hO x0 x1 x2 x3 x4 b n := by
  pointwise [k0_pay1, k0_pay2, k0_pay7, k0_pay8, k0_pay9, k0_pay10, k0_pay11]
  simp only [p5, p4]
  have e1 : ∀ (φ : FTy) (b : BitVec 8), (FloatOps.sitofp φ b : Ideal φ) = ((b.toInt : ℝ) : EReal) := fun _ _ => rfl
  have e2 : ∀ (φ : FTy) (b : BitVec 32), (FloatOps.sitofp φ b : Ideal φ) = ((b.toInt : ℝ) : EReal) := fun _ _ => rfl
  have e3 : ∀ w : BitVec 8, (IntOp.andi (BitVec.setWidth 32 w) 15#32).toInt = ((w.toNat % 16 : ℕ) : ℤ) := toInt_lo
  have e4 : ∀ w : BitVec 8, (IntOp.shrsi ArithUnit.vector (BitVec.setWidth 32 w) 4#32).toInt = ((w.toNat / 16 : ℕ) : ℤ) := by decide +kernel
  have e5 : ∀ (b : Fin 20) (i : Fin 7168), ((((Ideal.fptosi 8 (co (ar x4 b) i)).toInt : ℤ) : ℝ) : EReal) = co (ar x4 b) i := fun b i => sitofp_fptosi8 _
  simp only [e1, e2, e3, e4, e5]
  rfl

theorem ld0 {e : EltTy} (x : S20x7168.Idx → Elt Ideal e) : View.ld x r0_0 = x :=
  View.ld_unit_zero (S := S20x7168) (off := ![0, 0]) (by funext a; revert a; decide) _ x
theorem ld2 (x : Vec Ideal S3584x7168 .i8) : View.ld x r0_2 = x :=
  View.ld_unit_zero (S := S3584x7168) (off := ![0, 0]) (by funext a; revert a; decide) _ x
theorem ld3 (x : Vec Ideal S1x7168 .f32) : View.ld x r0_3 = x :=
  View.ld_unit_zero (S := S1x7168) (off := ![0, 0]) (by funext a; revert a; decide) _ x

theorem ref5 : out0_5 x0 x1 x2 x3 x4 = fun j => hO x0 x1 x2 x3 x4 (j 0) (j 1) := by
  unfold out0_5
  rw [View.canon_unit_zero (S := S20x7168) (off := ![0, 0]) (by funext a; revert a; decide), ld0, ld0, ld2, ld3, ld3]
  funext j
  conv_lhs => rw [eq_ix2 j]
  exact p1 x0 x1 x2 x3 x4 (j 0) (j 1)

theorem ref6 : out0_6 x0 x1 x2 x3 x4 = fun j => Ideal.fptosi 8 (co (ar x4 (j 0)) (j 1)) := by
  unfold out0_6
  rw [View.canon_unit_zero (S := S20x7168) (off := ![0, 0]) (by funext a; revert a; decide), ld0]
  funext j
  conv_lhs => rw [eq_ix2 j]
  exact p5 x4 (j 0) (j 1)

theorem ref7 : out0_7 x0 x1 x2 x3 x4 = fun j => sO (ar x4 (j 1)) := by
  unfold out0_7
  rw [View.canon_unit_zero (S := S1x20) (off := ![0, 0]) (by funext a; revert a; decide), ld0]
  funext j
  conv_lhs => rw [eq_ix2 j]
  idx_vars j
  pointwise [k0_pay6]
  rw [p4]
end

variable (m : (ℓ : Loc nD τ sig) → Buf (Elt Ideal) ℓ) (c : Dev nD)

/-- The blocks the reference's call reads, from the argument arrays. -/
abbrev X0 : Vec Ideal S20x7168 .bf16 := shapeCast S20x7168 (m ((c : Thread nD τ).loc main_arg0)) shapeCasts_S20x1x7168_S20x7168
abbrev X1 : Vec Ideal S3584x7168 .i8 := m ((c : Thread nD τ).loc main_arg1)
abbrev X2 : Vec Ideal S1x7168 .f32 := shapeCast S1x7168 (m ((c : Thread nD τ).loc main_arg2)) shapeCasts_S7168_S1x7168
abbrev X3 : Vec Ideal S1x7168 .f32 := shapeCast S1x7168 (m ((c : Thread nD τ).loc main_arg3)) shapeCasts_S7168_S1x7168
abbrev X4 : Vec Ideal S20x7168 .f32 := shapeCast S20x7168 (m ((c : Thread nD τ).loc main_arg4)) shapeCasts_S20x1x7168_S20x7168

theorem V0 : V m c main_v0 = X0 m c := by
  entry_read
  rfl

theorem ib0 (t : Fin cfg0.N) : iblk m c 0 t = X0 m c := by
  rw [← V0]
  funext y
  blk_simp [iblk]
  exact congrArg (V m c main_v0) (by
    have e : ∀ t : Fin cfg0.N, win0_0.index t = fun _ => 0 := by decide +kernel
    funext a; apply Fin.ext
    fin_cases a <;> blk_simp [e])

theorem V1 : V m c main_arg1 = X1 m c := by
  entry_read
  rfl

theorem ib1 (t : Fin cfg0.N) : iblk m c 1 t = X1 m c := by
  rw [← V1]
  funext y
  blk_simp [iblk]
  exact congrArg (V m c main_arg1) (by
    have e : ∀ t : Fin cfg0.N, win0_1.index t = fun _ => 0 := by decide +kernel
    funext a; apply Fin.ext
    fin_cases a <;> blk_simp [e])

theorem V2 : V m c main_v1 = X2 m c := by
  entry_read
  rfl

theorem ib2 (t : Fin cfg0.N) : iblk m c 2 t = X2 m c := by
  rw [← V2]
  funext y
  blk_simp [iblk]
  exact congrArg (V m c main_v1) (by
    have e : ∀ t : Fin cfg0.N, win0_2.index t = fun _ => 0 := by decide +kernel
    funext a; apply Fin.ext
    fin_cases a <;> blk_simp [e])

theorem V3 : V m c main_v2 = X3 m c := by
  entry_read
  rfl

theorem ib3 (t : Fin cfg0.N) : iblk m c 3 t = X3 m c := by
  rw [← V3]
  funext y
  blk_simp [iblk]
  exact congrArg (V m c main_v2) (by
    have e : ∀ t : Fin cfg0.N, win0_3.index t = fun _ => 0 := by decide +kernel
    funext a; apply Fin.ext
    fin_cases a <;> blk_simp [e])

theorem V4 : V m c main_v3 = X4 m c := by
  entry_read
  rfl

theorem ib4 (t : Fin cfg0.N) : iblk m c 4 t = X4 m c := by
  rw [← V4]
  funext y
  blk_simp [iblk]
  exact congrArg (V m c main_v3) (by
    have e : ∀ t : Fin cfg0.N, win0_4.index t = fun _ => 0 := by decide +kernel
    funext a; apply Fin.ext
    fin_cases a <;> blk_simp [e])

attribute [local irreducible] sO co hO ar

theorem arr5 : (dats m 0 c).arrAt 5 cfg0.N = fun j => hO (X0 m c) (X1 m c) (X2 m c) (X3 m c) (X4 m c) (j 0) (j 1) := by
  refine (dats m 0 c).arrAt_eq_of_after_last 5 ⟨0, by decide⟩ (by decide +kernel) _ fun y => ?_
  rw [after0_5, ib0, ib1, ib2, ib3, ib4, ref5]
  rfl

theorem arr6 : (dats m 0 c).arrAt 6 cfg0.N = fun j => Ideal.fptosi 8 (co (ar (X4 m c) (j 0)) (j 1)) := by
  refine (dats m 0 c).arrAt_eq_of_after_last 6 ⟨0, by decide⟩ (by decide +kernel) _ fun y => ?_
  rw [after0_6, ib0, ib1, ib2, ib3, ib4, ref6]
  rfl

theorem arr7 : (dats m 0 c).arrAt 7 cfg0.N = fun j => sO (ar (X4 m c) (j 1)) := by
  refine (dats m 0 c).arrAt_eq_of_after_last 7 ⟨0, by decide⟩ (by decide +kernel) _ fun y => ?_
  rw [after0_7, ib0, ib1, ib2, ib3, ib4, ref7]
  rfl

end Cert.Spec.O
-- ==== Proof.KernelOVal1.lean ====
/-
  The quantised attention: the kernel's running maximum over the heads is the reference's row maximum, so its scales and codes are
  the reference's, and its running sum of the codes is the row's sum.
-/
module

public import proofs.«01_k».proof.Proof.KernelOIdealFrame
public import proofs.«01_k».proof.Proof.SpecO

@[expose] public section

set_option maxRecDepth 16384
set_option maxHeartbeats 4000000

noncomputable section

namespace Cert.Spec.O

open Cert.KernelOIdeal Cert.KernelOIdeal.Gen Cert.KernelOIdeal.Hand Idealize.ShloMosaic

/-- The heads in order. -/
def heads : List (Fin 56) := [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩, ⟨16, by decide⟩, ⟨17, by decide⟩, ⟨18, by decide⟩, ⟨19, by decide⟩, ⟨20, by decide⟩, ⟨21, by decide⟩, ⟨22, by decide⟩, ⟨23, by decide⟩, ⟨24, by decide⟩, ⟨25, by decide⟩, ⟨26, by decide⟩, ⟨27, by decide⟩, ⟨28, by decide⟩, ⟨29, by decide⟩, ⟨30, by decide⟩, ⟨31, by decide⟩, ⟨32, by decide⟩, ⟨33, by decide⟩, ⟨34, by decide⟩, ⟨35, by decide⟩, ⟨36, by decide⟩, ⟨37, by decide⟩, ⟨38, by decide⟩, ⟨39, by decide⟩, ⟨40, by decide⟩, ⟨41, by decide⟩, ⟨42, by decide⟩, ⟨43, by decide⟩, ⟨44, by decide⟩, ⟨45, by decide⟩, ⟨46, by decide⟩, ⟨47, by decide⟩, ⟨48, by decide⟩, ⟨49, by decide⟩, ⟨50, by decide⟩, ⟨51, by decide⟩, ⟨52, by decide⟩, ⟨53, by decide⟩, ⟨54, by decide⟩, ⟨55, by decide⟩]
theorem heads_eq : heads = List.finRange 56 := by decide

section
variable {F : FTy → Type} [FloatOps F] (arg4 : Memref sig .tc .vmem S1344x128 .f32) (x4 : S1344x128.Idx → Elt F .f32)

/-- The running maximum of the heads' magnitudes. -/
def mxV : FVec F S24x128 .f32 :=
  heads.foldl (fun a h => maximumf a (absf (shapeCast S24x128 (hRows arg4 x4 h) shapeCasts_S24x128_S24x128))) (broadcast S24x128 (Scalar.ofBits .f32 0x00000000#32))
/-- The rows' scales from it. -/
def ascV (v246 : FVec F S24x128 .f32) : FVec F S24x1 .f32 :=
  have v247 : FVec F S24 .f32 := multiReduction .maximumf [1] S24 v246 0xFF800000#32 reduces_S24x128_S24 (.inl rfl) rfl
  have v248 : FVec F S24x1 .f32 := shapeCast S24x1 v247 shapeCasts_S24_S24x1
  select (cmpf .oeq v248 (broadcast S24x1 (Scalar.ofBits .f32 0x00000000#32))) (broadcast S24x1 (Scalar.ofBits .f32 0x3F800000#32))
    (divf v248 (broadcast S24x1 (Scalar.ofBits .f32 0x42FE0000#32)))
/-- The scales laid along a row. -/
def asT (v254 : FVec F S24x1 .f32) : FVec F S1x20 .f32 :=
  have v256 : FVec F S24x128 .f32 := broadcastTo S24x128 (shapeCast S24x1 v254 shapeCasts_S24x1_S24x1) broadcasts_S24x1_S24x128
  have v258 : FVec F S128x128 .f32 := concatenate S128x128 0 [⟨S24x128, v256⟩, ⟨S104x128, broadcast S104x128 (Scalar.ofBits .f32 0x00000000#32)⟩] concatenates_S24x128_S104x128_S128x128_d0
  extractStridedSlice S1x20 ![0, 0] (transpose S128x128 [1, 0] v258 transposes_S128x128_p1_0_S128x128) slices_S128x128_o0_0_S1x20

set_option backward.isDefEq.respectTransparency false in
theorem r12_eq : kernelRun.sl.r_12 arg4 x4 = ascV (mxV arg4 x4) := rfl
theorem H8_eq : kernelRun.sl.H8_1 arg4 x4 = [⟨Rect.unit ![0, 0] S1x20.size inb_S1x20_S1x20_0_0, asT (kernelRun.sl.r_12 arg4 x4)⟩] := rfl
set_option backward.isDefEq.respectTransparency false in
theorem r68_eq : kernelRun.sl.r_68 arg4 x4 = heads.foldl (fun a h => addf a (k0_pay33 (kernelRun.sl.r_12 arg4 x4) (hRows arg4 x4 h))) k0_pay28 := rfl
end

/-- Upper bounds of a running maximum; a running sum as a sum over the heads. -/
theorem fold_max_le (l : List (Fin 56)) (f : Fin 56 → FVec Ideal S24x128 .f32) (z : FVec Ideal S24x128 .f32) (j : S24x128.Idx) (c : EReal) :
    (l.foldl (fun a h => maximumf a (f h)) z j : EReal) ≤ c ↔ (z j : EReal) ≤ c ∧ ∀ h ∈ l, (f h j : EReal) ≤ c := by
  induction l generalizing z with
  | nil => simp
  | cons h l ih =>
    rw [List.foldl_cons, ih]
    have e : ((maximumf z (f h)) j : EReal) = max (z j : EReal) (f h j) := rfl
    rw [e, max_le_iff]
    simp only [List.mem_cons, forall_eq_or_imp, and_assoc]
theorem fold_add (l : List (Fin 56)) (f : Fin 56 → FVec Ideal S24x128 .f32) (z : FVec Ideal S24x128 .f32) (j : S24x128.Idx) :
    (l.foldl (fun a h => addf a (f h)) z j : EReal) = (z j : EReal) + (l.map fun h => (f h j : EReal)).sum := by
  induction l generalizing z with
  | nil => simp
  | cons h l ih =>
    rw [List.foldl_cons, ih]
    have e : ((addf z (f h)) j : EReal) = (z j : EReal) + f h j := rfl
    rw [e, List.map_cons, List.sum_cons, add_assoc]

theorem absf_nonneg (z : EReal) : (0 : EReal) ≤ max z (-z) := by
  rcases le_total 0 z with h | h
  · exact le_max_of_le_left h
  · exact le_max_of_le_right (by rw [EReal.le_neg]; simpa using h)

/-- Column `d` of head `h`. -/
def col (h : Fin 56) (d : Fin 128) : Fin 7168 := ⟨128 * h.val + d.val, by omega⟩
theorem col_div (i : Fin 7168) : col ⟨i.val / 128, by omega⟩ ⟨i.val % 128, by omega⟩ = i := Fin.ext (by show 128 * (i.val / 128) + i.val % 128 = i.val; omega)
theorem sum_cols (f : Fin 7168 → EReal) : ∑ d : Fin 128, ∑ h : Fin 56, f (col h d) = ∑ i, f i := by
  rw [Finset.sum_comm, ← Fintype.sum_prod_type']
  refine Fintype.sum_equiv (finProdFinEquiv : Fin 56 × Fin 128 ≃ Fin 7168) _ _ fun p => ?_
  congr 1
  exact Fin.ext (by show 128 * p.1.val + p.2.val = p.2.val + 128 * p.1.val; omega)

section
variable (arg4 : Memref sig .tc .vmem S1344x128 .f32) (x4 : S1344x128.Idx → Elt Ideal .f32)

theorem hRows_at (h : Fin 56) (b : Fin 24) (d : Fin 128) : hRows arg4 x4 h (ix2 b d) = x4 (ix2 ⟨24 * h.val + b.val, by omega⟩ d) := by
  unfold hRows
  rw [View.readAt_rep]
  refine congrArg x4 (funext fun a => ?_)
  fin_cases a
  · exact Fin.ext (by show 24 * h.val + 1 * b.val = 24 * h.val + b.val; omega)
  · exact Fin.ext (by show 0 + 1 * d.val = d.val; omega)

/-- The attention laid out by heads. -/
def AtRows (a : Vec Ideal Cert.ReferenceOIdeal.S20x7168 .f32) : Prop :=
  ∀ (h : Fin 56) (b : Fin 20) (d : Fin 128), x4 (ix2 ⟨24 * h.val + b.val, by omega⟩ d) = a (ix2 b (col h d))

variable (a : Vec Ideal Cert.ReferenceOIdeal.S20x7168 .f32) (H : AtRows x4 a)
include H

theorem hRows_ar (h : Fin 56) (b : Fin 20) (d : Fin 128) : hRows arg4 x4 h (ix2 ⟨b.val, by omega⟩ d) = ar a b (col h d) :=
  (hRows_at arg4 x4 h ⟨b.val, by omega⟩ d).trans (H h b d)

theorem mx_le (b : Fin 20) (d : Fin 128) (c : EReal) :
    (mxV arg4 x4 (ix2 ⟨b.val, by omega⟩ d) : EReal) ≤ c ↔ 0 ≤ c ∧ ∀ h, max (ar a b (col h d)) (-ar a b (col h d)) ≤ c := by
  unfold mxV
  rw [fold_max_le, heads_eq]
  refine and_congr ?_ (forall_congr' fun h => ?_)
  · rw [show (broadcast S24x128 (Scalar.ofBits .f32 0x00000000#32 : Ideal .f32) (ix2 ⟨b.val, by omega⟩ d) : EReal) = 0 from by
      show Ideal.ofBits .f32 0#32 = 0
      simp]
  · have e := hRows_ar arg4 x4 a H h b d
    have e' : (absf (shapeCast S24x128 (hRows arg4 x4 h) shapeCasts_S24x128_S24x128) (ix2 ⟨b.val, by omega⟩ d) : EReal) = max (ar a b (col h d)) (-ar a b (col h d)) := by
      pointwise
      rw [e]
      rfl
    rw [e']
    exact ⟨fun h => h (List.mem_finRange _), fun h _ => h⟩

theorem amx_eq (b : Fin 20) :
    Finset.fold max (Ideal.ofBits FTy.f32 4286578688#32) (fun d => (mxV arg4 x4 (ix2 ⟨b.val, by omega⟩ d) : EReal)) Finset.univ = amx (ar a b) := by
  unfold amx
  refine eq_of_forall_ge_iff fun c => ?_
  rw [Finset.fold_max_le, Finset.fold_max_le]
  refine and_congr_right fun _ => ?_
  simp only [Finset.mem_univ, true_imp_iff, mx_le arg4 x4 a H]
  constructor
  · intro h i
    have := (h ⟨i.val % 128, by omega⟩).2 ⟨i.val / 128, by omega⟩
    rw [col_div] at this
    exact this
  · intro h d
    exact ⟨(absf_nonneg _).trans (h (col 0 d)), fun h' => h _⟩

theorem asc_at (b : Fin 20) : (kernelRun.sl.r_12 arg4 x4 (ix2 ⟨b.val, by omega⟩ 0) : EReal) = sO (ar a b) := by
  rw [r12_eq]
  pointwise [ascV]
  rw [amx_eq arg4 x4 a H]
  rfl

attribute [local irreducible] kernelRun.sl.r_12 kernelRun.sl.r_68

theorem asT_at (b : Fin 20) : (asT (kernelRun.sl.r_12 arg4 x4) (ix2 0 b) : EReal) = sO (ar a b) := by
  refine Eq.trans ?_ (asc_at arg4 x4 a H b)
  pointwise [asT]
  exact dif_pos (by omega)

theorem code_at (h : Fin 56) (b : Fin 20) (d : Fin 128) :
    (k0_pay33 (kernelRun.sl.r_12 arg4 x4) (hRows arg4 x4 h) (ix2 ⟨b.val, by omega⟩ d) : EReal) = co (ar a b) (col h d) := by
  have e := asc_at arg4 x4 a H b
  have e' := hRows_ar arg4 x4 a H h b d
  pointwise [k0_pay33]
  rw [e, e']
  unfold co rclip
  rw [show (127#32).toInt = 127 from by decide, show (4294967169#32).toInt = -127 from by decide]

theorem code8_at (h : Fin 56) (b : Fin 20) (d : Fin 128) :
    k0_pay34 (kernelRun.sl.r_12 arg4 x4) (hRows arg4 x4 h) (ix2 b d) = Ideal.fptosi 8 (co (ar a b) (col h d)) := by
  pointwise [k0_pay34]
  exact congrArg (Ideal.fptosi 8) (code_at arg4 x4 a H h b d)

theorem code16_at (h : Fin 56) (b : Fin 20) (d : Fin 128) :
    (k0_pay36 (kernelRun.sl.r_12 arg4 x4) (hRows arg4 x4 h) (ix2 ⟨b.val, by omega⟩ d) : EReal) = co (ar a b) (col h d) := by
  pointwise [k0_pay36]
  exact code_at arg4 x4 a H h b d

theorem sum_at (b : Fin 20) (n : Fin 128) : (k0_pay2 (kernelRun.sl.r_68 arg4 x4) (ix3 0 ⟨b.val, by omega⟩ n) : EReal) = ∑ i : Fin 7168, co (ar a b) i := by
  rw [r68_eq]
  pointwise [k0_pay2]
  rw [← sum_cols]
  refine Finset.sum_congr rfl fun d _ => ?_
  rw [fold_add, heads_eq, ← Fin.sum_univ_def]
  rw [show (k0_pay28 (F := Ideal) (ix2 ⟨b.val, by omega⟩ d) : EReal) = 0 from by
      show Ideal.ofBits .f32 0#32 = 0
      simp, zero_add]
  exact Finset.sum_congr rfl fun h _ => code_at arg4 x4 a H h b d

theorem scl_at (b : Fin 20) (n : Fin 128) : (k0_pay1 (kernelRun.sl.r_69 arg4 x4) (ix3 0 ⟨b.val, by omega⟩ n) : EReal) = sO (ar a b) := by
  refine Eq.trans ?_ (asc_at arg4 x4 a H b)
  unfold kernelRun.sl.r_69
  pointwise [k0_pay1, k0_pay243]
end

end Cert.Spec.O
-- ==== Proof.KernelOVal2.lean ====
/-
  One trip of the output loop, at an index: the residual plus the scaled and centred product of the codes with a tile of the weights.
-/
module

public import proofs.«01_k».proof.Proof.KernelOVal1
public import proofs.«01_k».proof.Proof.KernelVal1

@[expose] public section

set_option maxRecDepth 16384

noncomputable section

namespace Cert.Spec.O

open Cert.KernelOIdeal Cert.KernelOIdeal.Gen Cert.KernelOIdeal.Hand Idealize.ShloMosaic

theorem le32 : 20 ≤ 32 := by decide
theorem le24 : 20 ≤ 24 := by decide

/-- The product of one tile's column. -/
theorem pay3_at (l h : Vec Ideal S32x3584 .bf16) (w : Vec Ideal S1x3584x512 .i8) (b : Fin 32) (n : Fin 512) :
    k0_pay3 l h w (ix2 b n) = ∑ x : Fin 3584, l (ix2 b x) * lo (w (ix3 0 x n)) + ∑ x : Fin 3584, h (ix2 b x) * hi (w (ix3 0 x n)) :=
  Cert.Spec.pay4_at l h w b n

theorem cast_at (V : Vec Ideal S1x3584x512 .i8) (h : S1x3584x512.ShapeCasts S3584x512) (x : Fin 3584) (n : Fin 512) :
    shapeCast S3584x512 V h (ix2 x n) = V (ix3 0 x n) := by
  pointwise

theorem slot_at (s : Fin 3) (off : Fin 3 → ℕ) (ho : off = slotOff s) (inb : ∀ a, off a + S1x3584x512.size a ≤ S3x3584x512.size a)
    (f : bufM.view.ty.Contents (Elt Ideal)) (w : S3584x512.Idx → Elt Ideal .i8) (x : Fin 3584) (n : Fin 512) :
    View.readAt (Elt Ideal) bufM.view (Rect.unit (s := S3x3584x512) off S1x3584x512.size inb).toLoadRect
      ((rslot s).view.writes (Elt Ideal) f [⟨Rect.whole S3584x512, w⟩]) (ix3 0 x n) = w (ix2 x n) := by
  subst ho
  have h1 := Memref.read_squeeze_slice bufM (Rect.unit (s := S3x3584x512) (slotOff s) S1x3584x512.size (slotOff_inb s)) (fun _ => rfl) squeezes_S1x3584x512_S3584x512
    shapeCasts_S1x3584x512_S3584x512 ((rslot s).view.writes (Elt Ideal) f [⟨Rect.whole S3584x512, w⟩])
  have h2 : (rslot s).view.read (Elt Ideal) ((rslot s).view.writes (Elt Ideal) f [⟨Rect.whole S3584x512, w⟩]) = w := View.read_writes_whole _ _ _
  have h3 := congrFun (h1.symm.trans h2) (ix2 x n)
  exact (cast_at _ _ x n).symm.trans h3

variable (c : Dev nD) (XA : Buf (Elt Ideal) (aM.view.loc (c.tc : Thread nD τ)))

theorem tile_at (k : Fin k0_t1_loop.trips) (x : Fin 3584) (n : Fin 512) :
    tripRun.sl.v1351 c XA k (ix3 0 x n) = (XA : Vec Ideal S3584x7168 .i8) (ix2 x ⟨512 * k.val + n.val, by have := lt14 k; omega⟩) := by
  have hk := lt14 k
  unfold tripRun.sl.v1351
  refine (slot_at _ _ (k0_off4_eq k) _ _ _ x n).trans ?_
  show (XA : Vec Ideal S3584x7168 .i8) _ = (XA : Vec Ideal S3584x7168 .i8) _
  congr 1
  funext a
  fin_cases a
  · exact Fin.ext (by show 0 + 1 * x.val = x.val; omega)
  · exact Fin.ext (by show 512 * (k.val % 14) + 1 * n.val = 512 * k.val + n.val; omega)

variable (arg1 : Memref sig .tc .vmem S20x7168 .bf16) (arg2 arg3 : Memref sig .tc .vmem S56x1x128 .f32) (arg10 : Memref sig .tc .vmem S32x7168 .bf16) (arg11 : Memref sig .tc .vmem S2x24x128 .f32)
variable (X2 : Buf (Elt Ideal) (arg2.view.loc (c.tc : Thread nD τ))) (X3 : Buf (Elt Ideal) (arg3.view.loc (c.tc : Thread nD τ)))
  (X10 : Buf (Elt Ideal) (arg10.view.loc (c.tc : Thread nD τ))) (X11 : Buf (Elt Ideal) (arg11.view.loc (c.tc : Thread nD τ))) (X1 : Buf (Elt Ideal) (arg1.view.loc (c.tc : Thread nD τ)))
variable (x0 : Vec Ideal Cert.ReferenceOIdeal.S20x7168 .bf16) (w2 w3 : Vec Ideal Cert.ReferenceOIdeal.S1x7168 .f32) (a : Vec Ideal Cert.ReferenceOIdeal.S20x7168 .f32)
  (H1 : ∀ (b : Fin 20) (i : Fin 7168), arg1.view.read (Elt Ideal) X1 (ix2 b i) = x0 (ix2 b i))
  (H2 : ∀ (h : Fin 56) (d : Fin 128), arg2.view.read (Elt Ideal) X2 (ix3 h 0 d) = w2 (ix2 0 (col h d)))
  (H3 : ∀ (h : Fin 56) (d : Fin 128), arg3.view.read (Elt Ideal) X3 (ix3 h 0 d) = w3 (ix2 0 (col h d)))
  (H10 : ∀ (b : Fin 20) (i : Fin 7168), arg10.view.read (Elt Ideal) X10 (ix2 (b.castLE le32) i) = co (ar a b) i)
  (HS : ∀ (b : Fin 20) (n : Fin 128), arg11.view.read (Elt Ideal) X11 (ix3 0 (b.castLE le24) n) = sO (ar a b))
  (HC : ∀ (b : Fin 20) (n : Fin 128), arg11.view.read (Elt Ideal) X11 (ix3 1 (b.castLE le24) n) = ∑ i : Fin 7168, co (ar a b) i)

include H10 in
theorem acc_at (k : Fin k0_t1_loop.trips) (b : Fin 20) (n : Fin 512) :
    tripRun.sl.r c XA arg10 X10 k (ix2 (b.castLE le32) n) =
      ∑ x : Fin 3584, co (ar a b) ⟨x.val, by omega⟩ * lo ((XA : Vec Ideal S3584x7168 .i8) (ix2 x ⟨512 * k.val + n.val, by have := lt14 k; omega⟩))
        + ∑ x : Fin 3584, co (ar a b) ⟨3584 + x.val, by omega⟩ * hi ((XA : Vec Ideal S3584x7168 .i8) (ix2 x ⟨512 * k.val + n.val, by have := lt14 k; omega⟩)) := by
  unfold tripRun.sl.r
  rw [pay3_at]
  have el : ∀ (x : Fin 3584), View.readAt (Elt Ideal) arg10.view (Rect.unit (s := S32x7168) ![0, 0] S32x3584.size inb_S32x7168_S32x3584_0_0).toLoadRect X10 (ix2 (b.castLE le32) x)
      = co (ar a b) ⟨x.val, by omega⟩ := by
    intro x
    rw [View.readAt_apply, ← H10]
    congr 1
    funext q
    fin_cases q
    · exact Fin.ext (by show 0 + 1 * b.val = b.val; omega)
    · exact Fin.ext (by show 0 + 1 * x.val = x.val; omega)
  have eh : ∀ (x : Fin 3584), View.readAt (Elt Ideal) arg10.view (Rect.unit (s := S32x7168) ![0, 3584] S32x3584.size inb_S32x7168_S32x3584_0_3584).toLoadRect X10 (ix2 (b.castLE le32) x)
      = co (ar a b) ⟨3584 + x.val, by omega⟩ := by
    intro x
    rw [View.readAt_apply, ← H10]
    congr 1
    funext q
    fin_cases q
    · exact Fin.ext (by show 0 + 1 * b.val = b.val; omega)
    · exact Fin.ext (by show 3584 + 1 * x.val = 3584 + x.val; omega)
  simp only [el, eh, tile_at]

include HS in
theorem scales_at (b : Fin 20) (n : Fin 128) :
    View.readAt (Elt Ideal) arg11.view (Rect.unit (s := S2x24x128) ![0, 0, 0] S1x24x128.size inb_S2x24x128_S1x24x128_0_0_0).toLoadRect X11 (ix3 0 (b.castLE le24) n) = sO (ar a b) := by
  rw [View.readAt_apply, ← HS b n]
  congr 1
  funext q
  fin_cases q
  · rfl
  · exact Fin.ext (by show 0 + 1 * b.val = b.val; omega)
  · exact Fin.ext (by show 0 + 1 * n.val = n.val; omega)
include HC in
theorem codes_at (b : Fin 20) (n : Fin 128) :
    View.readAt (Elt Ideal) arg11.view (Rect.unit (s := S2x24x128) ![1, 0, 0] S1x24x128.size inb_S2x24x128_S1x24x128_1_0_0).toLoadRect X11 (ix3 0 (b.castLE le24) n) = ∑ i : Fin 7168, co (ar a b) i := by
  rw [View.readAt_apply, ← HC b n]
  congr 1
  funext q
  fin_cases q
  · rfl
  · exact Fin.ext (by show 0 + 1 * b.val = b.val; omega)
  · exact Fin.ext (by show 0 + 1 * n.val = n.val; omega)

/-- A head's row of a per-column vector. -/
theorem w_at (arg : Memref sig .tc .vmem S56x1x128 .f32) (X : Buf (Elt Ideal) (arg.view.loc (c.tc : Thread nD τ))) (w : Vec Ideal Cert.ReferenceOIdeal.S1x7168 .f32)
    (H : ∀ (h : Fin 56) (d : Fin 128), arg.view.read (Elt Ideal) X (ix3 h 0 d) = w (ix2 0 (col h d))) (h : Fin 56)
    (off : Fin 3 → ℕ) (ho : off = ![h.val, 0, 0]) (inb : ∀ a, off a + S1x1x128.size a ≤ S56x1x128.size a) (n : Fin 128) :
    View.readAt (Elt Ideal) arg.view (Rect.unit (s := S56x1x128) off S1x1x128.size inb).toLoadRect X (ix3 0 0 n) = w (ix2 0 (col h n)) := by
  subst ho
  rw [View.readAt_apply, ← H]
  congr 1
  funext q
  fin_cases q
  · exact Fin.ext (by show h.val + 1 * 0 = h.val; omega)
  · exact Fin.ext (by show 0 + 1 * 0 = 0; omega)
  · exact Fin.ext (by show 0 + 1 * n.val = n.val; omega)

include H1 in
theorem x_at (b : Fin 20) (h : Fin 56) (off : Fin 2 → ℕ) (ho : off = ![0, 128 * h.val]) (inb : ∀ a, off a + S20x128.size a ≤ S20x7168.size a) (n : Fin 128) :
    View.readAt (Elt Ideal) arg1.view (Rect.unit (s := S20x7168) off S20x128.size inb).toLoadRect X1 (ix2 b n) = x0 (ix2 b (col h n)) := by
  subst ho
  rw [View.readAt_apply, ← H1]
  congr 1
  funext q
  fin_cases q
  · exact Fin.ext (by show 0 + 1 * b.val = b.val; omega)
  · exact Fin.ext (by show 128 * h.val + 1 * n.val = 128 * h.val + n.val; omega)

/-- A group's column after the centring, the two scales and the residual. -/
def hk (acc : S32x512.Idx → EReal) (o : ℕ) (ho : o + 128 ≤ 512) (wz : S1x1x128.Idx → EReal) (xs1 xs0 : S1x24x128.Idx → EReal) (ws : S1x1x128.Idx → EReal) (x : S20x128.Idx → EReal)
    (b : Fin 20) (n : Fin 128) : EReal :=
  x (ix2 b n) + (acc (ix2 (b.castLE le32) ⟨o + n.val, by omega⟩) - wz (ix3 0 0 n) * xs1 (ix3 0 (b.castLE le24) n)) * xs0 (ix3 0 (b.castLE le24) n) * ws (ix3 0 0 n)

section
variable (acc : Vec Ideal S32x512 .f32) (wz ws : Vec Ideal S1x1x128 .f32) (xs1 xs0 : Vec Ideal S1x24x128 .f32) (x : Vec Ideal S20x128 .bf16) (b : Fin 20) (n : Fin 128)

theorem pay7_at (l h : Vec Ideal S32x3584 .bf16) (w : Vec Ideal S1x3584x512 .i8) :
    k0_pay7 (k0_pay4 l h w) (k0_pay5 wz) (k0_pay6 xs1) xs0 ws x (ix2 b n) = hk (k0_pay3 l h w) 0 (by decide) wz xs1 xs0 ws x b n := by
  unfold hk
  pointwise [k0_pay7, k0_pay4, k0_pay5, k0_pay6]
  rfl
theorem pay10_at : k0_pay10 (k0_pay8 acc wz xs1 xs0) (k0_pay9 ws) x (ix2 b n) = hk acc 128 (by decide) wz xs1 xs0 ws x b n := by
  unfold hk
  pointwise [k0_pay10, k0_pay8, k0_pay9]
  rfl
theorem pay11_at : k0_pay11 acc wz xs1 xs0 ws x (ix2 b n) = hk acc 256 (by decide) wz xs1 xs0 ws x b n := by
  unfold hk
  pointwise [k0_pay11]
  rfl
theorem pay12_at : k0_pay12 acc wz xs1 xs0 ws x (ix2 b n) = hk acc 384 (by decide) wz xs1 xs0 ws x b n := by
  unfold hk
  pointwise [k0_pay12]
  rfl
end

include H1 H2 H3 H10 HS HC in
/-- A group of columns. -/
theorem group_at (k : Fin k0_t1_loop.trips) (r : Fin 4) (v : BitVec 32) (hv : v = BitVec.ofNat 32 r.val) (h : Fin 56) (hh : h.val = 4 * k.val + r.val) (o : ℕ) (ho : o = 128 * r.val)
    (ho' : o + 128 ≤ 512) (i2 i3 i1) (b : Fin 20) (n : Fin 128) :
    hk (tripRun.sl.r c XA arg10 X10 k) o ho' (View.readAt (Elt Ideal) arg3.view (Rect.unit (s := S56x1x128) (k0_off5 k v) S1x1x128.size i3).toLoadRect X3)
      (View.readAt (Elt Ideal) arg11.view (Rect.unit (s := S2x24x128) ![1, 0, 0] S1x24x128.size inb_S2x24x128_S1x24x128_1_0_0).toLoadRect X11)
      (View.readAt (Elt Ideal) arg11.view (Rect.unit (s := S2x24x128) ![0, 0, 0] S1x24x128.size inb_S2x24x128_S1x24x128_0_0_0).toLoadRect X11)
      (View.readAt (Elt Ideal) arg2.view (Rect.unit (s := S56x1x128) (k0_off5 k v) S1x1x128.size i2).toLoadRect X2)
      (View.readAt (Elt Ideal) arg1.view (Rect.unit (s := S20x7168) (k0_off6 k v) S20x128.size i1).toLoadRect X1) b n
      = hO x0 (XA : Vec Ideal S3584x7168 .i8) w2 w3 a b (col h n) := by
  subst hv
  have o5 : k0_off5 k (BitVec.ofNat 32 r.val) = ![h.val, 0, 0] := (k0_off5_eq k r).trans (by rw [hh])
  have o6 : k0_off6 k (BitVec.ofNat 32 r.val) = ![0, 128 * h.val] := (k0_off6_eq k r).trans (by rw [hh]; congr 2; omega)
  have hk' := lt14 k
  unfold hk hO
  rw [acc_at c XA arg10 X10 a H10, scales_at c arg11 X11 a HS, codes_at c arg11 X11 a HC, w_at c arg3 X3 w3 H3 h _ o5, w_at c arg2 X2 w2 H2 h _ o5, x_at c arg1 X1 x0 H1 b h _ o6]
  have e : (⟨512 * k.val + (o + n.val), by omega⟩ : Fin 7168) = col h n := Fin.ext (by show 512 * k.val + (o + n.val) = 128 * h.val + n.val; omega)
  simp only [e]

include H1 H2 H3 H10 HS HC in
/-- What trip `k` stores for its group `r`. -/
theorem tripW_eq (k : Fin k0_t1_loop.trips) (r : Fin 4) (h : Fin 56) (hh : h.val = 4 * k.val + r.val) (b : Fin 20) (n : Fin 128) :
    tripW c XA arg1 arg2 arg3 arg10 arg11 X2 X3 X10 X11 X1 k r (ix2 b n) = hO x0 (XA : Vec Ideal S3584x7168 .i8) w2 w3 a b (col h n) := by
  match r, hh with
  | 0, hh =>
    rw [tripW.eq_1]
    unfold tripRun.sl.r_1 tripRun.sl.r_2 tripRun.sl.r_3
    rw [pay7_at]
    exact group_at c XA arg1 arg2 arg3 arg10 arg11 X2 X3 X10 X11 X1 x0 w2 w3 a H1 H2 H3 H10 HS HC k 0 _ rfl h hh 0 rfl _ _ _ _ b n
  | 1, hh =>
    rw [tripW.eq_2]
    unfold tripRun.sl.r_4 tripRun.sl.r_5
    rw [pay10_at]
    exact group_at c XA arg1 arg2 arg3 arg10 arg11 X2 X3 X10 X11 X1 x0 w2 w3 a H1 H2 H3 H10 HS HC k 1 _ rfl h hh 128 rfl _ _ _ _ b n
  | 2, hh =>
    rw [tripW.eq_3]
    unfold tripRun.sl.r_6
    rw [pay11_at]
    exact group_at c XA arg1 arg2 arg3 arg10 arg11 X2 X3 X10 X11 X1 x0 w2 w3 a H1 H2 H3 H10 HS HC k 2 _ rfl h hh 256 rfl _ _ _ _ b n
  | 3, hh =>
    rw [tripW.eq_4, pay12_at]
    exact group_at c XA arg1 arg2 arg3 arg10 arg11 X2 X3 X10 X11 X1 x0 w2 w3 a H1 H2 H3 H10 HS HC k 3 _ rfl h hh 384 rfl _ _ _ _ b n

end Cert.Spec.O
-- ==== Proof.KernelOVal3.lean ====
/-
  What the output loop finds in its scratch buffers, and what the body leaves in its three results' buffers.
-/
module

public import proofs.«01_k».proof.Proof.KernelOVal2

@[expose] public section

set_option maxRecDepth 16384
set_option maxHeartbeats 4000000

noncomputable section

namespace Cert.Spec.O

open Cert.KernelOIdeal Cert.KernelOIdeal.Gen Cert.KernelOIdeal.Hand Idealize.ShloMosaic

theorem full_write {S : Shape} {e : EltTy} (v : View sig .tc .vmem S e) (f : v.ty.Contents (Elt Ideal)) (off : Fin S.rank → ℕ) (h : off = fun _ => 0) (inb)
    (w : S.Idx → Elt Ideal e) (y : S.Idx) : v.read (Elt Ideal) (v.writes (Elt Ideal) f [⟨Rect.unit (s := S) off S.size inb, w⟩]) y = w y := by
  subst h
  refine View.read_writes_cons_hit_of_coords v f (Rect.unit (s := S) (fun _ => 0) S.size inb) w [] y y ?_
  intro a
  show (y a).val = 0 + 1 * (y a).val
  omega

section
variable (arg4 : Memref sig .tc .vmem S1344x128 .f32) (x4 : S1344x128.Idx → Elt Ideal .f32)

theorem H10_split : kernelRun.sl.H10_57 arg4 x4 = heads.reverse.map (xqP arg4 x4) ++ [xqZ] := (H10_eq arg4 x4).trans rfl

variable (a : Vec Ideal Cert.ReferenceOIdeal.S20x7168 .f32) (H : AtRows x4 a)
include H

/-- The codes' buffer. -/
theorem read10 (v : View sig .tc .vmem S32x7168 .bf16) (f : v.ty.Contents (Elt Ideal)) (b : Fin 20) (i : Fin 7168) :
    v.read (Elt Ideal) (v.writes (Elt Ideal) f (kernelRun.sl.H10_57 arg4 x4)) (ix2 (b.castLE le32) i) = co (ar a b) i := by
  rw [H10_split, View.writes_append]
  let G : S32x7168.Idx → Elt Ideal .bf16 := fun y => if h : (y 0).val < 24 then
    k0_pay36 (kernelRun.sl.r_12 arg4 x4) (hRows arg4 x4 ⟨(y 1).val / 128, by have : (y 1).val < 7168 := (y 1).isLt; omega⟩) (ix2 ⟨(y 0).val, h⟩ ⟨(y 1).val % 128, by omega⟩) else (0 : EReal)
  refine (View.read_writes_apply_of_pieces v _ G _ ?_ _ ?_).trans ?_
  · intro p hp x
    obtain ⟨h, -, rfl⟩ := List.mem_map.1 hp
    have x0 : (x 0).val < 24 := (x 0).isLt
    have x1 : (x 1).val < 128 := (x 1).isLt
    have e0 : (((xqP arg4 x4 h).1.emb x) 0).val = (x 0).val := by show 0 + 1 * (x 0).val = _; omega
    have e1 : (((xqP arg4 x4 h).1.emb x) 1).val = 128 * h.val + (x 1).val := by show 128 * h.val + 1 * (x 1).val = _; omega
    show k0_pay36 (kernelRun.sl.r_12 arg4 x4) (hRows arg4 x4 h) x = G _
    show _ = dite _ _ _
    rw [dif_pos (by rw [e0]; exact x0)]
    have eh : (⟨(((xqP arg4 x4 h).1.emb x) 1).val / 128, by rw [e1]; omega⟩ : Fin 56) = h := Fin.ext (by show _ / 128 = _; rw [e1]; omega)
    have ex : (ix2 ⟨(((xqP arg4 x4 h).1.emb x) 0).val, by rw [e0]; exact x0⟩ ⟨(((xqP arg4 x4 h).1.emb x) 1).val % 128, by omega⟩ : S24x128.Idx) = x := by
      funext q
      fin_cases q
      · exact Fin.ext e0
      · exact Fin.ext (by show _ % 128 = _; rw [e1]; show _ = (x 1).val; omega)
    rw [eh, ex]
  · refine ⟨_, List.mem_map.2 ⟨⟨i.val / 128, by omega⟩, by rw [List.mem_reverse, heads_eq]; exact List.mem_finRange _, rfl⟩, ?_⟩
    unfold xqP
    rw [Rect.mem_set_unit]; intro q; fin_cases q
    · show 0 ≤ b.val ∧ b.val < 0 + 24; omega
    · show 128 * (i.val / 128) ≤ i.val ∧ i.val < 128 * (i.val / 128) + 128; omega
  · show dite _ _ _ = _
    rw [dif_pos (by show b.val < 24; omega)]
    exact (code16_at arg4 x4 a H ⟨i.val / 128, by omega⟩ b ⟨i.val % 128, by omega⟩).trans (by rw [col_div])

/-- The rows' scales and code sums. -/
theorem read11 (v : View sig .tc .vmem S2x24x128 .f32) (f : v.ty.Contents (Elt Ideal)) (p : Fin 2) (b : Fin 20) (n : Fin 128) :
    v.read (Elt Ideal) (v.writes (Elt Ideal) f (kernelRun.sl.H11_2 arg4 x4)) (ix3 p (b.castLE le24) n) = if p = 0 then sO (ar a b) else ∑ i : Fin 7168, co (ar a b) i := by
  let G : S2x24x128.Idx → Elt Ideal .f32 := fun y => if (y 0).val = 0 then k0_pay1 (kernelRun.sl.r_69 arg4 x4) (ix3 0 (y 1) (y 2)) else k0_pay2 (kernelRun.sl.r_68 arg4 x4) (ix3 0 (y 1) (y 2))
  have key : ∀ x : S1x24x128.Idx, x = ix3 0 (x 1) (x 2) := by
    intro x
    funext q
    fin_cases q
    · exact Fin.ext (by have : (x 0).val < 1 := (x 0).isLt; show (x 0).val = 0; omega)
    · rfl
    · rfl
  unfold kernelRun.sl.H11_2
  refine (View.read_writes_apply_of_pieces v _ G _ ?_ _ ?_).trans ?_
  · refine List.forall_mem_cons.2 ⟨fun x => ?_, List.forall_mem_cons.2 ⟨fun x => ?_, fun p hp => absurd hp List.not_mem_nil⟩⟩
    · have x0 : (x 0).val < 1 := (x 0).isLt
      show k0_pay2 (kernelRun.sl.r_68 arg4 x4) x = ite _ _ _
      rw [if_neg (by show ¬ (1 + 1 * (x 0).val = 0); omega)]
      refine congrArg _ ((key x).trans ?_)
      funext q
      fin_cases q
      · rfl
      · exact Fin.ext (by show (x 1).val = 0 + 1 * (x 1).val; omega)
      · exact Fin.ext (by show (x 2).val = 0 + 1 * (x 2).val; omega)
    · have x0 : (x 0).val < 1 := (x 0).isLt
      show k0_pay1 (kernelRun.sl.r_69 arg4 x4) x = ite _ _ _
      rw [if_pos (by show 0 + 1 * (x 0).val = 0; omega)]
      refine congrArg _ ((key x).trans ?_)
      funext q
      fin_cases q
      · rfl
      · exact Fin.ext (by show (x 1).val = 0 + 1 * (x 1).val; omega)
      · exact Fin.ext (by show (x 2).val = 0 + 1 * (x 2).val; omega)
  · match p with
    | 0 =>
      refine ⟨_, List.mem_cons_of_mem _ List.mem_cons_self, ?_⟩
      rw [Rect.mem_set_unit]; intro q; fin_cases q
      · show 0 ≤ 0 ∧ 0 < 0 + 1; omega
      · show 0 ≤ b.val ∧ b.val < 0 + 24; omega
      · show 0 ≤ n.val ∧ n.val < 0 + 128; omega
    | 1 =>
      refine ⟨_, List.mem_cons_self, ?_⟩
      rw [Rect.mem_set_unit]; intro q; fin_cases q
      · show 1 ≤ 1 ∧ 1 < 1 + 1; omega
      · show 0 ≤ b.val ∧ b.val < 0 + 24; omega
      · show 0 ≤ n.val ∧ n.val < 0 + 128; omega
  · match p with
    | 0 =>
      rw [if_pos rfl]
      exact (if_pos rfl).trans (scl_at arg4 x4 a H b n)
    | 1 =>
      rw [if_neg (by decide)]
      exact (if_neg (by show ¬ (1 = 0); decide)).trans (sum_at arg4 x4 a H b n)

/-- The stored codes and scales. -/
theorem read7 (v : View sig .tc .vmem S20x7168 .i8) (f : v.ty.Contents (Elt Ideal)) (b : Fin 20) (i : Fin 7168) :
    v.read (Elt Ideal) (v.writes (Elt Ideal) f (kernelRun.sl.H7_56 arg4 x4)) (ix2 b i) = Ideal.fptosi 8 (co (ar a b) i) := by
  refine View.read_writes_apply_of_pieces v _ (fun y => Ideal.fptosi 8 (co (ar a (y 0)) (y 1))) _ ?_ _ (cover_H7 arg4 x4 _)
  intro p hp x
  obtain ⟨h, rfl⟩ := of_mem_H7 arg4 x4 p hp
  have e0 : ((acP arg4 x4 h).1.emb x) 0 = x 0 := Fin.ext (by show 0 + 1 * (x 0).val = (x 0).val; omega)
  have e1 : ((acP arg4 x4 h).1.emb x) 1 = col h (x 1) := Fin.ext (by show 128 * h.val + 1 * (x 1).val = 128 * h.val + (x 1).val; omega)
  show k0_pay34 (kernelRun.sl.r_12 arg4 x4) (hRows arg4 x4 h) x = Ideal.fptosi 8 (co (ar a (((acP arg4 x4 h).1.emb x) 0)) (((acP arg4 x4 h).1.emb x) 1))
  rw [e0, e1]
  exact (congrArg _ (eq_ix2 x)).trans (code8_at arg4 x4 a H h (x 0) (x 1))
theorem read8 (v : View sig .tc .vmem S1x20 .f32) (f : v.ty.Contents (Elt Ideal)) (y : S1x20.Idx) :
    v.read (Elt Ideal) (v.writes (Elt Ideal) f (kernelRun.sl.H8_1 arg4 x4)) y = sO (ar a (y 1)) := by
  rw [H8_eq]
  refine (full_write v f ![0, 0] zero2 _ _ y).trans ?_
  have e : y = ix2 0 (y 1) := by
    funext q
    fin_cases q
    · exact Fin.ext (by have : (y 0).val < 1 := (y 0).isLt; show (y 0).val = 0; omega)
    · rfl
  exact (congrArg _ e).trans (asT_at arg4 x4 a H (y 1))
end

open Idealize.ShloMosaic.TcCoe

variable (m : (ℓ : Loc nD τ sig) → Buf (Elt Ideal) ℓ) (c : Dev nD)

namespace Kern

/-- The argument arrays as the reference's call would read them. -/
abbrev X0 : Vec Ideal S20x7168 .bf16 := shapeCast S20x7168 (m ((c : Thread nD τ).loc main_arg0)) Cert.ReferenceOIdeal.Gen.shapeCasts_S20x1x7168_S20x7168
abbrev X1 : Vec Ideal S3584x7168 .i8 := m ((c : Thread nD τ).loc main_arg1)
abbrev X2 : Vec Ideal Cert.ReferenceOIdeal.S1x7168 .f32 := shapeCast Cert.ReferenceOIdeal.S1x7168 (m ((c : Thread nD τ).loc main_arg2)) Cert.ReferenceOIdeal.Gen.shapeCasts_S7168_S1x7168
abbrev X3 : Vec Ideal Cert.ReferenceOIdeal.S1x7168 .f32 := shapeCast Cert.ReferenceOIdeal.S1x7168 (m ((c : Thread nD τ).loc main_arg3)) Cert.ReferenceOIdeal.Gen.shapeCasts_S7168_S1x7168
abbrev X4 : Vec Ideal Cert.ReferenceOIdeal.S20x7168 .f32 := shapeCast Cert.ReferenceOIdeal.S20x7168 (m ((c : Thread nD τ).loc main_arg4)) Cert.ReferenceOIdeal.Gen.shapeCasts_S20x1x7168_S20x7168

theorem V5 : V m c main_v5 = X0 m c := by
  entry_read
  rfl
theorem VA : (V m c main_arg1 : Vec Ideal S3584x7168 .i8) = X1 m c := V_main_arg1 m c

theorem planes (A : Vec Ideal S7168 .f32) (h : S7168.ShapeCasts S56x1x128) (h' : S7168.ShapeCasts Cert.ReferenceOIdeal.S1x7168) (k : Fin 56) (d : Fin 128) :
    shapeCast S56x1x128 A h (ix3 k 0 d) = shapeCast Cert.ReferenceOIdeal.S1x7168 A h' (ix2 0 (col k d)) := by
  unfold col
  pointwise
  first | done | (congr 1; funext q; fin_cases q; exact Fin.ext (by show _ = _; simp; omega))

theorem V6 (k : Fin 56) (d : Fin 128) : (V m c main_v6 : Vec Ideal S56x1x128 .f32) (ix3 k 0 d) = X2 m c (ix2 0 (col k d)) := by
  have e : V m c main_v6 = shapeCast S56x1x128 (m ((c : Thread nD τ).loc main_arg2)) shapeCasts_S7168_S56x1x128 := by
    entry_read
    rfl
  rw [e]
  exact planes _ _ _ k d
theorem V7 (k : Fin 56) (d : Fin 128) : (V m c main_v7 : Vec Ideal S56x1x128 .f32) (ix3 k 0 d) = X3 m c (ix2 0 (col k d)) := by
  have e : V m c main_v7 = shapeCast S56x1x128 (m ((c : Thread nD τ).loc main_arg3)) shapeCasts_S7168_S56x1x128 := by
    entry_read
    rfl
  rw [e]
  exact planes _ _ _ k d

/-- The host's layout of the attention by heads. -/
theorem heads_at (A : Vec Ideal S20x1x7168 .f32) (Z : Vec Ideal S56x4x128 .f32) (h1 h2 h3 h4 h5) :
    AtRows (shapeCast S1344x128 (concatenate S56x24x128 1 [⟨S56x20x128, transpose S56x20x128 [1, 0, 2] (shapeCast S20x56x128 A h1) h2⟩, ⟨S56x4x128, Z⟩] h3) h4 : Vec Ideal S1344x128 .f32)
      (shapeCast Cert.ReferenceOIdeal.S20x7168 A h5) := by
  intro h b d
  unfold col
  pointwise
  have e1 : (24 * h.val + b.val) % 24 = b.val := by omega
  have e2 : (⟨(24 * h.val + b.val) % 24, by omega⟩ : Fin 20) = b := Fin.ext e1
  have e3 : (⟨h.val * 128 + d.val, by omega⟩ : Fin 7168) = ⟨128 * h.val + d.val, by omega⟩ := Fin.ext (by show h.val * 128 + d.val = 128 * h.val + d.val; omega)
  rw [dif_pos (by omega)]
  have key : ∀ (u : Fin 20) (v : Fin 7168), u = b → v = ⟨128 * h.val + d.val, by omega⟩ → A (ix3 u 0 v) = A (ix3 b 0 ⟨128 * h.val + d.val, by omega⟩) := by
    intro u v hu hv
    rw [hu, hv]
  exact key _ _ e2 e3

theorem V4 : AtRows (V m c main_v4 : Vec Ideal S1344x128 .f32) (X4 m c) := by
  have e : V m c main_v4 = (shapeCast S1344x128 (concatenate S56x24x128 1 [⟨S56x20x128, transpose S56x20x128 [1, 0, 2] (shapeCast S20x56x128 (m ((c : Thread nD τ).loc main_arg4) : Vec Ideal S20x1x7168 .f32) shapeCasts_S20x1x7168_S20x56x128) transposes_S20x56x128_S56x20x128_1_0_2⟩,
      ⟨S56x4x128, (broadcastInDim S56x4x128 ![] bcast_S_S56x4x128 (constant (F := Ideal) S_ .f32 0x00000000#32) : Vec Ideal S56x4x128 .f32)⟩] concatenates_S56x20x128_S56x4x128_S56x24x128_d1) shapeCasts_S56x24x128_S1344x128 : Vec Ideal S1344x128 .f32) := by
    entry_read
    rfl
  rw [e]
  exact heads_at _ _ _ _ _ _ _

theorem ib0 (t : Fin cfg0.N) : iblk m c 0 t = V m c main_v5 := by
  funext y
  blk_simp [iblk]
  exact congrArg (V m c main_v5) (by
    have e : ∀ t : Fin cfg0.N, win0_0.index t = fun _ => 0 := by decide +kernel
    funext a; apply Fin.ext
    fin_cases a <;> blk_simp [e])

theorem ib1 (t : Fin cfg0.N) : iblk m c 1 t = V m c main_v6 := by
  funext y
  blk_simp [iblk]
  exact congrArg (V m c main_v6) (by
    have e : ∀ t : Fin cfg0.N, win0_1.index t = fun _ => 0 := by decide +kernel
    funext a; apply Fin.ext
    fin_cases a <;> blk_simp [e])

theorem ib2 (t : Fin cfg0.N) : iblk m c 2 t = V m c main_v7 := by
  funext y
  blk_simp [iblk]
  exact congrArg (V m c main_v7) (by
    have e : ∀ t : Fin cfg0.N, win0_2.index t = fun _ => 0 := by decide +kernel
    funext a; apply Fin.ext
    fin_cases a <;> blk_simp [e])

theorem ib3 (t : Fin cfg0.N) : iblk m c 3 t = V m c main_v4 := by
  funext y
  blk_simp [iblk]
  exact congrArg (V m c main_v4) (by
    have e : ∀ t : Fin cfg0.N, win0_3.index t = fun _ => 0 := by decide +kernel
    funext a; apply Fin.ext
    fin_cases a <;> blk_simp [e])

theorem in4 (t : Fin cfg0.N) : AtRows (xin4 m c t) (X4 m c) := by
  have e : xin4 m c t = V m c main_v4 := ib3 m c t
  rw [e]; exact V4 m c

attribute [local irreducible] sO co hO ar

theorem out5 (t : Fin cfg0.N) (y) : outs5 m c t y = Ideal.fptosi 8 (co (ar (X4 m c) (y 0)) (y 1)) :=
  (congrArg (outs5 m c t) (eq_ix2 y)).trans (read7 (ms0_3 t) (xin4 m c t) (X4 m c) (in4 m c t) (ms0_5 t).view _ (y 0) (y 1))
theorem out6 (t : Fin cfg0.N) (y) : outs6 m c t y = sO (ar (X4 m c) (y 1)) :=
  read8 (ms0_3 t) (xin4 m c t) (X4 m c) (in4 m c t) (ms0_6 t).view _ y

theorem out4 (t : Fin cfg0.N) (y) : outs4 m c t y = hO (X0 m c) (X1 m c) (X2 m c) (X3 m c) (X4 m c) (y 0) (y 1) := by
  have h1 : (y 1).val < 7168 := (y 1).isLt
  have e : y = (R6 ⟨(y 1).val / 512, by rw [trips1_eq]; omega⟩ ⟨(y 1).val / 128 % 4, by omega⟩).emb (ix2 (y 0) ⟨(y 1).val % 128, by omega⟩) := by
    funext q
    fin_cases q
    · exact Fin.ext (R6_emb_0 _ _ (ix2 (y 0) ⟨(y 1).val % 128, by omega⟩)).symm
    · refine Fin.ext (Eq.trans ?_ (R6_emb_1 _ _ (ix2 (y 0) ⟨(y 1).val % 128, by omega⟩)).symm)
      show (y 1).val = 512 * ((y 1).val / 512) + 128 * ((y 1).val / 128 % 4) + (y 1).val % 128
      omega
  have ec : col ⟨(y 1).val / 128, by omega⟩ ⟨(y 1).val % 128, by omega⟩ = y 1 := col_div (y 1)
  refine (congrArg (outs4 m c t) e).trans ((yOf_apply _ _ _ _ _ _ _ _ _ _ _ _ _ _ _ _ _ _ _ _ _ _ _ _ _ _ _ _ _).trans ?_)
  refine (tripW_eq c _ _ _ _ _ _ _ _ _ _ _ (X0 m c) (X2 m c) (X3 m c) (X4 m c) ?_ ?_ ?_ ?_ ?_ ?_ _ _ ⟨(y 1).val / 128, by omega⟩ ?_ (y 0) ⟨(y 1).val % 128, by omega⟩).trans ?_
  · intro b i
    rw [View.read_rep, show xin1 m c t = X0 m c from (ib0 m c t).trans (V5 m c)]
  · intro h d
    rw [View.read_rep, show xin2 m c t = V m c main_v6 from ib1 m c t]
    exact V6 m c h d
  · intro h d
    rw [View.read_rep, show xin3 m c t = V m c main_v7 from ib2 m c t]
    exact V7 m c h d
  · intro b i
    exact read10 (ms0_3 t) (xin4 m c t) (X4 m c) (in4 m c t) _ _ b i
  · intro b n
    exact (read11 (ms0_3 t) (xin4 m c t) (X4 m c) (in4 m c t) _ _ 0 b n).trans (if_pos rfl)
  · intro b n
    exact (read11 (ms0_3 t) (xin4 m c t) (X4 m c) (in4 m c t) _ _ 1 b n).trans (if_neg (by decide))
  · show (y 1).val / 128 = 4 * ((y 1).val / 512) + (y 1).val / 128 % 4
    omega
  · rw [ec, VA]

theorem arr4 : (dats m 0 c).arrAt 4 cfg0.N = fun j => hO (X0 m c) (X1 m c) (X2 m c) (X3 m c) (X4 m c) (j 0) (j 1) := by
  refine (dats m 0 c).arrAt_eq_of_after_last 4 ⟨0, by decide⟩ (by decide +kernel) _ fun y => ?_
  rw [after0_4, out4]
  rfl
theorem arr5 : (dats m 0 c).arrAt 5 cfg0.N = fun j => Ideal.fptosi 8 (co (ar (X4 m c) (j 0)) (j 1)) := by
  refine (dats m 0 c).arrAt_eq_of_after_last 5 ⟨0, by decide⟩ (by decide +kernel) _ fun y => ?_
  rw [after0_5, out5]
  rfl
theorem arr6 : (dats m 0 c).arrAt 6 cfg0.N = fun j => sO (ar (X4 m c) (j 1)) := by
  refine (dats m 0 c).arrAt_eq_of_after_last 6 ⟨0, by decide⟩ (by decide +kernel) _ fun y => ?_
  rw [after0_6, out6]
  rfl

end Kern

end Cert.Spec.O
-- ==== Proof.AgreeO.lean ====
/-
  The output projection: kernel and reference compute the same arrays from the same arguments.
-/
module

public import proofs.«01_k».proof.Defs
public import proofs.«01_k».proof.Proof.KernelOVal3
public import proofs.«01_k».proof.Proof.Gen.ReferenceOIdeal.Frame

@[expose] public section

set_option maxRecDepth 16384

noncomputable section

namespace Cert.Spec.O

open Idealize.ShloMosaic Idealize.SL.Sem

attribute [local irreducible] sO co hO ar

section
variable (m : (ℓ : Loc Cert.KernelOIdeal.nD Cert.KernelOIdeal.τ Cert.KernelOIdeal.sig) → Buf (Elt Ideal) ℓ) (c : Dev Cert.KernelOIdeal.nD)

/-- The result arrays. -/
def val0 : Buf (Elt Ideal) ((c.tc : Thread Cert.KernelOIdeal.nD Cert.KernelOIdeal.τ).loc Cert.KernelOIdeal.main_v8_0) := fun j => hO (Kern.X0 m c) (Kern.X1 m c) (Kern.X2 m c) (Kern.X3 m c) (Kern.X4 m c) (j 0) (j 1)
def val1 : Buf (Elt Ideal) ((c.tc : Thread Cert.KernelOIdeal.nD Cert.KernelOIdeal.τ).loc Cert.KernelOIdeal.main_v8_1) := fun j => Ideal.fptosi 8 (co (ar (Kern.X4 m c) (j 0)) (j 1))
def val2 : Buf (Elt Ideal) ((c.tc : Thread Cert.KernelOIdeal.nD Cert.KernelOIdeal.τ).loc Cert.KernelOIdeal.main_v8_2) := fun j => sO (ar (Kern.X4 m c) (j 1))
end

theorem kernel_run (m : (ℓ : Loc Cert.KernelOIdeal.nD Cert.KernelOIdeal.τ Cert.KernelOIdeal.sig) → Buf (Elt Ideal) ℓ) (g : Dev Cert.KernelOIdeal.nD → PrngReg) :
    θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
      r.2.mem ((c.tc : Thread Cert.KernelOIdeal.nD Cert.KernelOIdeal.τ).loc Cert.KernelOIdeal.main_v8_0) = val0 m c
      ∧ r.2.mem ((c.tc : Thread Cert.KernelOIdeal.nD Cert.KernelOIdeal.τ).loc Cert.KernelOIdeal.main_v8_1) = val1 m c
      ∧ r.2.mem ((c.tc : Thread Cert.KernelOIdeal.nD Cert.KernelOIdeal.τ).loc Cert.KernelOIdeal.main_v8_2) = val2 m c
      ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
      ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)) :=
  (θ_run Cert.KernelOIdeal.defs _ _).mono (fun r h c => ⟨
    ((h.1 c).1 4).trans (Kern.arr4 m c),
    ((h.1 c).1 5).trans (Kern.arr5 m c),
    ((h.1 c).1 6).trans (Kern.arr6 m c),
    ((h.1 c).2 Cert.KernelOIdeal.main_arg0 (Pipeline.mem_restRefs_of Cert.KernelOIdeal.main_arg0 (by decide) (by decide))).trans (Cert.KernelOIdeal.Gen.V_main_arg0 m c),
    ((h.1 c).2 Cert.KernelOIdeal.main_arg1 (Pipeline.mem_restRefs_of Cert.KernelOIdeal.main_arg1 (by decide) (by decide))).trans (Cert.KernelOIdeal.Gen.V_main_arg1 m c),
    ((h.1 c).2 Cert.KernelOIdeal.main_arg2 (Pipeline.mem_restRefs_of Cert.KernelOIdeal.main_arg2 (by decide) (by decide))).trans (Cert.KernelOIdeal.Gen.V_main_arg2 m c),
    ((h.1 c).2 Cert.KernelOIdeal.main_arg3 (Pipeline.mem_restRefs_of Cert.KernelOIdeal.main_arg3 (by decide) (by decide))).trans (Cert.KernelOIdeal.Gen.V_main_arg3 m c),
    ((h.1 c).2 Cert.KernelOIdeal.main_arg4 (Pipeline.mem_restRefs_of Cert.KernelOIdeal.main_arg4 (by decide) (by decide))).trans (Cert.KernelOIdeal.Gen.V_main_arg4 m c)⟩) (Cert.KernelOIdeal.Hand.run_main m g)

section
variable (m : (ℓ : Loc Cert.KernelOIdeal.nD Cert.KernelOIdeal.τ Cert.KernelOIdeal.sig) → Buf (Elt Ideal) ℓ) (m' : (ℓ : Loc Cert.ReferenceOIdeal.nD Cert.ReferenceOIdeal.τ Cert.ReferenceOIdeal.sig) → Buf (Elt Ideal) ℓ) (c : Dev Cert.KernelOIdeal.nD)
  (e : X0 m' c = Kern.X0 m c ∧ X1 m' c = Kern.X1 m c ∧ X2 m' c = Kern.X2 m c ∧ X3 m' c = Kern.X3 m c ∧ X4 m' c = Kern.X4 m c)
include e
theorem val0_eq : (fun j => hO (X0 m' c) (X1 m' c) (X2 m' c) (X3 m' c) (X4 m' c) (j 0) (j 1) : Vec Ideal Cert.ReferenceOIdeal.S20x7168 .bf16) = val0 m c := by
  obtain ⟨e0, e1, e2, e3, e4⟩ := e
  rw [e0, e1, e2, e3, e4]
  rfl
theorem val1_eq : (fun j => Ideal.fptosi 8 (co (ar (X4 m' c) (j 0)) (j 1)) : Vec Ideal Cert.ReferenceOIdeal.S20x7168 .i8) = val1 m c := by
  obtain ⟨e0, e1, e2, e3, e4⟩ := e
  rw [e4]
  rfl
theorem val2_eq : (fun j => sO (ar (X4 m' c) (j 1)) : Vec Ideal Cert.ReferenceOIdeal.S1x20 .f32) = val2 m c := by
  obtain ⟨e0, e1, e2, e3, e4⟩ := e
  rw [e4]
  rfl
end

theorem reference_run (m : (ℓ : Loc Cert.KernelOIdeal.nD Cert.KernelOIdeal.τ Cert.KernelOIdeal.sig) → Buf (Elt Ideal) ℓ) (m' : (ℓ : Loc Cert.ReferenceOIdeal.nD Cert.ReferenceOIdeal.τ Cert.ReferenceOIdeal.sig) → Buf (Elt Ideal) ℓ) (g' : Dev Cert.ReferenceOIdeal.nD → PrngReg)
    (e : ∀ c : Dev Cert.KernelOIdeal.nD, X0 m' c = Kern.X0 m c ∧ X1 m' c = Kern.X1 m c ∧ X2 m' c = Kern.X2 m c ∧ X3 m' c = Kern.X3 m c ∧ X4 m' c = Kern.X4 m c) :
    θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
      r.2.mem ((c.tc : Thread Cert.ReferenceOIdeal.nD Cert.ReferenceOIdeal.τ).loc Cert.ReferenceOIdeal.main_v4_0) = val0 m c
      ∧ r.2.mem ((c.tc : Thread Cert.ReferenceOIdeal.nD Cert.ReferenceOIdeal.τ).loc Cert.ReferenceOIdeal.main_v4_1) = val1 m c
      ∧ r.2.mem ((c.tc : Thread Cert.ReferenceOIdeal.nD Cert.ReferenceOIdeal.τ).loc Cert.ReferenceOIdeal.main_v4_2) = val2 m c
      ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3)
      ∧ r.2.mem ((c.tc : Thread Cert.ReferenceOIdeal.nD Cert.ReferenceOIdeal.τ).loc Cert.ReferenceOIdeal.main_arg4) = m' ((c.tc : Thread Cert.ReferenceOIdeal.nD Cert.ReferenceOIdeal.τ).loc Cert.ReferenceOIdeal.main_arg4)) :=
  (θ_run Cert.ReferenceOIdeal.defs _ _).mono (fun r h c => ⟨
    ((h c).1 5).trans ((arr5 m' c).trans (val0_eq m m' c (e c))),
    ((h c).1 6).trans ((arr6 m' c).trans (val1_eq m m' c (e c))),
    ((h c).1 7).trans ((arr7 m' c).trans (val2_eq m m' c (e c))),
    ((h c).2 Cert.ReferenceOIdeal.main_arg0 (Pipeline.mem_restRefs_of Cert.ReferenceOIdeal.main_arg0 (by decide) (by decide))).trans (Cert.ReferenceOIdeal.Gen.V_main_arg0 m' c),
    ((h c).1 1).trans (((Cert.ReferenceOIdeal.Gen.dats m' 0 c).arrAt_in 1 rfl _).trans ((Cert.ReferenceOIdeal.Gen.A_eq m' c 1).trans (Cert.ReferenceOIdeal.Gen.V_main_arg1 m' c))),
    ((h c).2 Cert.ReferenceOIdeal.main_arg2 (Pipeline.mem_restRefs_of Cert.ReferenceOIdeal.main_arg2 (by decide) (by decide))).trans (Cert.ReferenceOIdeal.Gen.V_main_arg2 m' c),
    ((h c).2 Cert.ReferenceOIdeal.main_arg3 (Pipeline.mem_restRefs_of Cert.ReferenceOIdeal.main_arg3 (by decide) (by decide))).trans (Cert.ReferenceOIdeal.Gen.V_main_arg3 m' c),
    ((h c).2 Cert.ReferenceOIdeal.main_arg4 (Pipeline.mem_restRefs_of Cert.ReferenceOIdeal.main_arg4 (by decide) (by decide))).trans (Cert.ReferenceOIdeal.Gen.V_main_arg4 m' c)⟩) (Cert.ReferenceOIdeal.Gen.run_main m' g')

theorem algebraic : Cert.algebraic_KernelOIdeal_ReferenceOIdeal (hKernelOIdeal := Cert.KernelOIdeal.Gen.facts) (hReferenceOIdeal := Cert.ReferenceOIdeal.Gen.facts) := by
  intro m g m' g' _ hag
  refine ⟨val0 m, val1 m, val2 m, kernel_run m g, reference_run m m' g' fun c => ?_⟩
  obtain ⟨a0, a1, a2, a3, a4⟩ := hag c
  refine ⟨congrArg (fun A => shapeCast _ A _) a0, a1, congrArg (fun A => shapeCast _ A _) a2, congrArg (fun A => shapeCast _ A _) a3, congrArg (fun A => shapeCast _ A _) a4⟩

end Cert.Spec.O
-- ==== Proof.SpecF.lean ====
/-
  The attention's last step, at an index, over the extended reals: the weighted sum of the values plus its zero-point term, over
  the sum of the weights; and the reference's array as these values.
-/
module

public import proofs.«01_k».proof.Proof.Gen.ReferenceFIdeal.Frame
public import Idealize.ShloMosaic.Lib.Pipeline.ValueKit
public import Idealize.ShloMosaic.PureOps.Ideal

@[expose] public section

set_option maxRecDepth 16384

noncomputable section

namespace Cert.Spec.F

open Cert.ReferenceFIdeal Cert.ReferenceFIdeal.Gen Idealize.ShloMosaic Idealize.ShloMosaic.TcCoe

/-- Row `r` of the attention is head `r % 56` of sequence `r / 56`: row `r % 7` of the accumulators of that head's group and
    sequence. -/
def it (r : Fin 1120) : Fin 160 := ⟨r.val % 56 / 7 * 20 + r.val / 56, by omega⟩
def gq (r : Fin 1120) : Fin 8 := ⟨r.val % 7, by omega⟩

/-- The attention: row `r`, column `d`. -/
def fo (l z a : Vec Ideal S160x8x128 .f32) (r : Fin 1120) (d : Fin 128) : EReal :=
  Ideal.div (a (ix3 (it r) (gq r) d) + ∑ x : Fin 128, z (ix3 (it r) (gq r) x)) (∑ x : Fin 128, l (ix3 (it r) (gq r) x))

/-- The accumulators laid out as the attention's rows. -/
abbrev rows (t : Vec Ideal S160x8x128 .f32) : Vec Ideal S1120x128 .f32 :=
  shapeCast S1120x128 (transpose S20x8x7x128 [1, 0, 2, 3] (extractStridedSlice S8x20x7x128 ![0, 0, 0, 0]
    (shapeCast S8x20x8x128 t shapeCasts_S160x8x128_S8x20x8x128) slices_S8x20x8x128_S8x20x7x128_0_0_0_0) transposes_S8x20x7x128_S20x8x7x128_1_0_2_3)
    shapeCasts_S20x8x7x128_S1120x128

theorem rows_at (t : Vec Ideal S160x8x128 .f32) (r : Fin 1120) (d : Fin 128) : rows t (ix2 r d) = t (ix3 (it r) (gq r) d) := by
  pointwise [rows]
  have e : r.val / 7 % 8 = r.val % 56 / 7 := by omega
  exact congrArg (fun i : Fin 160 => t (ix3 i (gq r) d)) (Fin.ext (by show r.val / 7 % 8 * 20 + r.val / 56 = r.val % 56 / 7 * 20 + r.val / 56; rw [e]))

theorem p1 (v0 v3 v6 : Vec Ideal S1120x128 .f32) (r : Fin 1120) (d : Fin 128) :
    k0_pay1 v0 v3 v6 (ix2 r d) = Ideal.div (v6 (ix2 r d) + ∑ x : Fin 128, v3 (ix2 r x)) (∑ x : Fin 128, v0 (ix2 r x)) := by
  pointwise [k0_pay1]

theorem ld0 (x : Vec Ideal S1120x128 .f32) : View.ld x r0_0 = x :=
  View.ld_unit_zero (S := S1120x128) (off := ![0, 0]) (by funext a; revert a; decide) _ x

theorem ref3 (l z a : Vec Ideal S160x8x128 .f32) : out0_3 (rows l) (rows z) (rows a) = fun j => fo l z a (j 0) (j 1) := by
  unfold out0_3
  rw [View.canon_unit_zero (S := S1120x128) (off := ![0, 0]) (by funext a; revert a; decide), ld0, ld0, ld0]
  funext j
  conv_lhs => rw [eq_ix2 j]
  refine (p1 (rows l) (rows z) (rows a) (j 0) (j 1)).trans ?_
  exact congrArg₂ Ideal.div (congrArg₂ (· + ·) (rows_at a (j 0) (j 1)) (Finset.sum_congr rfl fun x _ => rows_at z (j 0) x))
    (Finset.sum_congr rfl fun x _ => rows_at l (j 0) x)

variable (m : (ℓ : Loc nD τ sig) → Buf (Elt Ideal) ℓ) (c : Dev nD)

/-- The argument arrays. -/
abbrev X0 : Vec Ideal S160x8x128 .f32 := m ((c : Thread nD τ).loc main_arg0)
abbrev X1 : Vec Ideal S160x8x128 .f32 := m ((c : Thread nD τ).loc main_arg1)
abbrev X2 : Vec Ideal S160x8x128 .f32 := m ((c : Thread nD τ).loc main_arg2)

theorem V0 : V m c main_v3 = rows (X0 m c) := by
  entry_read
  rfl

theorem ib0 (t : Fin cfg0.N) : iblk m c 0 t = rows (X0 m c) := by
  rw [← V0]
  funext y
  blk_simp [iblk]
  exact congrArg (V m c main_v3) (by
    have e : ∀ t : Fin cfg0.N, win0_0.index t = fun _ => 0 := by decide +kernel
    funext a; apply Fin.ext
    fin_cases a <;> blk_simp [e])

theorem V1 : V m c main_v7 = rows (X1 m c) := by
  entry_read
  rfl

theorem ib1 (t : Fin cfg0.N) : iblk m c 1 t = rows (X1 m c) := by
  rw [← V1]
  funext y
  blk_simp [iblk]
  exact congrArg (V m c main_v7) (by
    have e : ∀ t : Fin cfg0.N, win0_1.index t = fun _ => 0 := by decide +kernel
    funext a; apply Fin.ext
    fin_cases a <;> blk_simp [e])

theorem V2 : V m c main_v11 = rows (X2 m c) := by
  entry_read
  rfl

theorem ib2 (t : Fin cfg0.N) : iblk m c 2 t = rows (X2 m c) := by
  rw [← V2]
  funext y
  blk_simp [iblk]
  exact congrArg (V m c main_v11) (by
    have e : ∀ t : Fin cfg0.N, win0_2.index t = fun _ => 0 := by decide +kernel
    funext a; apply Fin.ext
    fin_cases a <;> blk_simp [e])

attribute [local irreducible] fo

theorem arr3 : (dats m 0 c).arrAt 3 cfg0.N = fun j => fo (X0 m c) (X1 m c) (X2 m c) (j 0) (j 1) := by
  refine (dats m 0 c).arrAt_eq_of_after_last 3 ⟨0, by decide⟩ (by decide +kernel) _ fun y => ?_
  rw [after0_3, ib0, ib1, ib2, ref3]
  rfl

end Cert.Spec.F
-- ==== Proof.FVal.lean ====
/-
  The attention's last step: what the kernel's loop over the sequences leaves is the specification's rows.
-/
module

public import proofs.«01_k».proof.Proof.Gen.KernelFIdeal.Frame
public import proofs.«01_k».proof.Proof.SpecF

@[expose] public section

set_option maxRecDepth 16384
set_option maxHeartbeats 1000000

noncomputable section

namespace Cert.Spec.F.Kern

open Cert.KernelFIdeal Cert.KernelFIdeal.Gen Idealize.ShloMosaic Idealize.ShloMosaic.TcCoe

/-- A group's rows, at an index. -/
theorem pay3_at (v3 v8 v13 : Vec Ideal S1x8x128 .f32) (g : Fin 7) (d : Fin 128) :
    k0_pay3 v3 v8 v13 (ix2 g d) = Ideal.div (v13 (ix3 0 (⟨g.val, by omega⟩ : Fin 8) d) + ∑ x : Fin 128, v8 (ix3 0 (⟨g.val, by omega⟩ : Fin 8) x))
      (∑ x : Fin 128, v3 (ix3 0 (⟨g.val, by omega⟩ : Fin 8) x)) := by
  pointwise [k0_pay3]

section
variable (𝒱 : Variants) (c : Dev nD) (bd : Option 𝒱.V) (i : grid0.Coords) (arg1 : Memref sig .tc .vmem S160x8x128 .f32) (harg1 : arg1.IsWhole) (arg2 : Memref sig .tc .vmem S160x8x128 .f32) (harg2 : arg2.IsWhole)
  (arg3 : Memref sig .tc .vmem S160x8x128 .f32) (harg3 : arg3.IsWhole) (arg4 : Memref sig .tc .vmem S1120x128 .f32) (harg4 : arg4.IsWhole)
  (X1 : BufTy.Contents (Elt Ideal) arg1.view.ty) (X2 : BufTy.Contents (Elt Ideal) arg2.view.ty) (X3 : BufTy.Contents (Elt Ideal) arg3.view.ty)

/-- What trip `k` reads of an accumulator, and what it stores, for group `r`. -/
abbrev rd (arg : Memref sig .tc .vmem S160x8x128 .f32) (X : BufTy.Contents (Elt Ideal) arg.view.ty) (k : Fin k0_t1_loop.trips) (r : Fin 8) : Vec Ideal S1x8x128 .f32 :=
  View.readAt (Elt Ideal) arg.view (Rect.unit (s := S160x8x128) (k0_off1 k (BitVec.ofNat 32 (20 * r.val))) S1x8x128.size (k0_off1_inb k r)).toLoadRect X
abbrev P (k : Fin k0_t1_loop.trips) (r : Fin 8) : View.Piece (Elt Ideal) S1120x128 .f32 :=
  ⟨Rect.unit (s := S1120x128) (k0_off2 k (BitVec.ofNat 32 (7 * r.val))) S7x128.size (k0_off2_inb k r), k0_pay3 (rd arg1 X1 k r) (rd arg2 X2 k r) (rd arg3 X3 k r)⟩

theorem trip_eq (k : Fin k0_t1_loop.trips) :
    tripL_k0_t1 𝒱 c bd i arg1 harg1 arg2 harg2 arg3 harg3 arg4 harg4 X1 X2 X3 k
      = [P arg1 arg2 arg3 X1 X2 X3 k 7, P arg1 arg2 arg3 X1 X2 X3 k 6, P arg1 arg2 arg3 X1 X2 X3 k 5, P arg1 arg2 arg3 X1 X2 X3 k 4,
         P arg1 arg2 arg3 X1 X2 X3 k 3, P arg1 arg2 arg3 X1 X2 X3 k 2, P arg1 arg2 arg3 X1 X2 X3 k 1, P arg1 arg2 arg3 X1 X2 X3 k 0] := by
  unfold tripL_k0_t1 trip_k0_t1
  rfl

variable (l z a : Vec Ideal S160x8x128 .f32) (H1 : arg1.view.read (Elt Ideal) X1 = l) (H2 : arg2.view.read (Elt Ideal) X2 = z) (H3 : arg3.view.read (Elt Ideal) X3 = a)

theorem rd_at (arg : Memref sig .tc .vmem S160x8x128 .f32) (X : BufTy.Contents (Elt Ideal) arg.view.ty) (x : Vec Ideal S160x8x128 .f32) (H : arg.view.read (Elt Ideal) X = x)
    (k : Fin k0_t1_loop.trips) (r : Fin 8) (u : Fin 160) (hu : u.val = 20 * r.val + k.val) (g : Fin 8) (d : Fin 128) : rd arg X k r (ix3 0 g d) = x (ix3 u g d) := by
  subst H
  have key : ∀ (off : Fin 3 → ℕ) (ho : off = ![20 * r.val + k.val, 0, 0]) (inb : ∀ q, off q + S1x8x128.size q ≤ S160x8x128.size q),
      View.readAt (Elt Ideal) arg.view (Rect.unit (s := S160x8x128) off S1x8x128.size inb).toLoadRect X (ix3 0 g d) = arg.view.read (Elt Ideal) X (ix3 u g d) := by
    intro off ho inb
    subst ho
    rw [View.readAt_apply]
    have e : (Rect.unit (s := S160x8x128) ![20 * r.val + k.val, 0, 0] S1x8x128.size inb).toLoadRect.idx (ix3 0 g d) = (ix3 u g d : S160x8x128.Idx) := by
      funext q
      fin_cases q
      · exact Fin.ext (by show 20 * r.val + k.val + 1 * 0 = u.val; omega)
      · exact Fin.ext (by show 0 + 1 * g.val = g.val; omega)
      · exact Fin.ext (by show 0 + 1 * d.val = d.val; omega)
    rw [e]
  exact key _ (k0_off1_eq k r) _

theorem emb_0 (k : Fin k0_t1_loop.trips) (r : Fin 8) (x : S7x128.Idx) : (((P arg1 arg2 arg3 X1 X2 X3 k r).1.emb x) 0).val = 56 * k.val + 7 * r.val + (x 0).val := by
  show (k0_off2 k (BitVec.ofNat 32 (7 * r.val))) 0 + 1 * (x 0).val = _
  rw [k0_off2_eq]; simp
theorem emb_1 (k : Fin k0_t1_loop.trips) (r : Fin 8) (x : S7x128.Idx) : (((P arg1 arg2 arg3 X1 X2 X3 k r).1.emb x) 1).val = (x 1).val := by
  show (k0_off2 k (BitVec.ofNat 32 (7 * r.val))) 1 + 1 * (x 1).val = _
  rw [k0_off2_eq]; simp

include H1 H2 H3 in
theorem pay_eq (k : Fin k0_t1_loop.trips) (r : Fin 8) (g : Fin 7) (d : Fin 128) (y : Fin 1120) (hy : y.val = 56 * k.val + 7 * r.val + g.val) :
    k0_pay3 (rd arg1 X1 k r) (rd arg2 X2 k r) (rd arg3 X3 k r) (ix2 g d) = fo l z a y d := by
  have hk : k.val < 20 := Nat.lt_of_lt_of_le k.isLt k0_t1_abs.2.1
  have eu : (it y).val = 20 * r.val + k.val := by show y.val % 56 / 7 * 20 + y.val / 56 = _; omega
  have eg : (⟨g.val, by omega⟩ : Fin 8) = gq y := Fin.ext (by show g.val = y.val % 7; omega)
  rw [pay3_at, eg]
  exact congrArg₂ Ideal.div (congrArg₂ (· + ·) (rd_at arg3 X3 a H3 k r (it y) eu (gq y) d) (Finset.sum_congr rfl fun x _ => rd_at arg2 X2 z H2 k r (it y) eu (gq y) x))
    (Finset.sum_congr rfl fun x _ => rd_at arg1 X1 l H1 k r (it y) eu (gq y) x)

include H1 H2 H3 in
theorem agree (k : Fin k0_t1_loop.trips) (r : Fin 8) (x) :
    (P arg1 arg2 arg3 X1 X2 X3 k r).2 x = fo l z a ((P arg1 arg2 arg3 X1 X2 X3 k r).1.emb x 0) ((P arg1 arg2 arg3 X1 X2 X3 k r).1.emb x 1) := by
  have e1 : (P arg1 arg2 arg3 X1 X2 X3 k r).1.emb x 1 = x 1 := Fin.ext (emb_1 arg1 arg2 arg3 X1 X2 X3 k r x)
  rw [e1]
  exact (congrArg (k0_pay3 (rd arg1 X1 k r) (rd arg2 X2 k r) (rd arg3 X3 k r)) (eq_ix2 x)).trans
    (pay_eq arg1 arg2 arg3 X1 X2 X3 l z a H1 H2 H3 k r (x 0) (x 1) _ (emb_0 arg1 arg2 arg3 X1 X2 X3 k r x))

include H1 H2 H3 in
theorem agrees (n : ℕ) (hn : n ≤ k0_t1_loop.trips) :
    ∀ p ∈ pb_k0_t1 𝒱 c bd i arg1 harg1 arg2 harg2 arg3 harg3 arg4 harg4 X1 X2 X3 n, ∀ x : p.1.shape.Idx, p.2 x = fo l z a (p.1.emb x 0) (p.1.emb x 1) := by
  induction n with
  | zero => intro p hp; exact absurd hp List.not_mem_nil
  | succ n ih =>
    intro p hp
    rw [pb_k0_t1_succ 𝒱 c bd i arg1 harg1 arg2 harg2 arg3 harg3 arg4 harg4 X1 X2 X3 ⟨n, hn⟩, trip_eq] at hp
    rcases List.mem_append.mp hp with h | h
    · simp only [List.mem_cons, List.not_mem_nil, or_false] at h
      rcases h with h | h | h | h | h | h | h | h <;> (subst h; exact agree arg1 arg2 arg3 X1 X2 X3 l z a H1 H2 H3 ⟨n, hn⟩ _)
    · exact ih (Nat.le_of_succ_le hn) p h
end

theorem run_eq (c : Dev nD) (i : grid0.Coords) (arg1 : Memref sig .tc .vmem S160x8x128 .f32) (harg1 : arg1.IsWhole) (arg2 : Memref sig .tc .vmem S160x8x128 .f32) (harg2 : arg2.IsWhole)
    (arg3 : Memref sig .tc .vmem S160x8x128 .f32) (harg3 : arg3.IsWhole) (arg4 : Memref sig .tc .vmem S1120x128 .f32) (harg4 : arg4.IsWhole) (l z a : Vec Ideal S160x8x128 .f32) :
    (kernelRun0_A c i arg1 harg1 arg2 harg2 arg3 harg3 arg4 harg4 l z a).1
      = pb_k0_t1 Variants.none c none i arg1 harg1 arg2 harg2 arg3 harg3 arg4 harg4 (harg1.unread l) (harg2.unread z) (harg3.unread a) k0_t1_loop.trips := rfl

theorem out3 (c : Dev nD) (i : grid0.Coords) (arg1 : Memref sig .tc .vmem S160x8x128 .f32) (harg1 : arg1.IsWhole) (arg2 : Memref sig .tc .vmem S160x8x128 .f32) (harg2 : arg2.IsWhole)
    (arg3 : Memref sig .tc .vmem S160x8x128 .f32) (harg3 : arg3.IsWhole) (arg4 : Memref sig .tc .vmem S1120x128 .f32) (harg4 : arg4.IsWhole) (l z a : Vec Ideal S160x8x128 .f32) (y) :
    out0_A_3 c i arg1 harg1 arg2 harg2 arg3 harg3 arg4 harg4 l z a y = fo l z a (y 0) (y 1) := by
  unfold out0_A_3
  refine View.read_writes_apply_of_pieces VO0_3 _ (fun y => fo l z a (y 0) (y 1)) _ ?_ y (cover0_A_3 c i arg1 harg1 arg2 harg2 arg3 harg3 arg4 harg4 l z a y)
  rw [run_eq]
  exact agrees _ _ _ _ _ _ _ _ _ _ _ _ _ _ _ l z a (harg1.read_unread l) (harg2.read_unread z) (harg3.read_unread a) _ le_rfl

variable (m : (ℓ : Loc nD τ sig) → Buf (Elt Ideal) ℓ) (c : Dev nD)

/-- The argument arrays. -/
abbrev X0 : Vec Ideal S160x8x128 .f32 := m ((c : Thread nD τ).loc main_arg0)
abbrev X1 : Vec Ideal S160x8x128 .f32 := m ((c : Thread nD τ).loc main_arg1)
abbrev X2 : Vec Ideal S160x8x128 .f32 := m ((c : Thread nD τ).loc main_arg2)

theorem ib0 (t : Fin cfg0.N) : iblk m c 0 t = X0 m c := by
  rw [← show V m c main_arg0 = X0 m c from V_main_arg0 m c]
  funext y
  blk_simp [iblk]
  exact congrArg (V m c main_arg0) (by
    have e : ∀ t : Fin cfg0.N, win0_0.index t = fun _ => 0 := by decide +kernel
    funext a; apply Fin.ext
    fin_cases a <;> blk_simp [e])

theorem ib1 (t : Fin cfg0.N) : iblk m c 1 t = X1 m c := by
  rw [← show V m c main_arg1 = X1 m c from V_main_arg1 m c]
  funext y
  blk_simp [iblk]
  exact congrArg (V m c main_arg1) (by
    have e : ∀ t : Fin cfg0.N, win0_1.index t = fun _ => 0 := by decide +kernel
    funext a; apply Fin.ext
    fin_cases a <;> blk_simp [e])

theorem ib2 (t : Fin cfg0.N) : iblk m c 2 t = X2 m c := by
  rw [← show V m c main_arg2 = X2 m c from V_main_arg2 m c]
  funext y
  blk_simp [iblk]
  exact congrArg (V m c main_arg2) (by
    have e : ∀ t : Fin cfg0.N, win0_2.index t = fun _ => 0 := by decide +kernel
    funext a; apply Fin.ext
    fin_cases a <;> blk_simp [e])

attribute [local irreducible] fo

theorem arr3 : (dats m 0 c).arrAt 3 cfg0.N = fun j => fo (X0 m c) (X1 m c) (X2 m c) (j 0) (j 1) := by
  refine (dats m 0 c).arrAt_eq_of_after_last 3 ⟨0, by decide⟩ (by decide +kernel) _ fun y => ?_
  rw [after0_3]
  unfold outsAt0
  rw [out3, ib0, ib1, ib2]
  rfl

end Cert.Spec.F.Kern
-- ==== Proof.AgreeF.lean ====
/-
  The attention's last step: kernel and reference compute the same array from the same arguments.
-/
module

public import proofs.«01_k».proof.Defs
public import proofs.«01_k».proof.Proof.FVal
public import proofs.«01_k».proof.Proof.Gen.ReferenceFIdeal.Frame

@[expose] public section

set_option maxRecDepth 16384

noncomputable section

namespace Cert.Spec.F

open Idealize.ShloMosaic Idealize.SL.Sem

attribute [local irreducible] fo

/-- The result array. -/
def val0 (m : (ℓ : Loc Cert.KernelFIdeal.nD Cert.KernelFIdeal.τ Cert.KernelFIdeal.sig) → Buf (Elt Ideal) ℓ) (c : Dev Cert.KernelFIdeal.nD) : Buf (Elt Ideal) ((c.tc : Thread Cert.KernelFIdeal.nD Cert.KernelFIdeal.τ).loc Cert.KernelFIdeal.main_v0) :=
  fun j => fo (Kern.X0 m c) (Kern.X1 m c) (Kern.X2 m c) (j 0) (j 1)

theorem kernel_run (m : (ℓ : Loc Cert.KernelFIdeal.nD Cert.KernelFIdeal.τ Cert.KernelFIdeal.sig) → Buf (Elt Ideal) ℓ) (g : Dev Cert.KernelFIdeal.nD → PrngReg) :
    θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
      r.2.mem ((c.tc : Thread Cert.KernelFIdeal.nD Cert.KernelFIdeal.τ).loc Cert.KernelFIdeal.main_v0) = val0 m c
      ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)) :=
  (θ_run Cert.KernelFIdeal.defs _ _).mono (fun r h c => ⟨
    ((h c).1 3).trans (Kern.arr3 m c),
    ((h c).1 0).trans (((Cert.KernelFIdeal.Gen.dats m 0 c).arrAt_in 0 rfl _).trans ((Cert.KernelFIdeal.Gen.A_eq m c 0).trans (Cert.KernelFIdeal.Gen.V_main_arg0 m c))),
    ((h c).1 1).trans (((Cert.KernelFIdeal.Gen.dats m 0 c).arrAt_in 1 rfl _).trans ((Cert.KernelFIdeal.Gen.A_eq m c 1).trans (Cert.KernelFIdeal.Gen.V_main_arg1 m c))),
    ((h c).1 2).trans (((Cert.KernelFIdeal.Gen.dats m 0 c).arrAt_in 2 rfl _).trans ((Cert.KernelFIdeal.Gen.A_eq m c 2).trans (Cert.KernelFIdeal.Gen.V_main_arg2 m c)))⟩) (Cert.KernelFIdeal.Gen.run_main m g)

theorem val0_eq (m : (ℓ : Loc Cert.KernelFIdeal.nD Cert.KernelFIdeal.τ Cert.KernelFIdeal.sig) → Buf (Elt Ideal) ℓ) (m' : (ℓ : Loc Cert.ReferenceFIdeal.nD Cert.ReferenceFIdeal.τ Cert.ReferenceFIdeal.sig) → Buf (Elt Ideal) ℓ) (c : Dev Cert.KernelFIdeal.nD)
    (e : X0 m' c = Kern.X0 m c ∧ X1 m' c = Kern.X1 m c ∧ X2 m' c = Kern.X2 m c) :
    (fun j => fo (X0 m' c) (X1 m' c) (X2 m' c) (j 0) (j 1) : Vec Ideal Cert.ReferenceFIdeal.S1120x128 .f32) = val0 m c := by
  obtain ⟨e0, e1, e2⟩ := e
  rw [e0, e1, e2]
  rfl

theorem reference_run (m : (ℓ : Loc Cert.KernelFIdeal.nD Cert.KernelFIdeal.τ Cert.KernelFIdeal.sig) → Buf (Elt Ideal) ℓ) (m' : (ℓ : Loc Cert.ReferenceFIdeal.nD Cert.ReferenceFIdeal.τ Cert.ReferenceFIdeal.sig) → Buf (Elt Ideal) ℓ) (g' : Dev Cert.ReferenceFIdeal.nD → PrngReg)
    (e : ∀ c : Dev Cert.KernelFIdeal.nD, X0 m' c = Kern.X0 m c ∧ X1 m' c = Kern.X1 m c ∧ X2 m' c = Kern.X2 m c) :
    θ_run (Cert.ReferenceFIdeal.defs (F := Ideal)) (onTc (τ := Cert.ReferenceFIdeal.τ) (Cert.ReferenceFIdeal.main (F := Ideal))) ⟨m', fun _ => 0, g'⟩ (fun r => ∀ c : Dev Cert.ReferenceFIdeal.nD,
      r.2.mem ((c.tc : Thread Cert.ReferenceFIdeal.nD Cert.ReferenceFIdeal.τ).loc Cert.ReferenceFIdeal.main_v12) = val0 m c
      ∧ r.2.mem ((c.tc : Thread Cert.ReferenceFIdeal.nD Cert.ReferenceFIdeal.τ).loc Cert.ReferenceFIdeal.main_arg0) = m' ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m' ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m' ((c.tc : Thread Cert.ReferenceFIdeal.nD Cert.ReferenceFIdeal.τ).loc Cert.ReferenceFIdeal.main_arg2)) :=
  (θ_run Cert.ReferenceFIdeal.defs _ _).mono (fun r h c => ⟨
    ((h c).1 3).trans ((arr3 m' c).trans (val0_eq m m' c (e c))),
    ((h c).2 Cert.ReferenceFIdeal.main_arg0 (Pipeline.mem_restRefs_of Cert.ReferenceFIdeal.main_arg0 (by decide) (by decide))).trans (Cert.ReferenceFIdeal.Gen.V_main_arg0 m' c),
    ((h c).2 Cert.ReferenceFIdeal.main_arg1 (Pipeline.mem_restRefs_of Cert.ReferenceFIdeal.main_arg1 (by decide) (by decide))).trans (Cert.ReferenceFIdeal.Gen.V_main_arg1 m' c),
    ((h c).2 Cert.ReferenceFIdeal.main_arg2 (Pipeline.mem_restRefs_of Cert.ReferenceFIdeal.main_arg2 (by decide) (by decide))).trans (Cert.ReferenceFIdeal.Gen.V_main_arg2 m' c)⟩) (Cert.ReferenceFIdeal.Gen.run_main m' g')

theorem algebraic : Cert.algebraic_KernelFIdeal_ReferenceFIdeal (hKernelFIdeal := Cert.KernelFIdeal.Gen.facts) (hReferenceFIdeal := Cert.ReferenceFIdeal.Gen.facts) := by
  intro m g m' g' _ hag
  exact ⟨val0 m, kernel_run m g, reference_run m m' g' fun c => hag c⟩

end Cert.Spec.F
-- ==== Proof.lean ====
module

public import proofs.«01_k».proof.Defs
public import proofs.«01_k».proof.Proof.KernelFrame
public import proofs.«01_k».proof.Proof.KernelIdealFrame
public import proofs.«01_k».proof.Proof.Gen.ReferenceIdeal.Frame
public import proofs.«01_k».proof.Proof.Agree
public import proofs.«01_k».proof.Proof.KernelOFrame
public import proofs.«01_k».proof.Proof.KernelOIdealFrame
public import proofs.«01_k».proof.Proof.Gen.ReferenceOIdeal.Frame
public import proofs.«01_k».proof.Proof.AgreeO
public import proofs.«01_k».proof.Proof.Gen.KernelF.Frame
public import proofs.«01_k».proof.Proof.Gen.KernelFIdeal.Frame
public import proofs.«01_k».proof.Proof.Gen.ReferenceFIdeal.Frame
public import proofs.«01_k».proof.Proof.AgreeF

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelO.Gen.facts, Cert.KernelOIdeal.Gen.facts, Cert.ReferenceOIdeal.Gen.facts,
  Cert.KernelF.Gen.facts, Cert.KernelFIdeal.Gen.facts, Cert.ReferenceFIdeal.Gen.facts,
  fun m g _ => Cert.Kernel.Hand.frame m g, fun m g _ => Cert.KernelIdeal.Hand.frame m g,
  fun m g _ => Cert.ReferenceIdeal.Gen.frame m g,
  fun m g _ => Cert.KernelO.Hand.frame m g, fun m g _ => Cert.KernelOIdeal.Hand.frame m g,
  fun m g _ => Cert.ReferenceOIdeal.Gen.frame m g,
  fun m g _ => Cert.KernelF.Gen.frame m g, fun m g _ => Cert.KernelFIdeal.Gen.frame m g,
  fun m g _ => Cert.ReferenceFIdeal.Gen.frame m g,
  trivial, Cert.Spec.algebraic, trivial, Cert.Spec.O.algebraic, trivial, Cert.Spec.F.algebraic⟩

end Cert.Proof

end
